-- ==== Defs.lean ====
def Pre_AttnWin (m : (ℓ : Loc Cert.AttnWin.nD Cert.AttnWin.τ Cert.AttnWin.sig) → Buf (Elt Bits) ℓ) : Prop :=
  True

def Pre_AttnWinIdeal (m : (ℓ : Loc Cert.AttnWinIdeal.nD Cert.AttnWinIdeal.τ Cert.AttnWinIdeal.sig) → Buf (Elt Ideal) ℓ) : Prop :=
  True

def Pre_AttnWinRefIdeal (m : (ℓ : Loc Cert.AttnWinRefIdeal.nD Cert.AttnWinRefIdeal.τ Cert.AttnWinRefIdeal.sig) → Buf (Elt Ideal) ℓ) : Prop :=
  True

def Pre_AttnWinRef (m : (ℓ : Loc Cert.AttnWinRef.nD Cert.AttnWinRef.τ Cert.AttnWinRef.sig) → Buf (Elt Bits) ℓ) : Prop :=
  True

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxRefIdeal (m : (ℓ : Loc Cert.AttnCtxRefIdeal.nD Cert.AttnCtxRefIdeal.τ Cert.AttnCtxRefIdeal.sig) → Buf (Elt Ideal) ℓ) : Prop :=
  True

def Pre_AttnCtxRef (m : (ℓ : Loc Cert.AttnCtxRef.nD Cert.AttnCtxRef.τ Cert.AttnCtxRef.sig) → Buf (Elt Bits) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_AttnInRef (m : (ℓ : Loc Cert.AttnInRef.nD Cert.AttnInRef.τ Cert.AttnInRef.sig) → Buf (Elt Bits) ℓ) : Prop :=
  True

def Pre_AttnInRope (m : (ℓ : Loc Cert.AttnInRope.nD Cert.AttnInRope.τ Cert.AttnInRope.sig) → Buf (Elt Bits) ℓ) : Prop :=
  True

def Pre_AttnInRopeIdeal (m : (ℓ : Loc Cert.AttnInRopeIdeal.nD Cert.AttnInRopeIdeal.τ Cert.AttnInRopeIdeal.sig) → Buf (Elt Ideal) ℓ) : Prop :=
  True

def Pre_AttnInRopeRefIdeal (m : (ℓ : Loc Cert.AttnInRopeRefIdeal.nD Cert.AttnInRopeRefIdeal.τ Cert.AttnInRopeRefIdeal.sig) → Buf (Elt Ideal) ℓ) : Prop :=
  True

def Pre_AttnInRopeRef (m : (ℓ : Loc Cert.AttnInRopeRef.nD Cert.AttnInRopeRef.τ Cert.AttnInRopeRef.sig) → Buf (Elt Bits) ℓ) : Prop :=
  True

def Pre_MlstmIn (m : (ℓ : Loc Cert.MlstmIn.nD Cert.MlstmIn.τ Cert.MlstmIn.sig) → Buf (Elt Bits) ℓ) : Prop :=
  True

def Pre_MlstmInIdeal (m : (ℓ : Loc Cert.MlstmInIdeal.nD Cert.MlstmInIdeal.τ Cert.MlstmInIdeal.sig) → Buf (Elt Ideal) ℓ) : Prop :=
  True

def Pre_MlstmInRefIdeal (m : (ℓ : Loc Cert.MlstmInRefIdeal.nD Cert.MlstmInRefIdeal.τ Cert.MlstmInRefIdeal.sig) → Buf (Elt Ideal) ℓ) : Prop :=
  True

def Pre_MlstmInRef (m : (ℓ : Loc Cert.MlstmInRef.nD Cert.MlstmInRef.τ Cert.MlstmInRef.sig) → Buf (Elt Bits) ℓ) : Prop :=
  True

def Pre_MlstmInCtx (m : (ℓ : Loc Cert.MlstmInCtx.nD Cert.MlstmInCtx.τ Cert.MlstmInCtx.sig) → Buf (Elt Bits) ℓ) : Prop :=
  True

def Pre_MlstmInCtxIdeal (m : (ℓ : Loc Cert.MlstmInCtxIdeal.nD Cert.MlstmInCtxIdeal.τ Cert.MlstmInCtxIdeal.sig) → Buf (Elt Ideal) ℓ) : Prop :=
  True

def Pre_MlstmInCtxRefIdeal (m : (ℓ : Loc Cert.MlstmInCtxRefIdeal.nD Cert.MlstmInCtxRefIdeal.τ Cert.MlstmInCtxRefIdeal.sig) → Buf (Elt Ideal) ℓ) : Prop :=
  True

def Pre_MlstmInCtxRef (m : (ℓ : Loc Cert.MlstmInCtxRef.nD Cert.MlstmInCtxRef.τ Cert.MlstmInCtxRef.sig) → Buf (Elt Bits) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_AdaRef (m : (ℓ : Loc Cert.AdaRef.nD Cert.AdaRef.τ Cert.AdaRef.sig) → Buf (Elt Bits) ℓ) : Prop :=
  True

def Pre_Cache (m : (ℓ : Loc Cert.Cache.nD Cert.Cache.τ Cert.Cache.sig) → Buf (Elt Bits) ℓ) : Prop :=
  True

def Pre_CacheIdeal (m : (ℓ : Loc Cert.CacheIdeal.nD Cert.CacheIdeal.τ Cert.CacheIdeal.sig) → Buf (Elt Ideal) ℓ) : Prop :=
  True

def Pre_CacheRefIdeal (m : (ℓ : Loc Cert.CacheRefIdeal.nD Cert.CacheRefIdeal.τ Cert.CacheRefIdeal.sig) → Buf (Elt Ideal) ℓ) : Prop :=
  True

def Pre_CacheRef (m : (ℓ : Loc Cert.CacheRef.nD Cert.CacheRef.τ Cert.CacheRef.sig) → Buf (Elt Bits) ℓ) : Prop :=
  True

def quiescent_AttnWin [hAttnWin : Cert.AttnWin.Facts] : Prop :=
  ∀ (m : (ℓ : Loc Cert.AttnWin.nD Cert.AttnWin.τ Cert.AttnWin.sig) → Buf (Elt Bits) ℓ) (g : Dev Cert.AttnWin.nD → PrngReg), Pre_AttnWin m →
    θ_run (Cert.AttnWin.defs (F := Bits)) (onTc (τ := Cert.AttnWin.τ) (Cert.AttnWin.main (F := Bits))) ⟨m, fun _ => 0, g⟩ (fun r => (∀ c : Dev Cert.AttnWin.nD,
      r.2.mem ((c.tc : Thread Cert.AttnWin.nD Cert.AttnWin.τ).loc Cert.AttnWin.main_arg0) = m ((c.tc : Thread Cert.AttnWin.nD Cert.AttnWin.τ).loc Cert.AttnWin.main_arg0)
      ∧ r.2.mem ((c.tc : Thread Cert.AttnWin.nD Cert.AttnWin.τ).loc Cert.AttnWin.main_arg1) = m ((c.tc : Thread Cert.AttnWin.nD Cert.AttnWin.τ).loc Cert.AttnWin.main_arg1)
      ∧ r.2.mem ((c.tc : Thread Cert.AttnWin.nD Cert.AttnWin.τ).loc Cert.AttnWin.main_arg2) = m ((c.tc : Thread Cert.AttnWin.nD Cert.AttnWin.τ).loc Cert.AttnWin.main_arg2)
      ∧ r.2.mem ((c.tc : Thread Cert.AttnWin.nD Cert.AttnWin.τ).loc Cert.AttnWin.main_arg3) = m ((c.tc : Thread Cert.AttnWin.nD Cert.AttnWin.τ).loc Cert.AttnWin.main_arg3)
      ∧ r.2.mem ((c.tc : Thread Cert.AttnWin.nD Cert.AttnWin.τ).loc Cert.AttnWin.main_arg4) = m ((c.tc : Thread Cert.AttnWin.nD Cert.AttnWin.τ).loc Cert.AttnWin.main_arg4)
      ∧ r.2.mem ((c.tc : Thread Cert.AttnWin.nD Cert.AttnWin.τ).loc Cert.AttnWin.main_arg5) = m ((c.tc : Thread Cert.AttnWin.nD Cert.AttnWin.τ).loc Cert.AttnWin.main_arg5)
      ∧ r.2.mem ((c.tc : Thread Cert.AttnWin.nD Cert.AttnWin.τ).loc Cert.AttnWin.main_arg6) = m ((c.tc : Thread Cert.AttnWin.nD Cert.AttnWin.τ).loc Cert.AttnWin.main_arg6)
      ∧ r.2.mem ((c.tc : Thread Cert.AttnWin.nD Cert.AttnWin.τ).loc Cert.AttnWin.main_arg7) = m ((c.tc : Thread Cert.AttnWin.nD Cert.AttnWin.τ).loc Cert.AttnWin.main_arg7)
      ∧ r.2.mem ((c.tc : Thread Cert.AttnWin.nD Cert.AttnWin.τ).loc Cert.AttnWin.main_arg8) = m ((c.tc : Thread Cert.AttnWin.nD Cert.AttnWin.τ).loc Cert.AttnWin.main_arg8)
      ∧ r.2.mem ((c.tc : Thread Cert.AttnWin.nD Cert.AttnWin.τ).loc Cert.AttnWin.main_arg9) = m ((c.tc : Thread Cert.AttnWin.nD Cert.AttnWin.τ).loc Cert.AttnWin.main_arg9))
      ∧ r.2.sem = fun _ => 0)

def quiescent_AttnWinIdeal [hAttnWinIdeal : Cert.AttnWinIdeal.Facts] : Prop :=
  ∀ (m : (ℓ : Loc Cert.AttnWinIdeal.nD Cert.AttnWinIdeal.τ Cert.AttnWinIdeal.sig) → Buf (Elt Ideal) ℓ) (g : Dev Cert.AttnWinIdeal.nD → PrngReg), Pre_AttnWinIdeal m →
    θ_run (Cert.AttnWinIdeal.defs (F := Ideal)) (onTc (τ := Cert.AttnWinIdeal.τ) (Cert.AttnWinIdeal.main (F := Ideal))) ⟨m, fun _ => 0, g⟩ (fun r => (∀ c : Dev Cert.AttnWinIdeal.nD,
      r.2.mem ((c.tc : Thread Cert.AttnWinIdeal.nD Cert.AttnWinIdeal.τ).loc Cert.AttnWinIdeal.main_arg0) = m ((c.tc : Thread Cert.AttnWinIdeal.nD Cert.AttnWinIdeal.τ).loc Cert.AttnWinIdeal.main_arg0)
      ∧ r.2.mem ((c.tc : Thread Cert.AttnWinIdeal.nD Cert.AttnWinIdeal.τ).loc Cert.AttnWinIdeal.main_arg1) = m ((c.tc : Thread Cert.AttnWinIdeal.nD Cert.AttnWinIdeal.τ).loc Cert.AttnWinIdeal.main_arg1)
      ∧ r.2.mem ((c.tc : Thread Cert.AttnWinIdeal.nD Cert.AttnWinIdeal.τ).loc Cert.AttnWinIdeal.main_arg2) = m ((c.tc : Thread Cert.AttnWinIdeal.nD Cert.AttnWinIdeal.τ).loc Cert.AttnWinIdeal.main_arg2)
      ∧ r.2.mem ((c.tc : Thread Cert.AttnWinIdeal.nD Cert.AttnWinIdeal.τ).loc Cert.AttnWinIdeal.main_arg3) = m ((c.tc : Thread Cert.AttnWinIdeal.nD Cert.AttnWinIdeal.τ).loc Cert.AttnWinIdeal.main_arg3)
      ∧ r.2.mem ((c.tc : Thread Cert.AttnWinIdeal.nD Cert.AttnWinIdeal.τ).loc Cert.AttnWinIdeal.main_arg4) = m ((c.tc : Thread Cert.AttnWinIdeal.nD Cert.AttnWinIdeal.τ).loc Cert.AttnWinIdeal.main_arg4)
      ∧ r.2.mem ((c.tc : Thread Cert.AttnWinIdeal.nD Cert.AttnWinIdeal.τ).loc Cert.AttnWinIdeal.main_arg5) = m ((c.tc : Thread Cert.AttnWinIdeal.nD Cert.AttnWinIdeal.τ).loc Cert.AttnWinIdeal.main_arg5)
      ∧ r.2.mem ((c.tc : Thread Cert.AttnWinIdeal.nD Cert.AttnWinIdeal.τ).loc Cert.AttnWinIdeal.main_arg6) = m ((c.tc : Thread Cert.AttnWinIdeal.nD Cert.AttnWinIdeal.τ).loc Cert.AttnWinIdeal.main_arg6)
      ∧ r.2.mem ((c.tc : Thread Cert.AttnWinIdeal.nD Cert.AttnWinIdeal.τ).loc Cert.AttnWinIdeal.main_arg7) = m ((c.tc : Thread Cert.AttnWinIdeal.nD Cert.AttnWinIdeal.τ).loc Cert.AttnWinIdeal.main_arg7)
      ∧ r.2.mem ((c.tc : Thread Cert.AttnWinIdeal.nD Cert.AttnWinIdeal.τ).loc Cert.AttnWinIdeal.main_arg8) = m ((c.tc : Thread Cert.AttnWinIdeal.nD Cert.AttnWinIdeal.τ).loc Cert.AttnWinIdeal.main_arg8)
      ∧ r.2.mem ((c.tc : Thread Cert.AttnWinIdeal.nD Cert.AttnWinIdeal.τ).loc Cert.AttnWinIdeal.main_arg9) = m ((c.tc : Thread Cert.AttnWinIdeal.nD Cert.AttnWinIdeal.τ).loc Cert.AttnWinIdeal.main_arg9))
      ∧ r.2.sem = fun _ => 0)

def quiescent_AttnWinRefIdeal [hAttnWinRefIdeal : Cert.AttnWinRefIdeal.Facts] : Prop :=
  ∀ (m : (ℓ : Loc Cert.AttnWinRefIdeal.nD Cert.AttnWinRefIdeal.τ Cert.AttnWinRefIdeal.sig) → Buf (Elt Ideal) ℓ) (g : Dev Cert.AttnWinRefIdeal.nD → PrngReg), Pre_AttnWinRefIdeal m →
    θ_run (Cert.AttnWinRefIdeal.defs (F := Ideal)) (onTc (τ := Cert.AttnWinRefIdeal.τ) (Cert.AttnWinRefIdeal.main (F := Ideal))) ⟨m, fun _ => 0, g⟩ (fun r => (∀ c : Dev Cert.AttnWinRefIdeal.nD,
      r.2.mem ((c.tc : Thread Cert.AttnWinRefIdeal.nD Cert.AttnWinRefIdeal.τ).loc Cert.AttnWinRefIdeal.main_arg0) = m ((c.tc : Thread Cert.AttnWinRefIdeal.nD Cert.AttnWinRefIdeal.τ).loc Cert.AttnWinRefIdeal.main_arg0)
      ∧ r.2.mem ((c.tc : Thread Cert.AttnWinRefIdeal.nD Cert.AttnWinRefIdeal.τ).loc Cert.AttnWinRefIdeal.main_arg1) = m ((c.tc : Thread Cert.AttnWinRefIdeal.nD Cert.AttnWinRefIdeal.τ).loc Cert.AttnWinRefIdeal.main_arg1)
      ∧ r.2.mem ((c.tc : Thread Cert.AttnWinRefIdeal.nD Cert.AttnWinRefIdeal.τ).loc Cert.AttnWinRefIdeal.main_arg2) = m ((c.tc : Thread Cert.AttnWinRefIdeal.nD Cert.AttnWinRefIdeal.τ).loc Cert.AttnWinRefIdeal.main_arg2)
      ∧ r.2.mem ((c.tc : Thread Cert.AttnWinRefIdeal.nD Cert.AttnWinRefIdeal.τ).loc Cert.AttnWinRefIdeal.main_arg3) = m ((c.tc : Thread Cert.AttnWinRefIdeal.nD Cert.AttnWinRefIdeal.τ).loc Cert.AttnWinRefIdeal.main_arg3)
      ∧ r.2.mem ((c.tc : Thread Cert.AttnWinRefIdeal.nD Cert.AttnWinRefIdeal.τ).loc Cert.AttnWinRefIdeal.main_arg4) = m ((c.tc : Thread Cert.AttnWinRefIdeal.nD Cert.AttnWinRefIdeal.τ).loc Cert.AttnWinRefIdeal.main_arg4)
      ∧ r.2.mem ((c.tc : Thread Cert.AttnWinRefIdeal.nD Cert.AttnWinRefIdeal.τ).loc Cert.AttnWinRefIdeal.main_arg5) = m ((c.tc : Thread Cert.AttnWinRefIdeal.nD Cert.AttnWinRefIdeal.τ).loc Cert.AttnWinRefIdeal.main_arg5)
      ∧ r.2.mem ((c.tc : Thread Cert.AttnWinRefIdeal.nD Cert.AttnWinRefIdeal.τ).loc Cert.AttnWinRefIdeal.main_arg6) = m ((c.tc : Thread Cert.AttnWinRefIdeal.nD Cert.AttnWinRefIdeal.τ).loc Cert.AttnWinRefIdeal.main_arg6)
      ∧ r.2.mem ((c.tc : Thread Cert.AttnWinRefIdeal.nD Cert.AttnWinRefIdeal.τ).loc Cert.AttnWinRefIdeal.main_arg7) = m ((c.tc : Thread Cert.AttnWinRefIdeal.nD Cert.AttnWinRefIdeal.τ).loc Cert.AttnWinRefIdeal.main_arg7)
      ∧ r.2.mem ((c.tc : Thread Cert.AttnWinRefIdeal.nD Cert.AttnWinRefIdeal.τ).loc Cert.AttnWinRefIdeal.main_arg8) = m ((c.tc : Thread Cert.AttnWinRefIdeal.nD Cert.AttnWinRefIdeal.τ).loc Cert.AttnWinRefIdeal.main_arg8)
      ∧ r.2.mem ((c.tc : Thread Cert.AttnWinRefIdeal.nD Cert.AttnWinRefIdeal.τ).loc Cert.AttnWinRefIdeal.main_arg9) = m ((c.tc : Thread Cert.AttnWinRefIdeal.nD Cert.AttnWinRefIdeal.τ).loc Cert.AttnWinRefIdeal.main_arg9))
      ∧ r.2.sem = fun _ => 0)

def quiescent_AttnWinRef [hAttnWinRef : Cert.AttnWinRef.Facts] : Prop :=
  ∀ (m : (ℓ : Loc Cert.AttnWinRef.nD Cert.AttnWinRef.τ Cert.AttnWinRef.sig) → Buf (Elt Bits) ℓ) (g : Dev Cert.AttnWinRef.nD → PrngReg), Pre_AttnWinRef m →
    θ_run (Cert.AttnWinRef.defs (F := Bits)) (onTc (τ := Cert.AttnWinRef.τ) (Cert.AttnWinRef.main (F := Bits))) ⟨m, fun _ => 0, g⟩ (fun r => (∀ c : Dev Cert.AttnWinRef.nD,
      r.2.mem ((c.tc : Thread Cert.AttnWinRef.nD Cert.AttnWinRef.τ).loc Cert.AttnWinRef.main_arg0) = m ((c.tc : Thread Cert.AttnWinRef.nD Cert.AttnWinRef.τ).loc Cert.AttnWinRef.main_arg0)
      ∧ r.2.mem ((c.tc : Thread Cert.AttnWinRef.nD Cert.AttnWinRef.τ).loc Cert.AttnWinRef.main_arg1) = m ((c.tc : Thread Cert.AttnWinRef.nD Cert.AttnWinRef.τ).loc Cert.AttnWinRef.main_arg1)
      ∧ r.2.mem ((c.tc : Thread Cert.AttnWinRef.nD Cert.AttnWinRef.τ).loc Cert.AttnWinRef.main_arg2) = m ((c.tc : Thread Cert.AttnWinRef.nD Cert.AttnWinRef.τ).loc Cert.AttnWinRef.main_arg2)
      ∧ r.2.mem ((c.tc : Thread Cert.AttnWinRef.nD Cert.AttnWinRef.τ).loc Cert.AttnWinRef.main_arg3) = m ((c.tc : Thread Cert.AttnWinRef.nD Cert.AttnWinRef.τ).loc Cert.AttnWinRef.main_arg3)
      ∧ r.2.mem ((c.tc : Thread Cert.AttnWinRef.nD Cert.AttnWinRef.τ).loc Cert.AttnWinRef.main_arg4) = m ((c.tc : Thread Cert.AttnWinRef.nD Cert.AttnWinRef.τ).loc Cert.AttnWinRef.main_arg4)
      ∧ r.2.mem ((c.tc : Thread Cert.AttnWinRef.nD Cert.AttnWinRef.τ).loc Cert.AttnWinRef.main_arg5) = m ((c.tc : Thread Cert.AttnWinRef.nD Cert.AttnWinRef.τ).loc Cert.AttnWinRef.main_arg5)
      ∧ r.2.mem ((c.tc : Thread Cert.AttnWinRef.nD Cert.AttnWinRef.τ).loc Cert.AttnWinRef.main_arg6) = m ((c.tc : Thread Cert.AttnWinRef.nD Cert.AttnWinRef.τ).loc Cert.AttnWinRef.main_arg6)
      ∧ r.2.mem ((c.tc : Thread Cert.AttnWinRef.nD Cert.AttnWinRef.τ).loc Cert.AttnWinRef.main_arg7) = m ((c.tc : Thread Cert.AttnWinRef.nD Cert.AttnWinRef.τ).loc Cert.AttnWinRef.main_arg7)
      ∧ r.2.mem ((c.tc : Thread Cert.AttnWinRef.nD Cert.AttnWinRef.τ).loc Cert.AttnWinRef.main_arg8) = m ((c.tc : Thread Cert.AttnWinRef.nD Cert.AttnWinRef.τ).loc Cert.AttnWinRef.main_arg8)
      ∧ r.2.mem ((c.tc : Thread Cert.AttnWinRef.nD Cert.AttnWinRef.τ).loc Cert.AttnWinRef.main_arg9) = m ((c.tc : Thread Cert.AttnWinRef.nD Cert.AttnWinRef.τ).loc Cert.AttnWinRef.main_arg9))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0)
      ∧ r.2.mem ((c.tc : Thread Cert.AttnCtx.nD Cert.AttnCtx.τ).loc Cert.AttnCtx.main_arg1) = m ((c.tc : Thread Cert.AttnCtx.nD Cert.AttnCtx.τ).loc Cert.AttnCtx.main_arg1)
      ∧ r.2.mem ((c.tc : Thread Cert.AttnCtx.nD Cert.AttnCtx.τ).loc Cert.AttnCtx.main_arg2) = m ((c.tc : Thread Cert.AttnCtx.nD Cert.AttnCtx.τ).loc Cert.AttnCtx.main_arg2)
      ∧ r.2.mem ((c.tc : Thread Cert.AttnCtx.nD Cert.AttnCtx.τ).loc Cert.AttnCtx.main_arg3) = m ((c.tc : Thread Cert.AttnCtx.nD Cert.AttnCtx.τ).loc Cert.AttnCtx.main_arg3)
      ∧ r.2.mem ((c.tc : Thread Cert.AttnCtx.nD Cert.AttnCtx.τ).loc Cert.AttnCtx.main_arg4) = m ((c.tc : Thread Cert.AttnCtx.nD Cert.AttnCtx.τ).loc Cert.AttnCtx.main_arg4)
      ∧ r.2.mem ((c.tc : Thread Cert.AttnCtx.nD Cert.AttnCtx.τ).loc Cert.AttnCtx.main_arg5) = m ((c.tc : Thread Cert.AttnCtx.nD Cert.AttnCtx.τ).loc Cert.AttnCtx.main_arg5)
      ∧ r.2.mem ((c.tc : Thread Cert.AttnCtx.nD Cert.AttnCtx.τ).loc Cert.AttnCtx.main_arg6) = m ((c.tc : Thread Cert.AttnCtx.nD Cert.AttnCtx.τ).loc Cert.AttnCtx.main_arg6)
      ∧ r.2.mem ((c.tc : Thread Cert.AttnCtx.nD Cert.AttnCtx.τ).loc Cert.AttnCtx.main_arg7) = m ((c.tc : Thread Cert.AttnCtx.nD Cert.AttnCtx.τ).loc Cert.AttnCtx.main_arg7))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
      ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3)
      ∧ r.2.mem ((c.tc : Thread Cert.AttnCtxIdeal.nD Cert.AttnCtxIdeal.τ).loc Cert.AttnCtxIdeal.main_arg4) = m ((c.tc : Thread Cert.AttnCtxIdeal.nD Cert.AttnCtxIdeal.τ).loc Cert.AttnCtxIdeal.main_arg4)
      ∧ r.2.mem ((c.tc : Thread Cert.AttnCtxIdeal.nD Cert.AttnCtxIdeal.τ).loc Cert.AttnCtxIdeal.main_arg5) = m ((c.tc : Thread Cert.AttnCtxIdeal.nD Cert.AttnCtxIdeal.τ).loc Cert.AttnCtxIdeal.main_arg5)
      ∧ r.2.mem ((c.tc : Thread Cert.AttnCtxIdeal.nD Cert.AttnCtxIdeal.τ).loc Cert.AttnCtxIdeal.main_arg6) = m ((c.tc : Thread Cert.AttnCtxIdeal.nD Cert.AttnCtxIdeal.τ).loc Cert.AttnCtxIdeal.main_arg6)
      ∧ r.2.mem ((c.tc : Thread Cert.AttnCtxIdeal.nD Cert.AttnCtxIdeal.τ).loc Cert.AttnCtxIdeal.main_arg7) = m ((c.tc : Thread Cert.AttnCtxIdeal.nD Cert.AttnCtxIdeal.τ).loc Cert.AttnCtxIdeal.main_arg7))
      ∧ r.2.sem = fun _ => 0)

def quiescent_AttnCtxRefIdeal [hAttnCtxRefIdeal : Cert.AttnCtxRefIdeal.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2)
      ∧ r.2.mem ((c.tc : Thread Cert.AttnCtxRefIdeal.nD Cert.AttnCtxRefIdeal.τ).loc Cert.AttnCtxRefIdeal.main_arg3) = m ((c.tc : Thread Cert.AttnCtxRefIdeal.nD Cert.AttnCtxRefIdeal.τ).loc Cert.AttnCtxRefIdeal.main_arg3)
      ∧ r.2.mem ((c.tc : Thread Cert.AttnCtxRefIdeal.nD Cert.AttnCtxRefIdeal.τ).loc Cert.AttnCtxRefIdeal.main_arg4) = m ((c.tc : Thread Cert.AttnCtxRefIdeal.nD Cert.AttnCtxRefIdeal.τ).loc Cert.AttnCtxRefIdeal.main_arg4)
      ∧ r.2.mem ((c.tc : Thread Cert.AttnCtxRefIdeal.nD Cert.AttnCtxRefIdeal.τ).loc Cert.AttnCtxRefIdeal.main_arg5) = m ((c.tc : Thread Cert.AttnCtxRefIdeal.nD Cert.AttnCtxRefIdeal.τ).loc Cert.AttnCtxRefIdeal.main_arg5)
      ∧ r.2.mem ((c.tc : Thread Cert.AttnCtxRefIdeal.nD Cert.AttnCtxRefIdeal.τ).loc Cert.AttnCtxRefIdeal.main_arg6) = m ((c.tc : Thread Cert.AttnCtxRefIdeal.nD Cert.AttnCtxRefIdeal.τ).loc Cert.AttnCtxRefIdeal.main_arg6)
      ∧ r.2.mem ((c.tc : Thread Cert.AttnCtxRefIdeal.nD Cert.AttnCtxRefIdeal.τ).loc Cert.AttnCtxRefIdeal.main_arg7) = m ((c.tc : Thread Cert.AttnCtxRefIdeal.nD Cert.AttnCtxRefIdeal.τ).loc Cert.AttnCtxRefIdeal.main_arg7))
      ∧ r.2.sem = fun _ => 0)

def quiescent_AttnCtxRef [hAttnCtxRef : Cert.AttnCtxRef.Facts] : Prop :=
  ∀ (m : (ℓ : Loc Cert.AttnCtxRef.nD Cert.AttnCtxRef.τ Cert.AttnCtxRef.sig) → Buf (Elt Bits) ℓ) (g : Dev Cert.AttnCtxRef.nD → PrngReg), Pre_AttnCtxRef m →
    θ_run (Cert.AttnCtxRef.defs (F := Bits)) (onTc (τ := Cert.AttnCtxRef.τ) (Cert.AttnCtxRef.main (F := Bits))) ⟨m, fun _ => 0, g⟩ (fun r => (∀ c : Dev Cert.AttnCtxRef.nD,
      r.2.mem ((c.tc : Thread Cert.AttnCtxRef.nD Cert.AttnCtxRef.τ).loc Cert.AttnCtxRef.main_arg0) = m ((c.tc : Thread Cert.AttnCtxRef.nD Cert.AttnCtxRef.τ).loc Cert.AttnCtxRef.main_arg0)
      ∧ r.2.mem ((c.tc : Thread Cert.AttnCtxRef.nD Cert.AttnCtxRef.τ).loc Cert.AttnCtxRef.main_arg1) = m ((c.tc : Thread Cert.AttnCtxRef.nD Cert.AttnCtxRef.τ).loc Cert.AttnCtxRef.main_arg1)
      ∧ r.2.mem ((c.tc : Thread Cert.AttnCtxRef.nD Cert.AttnCtxRef.τ).loc Cert.AttnCtxRef.main_arg2) = m ((c.tc : Thread Cert.AttnCtxRef.nD Cert.AttnCtxRef.τ).loc Cert.AttnCtxRef.main_arg2)
      ∧ r.2.mem ((c.tc : Thread Cert.AttnCtxRef.nD Cert.AttnCtxRef.τ).loc Cert.AttnCtxRef.main_arg3) = m ((c.tc : Thread Cert.AttnCtxRef.nD Cert.AttnCtxRef.τ).loc Cert.AttnCtxRef.main_arg3)
      ∧ r.2.mem ((c.tc : Thread Cert.AttnCtxRef.nD Cert.AttnCtxRef.τ).loc Cert.AttnCtxRef.main_arg4) = m ((c.tc : Thread Cert.AttnCtxRef.nD Cert.AttnCtxRef.τ).loc Cert.AttnCtxRef.main_arg4)
      ∧ r.2.mem ((c.tc : Thread Cert.AttnCtxRef.nD Cert.AttnCtxRef.τ).loc Cert.AttnCtxRef.main_arg5) = m ((c.tc : Thread Cert.AttnCtxRef.nD Cert.AttnCtxRef.τ).loc Cert.AttnCtxRef.main_arg5)
      ∧ r.2.mem ((c.tc : Thread Cert.AttnCtxRef.nD Cert.AttnCtxRef.τ).loc Cert.AttnCtxRef.main_arg6) = m ((c.tc : Thread Cert.AttnCtxRef.nD Cert.AttnCtxRef.τ).loc Cert.AttnCtxRef.main_arg6)
      ∧ r.2.mem ((c.tc : Thread Cert.AttnCtxRef.nD Cert.AttnCtxRef.τ).loc Cert.AttnCtxRef.main_arg7) = m ((c.tc : Thread Cert.AttnCtxRef.nD Cert.AttnCtxRef.τ).loc Cert.AttnCtxRef.main_arg7))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3))
      ∧ r.2.sem = fun _ => 0)

def quiescent_AttnInRef [hAttnInRef : Cert.AttnInRef.Facts] : Prop :=
  ∀ (m : (ℓ : Loc Cert.AttnInRef.nD Cert.AttnInRef.τ Cert.AttnInRef.sig) → Buf (Elt Bits) ℓ) (g : Dev Cert.AttnInRef.nD → PrngReg), Pre_AttnInRef m →
    θ_run (Cert.AttnInRef.defs (F := Bits)) (onTc (τ := Cert.AttnInRef.τ) (Cert.AttnInRef.main (F := Bits))) ⟨m, fun _ => 0, g⟩ (fun r => (∀ c : Dev Cert.AttnInRef.nD,
      r.2.mem ((c.tc : Thread Cert.AttnInRef.nD Cert.AttnInRef.τ).loc Cert.AttnInRef.main_arg0) = m ((c.tc : Thread Cert.AttnInRef.nD Cert.AttnInRef.τ).loc Cert.AttnInRef.main_arg0)
      ∧ r.2.mem ((c.tc : Thread Cert.AttnInRef.nD Cert.AttnInRef.τ).loc Cert.AttnInRef.main_arg1) = m ((c.tc : Thread Cert.AttnInRef.nD Cert.AttnInRef.τ).loc Cert.AttnInRef.main_arg1)
      ∧ r.2.mem ((c.tc : Thread Cert.AttnInRef.nD Cert.AttnInRef.τ).loc Cert.AttnInRef.main_arg2) = m ((c.tc : Thread Cert.AttnInRef.nD Cert.AttnInRef.τ).loc Cert.AttnInRef.main_arg2)
      ∧ r.2.mem ((c.tc : Thread Cert.AttnInRef.nD Cert.AttnInRef.τ).loc Cert.AttnInRef.main_arg3) = m ((c.tc : Thread Cert.AttnInRef.nD Cert.AttnInRef.τ).loc Cert.AttnInRef.main_arg3))
      ∧ r.2.sem = fun _ => 0)

def quiescent_AttnInRope [hAttnInRope : Cert.AttnInRope.Facts] : Prop :=
  ∀ (m : (ℓ : Loc Cert.AttnInRope.nD Cert.AttnInRope.τ Cert.AttnInRope.sig) → Buf (Elt Bits) ℓ) (g : Dev Cert.AttnInRope.nD → PrngReg), Pre_AttnInRope m →
    θ_run (Cert.AttnInRope.defs (F := Bits)) (onTc (τ := Cert.AttnInRope.τ) (Cert.AttnInRope.main (F := Bits))) ⟨m, fun _ => 0, g⟩ (fun r => (∀ c : Dev Cert.AttnInRope.nD,
      r.2.mem ((c.tc : Thread Cert.AttnInRope.nD Cert.AttnInRope.τ).loc Cert.AttnInRope.main_arg0) = m ((c.tc : Thread Cert.AttnInRope.nD Cert.AttnInRope.τ).loc Cert.AttnInRope.main_arg0)
      ∧ r.2.mem ((c.tc : Thread Cert.AttnInRope.nD Cert.AttnInRope.τ).loc Cert.AttnInRope.main_arg1) = m ((c.tc : Thread Cert.AttnInRope.nD Cert.AttnInRope.τ).loc Cert.AttnInRope.main_arg1)
      ∧ r.2.mem ((c.tc : Thread Cert.AttnInRope.nD Cert.AttnInRope.τ).loc Cert.AttnInRope.main_arg2) = m ((c.tc : Thread Cert.AttnInRope.nD Cert.AttnInRope.τ).loc Cert.AttnInRope.main_arg2)
      ∧ r.2.mem ((c.tc : Thread Cert.AttnInRope.nD Cert.AttnInRope.τ).loc Cert.AttnInRope.main_arg3) = m ((c.tc : Thread Cert.AttnInRope.nD Cert.AttnInRope.τ).loc Cert.AttnInRope.main_arg3))
      ∧ r.2.sem = fun _ => 0)

def quiescent_AttnInRopeIdeal [hAttnInRopeIdeal : Cert.AttnInRopeIdeal.Facts] : Prop :=
  ∀ (m : (ℓ : Loc Cert.AttnInRopeIdeal.nD Cert.AttnInRopeIdeal.τ Cert.AttnInRopeIdeal.sig) → Buf (Elt Ideal) ℓ) (g : Dev Cert.AttnInRopeIdeal.nD → PrngReg), Pre_AttnInRopeIdeal m →
    θ_run (Cert.AttnInRopeIdeal.defs (F := Ideal)) (onTc (τ := Cert.AttnInRopeIdeal.τ) (Cert.AttnInRopeIdeal.main (F := Ideal))) ⟨m, fun _ => 0, g⟩ (fun r => (∀ c : Dev Cert.AttnInRopeIdeal.nD,
      r.2.mem ((c.tc : Thread Cert.AttnInRopeIdeal.nD Cert.AttnInRopeIdeal.τ).loc Cert.AttnInRopeIdeal.main_arg0) = m ((c.tc : Thread Cert.AttnInRopeIdeal.nD Cert.AttnInRopeIdeal.τ).loc Cert.AttnInRopeIdeal.main_arg0)
      ∧ r.2.mem ((c.tc : Thread Cert.AttnInRopeIdeal.nD Cert.AttnInRopeIdeal.τ).loc Cert.AttnInRopeIdeal.main_arg1) = m ((c.tc : Thread Cert.AttnInRopeIdeal.nD Cert.AttnInRopeIdeal.τ).loc Cert.AttnInRopeIdeal.main_arg1)
      ∧ r.2.mem ((c.tc : Thread Cert.AttnInRopeIdeal.nD Cert.AttnInRopeIdeal.τ).loc Cert.AttnInRopeIdeal.main_arg2) = m ((c.tc : Thread Cert.AttnInRopeIdeal.nD Cert.AttnInRopeIdeal.τ).loc Cert.AttnInRopeIdeal.main_arg2)
      ∧ r.2.mem ((c.tc : Thread Cert.AttnInRopeIdeal.nD Cert.AttnInRopeIdeal.τ).loc Cert.AttnInRopeIdeal.main_arg3) = m ((c.tc : Thread Cert.AttnInRopeIdeal.nD Cert.AttnInRopeIdeal.τ).loc Cert.AttnInRopeIdeal.main_arg3))
      ∧ r.2.sem = fun _ => 0)

def quiescent_AttnInRopeRefIdeal [hAttnInRopeRefIdeal : Cert.AttnInRopeRefIdeal.Facts] : Prop :=
  ∀ (m : (ℓ : Loc Cert.AttnInRopeRefIdeal.nD Cert.AttnInRopeRefIdeal.τ Cert.AttnInRopeRefIdeal.sig) → Buf (Elt Ideal) ℓ) (g : Dev Cert.AttnInRopeRefIdeal.nD → PrngReg), Pre_AttnInRopeRefIdeal m →
    θ_run (Cert.AttnInRopeRefIdeal.defs (F := Ideal)) (onTc (τ := Cert.AttnInRopeRefIdeal.τ) (Cert.AttnInRopeRefIdeal.main (F := Ideal))) ⟨m, fun _ => 0, g⟩ (fun r => (∀ c : Dev Cert.AttnInRopeRefIdeal.nD,
      r.2.mem ((c.tc : Thread Cert.AttnInRopeRefIdeal.nD Cert.AttnInRopeRefIdeal.τ).loc Cert.AttnInRopeRefIdeal.main_arg0) = m ((c.tc : Thread Cert.AttnInRopeRefIdeal.nD Cert.AttnInRopeRefIdeal.τ).loc Cert.AttnInRopeRefIdeal.main_arg0)
      ∧ r.2.mem ((c.tc : Thread Cert.AttnInRopeRefIdeal.nD Cert.AttnInRopeRefIdeal.τ).loc Cert.AttnInRopeRefIdeal.main_arg1) = m ((c.tc : Thread Cert.AttnInRopeRefIdeal.nD Cert.AttnInRopeRefIdeal.τ).loc Cert.AttnInRopeRefIdeal.main_arg1)
      ∧ r.2.mem ((c.tc : Thread Cert.AttnInRopeRefIdeal.nD Cert.AttnInRopeRefIdeal.τ).loc Cert.AttnInRopeRefIdeal.main_arg2) = m ((c.tc : Thread Cert.AttnInRopeRefIdeal.nD Cert.AttnInRopeRefIdeal.τ).loc Cert.AttnInRopeRefIdeal.main_arg2)
      ∧ r.2.mem ((c.tc : Thread Cert.AttnInRopeRefIdeal.nD Cert.AttnInRopeRefIdeal.τ).loc Cert.AttnInRopeRefIdeal.main_arg3) = m ((c.tc : Thread Cert.AttnInRopeRefIdeal.nD Cert.AttnInRopeRefIdeal.τ).loc Cert.AttnInRopeRefIdeal.main_arg3))
      ∧ r.2.sem = fun _ => 0)

def quiescent_AttnInRopeRef [hAttnInRopeRef : Cert.AttnInRopeRef.Facts] : Prop :=
  ∀ (m : (ℓ : Loc Cert.AttnInRopeRef.nD Cert.AttnInRopeRef.τ Cert.AttnInRopeRef.sig) → Buf (Elt Bits) ℓ) (g : Dev Cert.AttnInRopeRef.nD → PrngReg), Pre_AttnInRopeRef m →
    θ_run (Cert.AttnInRopeRef.defs (F := Bits)) (onTc (τ := Cert.AttnInRopeRef.τ) (Cert.AttnInRopeRef.main (F := Bits))) ⟨m, fun _ => 0, g⟩ (fun r => (∀ c : Dev Cert.AttnInRopeRef.nD,
      r.2.mem ((c.tc : Thread Cert.AttnInRopeRef.nD Cert.AttnInRopeRef.τ).loc Cert.AttnInRopeRef.main_arg0) = m ((c.tc : Thread Cert.AttnInRopeRef.nD Cert.AttnInRopeRef.τ).loc Cert.AttnInRopeRef.main_arg0)
      ∧ r.2.mem ((c.tc : Thread Cert.AttnInRopeRef.nD Cert.AttnInRopeRef.τ).loc Cert.AttnInRopeRef.main_arg1) = m ((c.tc : Thread Cert.AttnInRopeRef.nD Cert.AttnInRopeRef.τ).loc Cert.AttnInRopeRef.main_arg1)
      ∧ r.2.mem ((c.tc : Thread Cert.AttnInRopeRef.nD Cert.AttnInRopeRef.τ).loc Cert.AttnInRopeRef.main_arg2) = m ((c.tc : Thread Cert.AttnInRopeRef.nD Cert.AttnInRopeRef.τ).loc Cert.AttnInRopeRef.main_arg2)
      ∧ r.2.mem ((c.tc : Thread Cert.AttnInRopeRef.nD Cert.AttnInRopeRef.τ).loc Cert.AttnInRopeRef.main_arg3) = m ((c.tc : Thread Cert.AttnInRopeRef.nD Cert.AttnInRopeRef.τ).loc Cert.AttnInRopeRef.main_arg3))
      ∧ r.2.sem = fun _ => 0)

def quiescent_MlstmIn [hMlstmIn : Cert.MlstmIn.Facts] : Prop :=
  ∀ (m : (ℓ : Loc Cert.MlstmIn.nD Cert.MlstmIn.τ Cert.MlstmIn.sig) → Buf (Elt Bits) ℓ) (g : Dev Cert.MlstmIn.nD → PrngReg), Pre_MlstmIn m →
    θ_run (Cert.MlstmIn.defs (F := Bits)) (onTc (τ := Cert.MlstmIn.τ) (Cert.MlstmIn.main (F := Bits))) ⟨m, fun _ => 0, g⟩ (fun r => (∀ c : Dev Cert.MlstmIn.nD,
      r.2.mem ((c.tc : Thread Cert.MlstmIn.nD Cert.MlstmIn.τ).loc Cert.MlstmIn.main_arg0) = m ((c.tc : Thread Cert.MlstmIn.nD Cert.MlstmIn.τ).loc Cert.MlstmIn.main_arg0)
      ∧ r.2.mem ((c.tc : Thread Cert.MlstmIn.nD Cert.MlstmIn.τ).loc Cert.MlstmIn.main_arg1) = m ((c.tc : Thread Cert.MlstmIn.nD Cert.MlstmIn.τ).loc Cert.MlstmIn.main_arg1)
      ∧ r.2.mem ((c.tc : Thread Cert.MlstmIn.nD Cert.MlstmIn.τ).loc Cert.MlstmIn.main_arg2) = m ((c.tc : Thread Cert.MlstmIn.nD Cert.MlstmIn.τ).loc Cert.MlstmIn.main_arg2)
      ∧ r.2.mem ((c.tc : Thread Cert.MlstmIn.nD Cert.MlstmIn.τ).loc Cert.MlstmIn.main_arg3) = m ((c.tc : Thread Cert.MlstmIn.nD Cert.MlstmIn.τ).loc Cert.MlstmIn.main_arg3)
      ∧ r.2.mem ((c.tc : Thread Cert.MlstmIn.nD Cert.MlstmIn.τ).loc Cert.MlstmIn.main_arg4) = m ((c.tc : Thread Cert.MlstmIn.nD Cert.MlstmIn.τ).loc Cert.MlstmIn.main_arg4))
      ∧ r.2.sem = fun _ => 0)

def quiescent_MlstmInIdeal [hMlstmInIdeal : Cert.MlstmInIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg), Pre_MlstmInIdeal m →
    θ_run (Cert.MlstmInIdeal.defs (F := Ideal)) (onTc (τ := Cert.MlstmInIdeal.τ) (Cert.MlstmInIdeal.main (F := Ideal))) ⟨m, fun _ => 0, g⟩ (fun r => (∀ c : Dev Cert.MlstmInIdeal.nD,
      r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
      ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1)
      ∧ r.2.mem ((c.tc : Thread Cert.MlstmInIdeal.nD Cert.MlstmInIdeal.τ).loc Cert.MlstmInIdeal.main_arg2) = m ((c.tc : Thread Cert.MlstmInIdeal.nD Cert.MlstmInIdeal.τ).loc Cert.MlstmInIdeal.main_arg2)
      ∧ r.2.mem ((c.tc : Thread Cert.MlstmInIdeal.nD Cert.MlstmInIdeal.τ).loc Cert.MlstmInIdeal.main_arg3) = m ((c.tc : Thread Cert.MlstmInIdeal.nD Cert.MlstmInIdeal.τ).loc Cert.MlstmInIdeal.main_arg3)
      ∧ r.2.mem ((c.tc : Thread Cert.MlstmInIdeal.nD Cert.MlstmInIdeal.τ).loc Cert.MlstmInIdeal.main_arg4) = m ((c.tc : Thread Cert.MlstmInIdeal.nD Cert.MlstmInIdeal.τ).loc Cert.MlstmInIdeal.main_arg4))
      ∧ r.2.sem = fun _ => 0)

def quiescent_MlstmInRefIdeal [hMlstmInRefIdeal : Cert.MlstmInRefIdeal.Facts] : Prop :=
  ∀ (m : (ℓ : Loc Cert.MlstmInRefIdeal.nD Cert.MlstmInRefIdeal.τ Cert.MlstmInRefIdeal.sig) → Buf (Elt Ideal) ℓ) (g : Dev Cert.MlstmInRefIdeal.nD → PrngReg), Pre_MlstmInRefIdeal m →
    θ_run (Cert.MlstmInRefIdeal.defs (F := Ideal)) (onTc (τ := Cert.MlstmInRefIdeal.τ) (Cert.MlstmInRefIdeal.main (F := Ideal))) ⟨m, fun _ => 0, g⟩ (fun r => (∀ c : Dev Cert.MlstmInRefIdeal.nD,
      r.2.mem ((c.tc : Thread Cert.MlstmInRefIdeal.nD Cert.MlstmInRefIdeal.τ).loc Cert.MlstmInRefIdeal.main_arg0) = m ((c.tc : Thread Cert.MlstmInRefIdeal.nD Cert.MlstmInRefIdeal.τ).loc Cert.MlstmInRefIdeal.main_arg0)
      ∧ r.2.mem ((c.tc : Thread Cert.MlstmInRefIdeal.nD Cert.MlstmInRefIdeal.τ).loc Cert.MlstmInRefIdeal.main_arg1) = m ((c.tc : Thread Cert.MlstmInRefIdeal.nD Cert.MlstmInRefIdeal.τ).loc Cert.MlstmInRefIdeal.main_arg1)
      ∧ r.2.mem ((c.tc : Thread Cert.MlstmInRefIdeal.nD Cert.MlstmInRefIdeal.τ).loc Cert.MlstmInRefIdeal.main_arg2) = m ((c.tc : Thread Cert.MlstmInRefIdeal.nD Cert.MlstmInRefIdeal.τ).loc Cert.MlstmInRefIdeal.main_arg2)
      ∧ r.2.mem ((c.tc : Thread Cert.MlstmInRefIdeal.nD Cert.MlstmInRefIdeal.τ).loc Cert.MlstmInRefIdeal.main_arg3) = m ((c.tc : Thread Cert.MlstmInRefIdeal.nD Cert.MlstmInRefIdeal.τ).loc Cert.MlstmInRefIdeal.main_arg3)
      ∧ r.2.mem ((c.tc : Thread Cert.MlstmInRefIdeal.nD Cert.MlstmInRefIdeal.τ).loc Cert.MlstmInRefIdeal.main_arg4) = m ((c.tc : Thread Cert.MlstmInRefIdeal.nD Cert.MlstmInRefIdeal.τ).loc Cert.MlstmInRefIdeal.main_arg4))
      ∧ r.2.sem = fun _ => 0)

def quiescent_MlstmInRef [hMlstmInRef : Cert.MlstmInRef.Facts] : Prop :=
  ∀ (m : (ℓ : Loc Cert.MlstmInRef.nD Cert.MlstmInRef.τ Cert.MlstmInRef.sig) → Buf (Elt Bits) ℓ) (g : Dev Cert.MlstmInRef.nD → PrngReg), Pre_MlstmInRef m →
    θ_run (Cert.MlstmInRef.defs (F := Bits)) (onTc (τ := Cert.MlstmInRef.τ) (Cert.MlstmInRef.main (F := Bits))) ⟨m, fun _ => 0, g⟩ (fun r => (∀ c : Dev Cert.MlstmInRef.nD,
      r.2.mem ((c.tc : Thread Cert.MlstmInRef.nD Cert.MlstmInRef.τ).loc Cert.MlstmInRef.main_arg0) = m ((c.tc : Thread Cert.MlstmInRef.nD Cert.MlstmInRef.τ).loc Cert.MlstmInRef.main_arg0)
      ∧ r.2.mem ((c.tc : Thread Cert.MlstmInRef.nD Cert.MlstmInRef.τ).loc Cert.MlstmInRef.main_arg1) = m ((c.tc : Thread Cert.MlstmInRef.nD Cert.MlstmInRef.τ).loc Cert.MlstmInRef.main_arg1)
      ∧ r.2.mem ((c.tc : Thread Cert.MlstmInRef.nD Cert.MlstmInRef.τ).loc Cert.MlstmInRef.main_arg2) = m ((c.tc : Thread Cert.MlstmInRef.nD Cert.MlstmInRef.τ).loc Cert.MlstmInRef.main_arg2)
      ∧ r.2.mem ((c.tc : Thread Cert.MlstmInRef.nD Cert.MlstmInRef.τ).loc Cert.MlstmInRef.main_arg3) = m ((c.tc : Thread Cert.MlstmInRef.nD Cert.MlstmInRef.τ).loc Cert.MlstmInRef.main_arg3)
      ∧ r.2.mem ((c.tc : Thread Cert.MlstmInRef.nD Cert.MlstmInRef.τ).loc Cert.MlstmInRef.main_arg4) = m ((c.tc : Thread Cert.MlstmInRef.nD Cert.MlstmInRef.τ).loc Cert.MlstmInRef.main_arg4))
      ∧ r.2.sem = fun _ => 0)

def quiescent_MlstmInCtx [hMlstmInCtx : Cert.MlstmInCtx.Facts] : Prop :=
  ∀ (m : (ℓ : Loc Cert.MlstmInCtx.nD Cert.MlstmInCtx.τ Cert.MlstmInCtx.sig) → Buf (Elt Bits) ℓ) (g : Dev Cert.MlstmInCtx.nD → PrngReg), Pre_MlstmInCtx m →
    θ_run (Cert.MlstmInCtx.defs (F := Bits)) (onTc (τ := Cert.MlstmInCtx.τ) (Cert.MlstmInCtx.main (F := Bits))) ⟨m, fun _ => 0, g⟩ (fun r => (∀ c : Dev Cert.MlstmInCtx.nD,
      r.2.mem ((c.tc : Thread Cert.MlstmInCtx.nD Cert.MlstmInCtx.τ).loc Cert.MlstmInCtx.main_arg0) = m ((c.tc : Thread Cert.MlstmInCtx.nD Cert.MlstmInCtx.τ).loc Cert.MlstmInCtx.main_arg0)
      ∧ r.2.mem ((c.tc : Thread Cert.MlstmInCtx.nD Cert.MlstmInCtx.τ).loc Cert.MlstmInCtx.main_arg1) = m ((c.tc : Thread Cert.MlstmInCtx.nD Cert.MlstmInCtx.τ).loc Cert.MlstmInCtx.main_arg1)
      ∧ r.2.mem ((c.tc : Thread Cert.MlstmInCtx.nD Cert.MlstmInCtx.τ).loc Cert.MlstmInCtx.main_arg2) = m ((c.tc : Thread Cert.MlstmInCtx.nD Cert.MlstmInCtx.τ).loc Cert.MlstmInCtx.main_arg2)
      ∧ r.2.mem ((c.tc : Thread Cert.MlstmInCtx.nD Cert.MlstmInCtx.τ).loc Cert.MlstmInCtx.main_arg3) = m ((c.tc : Thread Cert.MlstmInCtx.nD Cert.MlstmInCtx.τ).loc Cert.MlstmInCtx.main_arg3)
      ∧ r.2.mem ((c.tc : Thread Cert.MlstmInCtx.nD Cert.MlstmInCtx.τ).loc Cert.MlstmInCtx.main_arg4) = m ((c.tc : Thread Cert.MlstmInCtx.nD Cert.MlstmInCtx.τ).loc Cert.MlstmInCtx.main_arg4))
      ∧ r.2.sem = fun _ => 0)

def quiescent_MlstmInCtxIdeal [hMlstmInCtxIdeal : Cert.MlstmInCtxIdeal.Facts] : Prop :=
  ∀ (m : (ℓ : Loc Cert.MlstmInCtxIdeal.nD Cert.MlstmInCtxIdeal.τ Cert.MlstmInCtxIdeal.sig) → Buf (Elt Ideal) ℓ) (g : Dev Cert.MlstmInCtxIdeal.nD → PrngReg), Pre_MlstmInCtxIdeal m →
    θ_run (Cert.MlstmInCtxIdeal.defs (F := Ideal)) (onTc (τ := Cert.MlstmInCtxIdeal.τ) (Cert.MlstmInCtxIdeal.main (F := Ideal))) ⟨m, fun _ => 0, g⟩ (fun r => (∀ c : Dev Cert.MlstmInCtxIdeal.nD,
      r.2.mem ((c.tc : Thread Cert.MlstmInCtxIdeal.nD Cert.MlstmInCtxIdeal.τ).loc Cert.MlstmInCtxIdeal.main_arg0) = m ((c.tc : Thread Cert.MlstmInCtxIdeal.nD Cert.MlstmInCtxIdeal.τ).loc Cert.MlstmInCtxIdeal.main_arg0)
      ∧ r.2.mem ((c.tc : Thread Cert.MlstmInCtxIdeal.nD Cert.MlstmInCtxIdeal.τ).loc Cert.MlstmInCtxIdeal.main_arg1) = m ((c.tc : Thread Cert.MlstmInCtxIdeal.nD Cert.MlstmInCtxIdeal.τ).loc Cert.MlstmInCtxIdeal.main_arg1)
      ∧ r.2.mem ((c.tc : Thread Cert.MlstmInCtxIdeal.nD Cert.MlstmInCtxIdeal.τ).loc Cert.MlstmInCtxIdeal.main_arg2) = m ((c.tc : Thread Cert.MlstmInCtxIdeal.nD Cert.MlstmInCtxIdeal.τ).loc Cert.MlstmInCtxIdeal.main_arg2)
      ∧ r.2.mem ((c.tc : Thread Cert.MlstmInCtxIdeal.nD Cert.MlstmInCtxIdeal.τ).loc Cert.MlstmInCtxIdeal.main_arg3) = m ((c.tc : Thread Cert.MlstmInCtxIdeal.nD Cert.MlstmInCtxIdeal.τ).loc Cert.MlstmInCtxIdeal.main_arg3)
      ∧ r.2.mem ((c.tc : Thread Cert.MlstmInCtxIdeal.nD Cert.MlstmInCtxIdeal.τ).loc Cert.MlstmInCtxIdeal.main_arg4) = m ((c.tc : Thread Cert.MlstmInCtxIdeal.nD Cert.MlstmInCtxIdeal.τ).loc Cert.MlstmInCtxIdeal.main_arg4))
      ∧ r.2.sem = fun _ => 0)

def quiescent_MlstmInCtxRefIdeal [hMlstmInCtxRefIdeal : Cert.MlstmInCtxRefIdeal.Facts] : Prop :=
  ∀ (m : (ℓ : Loc Cert.MlstmInCtxRefIdeal.nD Cert.MlstmInCtxRefIdeal.τ Cert.MlstmInCtxRefIdeal.sig) → Buf (Elt Ideal) ℓ) (g : Dev Cert.MlstmInCtxRefIdeal.nD → PrngReg), Pre_MlstmInCtxRefIdeal m →
    θ_run (Cert.MlstmInCtxRefIdeal.defs (F := Ideal)) (onTc (τ := Cert.MlstmInCtxRefIdeal.τ) (Cert.MlstmInCtxRefIdeal.main (F := Ideal))) ⟨m, fun _ => 0, g⟩ (fun r => (∀ c : Dev Cert.MlstmInCtxRefIdeal.nD,
      r.2.mem ((c.tc : Thread Cert.MlstmInCtxRefIdeal.nD Cert.MlstmInCtxRefIdeal.τ).loc Cert.MlstmInCtxRefIdeal.main_arg0) = m ((c.tc : Thread Cert.MlstmInCtxRefIdeal.nD Cert.MlstmInCtxRefIdeal.τ).loc Cert.MlstmInCtxRefIdeal.main_arg0)
      ∧ r.2.mem ((c.tc : Thread Cert.MlstmInCtxRefIdeal.nD Cert.MlstmInCtxRefIdeal.τ).loc Cert.MlstmInCtxRefIdeal.main_arg1) = m ((c.tc : Thread Cert.MlstmInCtxRefIdeal.nD Cert.MlstmInCtxRefIdeal.τ).loc Cert.MlstmInCtxRefIdeal.main_arg1)
      ∧ r.2.mem ((c.tc : Thread Cert.MlstmInCtxRefIdeal.nD Cert.MlstmInCtxRefIdeal.τ).loc Cert.MlstmInCtxRefIdeal.main_arg2) = m ((c.tc : Thread Cert.MlstmInCtxRefIdeal.nD Cert.MlstmInCtxRefIdeal.τ).loc Cert.MlstmInCtxRefIdeal.main_arg2)
      ∧ r.2.mem ((c.tc : Thread Cert.MlstmInCtxRefIdeal.nD Cert.MlstmInCtxRefIdeal.τ).loc Cert.MlstmInCtxRefIdeal.main_arg3) = m ((c.tc : Thread Cert.MlstmInCtxRefIdeal.nD Cert.MlstmInCtxRefIdeal.τ).loc Cert.MlstmInCtxRefIdeal.main_arg3)
      ∧ r.2.mem ((c.tc : Thread Cert.MlstmInCtxRefIdeal.nD Cert.MlstmInCtxRefIdeal.τ).loc Cert.MlstmInCtxRefIdeal.main_arg4) = m ((c.tc : Thread Cert.MlstmInCtxRefIdeal.nD Cert.MlstmInCtxRefIdeal.τ).loc Cert.MlstmInCtxRefIdeal.main_arg4))
      ∧ r.2.sem = fun _ => 0)

def quiescent_MlstmInCtxRef [hMlstmInCtxRef : Cert.MlstmInCtxRef.Facts] : Prop :=
  ∀ (m : (ℓ : Loc Cert.MlstmInCtxRef.nD Cert.MlstmInCtxRef.τ Cert.MlstmInCtxRef.sig) → Buf (Elt Bits) ℓ) (g : Dev Cert.MlstmInCtxRef.nD → PrngReg), Pre_MlstmInCtxRef m →
    θ_run (Cert.MlstmInCtxRef.defs (F := Bits)) (onTc (τ := Cert.MlstmInCtxRef.τ) (Cert.MlstmInCtxRef.main (F := Bits))) ⟨m, fun _ => 0, g⟩ (fun r => (∀ c : Dev Cert.MlstmInCtxRef.nD,
      r.2.mem ((c.tc : Thread Cert.MlstmInCtxRef.nD Cert.MlstmInCtxRef.τ).loc Cert.MlstmInCtxRef.main_arg0) = m ((c.tc : Thread Cert.MlstmInCtxRef.nD Cert.MlstmInCtxRef.τ).loc Cert.MlstmInCtxRef.main_arg0)
      ∧ r.2.mem ((c.tc : Thread Cert.MlstmInCtxRef.nD Cert.MlstmInCtxRef.τ).loc Cert.MlstmInCtxRef.main_arg1) = m ((c.tc : Thread Cert.MlstmInCtxRef.nD Cert.MlstmInCtxRef.τ).loc Cert.MlstmInCtxRef.main_arg1)
      ∧ r.2.mem ((c.tc : Thread Cert.MlstmInCtxRef.nD Cert.MlstmInCtxRef.τ).loc Cert.MlstmInCtxRef.main_arg2) = m ((c.tc : Thread Cert.MlstmInCtxRef.nD Cert.MlstmInCtxRef.τ).loc Cert.MlstmInCtxRef.main_arg2)
      ∧ r.2.mem ((c.tc : Thread Cert.MlstmInCtxRef.nD Cert.MlstmInCtxRef.τ).loc Cert.MlstmInCtxRef.main_arg3) = m ((c.tc : Thread Cert.MlstmInCtxRef.nD Cert.MlstmInCtxRef.τ).loc Cert.MlstmInCtxRef.main_arg3)
      ∧ r.2.mem ((c.tc : Thread Cert.MlstmInCtxRef.nD Cert.MlstmInCtxRef.τ).loc Cert.MlstmInCtxRef.main_arg4) = m ((c.tc : Thread Cert.MlstmInCtxRef.nD Cert.MlstmInCtxRef.τ).loc Cert.MlstmInCtxRef.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_AdaRef [hAdaRef : Cert.AdaRef.Facts] : Prop :=
  ∀ (m : (ℓ : Loc Cert.AdaRef.nD Cert.AdaRef.τ Cert.AdaRef.sig) → Buf (Elt Bits) ℓ) (g : Dev Cert.AdaRef.nD → PrngReg), Pre_AdaRef m →
    θ_run (Cert.AdaRef.defs (F := Bits)) (onTc (τ := Cert.AdaRef.τ) (Cert.AdaRef.main (F := Bits))) ⟨m, fun _ => 0, g⟩ (fun r => (∀ c : Dev Cert.AdaRef.nD,
      r.2.mem ((c.tc : Thread Cert.AdaRef.nD Cert.AdaRef.τ).loc Cert.AdaRef.main_arg0) = m ((c.tc : Thread Cert.AdaRef.nD Cert.AdaRef.τ).loc Cert.AdaRef.main_arg0)
      ∧ r.2.mem ((c.tc : Thread Cert.AdaRef.nD Cert.AdaRef.τ).loc Cert.AdaRef.main_arg1) = m ((c.tc : Thread Cert.AdaRef.nD Cert.AdaRef.τ).loc Cert.AdaRef.main_arg1)
      ∧ r.2.mem ((c.tc : Thread Cert.AdaRef.nD Cert.AdaRef.τ).loc Cert.AdaRef.main_arg2) = m ((c.tc : Thread Cert.AdaRef.nD Cert.AdaRef.τ).loc Cert.AdaRef.main_arg2)
      ∧ r.2.mem ((c.tc : Thread Cert.AdaRef.nD Cert.AdaRef.τ).loc Cert.AdaRef.main_arg3) = m ((c.tc : Thread Cert.AdaRef.nD Cert.AdaRef.τ).loc Cert.AdaRef.main_arg3))
      ∧ r.2.sem = fun _ => 0)

def quiescent_Cache [hCache : Cert.Cache.Facts] : Prop :=
  ∀ (m : (ℓ : Loc Cert.Cache.nD Cert.Cache.τ Cert.Cache.sig) → Buf (Elt Bits) ℓ) (g : Dev Cert.Cache.nD → PrngReg), Pre_Cache m →
    θ_run (Cert.Cache.defs (F := Bits)) (onTc (τ := Cert.Cache.τ) (Cert.Cache.main (F := Bits))) ⟨m, fun _ => 0, g⟩ (fun r => (∀ c : Dev Cert.Cache.nD,
      r.2.mem ((c.tc : Thread Cert.Cache.nD Cert.Cache.τ).loc Cert.Cache.main_arg0) = m ((c.tc : Thread Cert.Cache.nD Cert.Cache.τ).loc Cert.Cache.main_arg0)
      ∧ r.2.mem ((c.tc : Thread Cert.Cache.nD Cert.Cache.τ).loc Cert.Cache.main_arg1) = m ((c.tc : Thread Cert.Cache.nD Cert.Cache.τ).loc Cert.Cache.main_arg1)
      ∧ r.2.mem ((c.tc : Thread Cert.Cache.nD Cert.Cache.τ).loc Cert.Cache.main_arg2) = m ((c.tc : Thread Cert.Cache.nD Cert.Cache.τ).loc Cert.Cache.main_arg2)
      ∧ r.2.mem ((c.tc : Thread Cert.Cache.nD Cert.Cache.τ).loc Cert.Cache.main_arg3) = m ((c.tc : Thread Cert.Cache.nD Cert.Cache.τ).loc Cert.Cache.main_arg3)
      ∧ r.2.mem ((c.tc : Thread Cert.Cache.nD Cert.Cache.τ).loc Cert.Cache.main_arg4) = m ((c.tc : Thread Cert.Cache.nD Cert.Cache.τ).loc Cert.Cache.main_arg4)
      ∧ r.2.mem ((c.tc : Thread Cert.Cache.nD Cert.Cache.τ).loc Cert.Cache.main_arg5) = m ((c.tc : Thread Cert.Cache.nD Cert.Cache.τ).loc Cert.Cache.main_arg5)
      ∧ r.2.mem ((c.tc : Thread Cert.Cache.nD Cert.Cache.τ).loc Cert.Cache.main_arg6) = m ((c.tc : Thread Cert.Cache.nD Cert.Cache.τ).loc Cert.Cache.main_arg6))
      ∧ r.2.sem = fun _ => 0)

def quiescent_CacheIdeal [hCacheIdeal : Cert.CacheIdeal.Facts] : Prop :=
  ∀ (m : (ℓ : Loc Cert.CacheIdeal.nD Cert.CacheIdeal.τ Cert.CacheIdeal.sig) → Buf (Elt Ideal) ℓ) (g : Dev Cert.CacheIdeal.nD → PrngReg), Pre_CacheIdeal m →
    θ_run (Cert.CacheIdeal.defs (F := Ideal)) (onTc (τ := Cert.CacheIdeal.τ) (Cert.CacheIdeal.main (F := Ideal))) ⟨m, fun _ => 0, g⟩ (fun r => (∀ c : Dev Cert.CacheIdeal.nD,
      r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
      ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
      ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2)
      ∧ r.2.mem ((c.tc : Thread Cert.CacheIdeal.nD Cert.CacheIdeal.τ).loc Cert.CacheIdeal.main_arg3) = m ((c.tc : Thread Cert.CacheIdeal.nD Cert.CacheIdeal.τ).loc Cert.CacheIdeal.main_arg3)
      ∧ r.2.mem ((c.tc : Thread Cert.CacheIdeal.nD Cert.CacheIdeal.τ).loc Cert.CacheIdeal.main_arg4) = m ((c.tc : Thread Cert.CacheIdeal.nD Cert.CacheIdeal.τ).loc Cert.CacheIdeal.main_arg4)
      ∧ r.2.mem ((c.tc : Thread Cert.CacheIdeal.nD Cert.CacheIdeal.τ).loc Cert.CacheIdeal.main_arg5) = m ((c.tc : Thread Cert.CacheIdeal.nD Cert.CacheIdeal.τ).loc Cert.CacheIdeal.main_arg5)
      ∧ r.2.mem ((c.tc : Thread Cert.CacheIdeal.nD Cert.CacheIdeal.τ).loc Cert.CacheIdeal.main_arg6) = m ((c.tc : Thread Cert.CacheIdeal.nD Cert.CacheIdeal.τ).loc Cert.CacheIdeal.main_arg6))
      ∧ r.2.sem = fun _ => 0)

def quiescent_CacheRefIdeal [hCacheRefIdeal : Cert.CacheRefIdeal.Facts] : Prop :=
  ∀ (m : (ℓ : Loc Cert.CacheRefIdeal.nD Cert.CacheRefIdeal.τ Cert.CacheRefIdeal.sig) → Buf (Elt Ideal) ℓ) (g : Dev Cert.CacheRefIdeal.nD → PrngReg), Pre_CacheRefIdeal m →
    θ_run (Cert.CacheRefIdeal.defs (F := Ideal)) (onTc (τ := Cert.CacheRefIdeal.τ) (Cert.CacheRefIdeal.main (F := Ideal))) ⟨m, fun _ => 0, g⟩ (fun r => (∀ c : Dev Cert.CacheRefIdeal.nD,
      r.2.mem ((c.tc : Thread Cert.CacheRefIdeal.nD Cert.CacheRefIdeal.τ).loc Cert.CacheRefIdeal.main_arg0) = m ((c.tc : Thread Cert.CacheRefIdeal.nD Cert.CacheRefIdeal.τ).loc Cert.CacheRefIdeal.main_arg0)
      ∧ r.2.mem ((c.tc : Thread Cert.CacheRefIdeal.nD Cert.CacheRefIdeal.τ).loc Cert.CacheRefIdeal.main_arg1) = m ((c.tc : Thread Cert.CacheRefIdeal.nD Cert.CacheRefIdeal.τ).loc Cert.CacheRefIdeal.main_arg1)
      ∧ r.2.mem ((c.tc : Thread Cert.CacheRefIdeal.nD Cert.CacheRefIdeal.τ).loc Cert.CacheRefIdeal.main_arg2) = m ((c.tc : Thread Cert.CacheRefIdeal.nD Cert.CacheRefIdeal.τ).loc Cert.CacheRefIdeal.main_arg2)
      ∧ r.2.mem ((c.tc : Thread Cert.CacheRefIdeal.nD Cert.CacheRefIdeal.τ).loc Cert.CacheRefIdeal.main_arg3) = m ((c.tc : Thread Cert.CacheRefIdeal.nD Cert.CacheRefIdeal.τ).loc Cert.CacheRefIdeal.main_arg3)
      ∧ r.2.mem ((c.tc : Thread Cert.CacheRefIdeal.nD Cert.CacheRefIdeal.τ).loc Cert.CacheRefIdeal.main_arg4) = m ((c.tc : Thread Cert.CacheRefIdeal.nD Cert.CacheRefIdeal.τ).loc Cert.CacheRefIdeal.main_arg4)
      ∧ r.2.mem ((c.tc : Thread Cert.CacheRefIdeal.nD Cert.CacheRefIdeal.τ).loc Cert.CacheRefIdeal.main_arg5) = m ((c.tc : Thread Cert.CacheRefIdeal.nD Cert.CacheRefIdeal.τ).loc Cert.CacheRefIdeal.main_arg5)
      ∧ r.2.mem ((c.tc : Thread Cert.CacheRefIdeal.nD Cert.CacheRefIdeal.τ).loc Cert.CacheRefIdeal.main_arg6) = m ((c.tc : Thread Cert.CacheRefIdeal.nD Cert.CacheRefIdeal.τ).loc Cert.CacheRefIdeal.main_arg6))
      ∧ r.2.sem = fun _ => 0)

def quiescent_CacheRef [hCacheRef : Cert.CacheRef.Facts] : Prop :=
  ∀ (m : (ℓ : Loc Cert.CacheRef.nD Cert.CacheRef.τ Cert.CacheRef.sig) → Buf (Elt Bits) ℓ) (g : Dev Cert.CacheRef.nD → PrngReg), Pre_CacheRef m →
    θ_run (Cert.CacheRef.defs (F := Bits)) (onTc (τ := Cert.CacheRef.τ) (Cert.CacheRef.main (F := Bits))) ⟨m, fun _ => 0, g⟩ (fun r => (∀ c : Dev Cert.CacheRef.nD,
      r.2.mem ((c.tc : Thread Cert.CacheRef.nD Cert.CacheRef.τ).loc Cert.CacheRef.main_arg0) = m ((c.tc : Thread Cert.CacheRef.nD Cert.CacheRef.τ).loc Cert.CacheRef.main_arg0)
      ∧ r.2.mem ((c.tc : Thread Cert.CacheRef.nD Cert.CacheRef.τ).loc Cert.CacheRef.main_arg1) = m ((c.tc : Thread Cert.CacheRef.nD Cert.CacheRef.τ).loc Cert.CacheRef.main_arg1)
      ∧ r.2.mem ((c.tc : Thread Cert.CacheRef.nD Cert.CacheRef.τ).loc Cert.CacheRef.main_arg2) = m ((c.tc : Thread Cert.CacheRef.nD Cert.CacheRef.τ).loc Cert.CacheRef.main_arg2)
      ∧ r.2.mem ((c.tc : Thread Cert.CacheRef.nD Cert.CacheRef.τ).loc Cert.CacheRef.main_arg3) = m ((c.tc : Thread Cert.CacheRef.nD Cert.CacheRef.τ).loc Cert.CacheRef.main_arg3)
      ∧ r.2.mem ((c.tc : Thread Cert.CacheRef.nD Cert.CacheRef.τ).loc Cert.CacheRef.main_arg4) = m ((c.tc : Thread Cert.CacheRef.nD Cert.CacheRef.τ).loc Cert.CacheRef.main_arg4)
      ∧ r.2.mem ((c.tc : Thread Cert.CacheRef.nD Cert.CacheRef.τ).loc Cert.CacheRef.main_arg5) = m ((c.tc : Thread Cert.CacheRef.nD Cert.CacheRef.τ).loc Cert.CacheRef.main_arg5)
      ∧ r.2.mem ((c.tc : Thread Cert.CacheRef.nD Cert.CacheRef.τ).loc Cert.CacheRef.main_arg6) = m ((c.tc : Thread Cert.CacheRef.nD Cert.CacheRef.τ).loc Cert.CacheRef.main_arg6))
      ∧ r.2.sem = fun _ => 0)

def preserves_AttnWin_AttnWinIdeal : Prop :=
  IdealRules.named_const.Statement Cert.AttnWinIdeal.κ "log2e" .f32 0x3FB8AA3B#32 (((Real.log 2)⁻¹ : ℝ) : EReal)

def preserves_AttnWinRef_AttnWinRefIdeal : Prop :=
  True

def algebraic_AttnWinIdeal_AttnWinRefIdeal [hAttnWinIdeal : Cert.AttnWinIdeal.Facts] [hAttnWinRefIdeal : Cert.AttnWinRefIdeal.Facts] : Prop :=
  ∀ (m : (ℓ : Loc Cert.AttnWinIdeal.nD Cert.AttnWinIdeal.τ Cert.AttnWinIdeal.sig) → Buf (Elt Ideal) ℓ) (g : Dev Cert.AttnWinIdeal.nD → PrngReg)
    (m' : (ℓ : Loc Cert.AttnWinRefIdeal.nD Cert.AttnWinRefIdeal.τ Cert.AttnWinRefIdeal.sig) → Buf (Elt Ideal) ℓ) (g' : Dev Cert.AttnWinRefIdeal.nD → PrngReg), Pre_AttnWinIdeal m →
    (∀ c : Dev Cert.AttnWinIdeal.nD,
      m' ((c.tc : Thread Cert.AttnWinRefIdeal.nD Cert.AttnWinRefIdeal.τ).loc Cert.AttnWinRefIdeal.main_arg0) = m ((c.tc : Thread Cert.AttnWinIdeal.nD Cert.AttnWinIdeal.τ).loc Cert.AttnWinIdeal.main_arg0)
      ∧ m' ((c.tc : Thread Cert.AttnWinRefIdeal.nD Cert.AttnWinRefIdeal.τ).loc Cert.AttnWinRefIdeal.main_arg1) = m ((c.tc : Thread Cert.AttnWinIdeal.nD Cert.AttnWinIdeal.τ).loc Cert.AttnWinIdeal.main_arg1)
      ∧ m' ((c.tc : Thread Cert.AttnWinRefIdeal.nD Cert.AttnWinRefIdeal.τ).loc Cert.AttnWinRefIdeal.main_arg2) = m ((c.tc : Thread Cert.AttnWinIdeal.nD Cert.AttnWinIdeal.τ).loc Cert.AttnWinIdeal.main_arg2)
      ∧ m' ((c.tc : Thread Cert.AttnWinRefIdeal.nD Cert.AttnWinRefIdeal.τ).loc Cert.AttnWinRefIdeal.main_arg3) = m ((c.tc : Thread Cert.AttnWinIdeal.nD Cert.AttnWinIdeal.τ).loc Cert.AttnWinIdeal.main_arg3)
      ∧ m' ((c.tc : Thread Cert.AttnWinRefIdeal.nD Cert.AttnWinRefIdeal.τ).loc Cert.AttnWinRefIdeal.main_arg4) = m ((c.tc : Thread Cert.AttnWinIdeal.nD Cert.AttnWinIdeal.τ).loc Cert.AttnWinIdeal.main_arg4)
      ∧ m' ((c.tc : Thread Cert.AttnWinRefIdeal.nD Cert.AttnWinRefIdeal.τ).loc Cert.AttnWinRefIdeal.main_arg5) = m ((c.tc : Thread Cert.AttnWinIdeal.nD Cert.AttnWinIdeal.τ).loc Cert.AttnWinIdeal.main_arg5)
      ∧ m' ((c.tc : Thread Cert.AttnWinRefIdeal.nD Cert.AttnWinRefIdeal.τ).loc Cert.AttnWinRefIdeal.main_arg6) = m ((c.tc : Thread Cert.AttnWinIdeal.nD Cert.AttnWinIdeal.τ).loc Cert.AttnWinIdeal.main_arg6)
      ∧ m' ((c.tc : Thread Cert.AttnWinRefIdeal.nD Cert.AttnWinRefIdeal.τ).loc Cert.AttnWinRefIdeal.main_arg7) = m ((c.tc : Thread Cert.AttnWinIdeal.nD Cert.AttnWinIdeal.τ).loc Cert.AttnWinIdeal.main_arg7)
      ∧ m' ((c.tc : Thread Cert.AttnWinRefIdeal.nD Cert.AttnWinRefIdeal.τ).loc Cert.AttnWinRefIdeal.main_arg8) = m ((c.tc : Thread Cert.AttnWinIdeal.nD Cert.AttnWinIdeal.τ).loc Cert.AttnWinIdeal.main_arg8)
      ∧ m' ((c.tc : Thread Cert.AttnWinRefIdeal.nD Cert.AttnWinRefIdeal.τ).loc Cert.AttnWinRefIdeal.main_arg9) = m ((c.tc : Thread Cert.AttnWinIdeal.nD Cert.AttnWinIdeal.τ).loc Cert.AttnWinIdeal.main_arg9)) →
    ∃ (v0 : (c : Dev Cert.AttnWinIdeal.nD) → Buf (Elt Ideal) ((c.tc : Thread Cert.AttnWinIdeal.nD Cert.AttnWinIdeal.τ).loc Cert.AttnWinIdeal.main_v1)),
      θ_run (Cert.AttnWinIdeal.defs (F := Ideal)) (onTc (τ := Cert.AttnWinIdeal.τ) (Cert.AttnWinIdeal.main (F := Ideal))) ⟨m, fun _ => 0, g⟩ (fun r => ∀ c : Dev Cert.AttnWinIdeal.nD,
          r.2.mem ((c.tc : Thread Cert.AttnWinIdeal.nD Cert.AttnWinIdeal.τ).loc Cert.AttnWinIdeal.main_v1) = v0 c
          ∧ r.2.mem ((c.tc : Thread Cert.AttnWinIdeal.nD Cert.AttnWinIdeal.τ).loc Cert.AttnWinIdeal.main_arg0) = m ((c.tc : Thread Cert.AttnWinIdeal.nD Cert.AttnWinIdeal.τ).loc Cert.AttnWinIdeal.main_arg0)
          ∧ r.2.mem ((c.tc : Thread Cert.AttnWinIdeal.nD Cert.AttnWinIdeal.τ).loc Cert.AttnWinIdeal.main_arg1) = m ((c.tc : Thread Cert.AttnWinIdeal.nD Cert.AttnWinIdeal.τ).loc Cert.AttnWinIdeal.main_arg1)
          ∧ r.2.mem ((c.tc : Thread Cert.AttnWinIdeal.nD Cert.AttnWinIdeal.τ).loc Cert.AttnWinIdeal.main_arg2) = m ((c.tc : Thread Cert.AttnWinIdeal.nD Cert.AttnWinIdeal.τ).loc Cert.AttnWinIdeal.main_arg2)
          ∧ r.2.mem ((c.tc : Thread Cert.AttnWinIdeal.nD Cert.AttnWinIdeal.τ).loc Cert.AttnWinIdeal.main_arg3) = m ((c.tc : Thread Cert.AttnWinIdeal.nD Cert.AttnWinIdeal.τ).loc Cert.AttnWinIdeal.main_arg3)
          ∧ r.2.mem ((c.tc : Thread Cert.AttnWinIdeal.nD Cert.AttnWinIdeal.τ).loc Cert.AttnWinIdeal.main_arg4) = m ((c.tc : Thread Cert.AttnWinIdeal.nD Cert.AttnWinIdeal.τ).loc Cert.AttnWinIdeal.main_arg4)
          ∧ r.2.mem ((c.tc : Thread Cert.AttnWinIdeal.nD Cert.AttnWinIdeal.τ).loc Cert.AttnWinIdeal.main_arg5) = m ((c.tc : Thread Cert.AttnWinIdeal.nD Cert.AttnWinIdeal.τ).loc Cert.AttnWinIdeal.main_arg5)
          ∧ r.2.mem ((c.tc : Thread Cert.AttnWinIdeal.nD Cert.AttnWinIdeal.τ).loc Cert.AttnWinIdeal.main_arg6) = m ((c.tc : Thread Cert.AttnWinIdeal.nD Cert.AttnWinIdeal.τ).loc Cert.AttnWinIdeal.main_arg6)
          ∧ r.2.mem ((c.tc : Thread Cert.AttnWinIdeal.nD Cert.AttnWinIdeal.τ).loc Cert.AttnWinIdeal.main_arg7) = m ((c.tc : Thread Cert.AttnWinIdeal.nD Cert.AttnWinIdeal.τ).loc Cert.AttnWinIdeal.main_arg7)
          ∧ r.2.mem ((c.tc : Thread Cert.AttnWinIdeal.nD Cert.AttnWinIdeal.τ).loc Cert.AttnWinIdeal.main_arg8) = m ((c.tc : Thread Cert.AttnWinIdeal.nD Cert.AttnWinIdeal.τ).loc Cert.AttnWinIdeal.main_arg8)
          ∧ r.2.mem ((c.tc : Thread Cert.AttnWinIdeal.nD Cert.AttnWinIdeal.τ).loc Cert.AttnWinIdeal.main_arg9) = m ((c.tc : Thread Cert.AttnWinIdeal.nD Cert.AttnWinIdeal.τ).loc Cert.AttnWinIdeal.main_arg9))
      ∧ θ_run (Cert.AttnWinRefIdeal.defs (F := Ideal)) (onTc (τ := Cert.AttnWinRefIdeal.τ) (Cert.AttnWinRefIdeal.main (F := Ideal))) ⟨m', fun _ => 0, g'⟩ (fun r => ∀ c : Dev Cert.AttnWinRefIdeal.nD,
          r.2.mem ((c.tc : Thread Cert.AttnWinRefIdeal.nD Cert.AttnWinRefIdeal.τ).loc Cert.AttnWinRefIdeal.main_v58) = v0 c
          ∧ r.2.mem ((c.tc : Thread Cert.AttnWinRefIdeal.nD Cert.AttnWinRefIdeal.τ).loc Cert.AttnWinRefIdeal.main_arg0) = m' ((c.tc : Thread Cert.AttnWinRefIdeal.nD Cert.AttnWinRefIdeal.τ).loc Cert.AttnWinRefIdeal.main_arg0)
          ∧ r.2.mem ((c.tc : Thread Cert.AttnWinRefIdeal.nD Cert.AttnWinRefIdeal.τ).loc Cert.AttnWinRefIdeal.main_arg1) = m' ((c.tc : Thread Cert.AttnWinRefIdeal.nD Cert.AttnWinRefIdeal.τ).loc Cert.AttnWinRefIdeal.main_arg1)
          ∧ r.2.mem ((c.tc : Thread Cert.AttnWinRefIdeal.nD Cert.AttnWinRefIdeal.τ).loc Cert.AttnWinRefIdeal.main_arg2) = m' ((c.tc : Thread Cert.AttnWinRefIdeal.nD Cert.AttnWinRefIdeal.τ).loc Cert.AttnWinRefIdeal.main_arg2)
          ∧ r.2.mem ((c.tc : Thread Cert.AttnWinRefIdeal.nD Cert.AttnWinRefIdeal.τ).loc Cert.AttnWinRefIdeal.main_arg3) = m' ((c.tc : Thread Cert.AttnWinRefIdeal.nD Cert.AttnWinRefIdeal.τ).loc Cert.AttnWinRefIdeal.main_arg3)
          ∧ r.2.mem ((c.tc : Thread Cert.AttnWinRefIdeal.nD Cert.AttnWinRefIdeal.τ).loc Cert.AttnWinRefIdeal.main_arg4) = m' ((c.tc : Thread Cert.AttnWinRefIdeal.nD Cert.AttnWinRefIdeal.τ).loc Cert.AttnWinRefIdeal.main_arg4)
          ∧ r.2.mem ((c.tc : Thread Cert.AttnWinRefIdeal.nD Cert.AttnWinRefIdeal.τ).loc Cert.AttnWinRefIdeal.main_arg5) = m' ((c.tc : Thread Cert.AttnWinRefIdeal.nD Cert.AttnWinRefIdeal.τ).loc Cert.AttnWinRefIdeal.main_arg5)
          ∧ r.2.mem ((c.tc : Thread Cert.AttnWinRefIdeal.nD Cert.AttnWinRefIdeal.τ).loc Cert.AttnWinRefIdeal.main_arg6) = m' ((c.tc : Thread Cert.AttnWinRefIdeal.nD Cert.AttnWinRefIdeal.τ).loc Cert.AttnWinRefIdeal.main_arg6)
          ∧ r.2.mem ((c.tc : Thread Cert.AttnWinRefIdeal.nD Cert.AttnWinRefIdeal.τ).loc Cert.AttnWinRefIdeal.main_arg7) = m' ((c.tc : Thread Cert.AttnWinRefIdeal.nD Cert.AttnWinRefIdeal.τ).loc Cert.AttnWinRefIdeal.main_arg7)
          ∧ r.2.mem ((c.tc : Thread Cert.AttnWinRefIdeal.nD Cert.AttnWinRefIdeal.τ).loc Cert.AttnWinRefIdeal.main_arg8) = m' ((c.tc : Thread Cert.AttnWinRefIdeal.nD Cert.AttnWinRefIdeal.τ).loc Cert.AttnWinRefIdeal.main_arg8)
          ∧ r.2.mem ((c.tc : Thread Cert.AttnWinRefIdeal.nD Cert.AttnWinRefIdeal.τ).loc Cert.AttnWinRefIdeal.main_arg9) = m' ((c.tc : Thread Cert.AttnWinRefIdeal.nD Cert.AttnWinRefIdeal.τ).loc Cert.AttnWinRefIdeal.main_arg9))

def preserves_AttnCtx_AttnCtxIdeal : Prop :=
  IdealRules.named_const.Statement Cert.AttnCtxIdeal.κ "log2e" .f32 0x3FB8AA3B#32 (((Real.log 2)⁻¹ : ℝ) : EReal)

def preserves_AttnCtxRef_AttnCtxRefIdeal : Prop :=
  True

def algebraic_AttnCtxIdeal_AttnCtxRefIdeal [hAttnCtxIdeal : Cert.AttnCtxIdeal.Facts] [hAttnCtxRefIdeal : Cert.AttnCtxRefIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxRefIdeal.nD Cert.AttnCtxRefIdeal.τ Cert.AttnCtxRefIdeal.sig) → Buf (Elt Ideal) ℓ) (g' : Dev Cert.AttnCtxRefIdeal.nD → PrngReg), Pre_AttnCtxIdeal m →
    (∀ c : Dev Cert.AttnCtxIdeal.nD,
      m' ((c.tc : Thread Cert.AttnCtxRefIdeal.nD Cert.AttnCtxRefIdeal.τ).loc Cert.AttnCtxRefIdeal.main_arg0) = m ((c.tc : Thread Cert.AttnCtxIdeal.nD Cert.AttnCtxIdeal.τ).loc Cert.AttnCtxIdeal.main_arg0)
      ∧ m' ((c.tc : Thread Cert.AttnCtxRefIdeal.nD Cert.AttnCtxRefIdeal.τ).loc Cert.AttnCtxRefIdeal.main_arg1) = m ((c.tc : Thread Cert.AttnCtxIdeal.nD Cert.AttnCtxIdeal.τ).loc Cert.AttnCtxIdeal.main_arg1)
      ∧ m' ((c.tc : Thread Cert.AttnCtxRefIdeal.nD Cert.AttnCtxRefIdeal.τ).loc Cert.AttnCtxRefIdeal.main_arg2) = m ((c.tc : Thread Cert.AttnCtxIdeal.nD Cert.AttnCtxIdeal.τ).loc Cert.AttnCtxIdeal.main_arg2)
      ∧ m' ((c.tc : Thread Cert.AttnCtxRefIdeal.nD Cert.AttnCtxRefIdeal.τ).loc Cert.AttnCtxRefIdeal.main_arg3) = m ((c.tc : Thread Cert.AttnCtxIdeal.nD Cert.AttnCtxIdeal.τ).loc Cert.AttnCtxIdeal.main_arg3)
      ∧ m' ((c.tc : Thread Cert.AttnCtxRefIdeal.nD Cert.AttnCtxRefIdeal.τ).loc Cert.AttnCtxRefIdeal.main_arg4) = m ((c.tc : Thread Cert.AttnCtxIdeal.nD Cert.AttnCtxIdeal.τ).loc Cert.AttnCtxIdeal.main_arg4)
      ∧ m' ((c.tc : Thread Cert.AttnCtxRefIdeal.nD Cert.AttnCtxRefIdeal.τ).loc Cert.AttnCtxRefIdeal.main_arg5) = m ((c.tc : Thread Cert.AttnCtxIdeal.nD Cert.AttnCtxIdeal.τ).loc Cert.AttnCtxIdeal.main_arg5)
      ∧ m' ((c.tc : Thread Cert.AttnCtxRefIdeal.nD Cert.AttnCtxRefIdeal.τ).loc Cert.AttnCtxRefIdeal.main_arg6) = m ((c.tc : Thread Cert.AttnCtxIdeal.nD Cert.AttnCtxIdeal.τ).loc Cert.AttnCtxIdeal.main_arg6)
      ∧ m' ((c.tc : Thread Cert.AttnCtxRefIdeal.nD Cert.AttnCtxRefIdeal.τ).loc Cert.AttnCtxRefIdeal.main_arg7) = m ((c.tc : Thread Cert.AttnCtxIdeal.nD Cert.AttnCtxIdeal.τ).loc Cert.AttnCtxIdeal.main_arg7)) →
    ∃ (v0 : (c : Dev Cert.AttnCtxIdeal.nD) → Buf (Elt Ideal) ((c.tc : Thread Cert.AttnCtxIdeal.nD Cert.AttnCtxIdeal.τ).loc Cert.AttnCtxIdeal.main_v1)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v1) = v0 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
          ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
          ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
          ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3)
          ∧ r.2.mem ((c.tc : Thread Cert.AttnCtxIdeal.nD Cert.AttnCtxIdeal.τ).loc Cert.AttnCtxIdeal.main_arg4) = m ((c.tc : Thread Cert.AttnCtxIdeal.nD Cert.AttnCtxIdeal.τ).loc Cert.AttnCtxIdeal.main_arg4)
          ∧ r.2.mem ((c.tc : Thread Cert.AttnCtxIdeal.nD Cert.AttnCtxIdeal.τ).loc Cert.AttnCtxIdeal.main_arg5) = m ((c.tc : Thread Cert.AttnCtxIdeal.nD Cert.AttnCtxIdeal.τ).loc Cert.AttnCtxIdeal.main_arg5)
          ∧ r.2.mem ((c.tc : Thread Cert.AttnCtxIdeal.nD Cert.AttnCtxIdeal.τ).loc Cert.AttnCtxIdeal.main_arg6) = m ((c.tc : Thread Cert.AttnCtxIdeal.nD Cert.AttnCtxIdeal.τ).loc Cert.AttnCtxIdeal.main_arg6)
          ∧ r.2.mem ((c.tc : Thread Cert.AttnCtxIdeal.nD Cert.AttnCtxIdeal.τ).loc Cert.AttnCtxIdeal.main_arg7) = m ((c.tc : Thread Cert.AttnCtxIdeal.nD Cert.AttnCtxIdeal.τ).loc Cert.AttnCtxIdeal.main_arg7))
      ∧ θ_run (Cert.AttnCtxRefIdeal.defs (F := Ideal)) (onTc (τ := Cert.AttnCtxRefIdeal.τ) (Cert.AttnCtxRefIdeal.main (F := Ideal))) ⟨m', fun _ => 0, g'⟩ (fun r => ∀ c : Dev Cert.AttnCtxRefIdeal.nD,
          r.2.mem ((c.tc : Thread Cert.AttnCtxRefIdeal.nD Cert.AttnCtxRefIdeal.τ).loc Cert.AttnCtxRefIdeal.main_v38) = v0 c
          ∧ r.2.mem ((c.tc : Thread Cert.AttnCtxRefIdeal.nD Cert.AttnCtxRefIdeal.τ).loc Cert.AttnCtxRefIdeal.main_arg0) = m' ((c.tc : Thread Cert.AttnCtxRefIdeal.nD Cert.AttnCtxRefIdeal.τ).loc Cert.AttnCtxRefIdeal.main_arg0)
          ∧ r.2.mem ((c.tc : Thread Cert.AttnCtxRefIdeal.nD Cert.AttnCtxRefIdeal.τ).loc Cert.AttnCtxRefIdeal.main_arg1) = m' ((c.tc : Thread Cert.AttnCtxRefIdeal.nD Cert.AttnCtxRefIdeal.τ).loc Cert.AttnCtxRefIdeal.main_arg1)
          ∧ r.2.mem ((c.tc : Thread Cert.AttnCtxRefIdeal.nD Cert.AttnCtxRefIdeal.τ).loc Cert.AttnCtxRefIdeal.main_arg2) = m' ((c.tc : Thread Cert.AttnCtxRefIdeal.nD Cert.AttnCtxRefIdeal.τ).loc Cert.AttnCtxRefIdeal.main_arg2)
          ∧ r.2.mem ((c.tc : Thread Cert.AttnCtxRefIdeal.nD Cert.AttnCtxRefIdeal.τ).loc Cert.AttnCtxRefIdeal.main_arg3) = m' ((c.tc : Thread Cert.AttnCtxRefIdeal.nD Cert.AttnCtxRefIdeal.τ).loc Cert.AttnCtxRefIdeal.main_arg3)
          ∧ r.2.mem ((c.tc : Thread Cert.AttnCtxRefIdeal.nD Cert.AttnCtxRefIdeal.τ).loc Cert.AttnCtxRefIdeal.main_arg4) = m' ((c.tc : Thread Cert.AttnCtxRefIdeal.nD Cert.AttnCtxRefIdeal.τ).loc Cert.AttnCtxRefIdeal.main_arg4)
          ∧ r.2.mem ((c.tc : Thread Cert.AttnCtxRefIdeal.nD Cert.AttnCtxRefIdeal.τ).loc Cert.AttnCtxRefIdeal.main_arg5) = m' ((c.tc : Thread Cert.AttnCtxRefIdeal.nD Cert.AttnCtxRefIdeal.τ).loc Cert.AttnCtxRefIdeal.main_arg5)
          ∧ r.2.mem ((c.tc : Thread Cert.AttnCtxRefIdeal.nD Cert.AttnCtxRefIdeal.τ).loc Cert.AttnCtxRefIdeal.main_arg6) = m' ((c.tc : Thread Cert.AttnCtxRefIdeal.nD Cert.AttnCtxRefIdeal.τ).loc Cert.AttnCtxRefIdeal.main_arg6)
          ∧ r.2.mem ((c.tc : Thread Cert.AttnCtxRefIdeal.nD Cert.AttnCtxRefIdeal.τ).loc Cert.AttnCtxRefIdeal.main_arg7) = m' ((c.tc : Thread Cert.AttnCtxRefIdeal.nD Cert.AttnCtxRefIdeal.τ).loc Cert.AttnCtxRefIdeal.main_arg7))

def preserves_AttnIn_AttnInIdeal : Prop :=
  IdealRules.named_const.Statement Cert.AttnInIdeal.κ "qscale" .f32 0x3E38AA3B#32 (((8 * (Real.log 2))⁻¹ : ℝ) : EReal)

def preserves_AttnInRef_AttnInRefIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)
      ∧ m' ((c.tc : Thread Cert.AttnInRefIdeal.nD Cert.AttnInRefIdeal.τ).loc Cert.AttnInRefIdeal.main_arg2) = m ((c.tc : Thread Cert.AttnInIdeal.nD Cert.AttnInIdeal.τ).loc Cert.AttnInIdeal.main_arg2)
      ∧ m' ((c.tc : Thread Cert.AttnInRefIdeal.nD Cert.AttnInRefIdeal.τ).loc Cert.AttnInRefIdeal.main_arg3) = m ((c.tc : Thread Cert.AttnInIdeal.nD Cert.AttnInIdeal.τ).loc Cert.AttnInIdeal.main_arg3)) →
    ∃ (v0 : (c : Dev Cert.AttnInIdeal.nD) → Buf (Elt Ideal) ((c.tc : Thread Cert.AttnInIdeal.nD Cert.AttnInIdeal.τ).loc Cert.AttnInIdeal.main_v3_0)) (v1 : (c : Dev Cert.AttnInIdeal.nD) → Buf (Elt Ideal) ((c.tc : Thread Cert.AttnInIdeal.nD Cert.AttnInIdeal.τ).loc Cert.AttnInIdeal.main_v3_1)) (v2 : (c : Dev Cert.AttnInIdeal.nD) → Buf (Elt Ideal) ((c.tc : Thread Cert.AttnInIdeal.nD Cert.AttnInIdeal.τ).loc Cert.AttnInIdeal.main_v3_2)) (v3 : (c : Dev Cert.AttnInIdeal.nD) → Buf (Elt Ideal) ((c.tc : Thread Cert.AttnInIdeal.nD Cert.AttnInIdeal.τ).loc Cert.AttnInIdeal.main_v3_3)) (v4 : (c : Dev Cert.AttnInIdeal.nD) → Buf (Elt Ideal) ((c.tc : Thread Cert.AttnInIdeal.nD Cert.AttnInIdeal.τ).loc Cert.AttnInIdeal.main_v3_4)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v3_0) = v0 c
          ∧ r.2.mem ((c.tc : Thread Cert.AttnInIdeal.nD Cert.AttnInIdeal.τ).loc Cert.AttnInIdeal.main_v3_1) = v1 c
          ∧ r.2.mem ((c.tc : Thread Cert.AttnInIdeal.nD Cert.AttnInIdeal.τ).loc Cert.AttnInIdeal.main_v3_2) = v2 c
          ∧ r.2.mem ((c.tc : Thread Cert.AttnInIdeal.nD Cert.AttnInIdeal.τ).loc Cert.AttnInIdeal.main_v3_3) = v3 c
          ∧ r.2.mem ((c.tc : Thread Cert.AttnInIdeal.nD Cert.AttnInIdeal.τ).loc Cert.AttnInIdeal.main_v3_4) = v4 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v36) = v0 c
          ∧ r.2.mem ((c.tc : Thread Cert.AttnInRefIdeal.nD Cert.AttnInRefIdeal.τ).loc Cert.AttnInRefIdeal.main_v38) = v1 c
          ∧ r.2.mem ((c.tc : Thread Cert.AttnInRefIdeal.nD Cert.AttnInRefIdeal.τ).loc Cert.AttnInRefIdeal.main_v34) = v2 c
          ∧ r.2.mem ((c.tc : Thread Cert.AttnInRefIdeal.nD Cert.AttnInRefIdeal.τ).loc Cert.AttnInRefIdeal.main_v40) = v3 c
          ∧ r.2.mem ((c.tc : Thread Cert.AttnInRefIdeal.nD Cert.AttnInRefIdeal.τ).loc Cert.AttnInRefIdeal.main_v35) = v4 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1)
          ∧ r.2.mem ((c.tc : Thread Cert.AttnInRefIdeal.nD Cert.AttnInRefIdeal.τ).loc Cert.AttnInRefIdeal.main_arg2) = m' ((c.tc : Thread Cert.AttnInRefIdeal.nD Cert.AttnInRefIdeal.τ).loc Cert.AttnInRefIdeal.main_arg2)
          ∧ r.2.mem ((c.tc : Thread Cert.AttnInRefIdeal.nD Cert.AttnInRefIdeal.τ).loc Cert.AttnInRefIdeal.main_arg3) = m' ((c.tc : Thread Cert.AttnInRefIdeal.nD Cert.AttnInRefIdeal.τ).loc Cert.AttnInRefIdeal.main_arg3))

def preserves_AttnInRope_AttnInRopeIdeal : Prop :=
  IdealRules.named_const.Statement Cert.AttnInRopeIdeal.κ "qscale" .f32 0x3E38AA3B#32 (((8 * (Real.log 2))⁻¹ : ℝ) : EReal)

def preserves_AttnInRopeRef_AttnInRopeRefIdeal : Prop :=
  True

def algebraic_AttnInRopeIdeal_AttnInRopeRefIdeal [hAttnInRopeIdeal : Cert.AttnInRopeIdeal.Facts] [hAttnInRopeRefIdeal : Cert.AttnInRopeRefIdeal.Facts] : Prop :=
  ∀ (m : (ℓ : Loc Cert.AttnInRopeIdeal.nD Cert.AttnInRopeIdeal.τ Cert.AttnInRopeIdeal.sig) → Buf (Elt Ideal) ℓ) (g : Dev Cert.AttnInRopeIdeal.nD → PrngReg)
    (m' : (ℓ : Loc Cert.AttnInRopeRefIdeal.nD Cert.AttnInRopeRefIdeal.τ Cert.AttnInRopeRefIdeal.sig) → Buf (Elt Ideal) ℓ) (g' : Dev Cert.AttnInRopeRefIdeal.nD → PrngReg), Pre_AttnInRopeIdeal m →
    (∀ c : Dev Cert.AttnInRopeIdeal.nD,
      m' ((c.tc : Thread Cert.AttnInRopeRefIdeal.nD Cert.AttnInRopeRefIdeal.τ).loc Cert.AttnInRopeRefIdeal.main_arg0) = m ((c.tc : Thread Cert.AttnInRopeIdeal.nD Cert.AttnInRopeIdeal.τ).loc Cert.AttnInRopeIdeal.main_arg0)
      ∧ m' ((c.tc : Thread Cert.AttnInRopeRefIdeal.nD Cert.AttnInRopeRefIdeal.τ).loc Cert.AttnInRopeRefIdeal.main_arg1) = m ((c.tc : Thread Cert.AttnInRopeIdeal.nD Cert.AttnInRopeIdeal.τ).loc Cert.AttnInRopeIdeal.main_arg1)
      ∧ m' ((c.tc : Thread Cert.AttnInRopeRefIdeal.nD Cert.AttnInRopeRefIdeal.τ).loc Cert.AttnInRopeRefIdeal.main_arg2) = m ((c.tc : Thread Cert.AttnInRopeIdeal.nD Cert.AttnInRopeIdeal.τ).loc Cert.AttnInRopeIdeal.main_arg2)
      ∧ m' ((c.tc : Thread Cert.AttnInRopeRefIdeal.nD Cert.AttnInRopeRefIdeal.τ).loc Cert.AttnInRopeRefIdeal.main_arg3) = m ((c.tc : Thread Cert.AttnInRopeIdeal.nD Cert.AttnInRopeIdeal.τ).loc Cert.AttnInRopeIdeal.main_arg3)) →
    ∃ (v0 : (c : Dev Cert.AttnInRopeIdeal.nD) → Buf (Elt Ideal) ((c.tc : Thread Cert.AttnInRopeIdeal.nD Cert.AttnInRopeIdeal.τ).loc Cert.AttnInRopeIdeal.main_v42_0)) (v1 : (c : Dev Cert.AttnInRopeIdeal.nD) → Buf (Elt Ideal) ((c.tc : Thread Cert.AttnInRopeIdeal.nD Cert.AttnInRopeIdeal.τ).loc Cert.AttnInRopeIdeal.main_v42_1)) (v2 : (c : Dev Cert.AttnInRopeIdeal.nD) → Buf (Elt Ideal) ((c.tc : Thread Cert.AttnInRopeIdeal.nD Cert.AttnInRopeIdeal.τ).loc Cert.AttnInRopeIdeal.main_v42_2)) (v3 : (c : Dev Cert.AttnInRopeIdeal.nD) → Buf (Elt Ideal) ((c.tc : Thread Cert.AttnInRopeIdeal.nD Cert.AttnInRopeIdeal.τ).loc Cert.AttnInRopeIdeal.main_v42_3)),
      θ_run (Cert.AttnInRopeIdeal.defs (F := Ideal)) (onTc (τ := Cert.AttnInRopeIdeal.τ) (Cert.AttnInRopeIdeal.main (F := Ideal))) ⟨m, fun _ => 0, g⟩ (fun r => ∀ c : Dev Cert.AttnInRopeIdeal.nD,
          r.2.mem ((c.tc : Thread Cert.AttnInRopeIdeal.nD Cert.AttnInRopeIdeal.τ).loc Cert.AttnInRopeIdeal.main_v42_0) = v0 c
          ∧ r.2.mem ((c.tc : Thread Cert.AttnInRopeIdeal.nD Cert.AttnInRopeIdeal.τ).loc Cert.AttnInRopeIdeal.main_v42_1) = v1 c
          ∧ r.2.mem ((c.tc : Thread Cert.AttnInRopeIdeal.nD Cert.AttnInRopeIdeal.τ).loc Cert.AttnInRopeIdeal.main_v42_2) = v2 c
          ∧ r.2.mem ((c.tc : Thread Cert.AttnInRopeIdeal.nD Cert.AttnInRopeIdeal.τ).loc Cert.AttnInRopeIdeal.main_v42_3) = v3 c
          ∧ r.2.mem ((c.tc : Thread Cert.AttnInRopeIdeal.nD Cert.AttnInRopeIdeal.τ).loc Cert.AttnInRopeIdeal.main_arg0) = m ((c.tc : Thread Cert.AttnInRopeIdeal.nD Cert.AttnInRopeIdeal.τ).loc Cert.AttnInRopeIdeal.main_arg0)
          ∧ r.2.mem ((c.tc : Thread Cert.AttnInRopeIdeal.nD Cert.AttnInRopeIdeal.τ).loc Cert.AttnInRopeIdeal.main_arg1) = m ((c.tc : Thread Cert.AttnInRopeIdeal.nD Cert.AttnInRopeIdeal.τ).loc Cert.AttnInRopeIdeal.main_arg1)
          ∧ r.2.mem ((c.tc : Thread Cert.AttnInRopeIdeal.nD Cert.AttnInRopeIdeal.τ).loc Cert.AttnInRopeIdeal.main_arg2) = m ((c.tc : Thread Cert.AttnInRopeIdeal.nD Cert.AttnInRopeIdeal.τ).loc Cert.AttnInRopeIdeal.main_arg2)
          ∧ r.2.mem ((c.tc : Thread Cert.AttnInRopeIdeal.nD Cert.AttnInRopeIdeal.τ).loc Cert.AttnInRopeIdeal.main_arg3) = m ((c.tc : Thread Cert.AttnInRopeIdeal.nD Cert.AttnInRopeIdeal.τ).loc Cert.AttnInRopeIdeal.main_arg3))
      ∧ θ_run (Cert.AttnInRopeRefIdeal.defs (F := Ideal)) (onTc (τ := Cert.AttnInRopeRefIdeal.τ) (Cert.AttnInRopeRefIdeal.main (F := Ideal))) ⟨m', fun _ => 0, g'⟩ (fun r => ∀ c : Dev Cert.AttnInRopeRefIdeal.nD,
          r.2.mem ((c.tc : Thread Cert.AttnInRopeRefIdeal.nD Cert.AttnInRopeRefIdeal.τ).loc Cert.AttnInRopeRefIdeal.main_v160) = v0 c
          ∧ r.2.mem ((c.tc : Thread Cert.AttnInRopeRefIdeal.nD Cert.AttnInRopeRefIdeal.τ).loc Cert.AttnInRopeRefIdeal.main_v162) = v1 c
          ∧ r.2.mem ((c.tc : Thread Cert.AttnInRopeRefIdeal.nD Cert.AttnInRopeRefIdeal.τ).loc Cert.AttnInRopeRefIdeal.main_v163) = v2 c
          ∧ r.2.mem ((c.tc : Thread Cert.AttnInRopeRefIdeal.nD Cert.AttnInRopeRefIdeal.τ).loc Cert.AttnInRopeRefIdeal.main_v165) = v3 c
          ∧ r.2.mem ((c.tc : Thread Cert.AttnInRopeRefIdeal.nD Cert.AttnInRopeRefIdeal.τ).loc Cert.AttnInRopeRefIdeal.main_arg0) = m' ((c.tc : Thread Cert.AttnInRopeRefIdeal.nD Cert.AttnInRopeRefIdeal.τ).loc Cert.AttnInRopeRefIdeal.main_arg0)
          ∧ r.2.mem ((c.tc : Thread Cert.AttnInRopeRefIdeal.nD Cert.AttnInRopeRefIdeal.τ).loc Cert.AttnInRopeRefIdeal.main_arg1) = m' ((c.tc : Thread Cert.AttnInRopeRefIdeal.nD Cert.AttnInRopeRefIdeal.τ).loc Cert.AttnInRopeRefIdeal.main_arg1)
          ∧ r.2.mem ((c.tc : Thread Cert.AttnInRopeRefIdeal.nD Cert.AttnInRopeRefIdeal.τ).loc Cert.AttnInRopeRefIdeal.main_arg2) = m' ((c.tc : Thread Cert.AttnInRopeRefIdeal.nD Cert.AttnInRopeRefIdeal.τ).loc Cert.AttnInRopeRefIdeal.main_arg2)
          ∧ r.2.mem ((c.tc : Thread Cert.AttnInRopeRefIdeal.nD Cert.AttnInRopeRefIdeal.τ).loc Cert.AttnInRopeRefIdeal.main_arg3) = m' ((c.tc : Thread Cert.AttnInRopeRefIdeal.nD Cert.AttnInRopeRefIdeal.τ).loc Cert.AttnInRopeRefIdeal.main_arg3))

def preserves_MlstmIn_MlstmInIdeal : Prop :=
  True

def preserves_MlstmInRef_MlstmInRefIdeal : Prop :=
  True

def algebraic_MlstmInIdeal_MlstmInRefIdeal [hMlstmInIdeal : Cert.MlstmInIdeal.Facts] [hMlstmInRefIdeal : Cert.MlstmInRefIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg)
    (m' : (ℓ : Loc Cert.MlstmInRefIdeal.nD Cert.MlstmInRefIdeal.τ Cert.MlstmInRefIdeal.sig) → Buf (Elt Ideal) ℓ) (g' : Dev Cert.MlstmInRefIdeal.nD → PrngReg), Pre_MlstmInIdeal m →
    (∀ c : Dev Cert.MlstmInIdeal.nD,
      m' ((c.tc : Thread Cert.MlstmInRefIdeal.nD Cert.MlstmInRefIdeal.τ).loc Cert.MlstmInRefIdeal.main_arg0) = m ((c.tc : Thread Cert.MlstmInIdeal.nD Cert.MlstmInIdeal.τ).loc Cert.MlstmInIdeal.main_arg0)
      ∧ m' ((c.tc : Thread Cert.MlstmInRefIdeal.nD Cert.MlstmInRefIdeal.τ).loc Cert.MlstmInRefIdeal.main_arg1) = m ((c.tc : Thread Cert.MlstmInIdeal.nD Cert.MlstmInIdeal.τ).loc Cert.MlstmInIdeal.main_arg1)
      ∧ m' ((c.tc : Thread Cert.MlstmInRefIdeal.nD Cert.MlstmInRefIdeal.τ).loc Cert.MlstmInRefIdeal.main_arg2) = m ((c.tc : Thread Cert.MlstmInIdeal.nD Cert.MlstmInIdeal.τ).loc Cert.MlstmInIdeal.main_arg2)
      ∧ m' ((c.tc : Thread Cert.MlstmInRefIdeal.nD Cert.MlstmInRefIdeal.τ).loc Cert.MlstmInRefIdeal.main_arg3) = m ((c.tc : Thread Cert.MlstmInIdeal.nD Cert.MlstmInIdeal.τ).loc Cert.MlstmInIdeal.main_arg3)
      ∧ m' ((c.tc : Thread Cert.MlstmInRefIdeal.nD Cert.MlstmInRefIdeal.τ).loc Cert.MlstmInRefIdeal.main_arg4) = m ((c.tc : Thread Cert.MlstmInIdeal.nD Cert.MlstmInIdeal.τ).loc Cert.MlstmInIdeal.main_arg4)) →
    ∃ (v0 : (c : Dev Cert.MlstmInIdeal.nD) → Buf (Elt Ideal) ((c.tc : Thread Cert.MlstmInIdeal.nD Cert.MlstmInIdeal.τ).loc Cert.MlstmInIdeal.main_v3_0)) (v1 : (c : Dev Cert.MlstmInIdeal.nD) → Buf (Elt Ideal) ((c.tc : Thread Cert.MlstmInIdeal.nD Cert.MlstmInIdeal.τ).loc Cert.MlstmInIdeal.main_v3_1)) (v2 : (c : Dev Cert.MlstmInIdeal.nD) → Buf (Elt Ideal) ((c.tc : Thread Cert.MlstmInIdeal.nD Cert.MlstmInIdeal.τ).loc Cert.MlstmInIdeal.main_v3_2)) (v3 : (c : Dev Cert.MlstmInIdeal.nD) → Buf (Elt Ideal) ((c.tc : Thread Cert.MlstmInIdeal.nD Cert.MlstmInIdeal.τ).loc Cert.MlstmInIdeal.main_v3_3)),
      θ_run (Cert.MlstmInIdeal.defs (F := Ideal)) (onTc (τ := Cert.MlstmInIdeal.τ) (Cert.MlstmInIdeal.main (F := Ideal))) ⟨m, fun _ => 0, g⟩ (fun r => ∀ c : Dev Cert.MlstmInIdeal.nD,
          r.2.mem ((c.tc : Thread Cert.MlstmInIdeal.nD Cert.MlstmInIdeal.τ).loc Cert.MlstmInIdeal.main_v3_0) = v0 c
          ∧ r.2.mem ((c.tc : Thread Cert.MlstmInIdeal.nD Cert.MlstmInIdeal.τ).loc Cert.MlstmInIdeal.main_v3_1) = v1 c
          ∧ r.2.mem ((c.tc : Thread Cert.MlstmInIdeal.nD Cert.MlstmInIdeal.τ).loc Cert.MlstmInIdeal.main_v3_2) = v2 c
          ∧ r.2.mem ((c.tc : Thread Cert.MlstmInIdeal.nD Cert.MlstmInIdeal.τ).loc Cert.MlstmInIdeal.main_v3_3) = v3 c
          ∧ r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
          ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1)
          ∧ r.2.mem ((c.tc : Thread Cert.MlstmInIdeal.nD Cert.MlstmInIdeal.τ).loc Cert.MlstmInIdeal.main_arg2) = m ((c.tc : Thread Cert.MlstmInIdeal.nD Cert.MlstmInIdeal.τ).loc Cert.MlstmInIdeal.main_arg2)
          ∧ r.2.mem ((c.tc : Thread Cert.MlstmInIdeal.nD Cert.MlstmInIdeal.τ).loc Cert.MlstmInIdeal.main_arg3) = m ((c.tc : Thread Cert.MlstmInIdeal.nD Cert.MlstmInIdeal.τ).loc Cert.MlstmInIdeal.main_arg3)
          ∧ r.2.mem ((c.tc : Thread Cert.MlstmInIdeal.nD Cert.MlstmInIdeal.τ).loc Cert.MlstmInIdeal.main_arg4) = m ((c.tc : Thread Cert.MlstmInIdeal.nD Cert.MlstmInIdeal.τ).loc Cert.MlstmInIdeal.main_arg4))
      ∧ θ_run (Cert.MlstmInRefIdeal.defs (F := Ideal)) (onTc (τ := Cert.MlstmInRefIdeal.τ) (Cert.MlstmInRefIdeal.main (F := Ideal))) ⟨m', fun _ => 0, g'⟩ (fun r => ∀ c : Dev Cert.MlstmInRefIdeal.nD,
          r.2.mem ((c.tc : Thread Cert.MlstmInRefIdeal.nD Cert.MlstmInRefIdeal.τ).loc Cert.MlstmInRefIdeal.main_v43) = v0 c
          ∧ r.2.mem ((c.tc : Thread Cert.MlstmInRefIdeal.nD Cert.MlstmInRefIdeal.τ).loc Cert.MlstmInRefIdeal.main_v44) = v1 c
          ∧ r.2.mem ((c.tc : Thread Cert.MlstmInRefIdeal.nD Cert.MlstmInRefIdeal.τ).loc Cert.MlstmInRefIdeal.main_v46) = v2 c
          ∧ r.2.mem ((c.tc : Thread Cert.MlstmInRefIdeal.nD Cert.MlstmInRefIdeal.τ).loc Cert.MlstmInRefIdeal.main_v47) = v3 c
          ∧ r.2.mem ((c.tc : Thread Cert.MlstmInRefIdeal.nD Cert.MlstmInRefIdeal.τ).loc Cert.MlstmInRefIdeal.main_arg0) = m' ((c.tc : Thread Cert.MlstmInRefIdeal.nD Cert.MlstmInRefIdeal.τ).loc Cert.MlstmInRefIdeal.main_arg0)
          ∧ r.2.mem ((c.tc : Thread Cert.MlstmInRefIdeal.nD Cert.MlstmInRefIdeal.τ).loc Cert.MlstmInRefIdeal.main_arg1) = m' ((c.tc : Thread Cert.MlstmInRefIdeal.nD Cert.MlstmInRefIdeal.τ).loc Cert.MlstmInRefIdeal.main_arg1)
          ∧ r.2.mem ((c.tc : Thread Cert.MlstmInRefIdeal.nD Cert.MlstmInRefIdeal.τ).loc Cert.MlstmInRefIdeal.main_arg2) = m' ((c.tc : Thread Cert.MlstmInRefIdeal.nD Cert.MlstmInRefIdeal.τ).loc Cert.MlstmInRefIdeal.main_arg2)
          ∧ r.2.mem ((c.tc : Thread Cert.MlstmInRefIdeal.nD Cert.MlstmInRefIdeal.τ).loc Cert.MlstmInRefIdeal.main_arg3) = m' ((c.tc : Thread Cert.MlstmInRefIdeal.nD Cert.MlstmInRefIdeal.τ).loc Cert.MlstmInRefIdeal.main_arg3)
          ∧ r.2.mem ((c.tc : Thread Cert.MlstmInRefIdeal.nD Cert.MlstmInRefIdeal.τ).loc Cert.MlstmInRefIdeal.main_arg4) = m' ((c.tc : Thread Cert.MlstmInRefIdeal.nD Cert.MlstmInRefIdeal.τ).loc Cert.MlstmInRefIdeal.main_arg4))

def preserves_MlstmInCtx_MlstmInCtxIdeal : Prop :=
  True

def preserves_MlstmInCtxRef_MlstmInCtxRefIdeal : Prop :=
  True

def algebraic_MlstmInCtxIdeal_MlstmInCtxRefIdeal [hMlstmInCtxIdeal : Cert.MlstmInCtxIdeal.Facts] [hMlstmInCtxRefIdeal : Cert.MlstmInCtxRefIdeal.Facts] : Prop :=
  ∀ (m : (ℓ : Loc Cert.MlstmInCtxIdeal.nD Cert.MlstmInCtxIdeal.τ Cert.MlstmInCtxIdeal.sig) → Buf (Elt Ideal) ℓ) (g : Dev Cert.MlstmInCtxIdeal.nD → PrngReg)
    (m' : (ℓ : Loc Cert.MlstmInCtxRefIdeal.nD Cert.MlstmInCtxRefIdeal.τ Cert.MlstmInCtxRefIdeal.sig) → Buf (Elt Ideal) ℓ) (g' : Dev Cert.MlstmInCtxRefIdeal.nD → PrngReg), Pre_MlstmInCtxIdeal m →
    (∀ c : Dev Cert.MlstmInCtxIdeal.nD,
      m' ((c.tc : Thread Cert.MlstmInCtxRefIdeal.nD Cert.MlstmInCtxRefIdeal.τ).loc Cert.MlstmInCtxRefIdeal.main_arg0) = m ((c.tc : Thread Cert.MlstmInCtxIdeal.nD Cert.MlstmInCtxIdeal.τ).loc Cert.MlstmInCtxIdeal.main_arg0)
      ∧ m' ((c.tc : Thread Cert.MlstmInCtxRefIdeal.nD Cert.MlstmInCtxRefIdeal.τ).loc Cert.MlstmInCtxRefIdeal.main_arg1) = m ((c.tc : Thread Cert.MlstmInCtxIdeal.nD Cert.MlstmInCtxIdeal.τ).loc Cert.MlstmInCtxIdeal.main_arg1)
      ∧ m' ((c.tc : Thread Cert.MlstmInCtxRefIdeal.nD Cert.MlstmInCtxRefIdeal.τ).loc Cert.MlstmInCtxRefIdeal.main_arg2) = m ((c.tc : Thread Cert.MlstmInCtxIdeal.nD Cert.MlstmInCtxIdeal.τ).loc Cert.MlstmInCtxIdeal.main_arg2)
      ∧ m' ((c.tc : Thread Cert.MlstmInCtxRefIdeal.nD Cert.MlstmInCtxRefIdeal.τ).loc Cert.MlstmInCtxRefIdeal.main_arg3) = m ((c.tc : Thread Cert.MlstmInCtxIdeal.nD Cert.MlstmInCtxIdeal.τ).loc Cert.MlstmInCtxIdeal.main_arg3)
      ∧ m' ((c.tc : Thread Cert.MlstmInCtxRefIdeal.nD Cert.MlstmInCtxRefIdeal.τ).loc Cert.MlstmInCtxRefIdeal.main_arg4) = m ((c.tc : Thread Cert.MlstmInCtxIdeal.nD Cert.MlstmInCtxIdeal.τ).loc Cert.MlstmInCtxIdeal.main_arg4)) →
    ∃ (v0 : (c : Dev Cert.MlstmInCtxIdeal.nD) → Buf (Elt Ideal) ((c.tc : Thread Cert.MlstmInCtxIdeal.nD Cert.MlstmInCtxIdeal.τ).loc Cert.MlstmInCtxIdeal.main_v3_0)) (v1 : (c : Dev Cert.MlstmInCtxIdeal.nD) → Buf (Elt Ideal) ((c.tc : Thread Cert.MlstmInCtxIdeal.nD Cert.MlstmInCtxIdeal.τ).loc Cert.MlstmInCtxIdeal.main_v3_1)) (v2 : (c : Dev Cert.MlstmInCtxIdeal.nD) → Buf (Elt Ideal) ((c.tc : Thread Cert.MlstmInCtxIdeal.nD Cert.MlstmInCtxIdeal.τ).loc Cert.MlstmInCtxIdeal.main_v3_2)) (v3 : (c : Dev Cert.MlstmInCtxIdeal.nD) → Buf (Elt Ideal) ((c.tc : Thread Cert.MlstmInCtxIdeal.nD Cert.MlstmInCtxIdeal.τ).loc Cert.MlstmInCtxIdeal.main_v3_3)),
      θ_run (Cert.MlstmInCtxIdeal.defs (F := Ideal)) (onTc (τ := Cert.MlstmInCtxIdeal.τ) (Cert.MlstmInCtxIdeal.main (F := Ideal))) ⟨m, fun _ => 0, g⟩ (fun r => ∀ c : Dev Cert.MlstmInCtxIdeal.nD,
          r.2.mem ((c.tc : Thread Cert.MlstmInCtxIdeal.nD Cert.MlstmInCtxIdeal.τ).loc Cert.MlstmInCtxIdeal.main_v3_0) = v0 c
          ∧ r.2.mem ((c.tc : Thread Cert.MlstmInCtxIdeal.nD Cert.MlstmInCtxIdeal.τ).loc Cert.MlstmInCtxIdeal.main_v3_1) = v1 c
          ∧ r.2.mem ((c.tc : Thread Cert.MlstmInCtxIdeal.nD Cert.MlstmInCtxIdeal.τ).loc Cert.MlstmInCtxIdeal.main_v3_2) = v2 c
          ∧ r.2.mem ((c.tc : Thread Cert.MlstmInCtxIdeal.nD Cert.MlstmInCtxIdeal.τ).loc Cert.MlstmInCtxIdeal.main_v3_3) = v3 c
          ∧ r.2.mem ((c.tc : Thread Cert.MlstmInCtxIdeal.nD Cert.MlstmInCtxIdeal.τ).loc Cert.MlstmInCtxIdeal.main_arg0) = m ((c.tc : Thread Cert.MlstmInCtxIdeal.nD Cert.MlstmInCtxIdeal.τ).loc Cert.MlstmInCtxIdeal.main_arg0)
          ∧ r.2.mem ((c.tc : Thread Cert.MlstmInCtxIdeal.nD Cert.MlstmInCtxIdeal.τ).loc Cert.MlstmInCtxIdeal.main_arg1) = m ((c.tc : Thread Cert.MlstmInCtxIdeal.nD Cert.MlstmInCtxIdeal.τ).loc Cert.MlstmInCtxIdeal.main_arg1)
          ∧ r.2.mem ((c.tc : Thread Cert.MlstmInCtxIdeal.nD Cert.MlstmInCtxIdeal.τ).loc Cert.MlstmInCtxIdeal.main_arg2) = m ((c.tc : Thread Cert.MlstmInCtxIdeal.nD Cert.MlstmInCtxIdeal.τ).loc Cert.MlstmInCtxIdeal.main_arg2)
          ∧ r.2.mem ((c.tc : Thread Cert.MlstmInCtxIdeal.nD Cert.MlstmInCtxIdeal.τ).loc Cert.MlstmInCtxIdeal.main_arg3) = m ((c.tc : Thread Cert.MlstmInCtxIdeal.nD Cert.MlstmInCtxIdeal.τ).loc Cert.MlstmInCtxIdeal.main_arg3)
          ∧ r.2.mem ((c.tc : Thread Cert.MlstmInCtxIdeal.nD Cert.MlstmInCtxIdeal.τ).loc Cert.MlstmInCtxIdeal.main_arg4) = m ((c.tc : Thread Cert.MlstmInCtxIdeal.nD Cert.MlstmInCtxIdeal.τ).loc Cert.MlstmInCtxIdeal.main_arg4))
      ∧ θ_run (Cert.MlstmInCtxRefIdeal.defs (F := Ideal)) (onTc (τ := Cert.MlstmInCtxRefIdeal.τ) (Cert.MlstmInCtxRefIdeal.main (F := Ideal))) ⟨m', fun _ => 0, g'⟩ (fun r => ∀ c : Dev Cert.MlstmInCtxRefIdeal.nD,
          r.2.mem ((c.tc : Thread Cert.MlstmInCtxRefIdeal.nD Cert.MlstmInCtxRefIdeal.τ).loc Cert.MlstmInCtxRefIdeal.main_v43) = v0 c
          ∧ r.2.mem ((c.tc : Thread Cert.MlstmInCtxRefIdeal.nD Cert.MlstmInCtxRefIdeal.τ).loc Cert.MlstmInCtxRefIdeal.main_v44) = v1 c
          ∧ r.2.mem ((c.tc : Thread Cert.MlstmInCtxRefIdeal.nD Cert.MlstmInCtxRefIdeal.τ).loc Cert.MlstmInCtxRefIdeal.main_v46) = v2 c
          ∧ r.2.mem ((c.tc : Thread Cert.MlstmInCtxRefIdeal.nD Cert.MlstmInCtxRefIdeal.τ).loc Cert.MlstmInCtxRefIdeal.main_v47) = v3 c
          ∧ r.2.mem ((c.tc : Thread Cert.MlstmInCtxRefIdeal.nD Cert.MlstmInCtxRefIdeal.τ).loc Cert.MlstmInCtxRefIdeal.main_arg0) = m' ((c.tc : Thread Cert.MlstmInCtxRefIdeal.nD Cert.MlstmInCtxRefIdeal.τ).loc Cert.MlstmInCtxRefIdeal.main_arg0)
          ∧ r.2.mem ((c.tc : Thread Cert.MlstmInCtxRefIdeal.nD Cert.MlstmInCtxRefIdeal.τ).loc Cert.MlstmInCtxRefIdeal.main_arg1) = m' ((c.tc : Thread Cert.MlstmInCtxRefIdeal.nD Cert.MlstmInCtxRefIdeal.τ).loc Cert.MlstmInCtxRefIdeal.main_arg1)
          ∧ r.2.mem ((c.tc : Thread Cert.MlstmInCtxRefIdeal.nD Cert.MlstmInCtxRefIdeal.τ).loc Cert.MlstmInCtxRefIdeal.main_arg2) = m' ((c.tc : Thread Cert.MlstmInCtxRefIdeal.nD Cert.MlstmInCtxRefIdeal.τ).loc Cert.MlstmInCtxRefIdeal.main_arg2)
          ∧ r.2.mem ((c.tc : Thread Cert.MlstmInCtxRefIdeal.nD Cert.MlstmInCtxRefIdeal.τ).loc Cert.MlstmInCtxRefIdeal.main_arg3) = m' ((c.tc : Thread Cert.MlstmInCtxRefIdeal.nD Cert.MlstmInCtxRefIdeal.τ).loc Cert.MlstmInCtxRefIdeal.main_arg3)
          ∧ r.2.mem ((c.tc : Thread Cert.MlstmInCtxRefIdeal.nD Cert.MlstmInCtxRefIdeal.τ).loc Cert.MlstmInCtxRefIdeal.main_arg4) = m' ((c.tc : Thread Cert.MlstmInCtxRefIdeal.nD Cert.MlstmInCtxRefIdeal.τ).loc Cert.MlstmInCtxRefIdeal.main_arg4))

def preserves_Ada_AdaIdeal : Prop :=
  True

def preserves_AdaRef_AdaRefIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Cache_CacheIdeal : Prop :=
  IdealRules.named_const.Statement Cert.CacheIdeal.κ "qscale" .f32 0x3E38AA3B#32 (((8 * (Real.log 2))⁻¹ : ℝ) : EReal)

def preserves_CacheRef_CacheRefIdeal : Prop :=
  True

def algebraic_CacheIdeal_CacheRefIdeal [hCacheIdeal : Cert.CacheIdeal.Facts] [hCacheRefIdeal : Cert.CacheRefIdeal.Facts] : Prop :=
  ∀ (m : (ℓ : Loc Cert.CacheIdeal.nD Cert.CacheIdeal.τ Cert.CacheIdeal.sig) → Buf (Elt Ideal) ℓ) (g : Dev Cert.CacheIdeal.nD → PrngReg)
    (m' : (ℓ : Loc Cert.CacheRefIdeal.nD Cert.CacheRefIdeal.τ Cert.CacheRefIdeal.sig) → Buf (Elt Ideal) ℓ) (g' : Dev Cert.CacheRefIdeal.nD → PrngReg), Pre_CacheIdeal m →
    (∀ c : Dev Cert.CacheIdeal.nD,
      m' ((c.tc : Thread Cert.CacheRefIdeal.nD Cert.CacheRefIdeal.τ).loc Cert.CacheRefIdeal.main_arg0) = m ((c.tc : Thread Cert.CacheIdeal.nD Cert.CacheIdeal.τ).loc Cert.CacheIdeal.main_arg0)
      ∧ m' ((c.tc : Thread Cert.CacheRefIdeal.nD Cert.CacheRefIdeal.τ).loc Cert.CacheRefIdeal.main_arg1) = m ((c.tc : Thread Cert.CacheIdeal.nD Cert.CacheIdeal.τ).loc Cert.CacheIdeal.main_arg1)
      ∧ m' ((c.tc : Thread Cert.CacheRefIdeal.nD Cert.CacheRefIdeal.τ).loc Cert.CacheRefIdeal.main_arg2) = m ((c.tc : Thread Cert.CacheIdeal.nD Cert.CacheIdeal.τ).loc Cert.CacheIdeal.main_arg2)
      ∧ m' ((c.tc : Thread Cert.CacheRefIdeal.nD Cert.CacheRefIdeal.τ).loc Cert.CacheRefIdeal.main_arg3) = m ((c.tc : Thread Cert.CacheIdeal.nD Cert.CacheIdeal.τ).loc Cert.CacheIdeal.main_arg3)
      ∧ m' ((c.tc : Thread Cert.CacheRefIdeal.nD Cert.CacheRefIdeal.τ).loc Cert.CacheRefIdeal.main_arg4) = m ((c.tc : Thread Cert.CacheIdeal.nD Cert.CacheIdeal.τ).loc Cert.CacheIdeal.main_arg4)
      ∧ m' ((c.tc : Thread Cert.CacheRefIdeal.nD Cert.CacheRefIdeal.τ).loc Cert.CacheRefIdeal.main_arg5) = m ((c.tc : Thread Cert.CacheIdeal.nD Cert.CacheIdeal.τ).loc Cert.CacheIdeal.main_arg5)
      ∧ m' ((c.tc : Thread Cert.CacheRefIdeal.nD Cert.CacheRefIdeal.τ).loc Cert.CacheRefIdeal.main_arg6) = m ((c.tc : Thread Cert.CacheIdeal.nD Cert.CacheIdeal.τ).loc Cert.CacheIdeal.main_arg6)) →
    ∃ (v0 : (c : Dev Cert.CacheIdeal.nD) → Buf (Elt Ideal) ((c.tc : Thread Cert.CacheIdeal.nD Cert.CacheIdeal.τ).loc Cert.CacheIdeal.main_v15)) (v1 : (c : Dev Cert.CacheIdeal.nD) → Buf (Elt Ideal) ((c.tc : Thread Cert.CacheIdeal.nD Cert.CacheIdeal.τ).loc Cert.CacheIdeal.main_v16)),
      θ_run (Cert.CacheIdeal.defs (F := Ideal)) (onTc (τ := Cert.CacheIdeal.τ) (Cert.CacheIdeal.main (F := Ideal))) ⟨m, fun _ => 0, g⟩ (fun r => ∀ c : Dev Cert.CacheIdeal.nD,
          r.2.mem ((c.tc : Thread Cert.CacheIdeal.nD Cert.CacheIdeal.τ).loc Cert.CacheIdeal.main_v15) = v0 c
          ∧ r.2.mem ((c.tc : Thread Cert.CacheIdeal.nD Cert.CacheIdeal.τ).loc Cert.CacheIdeal.main_v16) = v1 c
          ∧ r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
          ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
          ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2)
          ∧ r.2.mem ((c.tc : Thread Cert.CacheIdeal.nD Cert.CacheIdeal.τ).loc Cert.CacheIdeal.main_arg3) = m ((c.tc : Thread Cert.CacheIdeal.nD Cert.CacheIdeal.τ).loc Cert.CacheIdeal.main_arg3)
          ∧ r.2.mem ((c.tc : Thread Cert.CacheIdeal.nD Cert.CacheIdeal.τ).loc Cert.CacheIdeal.main_arg4) = m ((c.tc : Thread Cert.CacheIdeal.nD Cert.CacheIdeal.τ).loc Cert.CacheIdeal.main_arg4)
          ∧ r.2.mem ((c.tc : Thread Cert.CacheIdeal.nD Cert.CacheIdeal.τ).loc Cert.CacheIdeal.main_arg5) = m ((c.tc : Thread Cert.CacheIdeal.nD Cert.CacheIdeal.τ).loc Cert.CacheIdeal.main_arg5)
          ∧ r.2.mem ((c.tc : Thread Cert.CacheIdeal.nD Cert.CacheIdeal.τ).loc Cert.CacheIdeal.main_arg6) = m ((c.tc : Thread Cert.CacheIdeal.nD Cert.CacheIdeal.τ).loc Cert.CacheIdeal.main_arg6))
      ∧ θ_run (Cert.CacheRefIdeal.defs (F := Ideal)) (onTc (τ := Cert.CacheRefIdeal.τ) (Cert.CacheRefIdeal.main (F := Ideal))) ⟨m', fun _ => 0, g'⟩ (fun r => ∀ c : Dev Cert.CacheRefIdeal.nD,
          r.2.mem ((c.tc : Thread Cert.CacheRefIdeal.nD Cert.CacheRefIdeal.τ).loc Cert.CacheRefIdeal.main_v38) = v0 c
          ∧ r.2.mem ((c.tc : Thread Cert.CacheRefIdeal.nD Cert.CacheRefIdeal.τ).loc Cert.CacheRefIdeal.main_v39) = v1 c
          ∧ r.2.mem ((c.tc : Thread Cert.CacheRefIdeal.nD Cert.CacheRefIdeal.τ).loc Cert.CacheRefIdeal.main_arg0) = m' ((c.tc : Thread Cert.CacheRefIdeal.nD Cert.CacheRefIdeal.τ).loc Cert.CacheRefIdeal.main_arg0)
          ∧ r.2.mem ((c.tc : Thread Cert.CacheRefIdeal.nD Cert.CacheRefIdeal.τ).loc Cert.CacheRefIdeal.main_arg1) = m' ((c.tc : Thread Cert.CacheRefIdeal.nD Cert.CacheRefIdeal.τ).loc Cert.CacheRefIdeal.main_arg1)
          ∧ r.2.mem ((c.tc : Thread Cert.CacheRefIdeal.nD Cert.CacheRefIdeal.τ).loc Cert.CacheRefIdeal.main_arg2) = m' ((c.tc : Thread Cert.CacheRefIdeal.nD Cert.CacheRefIdeal.τ).loc Cert.CacheRefIdeal.main_arg2)
          ∧ r.2.mem ((c.tc : Thread Cert.CacheRefIdeal.nD Cert.CacheRefIdeal.τ).loc Cert.CacheRefIdeal.main_arg3) = m' ((c.tc : Thread Cert.CacheRefIdeal.nD Cert.CacheRefIdeal.τ).loc Cert.CacheRefIdeal.main_arg3)
          ∧ r.2.mem ((c.tc : Thread Cert.CacheRefIdeal.nD Cert.CacheRefIdeal.τ).loc Cert.CacheRefIdeal.main_arg4) = m' ((c.tc : Thread Cert.CacheRefIdeal.nD Cert.CacheRefIdeal.τ).loc Cert.CacheRefIdeal.main_arg4)
          ∧ r.2.mem ((c.tc : Thread Cert.CacheRefIdeal.nD Cert.CacheRefIdeal.τ).loc Cert.CacheRefIdeal.main_arg5) = m' ((c.tc : Thread Cert.CacheRefIdeal.nD Cert.CacheRefIdeal.τ).loc Cert.CacheRefIdeal.main_arg5)
          ∧ r.2.mem ((c.tc : Thread Cert.CacheRefIdeal.nD Cert.CacheRefIdeal.τ).loc Cert.CacheRefIdeal.main_arg6) = m' ((c.tc : Thread Cert.CacheRefIdeal.nD Cert.CacheRefIdeal.τ).loc Cert.CacheRefIdeal.main_arg6))

def Claim : Prop :=
  ∃ (hAttnWin : Cert.AttnWin.Facts) (hAttnWinIdeal : Cert.AttnWinIdeal.Facts) (hAttnWinRefIdeal : Cert.AttnWinRefIdeal.Facts) (hAttnWinRef : Cert.AttnWinRef.Facts) (hAttnCtx : Cert.AttnCtx.Facts) (hAttnCtxIdeal : Cert.AttnCtxIdeal.Facts) (hAttnCtxRefIdeal : Cert.AttnCtxRefIdeal.Facts) (hAttnCtxRef : Cert.AttnCtxRef.Facts) (hAttnIn : Cert.AttnIn.Facts) (hAttnInIdeal : Cert.AttnInIdeal.Facts) (hAttnInRefIdeal : Cert.AttnInRefIdeal.Facts) (hAttnInRef : Cert.AttnInRef.Facts) (hAttnInRope : Cert.AttnInRope.Facts) (hAttnInRopeIdeal : Cert.AttnInRopeIdeal.Facts) (hAttnInRopeRefIdeal : Cert.AttnInRopeRefIdeal.Facts) (hAttnInRopeRef : Cert.AttnInRopeRef.Facts) (hMlstmIn : Cert.MlstmIn.Facts) (hMlstmInIdeal : Cert.MlstmInIdeal.Facts) (hMlstmInRefIdeal : Cert.MlstmInRefIdeal.Facts) (hMlstmInRef : Cert.MlstmInRef.Facts) (hMlstmInCtx : Cert.MlstmInCtx.Facts) (hMlstmInCtxIdeal : Cert.MlstmInCtxIdeal.Facts) (hMlstmInCtxRefIdeal : Cert.MlstmInCtxRefIdeal.Facts) (hMlstmInCtxRef : Cert.MlstmInCtxRef.Facts) (hAda : Cert.Ada.Facts) (hAdaIdeal : Cert.AdaIdeal.Facts) (hAdaRefIdeal : Cert.AdaRefIdeal.Facts) (hAdaRef : Cert.AdaRef.Facts) (hCache : Cert.Cache.Facts) (hCacheIdeal : Cert.CacheIdeal.Facts) (hCacheRefIdeal : Cert.CacheRefIdeal.Facts) (hCacheRef : Cert.CacheRef.Facts),
    quiescent_AttnWin (hAttnWin := hAttnWin)
    ∧ quiescent_AttnWinIdeal (hAttnWinIdeal := hAttnWinIdeal)
    ∧ quiescent_AttnWinRefIdeal (hAttnWinRefIdeal := hAttnWinRefIdeal)
    ∧ quiescent_AttnWinRef (hAttnWinRef := hAttnWinRef)
    ∧ quiescent_AttnCtx (hAttnCtx := hAttnCtx)
    ∧ quiescent_AttnCtxIdeal (hAttnCtxIdeal := hAttnCtxIdeal)
    ∧ quiescent_AttnCtxRefIdeal (hAttnCtxRefIdeal := hAttnCtxRefIdeal)
    ∧ quiescent_AttnCtxRef (hAttnCtxRef := hAttnCtxRef)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_AttnInRef (hAttnInRef := hAttnInRef)
    ∧ quiescent_AttnInRope (hAttnInRope := hAttnInRope)
    ∧ quiescent_AttnInRopeIdeal (hAttnInRopeIdeal := hAttnInRopeIdeal)
    ∧ quiescent_AttnInRopeRefIdeal (hAttnInRopeRefIdeal := hAttnInRopeRefIdeal)
    ∧ quiescent_AttnInRopeRef (hAttnInRopeRef := hAttnInRopeRef)
    ∧ quiescent_MlstmIn (hMlstmIn := hMlstmIn)
    ∧ quiescent_MlstmInIdeal (hMlstmInIdeal := hMlstmInIdeal)
    ∧ quiescent_MlstmInRefIdeal (hMlstmInRefIdeal := hMlstmInRefIdeal)
    ∧ quiescent_MlstmInRef (hMlstmInRef := hMlstmInRef)
    ∧ quiescent_MlstmInCtx (hMlstmInCtx := hMlstmInCtx)
    ∧ quiescent_MlstmInCtxIdeal (hMlstmInCtxIdeal := hMlstmInCtxIdeal)
    ∧ quiescent_MlstmInCtxRefIdeal (hMlstmInCtxRefIdeal := hMlstmInCtxRefIdeal)
    ∧ quiescent_MlstmInCtxRef (hMlstmInCtxRef := hMlstmInCtxRef)
    ∧ quiescent_Ada (hAda := hAda)
    ∧ quiescent_AdaIdeal (hAdaIdeal := hAdaIdeal)
    ∧ quiescent_AdaRefIdeal (hAdaRefIdeal := hAdaRefIdeal)
    ∧ quiescent_AdaRef (hAdaRef := hAdaRef)
    ∧ quiescent_Cache (hCache := hCache)
    ∧ quiescent_CacheIdeal (hCacheIdeal := hCacheIdeal)
    ∧ quiescent_CacheRefIdeal (hCacheRefIdeal := hCacheRefIdeal)
    ∧ quiescent_CacheRef (hCacheRef := hCacheRef)
    ∧ preserves_AttnWin_AttnWinIdeal
    ∧ preserves_AttnWinRef_AttnWinRefIdeal
    ∧ algebraic_AttnWinIdeal_AttnWinRefIdeal (hAttnWinIdeal := hAttnWinIdeal) (hAttnWinRefIdeal := hAttnWinRefIdeal)
    ∧ preserves_AttnCtx_AttnCtxIdeal
    ∧ preserves_AttnCtxRef_AttnCtxRefIdeal
    ∧ algebraic_AttnCtxIdeal_AttnCtxRefIdeal (hAttnCtxIdeal := hAttnCtxIdeal) (hAttnCtxRefIdeal := hAttnCtxRefIdeal)
    ∧ preserves_AttnIn_AttnInIdeal
    ∧ preserves_AttnInRef_AttnInRefIdeal
    ∧ algebraic_AttnInIdeal_AttnInRefIdeal (hAttnInIdeal := hAttnInIdeal) (hAttnInRefIdeal := hAttnInRefIdeal)
    ∧ preserves_AttnInRope_AttnInRopeIdeal
    ∧ preserves_AttnInRopeRef_AttnInRopeRefIdeal
    ∧ algebraic_AttnInRopeIdeal_AttnInRopeRefIdeal (hAttnInRopeIdeal := hAttnInRopeIdeal) (hAttnInRopeRefIdeal := hAttnInRopeRefIdeal)
    ∧ preserves_MlstmIn_MlstmInIdeal
    ∧ preserves_MlstmInRef_MlstmInRefIdeal
    ∧ algebraic_MlstmInIdeal_MlstmInRefIdeal (hMlstmInIdeal := hMlstmInIdeal) (hMlstmInRefIdeal := hMlstmInRefIdeal)
    ∧ preserves_MlstmInCtx_MlstmInCtxIdeal
    ∧ preserves_MlstmInCtxRef_MlstmInCtxRefIdeal
    ∧ algebraic_MlstmInCtxIdeal_MlstmInCtxRefIdeal (hMlstmInCtxIdeal := hMlstmInCtxIdeal) (hMlstmInCtxRefIdeal := hMlstmInCtxRefIdeal)
    ∧ preserves_Ada_AdaIdeal
    ∧ preserves_AdaRef_AdaRefIdeal
    ∧ algebraic_AdaIdeal_AdaRefIdeal (hAdaIdeal := hAdaIdeal) (hAdaRefIdeal := hAdaRefIdeal)
    ∧ preserves_Cache_CacheIdeal
    ∧ preserves_CacheRef_CacheRefIdeal
    ∧ algebraic_CacheIdeal_CacheRefIdeal (hCacheIdeal := hCacheIdeal) (hCacheRefIdeal := hCacheRefIdeal)
-- ==== AttnWin.lean ====
abbrev S4x4096x1024 : Shape := ⟨3, ![4, 4096, 1024]⟩
abbrev S8x3x1024 : Shape := ⟨3, ![8, 3, 1024]⟩
abbrev S4x512x256 : Shape := ⟨3, ![4, 512, 256]⟩
abbrev S4x256x512 : Shape := ⟨3, ![4, 256, 512]⟩
abbrev S4x4096x256 : Shape := ⟨3, ![4, 4096, 256]⟩
abbrev S4x256x4096 : Shape := ⟨3, ![4, 256, 4096]⟩
abbrev S16 : Shape := ⟨1, ![16]⟩
abbrev S1024x1024 : Shape := ⟨2, ![1024, 1024]⟩
abbrev S1x16 : Shape := ⟨2, ![1, 16]⟩
abbrev S1x512x1024 : Shape := ⟨3, ![1, 512, 1024]⟩
abbrev S1x3x1024 : Shape := ⟨3, ![1, 3, 1024]⟩
abbrev S1x512x256 : Shape := ⟨3, ![1, 512, 256]⟩
abbrev S1x256x512 : Shape := ⟨3, ![1, 256, 512]⟩
abbrev S1x128x256 : Shape := ⟨3, ![1, 128, 256]⟩
abbrev S1x256x128 : Shape := ⟨3, ![1, 256, 128]⟩
abbrev S8x7x128x512 : Shape := ⟨4, ![8, 7, 128, 512]⟩
abbrev S8x896x512 : Shape := ⟨3, ![8, 896, 512]⟩
abbrev S1024x512 : Shape := ⟨2, ![1024, 512]⟩
abbrev S128x512 : Shape := ⟨2, ![128, 512]⟩
abbrev S16x128 : Shape := ⟨2, ![16, 128]⟩
abbrev S1x128x1024 : Shape := ⟨3, ![1, 128, 1024]⟩
abbrev S128x1024 : Shape := ⟨2, ![128, 1024]⟩
abbrev S128x64 : Shape := ⟨2, ![128, 64]⟩
abbrev S512x64 : Shape := ⟨2, ![512, 64]⟩
abbrev S1x1 : Shape := ⟨2, ![1, 1]⟩
abbrev S1x128 : Shape := ⟨2, ![1, 128]⟩
abbrev S1x512 : Shape := ⟨2, ![1, 512]⟩
abbrev S1x128x64 : Shape := ⟨3, ![1, 128, 64]⟩
abbrev S128x256 : Shape := ⟨2, ![128, 256]⟩
abbrev S896x64 : Shape := ⟨2, ![896, 64]⟩
abbrev S896x512 : Shape := ⟨2, ![896, 512]⟩
abbrev S8x512 : Shape := ⟨2, ![8, 512]⟩
abbrev S1x1x128x512 : Shape := ⟨4, ![1, 1, 128, 512]⟩
abbrev S16x8x512 : Shape := ⟨3, ![16, 8, 512]⟩
abbrev S512 : Shape := ⟨1, ![512]⟩
abbrev S1x128x512 : Shape := ⟨3, ![1, 128, 512]⟩
abbrev S1x64x128 : Shape := ⟨3, ![1, 64, 128]⟩
abbrev S64x128 : Shape := ⟨2, ![64, 128]⟩
abbrev S64x896 : Shape := ⟨2, ![64, 896]⟩
abbrev S16x896 : Shape := ⟨2, ![16, 896]⟩
abbrev S80x896 : Shape := ⟨2, ![80, 896]⟩
abbrev S1x896x512 : Shape := ⟨3, ![1, 896, 512]⟩
abbrev S80x512 : Shape := ⟨2, ![80, 512]⟩
abbrev S64x512 : Shape := ⟨2, ![64, 512]⟩
abbrev S512x1024 : Shape := ⟨2, ![512, 1024]⟩
abbrev S3x1024 : Shape := ⟨2, ![3, 1024]⟩
abbrev S1x1024 : Shape := ⟨2, ![1, 1024]⟩

abbrev nBuf : Space → Nat
  | .hbm => 12
  | .vmem => 31
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .f32⟩
  | .hbm, ⟨3, _⟩ => ⟨S8x3x1024, .f32⟩
  | .hbm, ⟨4, _⟩ => ⟨S4x512x256, .bf16⟩
  | .hbm, ⟨5, _⟩ => ⟨S4x256x512, .bf16⟩
  | .hbm, ⟨6, _⟩ => ⟨S4x4096x256, .bf16⟩
  | .hbm, ⟨7, _⟩ => ⟨S4x256x4096, .bf16⟩
  | .hbm, ⟨8, _⟩ => ⟨S16, .f32⟩
  | .hbm, ⟨9, _⟩ => ⟨S1024x1024, .f32⟩
  | .hbm, ⟨10, _⟩ => ⟨S1x16, .f32⟩
  | .hbm, ⟨11, _⟩ => ⟨S4x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x3x1024, .f32⟩
  | .local _ .vmem, ⟨7, _⟩ => ⟨S1x3x1024, .f32⟩
  | .local _ .vmem, ⟨8, _⟩ => ⟨S1x512x256, .bf16⟩
  | .local _ .vmem, ⟨9, _⟩ => ⟨S1x512x256, .bf16⟩
  | .local _ .vmem, ⟨10, _⟩ => ⟨S1x256x512, .bf16⟩
  | .local _ .vmem, ⟨11, _⟩ => ⟨S1x256x512, .bf16⟩
  | .local _ .vmem, ⟨12, _⟩ => ⟨S1x128x256, .bf16⟩
  | .local _ .vmem, ⟨13, _⟩ => ⟨S1x128x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x256x128, .bf16⟩
  | .local _ .vmem, ⟨19, _⟩ => ⟨S1x256x128, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x128, .bf16⟩
  | .local _ .vmem, ⟨23, _⟩ => ⟨S1x256x128, .bf16⟩
  | .local _ .vmem, ⟨24, _⟩ => ⟨S1x16, .f32⟩
  | .local _ .vmem, ⟨25, _⟩ => ⟨S1024x1024, .f32⟩
  | .local _ .vmem, ⟨26, _⟩ => ⟨S1x512x1024, .f32⟩
  | .local _ .vmem, ⟨27, _⟩ => ⟨S1x512x1024, .f32⟩
  | .local _ .vmem, ⟨28, _⟩ => ⟨S8x7x128x512, .f32⟩
  | .local _ .vmem, ⟨29, _⟩ => ⟨S8x896x512, .bf16⟩
  | .local _ .vmem, ⟨30, _⟩ => ⟨S1024x512, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, c0_i32.toNat, v2.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AttnWinIdeal.lean ====
variable {F : FTy → Type} [FloatOps F] [Named F]
def κ : String → Option EReal := fun
  | "log2e" => some (((Real.log 2)⁻¹ : ℝ) : EReal)
  | _ => none
-- ==== AttnWinRef.lean ====
abbrev S4x4096x1024 : Shape := ⟨3, ![4, 4096, 1024]⟩
abbrev S8x3x1024 : Shape := ⟨3, ![8, 3, 1024]⟩
abbrev S4x512x256 : Shape := ⟨3, ![4, 512, 256]⟩
abbrev S4x256x512 : Shape := ⟨3, ![4, 256, 512]⟩
abbrev S4x4096x256 : Shape := ⟨3, ![4, 4096, 256]⟩
abbrev S4x256x4096 : Shape := ⟨3, ![4, 256, 4096]⟩
abbrev S16 : Shape := ⟨1, ![16]⟩
abbrev S1024x1024 : Shape := ⟨2, ![1024, 1024]⟩
abbrev S4x4096x4x4x64 : Shape := ⟨5, ![4, 4096, 4, 4, 64]⟩
abbrev S4x4608x256 : Shape := ⟨3, ![4, 4608, 256]⟩
abbrev S4x4608x4x64 : Shape := ⟨4, ![4, 4608, 4, 64]⟩
abbrev S4x256x4608 : Shape := ⟨3, ![4, 256, 4608]⟩
abbrev S4x4x64x4608 : Shape := ⟨4, ![4, 4, 64, 4608]⟩
abbrev S4x4x4608x4096x4 : Shape := ⟨5, ![4, 4, 4608, 4096, 4]⟩
abbrev S4x4x4x4096x4608 : Shape := ⟨5, ![4, 4, 4, 4096, 4608]⟩
abbrev S_ : Shape := ⟨0, ![]⟩
abbrev S4096x4608 : Shape := ⟨2, ![4096, 4608]⟩
abbrev S1x4x4x1 : Shape := ⟨4, ![1, 4, 4, 1]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩
abbrev S4x4096x4x4 : Shape := ⟨4, ![4, 4096, 4, 4]⟩
abbrev S4x4096x4x4x1 : Shape := ⟨5, ![4, 4096, 4, 4, 1]⟩
abbrev S4x1x1024 : Shape := ⟨3, ![4, 1, 1024]⟩
abbrev S4x1024 : Shape := ⟨2, ![4, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .f32⟩
  | .hbm, ⟨3, _⟩ => ⟨S8x3x1024, .f32⟩
  | .hbm, ⟨4, _⟩ => ⟨S4x512x256, .bf16⟩
  | .hbm, ⟨5, _⟩ => ⟨S4x256x512, .bf16⟩
  | .hbm, ⟨6, _⟩ => ⟨S4x4096x256, .bf16⟩
  | .hbm, ⟨7, _⟩ => ⟨S4x256x4096, .bf16⟩
  | .hbm, ⟨8, _⟩ => ⟨S16, .f32⟩
  | .hbm, ⟨9, _⟩ => ⟨S1024x1024, .f32⟩
  | .hbm, ⟨10, _⟩ => ⟨S4x4096x1024, .f32⟩
  | .hbm, ⟨11, _⟩ => ⟨S4x4096x4x4x64, .f32⟩
  | .hbm, ⟨12, _⟩ => ⟨S4x512x256, .f32⟩
  | .hbm, ⟨13, _⟩ => ⟨S4x4096x256, .f32⟩
  | .hbm, ⟨14, _⟩ => ⟨S4x4608x256, .f32⟩
  | .hbm, ⟨15, _⟩ => ⟨S4x4608x4x64, .f32⟩
  | .hbm, ⟨16, _⟩ => ⟨S4x256x512, .f32⟩
  | .hbm, ⟨17, _⟩ => ⟨S4x256x4096, .f32⟩
  | .hbm, ⟨18, _⟩ => ⟨S4x256x4608, .f32⟩
  | .hbm, ⟨19, _⟩ => ⟨S4x4x64x4608, .f32⟩
  | .hbm, ⟨20, _⟩ => ⟨S4x4x4608x4096x4, .f32⟩
  | .hbm, ⟨21, _⟩ => ⟨S4x4x4x4096x4608, .f32⟩
  | .hbm, ⟨22, _⟩ => ⟨S_, .f32⟩
  | .hbm, ⟨23, _⟩ => ⟨S_, .f32⟩
  | .hbm, ⟨24, _⟩ => ⟨S4x4x4x4096x4608, .f32⟩
  | .hbm, ⟨25, _⟩ => ⟨S4x4x4x4096x4608, .f32⟩
  | .hbm, ⟨26, _⟩ => ⟨S4096x4608, .i32⟩
  | .hbm, ⟨27, _⟩ => ⟨S4096x4608, .i32⟩
  | .hbm, ⟨28, _⟩ => ⟨S_, .i32⟩
  | .hbm, ⟨29, _⟩ => ⟨S4096x4608, .i32⟩
  | .hbm, ⟨30, _⟩ => ⟨S4096x4608, .i32⟩
  | .hbm, ⟨31, _⟩ => ⟨S_, .i32⟩
  | .hbm, ⟨32, _⟩ => ⟨S4096x4608, .i32⟩
  | .hbm, ⟨33, _⟩ => ⟨S4096x4608, .i1⟩
  | .hbm, ⟨34, _⟩ => ⟨S4096x4608, .i32⟩
  | .hbm, ⟨35, _⟩ => ⟨S_, .i32⟩
  | .hbm, ⟨36, _⟩ => ⟨S4096x4608, .i32⟩
  | .hbm, ⟨37, _⟩ => ⟨S4096x4608, .i1⟩
  | .hbm, ⟨38, _⟩ => ⟨S4096x4608, .i32⟩
  | .hbm, ⟨39, _⟩ => ⟨S_, .i32⟩
  | .hbm, ⟨40, _⟩ => ⟨S4096x4608, .i32⟩
  | .hbm, ⟨41, _⟩ => ⟨S4096x4608, .i1⟩
  | .hbm, ⟨42, _⟩ => ⟨S4096x4608, .i1⟩
  | .hbm, ⟨43, _⟩ => ⟨S4096x4608, .i1⟩
  | .hbm, ⟨44, _⟩ => ⟨S_, .f32⟩
  | .hbm, ⟨45, _⟩ => ⟨S_, .f32⟩
  | .hbm, ⟨46, _⟩ => ⟨S4x4x4x4096x4608, .i1⟩
  | .hbm, ⟨47, _⟩ => ⟨S4x4x4x4096x4608, .f32⟩
  | .hbm, ⟨48, _⟩ => ⟨S4x4x4x4096x4608, .f32⟩
  | .hbm, ⟨49, _⟩ => ⟨S1x4x4x1, .f32⟩
  | .hbm, ⟨50, _⟩ => ⟨S_, .f32⟩
  | .hbm, ⟨51, _⟩ => ⟨S4x4x4x4096, .f32⟩
  | .hbm, ⟨52, _⟩ => ⟨S4x4x4x4096, .f32⟩
  | .hbm, ⟨53, _⟩ => ⟨S4x4x4x4096, .f32⟩
  | .hbm, ⟨54, _⟩ => ⟨S4x4x4x4096x1, .f32⟩
  | .hbm, ⟨55, _⟩ => ⟨S4x4x4x4096x4608, .f32⟩
  | .hbm, ⟨56, _⟩ => ⟨S4x4x4x4096x4608, .f32⟩
  | .hbm, ⟨57, _⟩ => ⟨S4x4x4x4096x4608, .f32⟩
  | .hbm, ⟨58, _⟩ => ⟨S_, .f32⟩
  | .hbm, ⟨59, _⟩ => ⟨S4x4x4x4096, .f32⟩
  | .hbm, ⟨60, _⟩ => ⟨S4x4x4x4096, .f32⟩
  | .hbm, ⟨61, _⟩ => ⟨S4x4x4x4096, .f32⟩
  | .hbm, ⟨62, _⟩ => ⟨S4x4x4x4096, .f32⟩
  | .hbm, ⟨63, _⟩ => ⟨S4x4x4x4096, .f32⟩
  | .hbm, ⟨64, _⟩ => ⟨S4x4x64x4x4096, .f32⟩
  | .hbm, ⟨65, _⟩ => ⟨S4x4096x4x4x64, .f32⟩
  | .hbm, ⟨66, _⟩ => ⟨S4x4096x4x4, .f32⟩
  | .hbm, ⟨67, _⟩ => ⟨S4x4096x4x4x1, .f32⟩
  | .hbm, ⟨68, _⟩ => ⟨S4x4096x4x4x64, .f32⟩
  | .hbm, ⟨69, _⟩ => ⟨S4x4096x4x4x64, .f32⟩
  | .hbm, ⟨70, _⟩ => ⟨S4x1x1024, .f32⟩
  | .hbm, ⟨71, _⟩ => ⟨S4x1024, .f32⟩
  | .hbm, ⟨72, _⟩ => ⟨S4x1x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== AttnCtx.lean ====
abbrev S16x256x1024 : Shape := ⟨3, ![16, 256, 1024]⟩
abbrev S8x3x1024 : Shape := ⟨3, ![8, 3, 1024]⟩
abbrev S16x256x256 : Shape := ⟨3, ![16, 256, 256]⟩
abbrev S16 : Shape := ⟨1, ![16]⟩
abbrev S1024x1024 : Shape := ⟨2, ![1024, 1024]⟩
abbrev S1x16 : Shape := ⟨2, ![1, 16]⟩
abbrev S1x256x1024 : Shape := ⟨3, ![1, 256, 1024]⟩
abbrev S1x3x1024 : Shape := ⟨3, ![1, 3, 1024]⟩
abbrev S1x256x256 : Shape := ⟨3, ![1, 256, 256]⟩
abbrev S8x2x128x512 : Shape := ⟨4, ![8, 2, 128, 512]⟩
abbrev S8x256x512 : Shape := ⟨3, ![8, 256, 512]⟩
abbrev S1024x256 : Shape := ⟨2, ![1024, 256]⟩
abbrev S16x128 : Shape := ⟨2, ![16, 128]⟩
abbrev S1x128x1024 : Shape := ⟨3, ![1, 128, 1024]⟩
abbrev S128x1024 : Shape := ⟨2, ![128, 1024]⟩
abbrev S128x64 : Shape := ⟨2, ![128, 64]⟩
abbrev S512x64 : Shape := ⟨2, ![512, 64]⟩
abbrev S1x1 : Shape := ⟨2, ![1, 1]⟩
abbrev S1x128 : Shape := ⟨2, ![1, 128]⟩
abbrev S1x512 : Shape := ⟨2, ![1, 512]⟩
abbrev S1x128x64 : Shape := ⟨3, ![1, 128, 64]⟩
abbrev S256x64 : Shape := ⟨2, ![256, 64]⟩
abbrev S256x512 : Shape := ⟨2, ![256, 512]⟩
abbrev S8x512 : Shape := ⟨2, ![8, 512]⟩
abbrev S128x512 : Shape := ⟨2, ![128, 512]⟩
abbrev S1x1x128x512 : Shape := ⟨4, ![1, 1, 128, 512]⟩
abbrev S16x8x512 : Shape := ⟨3, ![16, 8, 512]⟩
abbrev S512 : Shape := ⟨1, ![512]⟩
abbrev S1x128x512 : Shape := ⟨3, ![1, 128, 512]⟩
abbrev S1x64x128 : Shape := ⟨3, ![1, 64, 128]⟩
abbrev S64x128 : Shape := ⟨2, ![64, 128]⟩
abbrev S64x256 : Shape := ⟨2, ![64, 256]⟩
abbrev S16x256 : Shape := ⟨2, ![16, 256]⟩
abbrev S80x256 : Shape := ⟨2, ![80, 256]⟩
abbrev S1x256x512 : Shape := ⟨3, ![1, 256, 512]⟩
abbrev S80x512 : Shape := ⟨2, ![80, 512]⟩
abbrev S64x512 : Shape := ⟨2, ![64, 512]⟩
abbrev S256x1024 : Shape := ⟨2, ![256, 1024]⟩
abbrev S3x1024 : Shape := ⟨2, ![3, 1024]⟩
abbrev S1x1024 : Shape := ⟨2, ![1, 1024]⟩

abbrev nBuf : Space → Nat
  | .hbm => 10
  | .vmem => 18
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .bf16⟩
  | .hbm, ⟨2, _⟩ => ⟨S16x256x1024, .f32⟩
  | .hbm, ⟨3, _⟩ => ⟨S8x3x1024, .f32⟩
  | .hbm, ⟨4, _⟩ => ⟨S16x256x256, .f32⟩
  | .hbm, ⟨5, _⟩ => ⟨S16x256x256, .bf16⟩
  | .hbm, ⟨6, _⟩ => ⟨S16, .f32⟩
  | .hbm, ⟨7, _⟩ => ⟨S1024x1024, .f32⟩
  | .hbm, ⟨8, _⟩ => ⟨S1x16, .f32⟩
  | .hbm, ⟨9, _⟩ => ⟨S16x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x3x1024, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .bf16⟩
  | .local _ .vmem, ⟨10, _⟩ => ⟨S1x256x256, .bf16⟩
  | .local _ .vmem, ⟨11, _⟩ => ⟨S1x16, .f32⟩
  | .local _ .vmem, ⟨12, _⟩ => ⟨S1024x1024, .f32⟩
  | .local _ .vmem, ⟨13, _⟩ => ⟨S1x256x1024, .f32⟩
  | .local _ .vmem, ⟨14, _⟩ => ⟨S1x256x1024, .f32⟩
  | .local _ .vmem, ⟨15, _⟩ => ⟨S8x2x128x512, .f32⟩
  | .local _ .vmem, ⟨16, _⟩ => ⟨S8x256x512, .bf16⟩
  | .local _ .vmem, ⟨17, _⟩ => ⟨S1024x256, .f32⟩
  | _, _ => ⟨S16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnCtxIdeal.lean ====
variable {F : FTy → Type} [FloatOps F] [Named F]
def κ : String → Option EReal := fun
  | "log2e" => some (((Real.log 2)⁻¹ : ℝ) : EReal)
  | _ => none
-- ==== AttnCtxRef.lean ====
abbrev S16x256x1024 : Shape := ⟨3, ![16, 256, 1024]⟩
abbrev S8x3x1024 : Shape := ⟨3, ![8, 3, 1024]⟩
abbrev S16x256x256 : Shape := ⟨3, ![16, 256, 256]⟩
abbrev S16 : Shape := ⟨1, ![16]⟩
abbrev S1024x1024 : Shape := ⟨2, ![1024, 1024]⟩
abbrev S16x256x4x4x64 : Shape := ⟨5, ![16, 256, 4, 4, 64]⟩
abbrev S16x256x4x64 : Shape := ⟨4, ![16, 256, 4, 64]⟩
abbrev S16x4x64x256 : Shape := ⟨4, ![16, 4, 64, 256]⟩
abbrev S16x4x256x256x4 : Shape := ⟨5, ![16, 4, 256, 256, 4]⟩
abbrev S16x4x4x256x256 : Shape := ⟨5, ![16, 4, 4, 256, 256]⟩
abbrev S_ : Shape := ⟨0, ![]⟩
abbrev S1x4x4x1 : Shape := ⟨4, ![1, 4, 4, 1]⟩
abbrev S16x4x4x256 : Shape := ⟨4, ![16, 4, 4, 256]⟩
abbrev S16x4x4x256x1 : Shape := ⟨5, ![16, 4, 4, 256, 1]⟩
abbrev S16x4x64x4x256 : Shape := ⟨5, ![16, 4, 64, 4, 256]⟩
abbrev S16x256x4x4 : Shape := ⟨4, ![16, 256, 4, 4]⟩
abbrev S16x256x4x4x1 : Shape := ⟨5, ![16, 256, 4, 4, 1]⟩
abbrev S1x1x1024 : Shape := ⟨3, ![1, 1, 1024]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .bf16⟩
  | .hbm, ⟨2, _⟩ => ⟨S16x256x1024, .f32⟩
  | .hbm, ⟨3, _⟩ => ⟨S8x3x1024, .f32⟩
  | .hbm, ⟨4, _⟩ => ⟨S16x256x256, .f32⟩
  | .hbm, ⟨5, _⟩ => ⟨S16x256x256, .bf16⟩
  | .hbm, ⟨6, _⟩ => ⟨S16, .f32⟩
  | .hbm, ⟨7, _⟩ => ⟨S1024x1024, .f32⟩
  | .hbm, ⟨8, _⟩ => ⟨S16x256x1024, .f32⟩
  | .hbm, ⟨9, _⟩ => ⟨S16x256x4x4x64, .f32⟩
  | .hbm, ⟨10, _⟩ => ⟨S16x256x4x64, .f32⟩
  | .hbm, ⟨11, _⟩ => ⟨S16x256x256, .f32⟩
  | .hbm, ⟨12, _⟩ => ⟨S16x4x64x256, .f32⟩
  | .hbm, ⟨13, _⟩ => ⟨S16x4x256x256x4, .f32⟩
  | .hbm, ⟨14, _⟩ => ⟨S16x4x4x256x256, .f32⟩
  | .hbm, ⟨15, _⟩ => ⟨S_, .f32⟩
  | .hbm, ⟨16, _⟩ => ⟨S_, .f32⟩
  | .hbm, ⟨17, _⟩ => ⟨S16x4x4x256x256, .f32⟩
  | .hbm, ⟨18, _⟩ => ⟨S16x4x4x256x256, .f32⟩
  | .hbm, ⟨19, _⟩ => ⟨S1x4x4x1, .f32⟩
  | .hbm, ⟨20, _⟩ => ⟨S_, .f32⟩
  | .hbm, ⟨21, _⟩ => ⟨S16x4x4x256, .f32⟩
  | .hbm, ⟨22, _⟩ => ⟨S16x4x4x256, .f32⟩
  | .hbm, ⟨23, _⟩ => ⟨S16x4x4x256, .f32⟩
  | .hbm, ⟨24, _⟩ => ⟨S16x4x4x256x1, .f32⟩
  | .hbm, ⟨25, _⟩ => ⟨S16x4x4x256x256, .f32⟩
  | .hbm, ⟨26, _⟩ => ⟨S16x4x4x256x256, .f32⟩
  | .hbm, ⟨27, _⟩ => ⟨S16x4x4x256x256, .f32⟩
  | .hbm, ⟨28, _⟩ => ⟨S_, .f32⟩
  | .hbm, ⟨29, _⟩ => ⟨S16x4x4x256, .f32⟩
  | .hbm, ⟨30, _⟩ => ⟨S16x4x4x256, .f32⟩
  | .hbm, ⟨31, _⟩ => ⟨S16x4x4x256, .f32⟩
  | .hbm, ⟨32, _⟩ => ⟨S16x4x4x256, .f32⟩
  | .hbm, ⟨33, _⟩ => ⟨S16x4x4x256, .f32⟩
  | .hbm, ⟨34, _⟩ => ⟨S16x4x64x4x256, .f32⟩
  | .hbm, ⟨35, _⟩ => ⟨S16x256x4x4x64, .f32⟩
  | .hbm, ⟨36, _⟩ => ⟨S16x256x4x4, .f32⟩
  | .hbm, ⟨37, _⟩ => ⟨S16x256x4x4x1, .f32⟩
  | .hbm, ⟨38, _⟩ => ⟨S16x256x4x4x64, .f32⟩
  | .hbm, ⟨39, _⟩ => ⟨S16x256x4x4x64, .f32⟩
  | .hbm, ⟨40, _⟩ => ⟨S1x1x1024, .f32⟩
  | .hbm, ⟨41, _⟩ => ⟨S1x1024, .f32⟩
  | .hbm, ⟨42, _⟩ => ⟨S1x1x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S16x256x1024, .f32⟩
  | .hbm, ⟨47, _⟩ => ⟨S16x256x1024, .f32⟩
  | .hbm, ⟨48, _⟩ => ⟨S16x256x1024, .f32⟩
  | .hbm, ⟨49, _⟩ => ⟨S16x256x1024, .f32⟩
  | _, _ => ⟨S16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== AttnIn.lean ====
abbrev S16x256x1024 : Shape := ⟨3, ![16, 256, 1024]⟩
abbrev S8x3x1024 : Shape := ⟨3, ![8, 3, 1024]⟩
abbrev S1024 : Shape := ⟨1, ![1024]⟩
abbrev S1024x2560 : Shape := ⟨2, ![1024, 2560]⟩
abbrev S1024x256 : Shape := ⟨2, ![1024, 256]⟩
abbrev S256x1024 : Shape := ⟨2, ![256, 1024]⟩
abbrev S1x1024 : Shape := ⟨2, ![1, 1024]⟩
abbrev S16x256x256 : Shape := ⟨3, ![16, 256, 256]⟩
abbrev S4x256x1024 : Shape := ⟨3, ![4, 256, 1024]⟩
abbrev S1x3x1024 : Shape := ⟨3, ![1, 3, 1024]⟩
abbrev S4x256x256 : Shape := ⟨3, ![4, 256, 256]⟩
abbrev S1024x1024 : Shape := ⟨2, ![1024, 1024]⟩
abbrev S3x1024 : Shape := ⟨2, ![3, 1024]⟩
abbrev S1024x1 : Shape := ⟨2, ![1024, 1]⟩
abbrev S256x256 : Shape := ⟨2, ![256, 256]⟩
abbrev S1x256x256 : Shape := ⟨3, ![1, 256, 256]⟩

abbrev nBuf : Space → Nat
  | .hbm => 12
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S8x3x1024, .f32⟩
  | .hbm, ⟨2, _⟩ => ⟨S1024, .f32⟩
  | .hbm, ⟨3, _⟩ => ⟨S1024x2560, .f32⟩
  | .hbm, ⟨4, _⟩ => ⟨S1024x256, .f32⟩
  | .hbm, ⟨5, _⟩ => ⟨S256x1024, .f32⟩
  | .hbm, ⟨6, _⟩ => ⟨S1x1024, .f32⟩
  | .hbm, ⟨7, _⟩ => ⟨S16x256x1024, .bf16⟩
  | .hbm, ⟨8, _⟩ => ⟨S16x256x1024, .bf16⟩
  | .hbm, ⟨9, _⟩ => ⟨S16x256x256, .f32⟩
  | .hbm, ⟨10, _⟩ => ⟨S16x256x256, .bf16⟩
  | .hbm, ⟨11, _⟩ => ⟨S16x256x256, .f32⟩
  | .local _ .vmem, ⟨0, _⟩ => ⟨S4x256x1024, .f32⟩
  | .local _ .vmem, ⟨1, _⟩ => ⟨S4x256x1024, .f32⟩
  | .local _ .vmem, ⟨2, _⟩ => ⟨S1x3x1024, .f32⟩
  | .local _ .vmem, ⟨3, _⟩ => ⟨S1x1024, .f32⟩
  | .local _ .vmem, ⟨4, _⟩ => ⟨S1024x2560, .f32⟩
  | .local _ .vmem, ⟨5, _⟩ => ⟨S256x1024, .f32⟩
  | .local _ .vmem, ⟨6, _⟩ => ⟨S4x256x1024, .bf16⟩
  | .local _ .vmem, ⟨7, _⟩ => ⟨S4x256x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S4x256x256, .f32⟩
  | .local _ .vmem, ⟨11, _⟩ => ⟨S4x256x256, .f32⟩
  | .local _ .vmem, ⟨12, _⟩ => ⟨S4x256x256, .bf16⟩
  | .local _ .vmem, ⟨13, _⟩ => ⟨S4x256x256, .bf16⟩
  | .local _ .vmem, ⟨14, _⟩ => ⟨S4x256x256, .f32⟩
  | .local _ .vmem, ⟨15, _⟩ => ⟨S4x256x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnInIdeal.lean ====
variable {F : FTy → Type} [FloatOps F] [Named F]
def κ : String → Option EReal := fun
  | "qscale" => some (((8 * (Real.log 2))⁻¹ : ℝ) : EReal)
  | _ => none
-- ==== AttnInRef.lean ====
abbrev S16x256x1024 : Shape := ⟨3, ![16, 256, 1024]⟩
abbrev S8x3x1024 : Shape := ⟨3, ![8, 3, 1024]⟩
abbrev S1024 : Shape := ⟨1, ![1024]⟩
abbrev S1024x2560 : Shape := ⟨2, ![1024, 2560]⟩
abbrev S1x3x1024 : Shape := ⟨3, ![1, 3, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024 : Shape := ⟨2, ![1, 1024]⟩
abbrev S16x256x2560 : Shape := ⟨3, ![16, 256, 2560]⟩
abbrev S16x256x256 : Shape := ⟨3, ![16, 256, 256]⟩

abbrev nBuf : Space → Nat
  | .hbm => 59
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S8x3x1024, .f32⟩
  | .hbm, ⟨2, _⟩ => ⟨S1024, .f32⟩
  | .hbm, ⟨3, _⟩ => ⟨S1024x2560, .f32⟩
  | .hbm, ⟨4, _⟩ => ⟨S1x3x1024, .f32⟩
  | .hbm, ⟨5, _⟩ => ⟨S16x256x1024, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S16x256x1, .f32⟩
  | .hbm, ⟨16, _⟩ => ⟨S16x256x1024, .f32⟩
  | .hbm, ⟨17, _⟩ => ⟨S16x256x1024, .f32⟩
  | .hbm, ⟨18, _⟩ => ⟨S1x1x1024, .f32⟩
  | .hbm, ⟨19, _⟩ => ⟨S16x256x1024, .f32⟩
  | .hbm, ⟨20, _⟩ => ⟨S16x256x1024, .f32⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S1x1x1024, .f32⟩
  | .hbm, ⟨30, _⟩ => ⟨S1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x2560, .f32⟩
  | .hbm, ⟨35, _⟩ => ⟨S16x256x1024, .f32⟩
  | .hbm, ⟨36, _⟩ => ⟨S_, .f32⟩
  | .hbm, ⟨37, _⟩ => ⟨S16x256x1024, .f32⟩
  | .hbm, ⟨38, _⟩ => ⟨S16x256x1024, .f32⟩
  | .hbm, ⟨39, _⟩ => ⟨S_, .f32⟩
  | .hbm, ⟨40, _⟩ => ⟨S_, .f32⟩
  | .hbm, ⟨41, _⟩ => ⟨S16x256x1024, .f32⟩
  | .hbm, ⟨42, _⟩ => ⟨S16x256x1024, .f32⟩
  | .hbm, ⟨43, _⟩ => ⟨S16x256x1024, .f32⟩
  | .hbm, ⟨44, _⟩ => ⟨S16x256x256, .f32⟩
  | .hbm, ⟨45, _⟩ => ⟨S16x256x256, .f32⟩
  | .hbm, ⟨46, _⟩ => ⟨S16x256x1024, .bf16⟩
  | .hbm, ⟨47, _⟩ => ⟨S16x256x1024, .f32⟩
  | .hbm, ⟨48, _⟩ => ⟨S16x256x1024, .f32⟩
  | .hbm, ⟨49, _⟩ => ⟨S_, .f32⟩
  | .hbm, ⟨50, _⟩ => ⟨S16x256x1024, .f32⟩
  | .hbm, ⟨51, _⟩ => ⟨S16x256x1024, .f32⟩
  | .hbm, ⟨52, _⟩ => ⟨S_, .f32⟩
  | .hbm, ⟨53, _⟩ => ⟨S16x256x1024, .f32⟩
  | .hbm, ⟨54, _⟩ => ⟨S16x256x1024, .f32⟩
  | .hbm, ⟨55, _⟩ => ⟨S16x256x1024, .f32⟩
  | .hbm, ⟨56, _⟩ => ⟨S16x256x1024, .bf16⟩
  | .hbm, ⟨57, _⟩ => ⟨S16x256x256, .f32⟩
  | .hbm, ⟨58, _⟩ => ⟨S16x256x256, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== AttnInRope.lean ====
abbrev S4x4096x1024 : Shape := ⟨3, ![4, 4096, 1024]⟩
abbrev S8x3x1024 : Shape := ⟨3, ![8, 3, 1024]⟩
abbrev S1024 : Shape := ⟨1, ![1024]⟩
abbrev S1024x2560 : Shape := ⟨2, ![1024, 2560]⟩
abbrev S1024x256 : Shape := ⟨2, ![1024, 256]⟩
abbrev S256x1024 : Shape := ⟨2, ![256, 1024]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S4x4096x256 : Shape := ⟨3, ![4, 4096, 256]⟩
abbrev S4x256x4096 : Shape := ⟨3, ![4, 256, 4096]⟩
abbrev S1x1024x1024 : Shape := ⟨3, ![1, 1024, 1024]⟩
abbrev S1x3x1024 : Shape := ⟨3, ![1, 3, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x1024 : Shape := ⟨2, ![1024, 1024]⟩
abbrev S3x1024 : Shape := ⟨2, ![3, 1024]⟩
abbrev S1024x1 : Shape := ⟨2, ![1024, 1]⟩

abbrev nBuf : Space → Nat
  | .hbm => 90
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S8x3x1024, .f32⟩
  | .hbm, ⟨2, _⟩ => ⟨S1024, .f32⟩
  | .hbm, ⟨3, _⟩ => ⟨S1024x2560, .f32⟩
  | .hbm, ⟨4, _⟩ => ⟨S1024x256, .f32⟩
  | .hbm, ⟨5, _⟩ => ⟨S256x1024, .f32⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S_, .i1⟩
  | .hbm, ⟨42, _⟩ => ⟨S4096, .i1⟩
  | .hbm, ⟨43, _⟩ => ⟨S4096, .i1⟩
  | .hbm, ⟨44, _⟩ => ⟨S4096, .i1⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S4096x1, .f32⟩
  | .hbm, ⟨58, _⟩ => ⟨S1x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x1, .f32⟩
  | .hbm, ⟨63, _⟩ => ⟨S1x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x64, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S4096x16, .f32⟩
  | .hbm, ⟨78, _⟩ => ⟨S4096x64, .f32⟩
  | .hbm, ⟨79, _⟩ => ⟨S1x4096x1x64, .f32⟩
  | .hbm, ⟨80, _⟩ => ⟨S1x4096x2x64, .f32⟩
  | .hbm, ⟨81, _⟩ => ⟨S4096x128, .f32⟩
  | .hbm, ⟨82, _⟩ => ⟨S1x4096x1x64, .f32⟩
  | .hbm, ⟨83, _⟩ => ⟨S1x4096x2x64, .f32⟩
  | .hbm, ⟨84, _⟩ => ⟨S4096x128, .f32⟩
  | .hbm, ⟨85, _⟩ => ⟨S1x1024, .f32⟩
  | .hbm, ⟨86, _⟩ => ⟨S4x4096x1024, .bf16⟩
  | .hbm, ⟨87, _⟩ => ⟨S4x4096x1024, .bf16⟩
  | .hbm, ⟨88, _⟩ => ⟨S4x4096x256, .bf16⟩
  | .hbm, ⟨89, _⟩ => ⟨S4x256x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x2560, .f32⟩
  | .local _ .vmem, ⟨6, _⟩ => ⟨S256x1024, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x256x1024, .bf16⟩
  | .local _ .vmem, ⟨18, _⟩ => ⟨S1x256x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42_0 : Ref sig .tc := ⟨.hbm, 86, rfl⟩
abbrev main_v42_1 : Ref sig .tc := ⟨.hbm, 87, rfl⟩
abbrev main_v42_2 : Ref sig .tc := ⟨.hbm, 88, rfl⟩
abbrev main_v42_3 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnInRopeIdeal.lean ====
variable {F : FTy → Type} [FloatOps F] [Named F]
def κ : String → Option EReal := fun
  | "qscale" => some (((8 * (Real.log 2))⁻¹ : ℝ) : EReal)
  | _ => none
-- ==== AttnInRopeRef.lean ====
abbrev S4x4096x1024 : Shape := ⟨3, ![4, 4096, 1024]⟩
abbrev S8x3x1024 : Shape := ⟨3, ![8, 3, 1024]⟩
abbrev S1024 : Shape := ⟨1, ![1024]⟩
abbrev S1024x2560 : Shape := ⟨2, ![1024, 2560]⟩
abbrev S4x3x1024 : Shape := ⟨3, ![4, 3, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x4096x2560 : Shape := ⟨3, ![4, 4096, 2560]⟩
abbrev S4x4096x16x64 : Shape := ⟨4, ![4, 4096, 16, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4x4096x16x32 : Shape := ⟨4, ![4, 4096, 16, 32]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x16x16 : Shape := ⟨4, ![4, 4096, 16, 16]⟩
abbrev S4x4096x256 : Shape := ⟨3, ![4, 4096, 256]⟩
abbrev S4x4096x4x64 : Shape := ⟨4, ![4, 4096, 4, 64]⟩
abbrev S4x4096x4x32 : Shape := ⟨4, ![4, 4096, 4, 32]⟩
abbrev S4x4096x4x16 : Shape := ⟨4, ![4, 4096, 4, 16]⟩
abbrev S4x256x4096 : Shape := ⟨3, ![4, 256, 4096]⟩

abbrev nBuf : Space → Nat
  | .hbm => 188
  | .vmem => 0
  | .smem => 0
  | _ => 0

abbrev hbmTy0_0 (i : Nat) : BufTy := match i % 128 with
  | 0 => ⟨S4x4096x1024, .f32⟩
  | 1 => ⟨S8x3x1024, .f32⟩
  | 2 => ⟨S1024, .f32⟩
  | 3 => ⟨S1024x2560, .f32⟩
  | 4 => ⟨S4x3x1024, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x1x1024, .f32⟩
  | 22 => ⟨S4x1024, .f32⟩
  | 23 => ⟨S4x1x1024, .f32⟩
  | 24 => ⟨S_, .f32⟩
  | 25 => ⟨S4x1x1024, .f32⟩
  | 26 => ⟨S4x1x1024, .f32⟩
  | 27 => ⟨S4x4096x1024, .f32⟩
  | 28 => ⟨S4x4096x1024, .f32⟩
  | 29 => ⟨S4x1x1024, .f32⟩
  | 30 => ⟨S4x1024, .f32⟩
  | 31 => ⟨S4x1x1024, .f32⟩
  | 32 => ⟨S4x4096x1024, .f32⟩
  | 33 => ⟨S4x4096x1024, .f32⟩
  | 34 => ⟨S4x4096x2560, .f32⟩
  | 35 => ⟨S4x4096x1024, .f32⟩
  | 36 => ⟨S4x4096x16x64, .f32⟩
  | 37 => ⟨S64, .i32⟩
  | 38 => ⟨S64x64, .i32⟩
  | 39 => ⟨S4096, .i32⟩
  | 40 => ⟨S4096, .f32⟩
  | 41 => ⟨S64, .i32⟩
  | 42 => ⟨S1x64, .i32⟩
  | 43 => ⟨S64x64, .i32⟩
  | 44 => ⟨S4096, .i32⟩
  | 45 => ⟨S4096, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S4x4096x16x32, .f32⟩
  | 55 => ⟨S4096x1, .f32⟩
  | 56 => ⟨S1x16, .f32⟩
  | 57 => ⟨S4096x16, .f32⟩
  | 58 => ⟨S4096x16, .f32⟩
  | 59 => ⟨S4096x16, .f32⟩
  | 60 => ⟨S1x4096x1x16, .f32⟩
  | 61 => ⟨S1x4096x1x16, .f32⟩
  | 62 => ⟨S1x4096x1x16, .f32⟩
  | 63 => ⟨S4x4096x16x16, .f32⟩
  | 64 => ⟨S4x4096x16x16, .f32⟩
  | 65 => ⟨S4x4096x16x16, .f32⟩
  | 66 => ⟨S4x4096x16x16, .f32⟩
  | 67 => ⟨S4x4096x16x16, .f32⟩
  | 68 => ⟨S4x4096x16x16, .f32⟩
  | 69 => ⟨S4x4096x16x16, .f32⟩
  | 70 => ⟨S4x4096x16x16, .f32⟩
  | 71 => ⟨S4x4096x16x16, .f32⟩
  | 72 => ⟨S4x4096x16x16, .f32⟩
  | 73 => ⟨S4x4096x16x16, .f32⟩
  | 74 => ⟨S4x4096x16x16, .f32⟩
  | 75 => ⟨S4x4096x16x32, .f32⟩
  | 76 => ⟨S4x4096x16x32, .f32⟩
  | 77 => ⟨S4096x1, .f32⟩
  | 78 => ⟨S1x16, .f32⟩
  | 79 => ⟨S4096x16, .f32⟩
  | 80 => ⟨S4096x16, .f32⟩
  | 81 => ⟨S4096x16, .f32⟩
  | 82 => ⟨S1x4096x1x16, .f32⟩
  | 83 => ⟨S1x4096x1x16, .f32⟩
  | 84 => ⟨S1x4096x1x16, .f32⟩
  | 85 => ⟨S4x4096x16x16, .f32⟩
  | 86 => ⟨S4x4096x16x16, .f32⟩
  | 87 => ⟨S4x4096x16x16, .f32⟩
  | 88 => ⟨S4x4096x16x16, .f32⟩
  | 89 => ⟨S4x4096x16x16, .f32⟩
  | 90 => ⟨S4x4096x16x16, .f32⟩
  | 91 => ⟨S4x4096x16x16, .f32⟩
  | 92 => ⟨S4x4096x16x16, .f32⟩
  | 93 => ⟨S4x4096x16x16, .f32⟩
  | 94 => ⟨S4x4096x16x16, .f32⟩
  | 95 => ⟨S4x4096x16x16, .f32⟩
  | 96 => ⟨S4x4096x16x16, .f32⟩
  | 97 => ⟨S4x4096x16x32, .f32⟩
  | 98 => ⟨S4x4096x16x64, .f32⟩
  | 99 => ⟨S4x4096x1024, .f32⟩
  | 100 => ⟨S_, .f32⟩
  | 101 => ⟨S4x4096x1024, .f32⟩
  | 102 => ⟨S4x4096x1024, .f32⟩
  | 103 => ⟨S_, .f32⟩
  | 104 => ⟨S_, .f32⟩
  | 105 => ⟨S4x4096x1024, .f32⟩
  | 106 => ⟨S4x4096x1024, .f32⟩
  | 107 => ⟨S4x4096x1024, .f32⟩
  | 108 => ⟨S4x4096x256, .f32⟩
  | 109 => ⟨S4x4096x4x64, .f32⟩
  | 110 => ⟨S64, .i32⟩
  | 111 => ⟨S64x64, .i32⟩
  | 112 => ⟨S4096, .i32⟩
  | 113 => ⟨S4096, .f32⟩
  | 114 => ⟨S64, .i32⟩
  | 115 => ⟨S1x64, .i32⟩
  | 116 => ⟨S64x64, .i32⟩
  | 117 => ⟨S4096, .i32⟩
  | 118 => ⟨S4096, .f32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S4x4096x4x32, .f32⟩
  | _ => ⟨S4x4096x1024, .f32⟩

abbrev hbmTy0_1 (i : Nat) : BufTy := match i % 128 with
  | 0 => ⟨S4096x1, .f32⟩
  | 1 => ⟨S1x16, .f32⟩
  | 2 => ⟨S4096x16, .f32⟩
  | 3 => ⟨S4096x16, .f32⟩
  | 4 => ⟨S4096x16, .f32⟩
  | 5 => ⟨S1x4096x1x16, .f32⟩
  | 6 => ⟨S1x4096x1x16, .f32⟩
  | 7 => ⟨S1x4096x1x16, .f32⟩
  | 8 => ⟨S4x4096x4x16, .f32⟩
  | 9 => ⟨S4x4096x4x16, .f32⟩
  | 10 => ⟨S4x4096x4x16, .f32⟩
  | 11 => ⟨S4x4096x4x16, .f32⟩
  | 12 => ⟨S4x4096x4x16, .f32⟩
  | 13 => ⟨S4x4096x4x16, .f32⟩
  | 14 => ⟨S4x4096x4x16, .f32⟩
  | 15 => ⟨S4x4096x4x16, .f32⟩
  | 16 => ⟨S4x4096x4x16, .f32⟩
  | 17 => ⟨S4x4096x4x16, .f32⟩
  | 18 => ⟨S4x4096x4x16, .f32⟩
  | 19 => ⟨S4x4096x4x16, .f32⟩
  | 20 => ⟨S4x4096x4x32, .f32⟩
  | 21 => ⟨S4x4096x4x32, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S1x4096x1x16, .f32⟩
  | 28 => ⟨S1x4096x1x16, .f32⟩
  | 29 => ⟨S1x4096x1x16, .f32⟩
  | 30 => ⟨S4x4096x4x16, .f32⟩
  | 31 => ⟨S4x4096x4x16, .f32⟩
  | 32 => ⟨S4x4096x4x16, .f32⟩
  | 33 => ⟨S4x4096x4x16, .f32⟩
  | 34 => ⟨S4x4096x4x16, .f32⟩
  | 35 => ⟨S4x4096x4x16, .f32⟩
  | 36 => ⟨S4x4096x4x16, .f32⟩
  | 37 => ⟨S4x4096x4x16, .f32⟩
  | 38 => ⟨S4x4096x4x16, .f32⟩
  | 39 => ⟨S4x4096x4x16, .f32⟩
  | 40 => ⟨S4x4096x4x16, .f32⟩
  | 41 => ⟨S4x4096x4x16, .f32⟩
  | 42 => ⟨S4x4096x4x32, .f32⟩
  | 43 => ⟨S4x4096x4x64, .f32⟩
  | 44 => ⟨S4x4096x256, .f32⟩
  | 45 => ⟨S4x4096x256, .f32⟩
  | 46 => ⟨S4x4096x1024, .bf16⟩
  | 47 => ⟨S4x4096x1024, .f32⟩
  | 48 => ⟨S4x4096x1024, .f32⟩
  | 49 => ⟨S_, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S4x4096x1024, .f32⟩
  | 56 => ⟨S4x4096x1024, .bf16⟩
  | 57 => ⟨S4x4096x256, .bf16⟩
  | 58 => ⟨S4x256x4096, .f32⟩
  | 59 => ⟨S4x256x4096, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_5 : Ref sig .tc := ⟨.hbm, 100, rfl⟩
abbrev main_v90 : Ref sig .tc := ⟨.hbm, 101, rfl⟩
abbrev main_v91 : Ref sig .tc := ⟨.hbm, 102, rfl⟩
abbrev main_cst_6 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_cst_7 : Ref sig .tc := ⟨.hbm, 121, rfl⟩
abbrev main_v109 : Ref sig .tc := ⟨.hbm, 122, rfl⟩
abbrev main_v110 : Ref sig .tc := ⟨.hbm, 123, rfl⟩
abbrev main_cst_8 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_call0_v0 : Ref sig .tc := ⟨.hbm, 175, rfl⟩
abbrev main_call0_v1 : Ref sig .tc := ⟨.hbm, 176, rfl⟩
abbrev main_call0_cst : Ref sig .tc := ⟨.hbm, 177, rfl⟩
abbrev main_call0_v2 : Ref sig .tc := ⟨.hbm, 178, rfl⟩
abbrev main_call0_v3 : Ref sig .tc := ⟨.hbm, 179, rfl⟩
abbrev main_call0_cst_0 : Ref sig .tc := ⟨.hbm, 180, rfl⟩
abbrev main_call0_v4 : Ref sig .tc := ⟨.hbm, 181, rfl⟩
abbrev main_call0_v5 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩

abbrev nD : Nat := 1
abbrev τ : Topo := Topo.v7x

variable {F : FTy → Type} [FloatOps F]
-- ==== MlstmIn.lean ====
abbrev S4x4096x1024 : Shape := ⟨3, ![4, 4096, 1024]⟩
abbrev S8x3x1024 : Shape := ⟨3, ![8, 3, 1024]⟩
abbrev S1024 : Shape := ⟨1, ![1024]⟩
abbrev S1024x5152 : Shape := ⟨2, ![1024, 5152]⟩
abbrev S32 : Shape := ⟨1, ![32]⟩
abbrev S5152x1024 : Shape := ⟨2, ![5152, 1024]⟩
abbrev S1x1024 : Shape := ⟨2, ![1, 1024]⟩
abbrev S32x1 : Shape := ⟨2, ![32, 1]⟩
abbrev S4x16x1024x256 : Shape := ⟨4, ![4, 16, 1024, 256]⟩
abbrev S4x2x4096x8 : Shape := ⟨4, ![4, 2, 4096, 8]⟩
abbrev S4x2x16x40x256 : Shape := ⟨5, ![4, 2, 16, 40, 256]⟩
abbrev S1x1024x1024 : Shape := ⟨3, ![1, 1024, 1024]⟩
abbrev S1x3x1024 : Shape := ⟨3, ![1, 3, 1024]⟩
abbrev S1x4x1024x256 : Shape := ⟨4, ![1, 4, 1024, 256]⟩
abbrev S1x2x1024x8 : Shape := ⟨4, ![1, 2, 1024, 8]⟩
abbrev S1x2x4x40x256 : Shape := ⟨5, ![1, 2, 4, 40, 256]⟩
abbrev S1024x1024 : Shape := ⟨2, ![1024, 1024]⟩
abbrev S3x1024 : Shape := ⟨2, ![3, 1024]⟩
abbrev S1024x1 : Shape := ⟨2, ![1024, 1]⟩
abbrev S32x1024 : Shape := ⟨2, ![32, 1024]⟩
abbrev S256x256 : Shape := ⟨2, ![256, 256]⟩
abbrev S32x256 : Shape := ⟨2, ![32, 256]⟩
abbrev S8x1024 : Shape := ⟨2, ![8, 1024]⟩
abbrev S8x256 : Shape := ⟨2, ![8, 256]⟩
abbrev S8 : Shape := ⟨1, ![8]⟩
abbrev S8x1 : Shape := ⟨2, ![8, 1]⟩
abbrev S40x256 : Shape := ⟨2, ![40, 256]⟩
abbrev S1x1x1x40x256 : Shape := ⟨5, ![1, 1, 1, 40, 256]⟩
abbrev S192x256 : Shape := ⟨2, ![192, 256]⟩
abbrev S256x8 : Shape := ⟨2, ![256, 8]⟩
abbrev S1x1x256x8 : Shape := ⟨4, ![1, 1, 256, 8]⟩
abbrev S1024x256 : Shape := ⟨2, ![1024, 256]⟩
abbrev S1x1x1024x256 : Shape := ⟨4, ![1, 1, 1024, 256]⟩

abbrev nBuf : Space → Nat
  | .hbm => 14
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S8x3x1024, .f32⟩
  | .hbm, ⟨2, _⟩ => ⟨S1024, .f32⟩
  | .hbm, ⟨3, _⟩ => ⟨S1024x5152, .f32⟩
  | .hbm, ⟨4, _⟩ => ⟨S32, .f32⟩
  | .hbm, ⟨5, _⟩ => ⟨S5152x1024, .f32⟩
  | .hbm, ⟨6, _⟩ => ⟨S1x1024, .f32⟩
  | .hbm, ⟨7, _⟩ => ⟨S32x1, .f32⟩
  | .hbm, ⟨8, _⟩ => ⟨S4x4096x1024, .bf16⟩
  | .hbm, ⟨9, _⟩ => ⟨S4x4096x1024, .bf16⟩
  | .hbm, ⟨10, _⟩ => ⟨S4x16x1024x256, .bf16⟩
  | .hbm, ⟨11, _⟩ => ⟨S4x4096x1024, .bf16⟩
  | .hbm, ⟨12, _⟩ => ⟨S4x2x4096x8, .f32⟩
  | .hbm, ⟨13, _⟩ => ⟨S4x2x16x40x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S5152x1024, .f32⟩
  | .local _ .vmem, ⟨6, _⟩ => ⟨S32x1, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x4x1024x256, .bf16⟩
  | .local _ .vmem, ⟨12, _⟩ => ⟨S1x4x1024x256, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x2x1024x8, .f32⟩
  | .local _ .vmem, ⟨16, _⟩ => ⟨S1x2x1024x8, .f32⟩
  | .local _ .vmem, ⟨17, _⟩ => ⟨S1x2x4x40x256, .f32⟩
  | .local _ .vmem, ⟨18, _⟩ => ⟨S1x2x4x40x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5152x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1024x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x4x40x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MlstmInRef.lean ====
abbrev S4x4096x1024 : Shape := ⟨3, ![4, 4096, 1024]⟩
abbrev S8x3x1024 : Shape := ⟨3, ![8, 3, 1024]⟩
abbrev S1024 : Shape := ⟨1, ![1024]⟩
abbrev S1024x5152 : Shape := ⟨2, ![1024, 5152]⟩
abbrev S32 : Shape := ⟨1, ![32]⟩
abbrev S4x3x1024 : Shape := ⟨3, ![4, 3, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x4096x5152 : Shape := ⟨3, ![4, 4096, 5152]⟩
abbrev S4x16x256x1024 : Shape := ⟨4, ![4, 16, 256, 1024]⟩
abbrev S4x16x1024x256 : Shape := ⟨4, ![4, 16, 1024, 256]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x3x1024, .f32⟩
  | .hbm, ⟨2, _⟩ => ⟨S1024, .f32⟩
  | .hbm, ⟨3, _⟩ => ⟨S1024x5152, .f32⟩
  | .hbm, ⟨4, _⟩ => ⟨S32, .f32⟩
  | .hbm, ⟨5, _⟩ => ⟨S4x3x1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x5152, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x16x256x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096x1024, .f32⟩
  | .hbm, ⟨57, _⟩ => ⟨S4x4096x1024, .f32⟩
  | .hbm, ⟨58, _⟩ => ⟨S_, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .bf16⟩
  | .hbm, ⟨64, _⟩ => ⟨S4x4096x1024, .bf16⟩
  | .hbm, ⟨65, _⟩ => ⟨S4x16x1024x256, .f32⟩
  | .hbm, ⟨66, _⟩ => ⟨S4x16x1024x256, .bf16⟩
  | .hbm, ⟨67, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== MlstmInCtx.lean ====
abbrev S16x256x1024 : Shape := ⟨3, ![16, 256, 1024]⟩
abbrev S8x3x1024 : Shape := ⟨3, ![8, 3, 1024]⟩
abbrev S1024 : Shape := ⟨1, ![1024]⟩
abbrev S1024x5152 : Shape := ⟨2, ![1024, 5152]⟩
abbrev S32 : Shape := ⟨1, ![32]⟩
abbrev S5152x1024 : Shape := ⟨2, ![5152, 1024]⟩
abbrev S1x1024 : Shape := ⟨2, ![1, 1024]⟩
abbrev S32x1 : Shape := ⟨2, ![32, 1]⟩
abbrev S16x1x1024x256 : Shape := ⟨4, ![16, 1, 1024, 256]⟩
abbrev S16x2x256x8 : Shape := ⟨4, ![16, 2, 256, 8]⟩
abbrev S16x2x1x40x256 : Shape := ⟨5, ![16, 2, 1, 40, 256]⟩
abbrev S4x256x1024 : Shape := ⟨3, ![4, 256, 1024]⟩
abbrev S1x3x1024 : Shape := ⟨3, ![1, 3, 1024]⟩
abbrev S4x1x1024x256 : Shape := ⟨4, ![4, 1, 1024, 256]⟩
abbrev S4x2x256x8 : Shape := ⟨4, ![4, 2, 256, 8]⟩
abbrev S4x2x1x40x256 : Shape := ⟨5, ![4, 2, 1, 40, 256]⟩
abbrev S1024x1024 : Shape := ⟨2, ![1024, 1024]⟩
abbrev S3x1024 : Shape := ⟨2, ![3, 1024]⟩
abbrev S1024x1 : Shape := ⟨2, ![1024, 1]⟩
abbrev S32x1024 : Shape := ⟨2, ![32, 1024]⟩
abbrev S256x256 : Shape := ⟨2, ![256, 256]⟩
abbrev S32x256 : Shape := ⟨2, ![32, 256]⟩
abbrev S8x1024 : Shape := ⟨2, ![8, 1024]⟩
abbrev S8x256 : Shape := ⟨2, ![8, 256]⟩
abbrev S8 : Shape := ⟨1, ![8]⟩
abbrev S8x1 : Shape := ⟨2, ![8, 1]⟩
abbrev S40x256 : Shape := ⟨2, ![40, 256]⟩
abbrev S1x1x1x40x256 : Shape := ⟨5, ![1, 1, 1, 40, 256]⟩
abbrev S192x256 : Shape := ⟨2, ![192, 256]⟩
abbrev S256x8 : Shape := ⟨2, ![256, 8]⟩
abbrev S1x1x256x8 : Shape := ⟨4, ![1, 1, 256, 8]⟩
abbrev S1024x256 : Shape := ⟨2, ![1024, 256]⟩
abbrev S1x1x1024x256 : Shape := ⟨4, ![1, 1, 1024, 256]⟩

abbrev nBuf : Space → Nat
  | .hbm => 14
  | .vmem => 18
  | .smem => 0
  | _ => 0

abbrev bufTy : (tb : Table) → Fin (tcTables nBuf tb) → BufTy
  | .hbm, ⟨0, _⟩ => ⟨S16x256x1024, .f32⟩
  | .hbm, ⟨1, _⟩ => ⟨S8x3x1024, .f32⟩
  | .hbm, ⟨2, _⟩ => ⟨S1024, .f32⟩
  | .hbm, ⟨3, _⟩ => ⟨S1024x5152, .f32⟩
  | .hbm, ⟨4, _⟩ => ⟨S32, .f32⟩
  | .hbm, ⟨5, _⟩ => ⟨S5152x1024, .f32⟩
  | .hbm, ⟨6, _⟩ => ⟨S1x1024, .f32⟩
  | .hbm, ⟨7, _⟩ => ⟨S32x1, .f32⟩
  | .hbm, ⟨8, _⟩ => ⟨S16x256x1024, .bf16⟩
  | .hbm, ⟨9, _⟩ => ⟨S16x256x1024, .bf16⟩
  | .hbm, ⟨10, _⟩ => ⟨S16x1x1024x256, .bf16⟩
  | .hbm, ⟨11, _⟩ => ⟨S16x256x1024, .bf16⟩
  | .hbm, ⟨12, _⟩ => ⟨S16x2x256x8, .f32⟩
  | .hbm, ⟨13, _⟩ => ⟨S16x2x1x40x256, .f32⟩
  | .local _ .vmem, ⟨0, _⟩ => ⟨S4x256x1024, .f32⟩
  | .local _ .vmem, ⟨1, _⟩ => ⟨S4x256x1024, .f32⟩
  | .local _ .vmem, ⟨2, _⟩ => ⟨S1x3x1024, .f32⟩
  | .local _ .vmem, ⟨3, _⟩ => ⟨S1x1024, .f32⟩
  | .local _ .vmem, ⟨4, _⟩ => ⟨S5152x1024, .f32⟩
  | .local _ .vmem, ⟨5, _⟩ => ⟨S32x1, .f32⟩
  | .local _ .vmem, ⟨6, _⟩ => ⟨S4x256x1024, .bf16⟩
  | .local _ .vmem, ⟨7, _⟩ => ⟨S4x256x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S4x1x1024x256, .bf16⟩
  | .local _ .vmem, ⟨11, _⟩ => ⟨S4x1x1024x256, .bf16⟩
  | .local _ .vmem, ⟨12, _⟩ => ⟨S4x256x1024, .bf16⟩
  | .local _ .vmem, ⟨13, _⟩ => ⟨S4x256x1024, .bf16⟩
  | .local _ .vmem, ⟨14, _⟩ => ⟨S4x2x256x8, .f32⟩
  | .local _ .vmem, ⟨15, _⟩ => ⟨S4x2x256x8, .f32⟩
  | .local _ .vmem, ⟨16, _⟩ => ⟨S4x2x1x40x256, .f32⟩
  | .local _ .vmem, ⟨17, _⟩ => ⟨S4x2x1x40x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5152x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x2x256x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x2x1x40x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MlstmInCtxRef.lean ====
abbrev S16x256x1024 : Shape := ⟨3, ![16, 256, 1024]⟩
abbrev S8x3x1024 : Shape := ⟨3, ![8, 3, 1024]⟩
abbrev S1024 : Shape := ⟨1, ![1024]⟩
abbrev S1024x5152 : Shape := ⟨2, ![1024, 5152]⟩
abbrev S32 : Shape := ⟨1, ![32]⟩
abbrev S1x3x1024 : Shape := ⟨3, ![1, 3, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024 : Shape := ⟨2, ![1, 1024]⟩
abbrev S16x256x5152 : Shape := ⟨3, ![16, 256, 5152]⟩
abbrev S16x1x256x1024 : Shape := ⟨4, ![16, 1, 256, 1024]⟩
abbrev S16x1x1024x256 : Shape := ⟨4, ![16, 1, 1024, 256]⟩

abbrev nBuf : Space → Nat
  | .hbm => 68
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S8x3x1024, .f32⟩
  | .hbm, ⟨2, _⟩ => ⟨S1024, .f32⟩
  | .hbm, ⟨3, _⟩ => ⟨S1024x5152, .f32⟩
  | .hbm, ⟨4, _⟩ => ⟨S32, .f32⟩
  | .hbm, ⟨5, _⟩ => ⟨S1x3x1024, .f32⟩
  | .hbm, ⟨6, _⟩ => ⟨S16x256x1024, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x1024, .f32⟩
  | .hbm, ⟨18, _⟩ => ⟨S16x256x1024, .f32⟩
  | .hbm, ⟨19, _⟩ => ⟨S1x1x1024, .f32⟩
  | .hbm, ⟨20, _⟩ => ⟨S16x256x1024, .f32⟩
  | .hbm, ⟨21, _⟩ => ⟨S16x256x1024, .f32⟩
  | .hbm, ⟨22, _⟩ => ⟨S1x1x1024, .f32⟩
  | .hbm, ⟨23, _⟩ => ⟨S1x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S16x256x1024, .f32⟩
  | .hbm, ⟨29, _⟩ => ⟨S16x256x1024, .f32⟩
  | .hbm, ⟨30, _⟩ => ⟨S1x1x1024, .f32⟩
  | .hbm, ⟨31, _⟩ => ⟨S1x1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S16x256x5152, .f32⟩
  | .hbm, ⟨36, _⟩ => ⟨S16x256x1024, .f32⟩
  | .hbm, ⟨37, _⟩ => ⟨S16x256x1024, .f32⟩
  | .hbm, ⟨38, _⟩ => ⟨S_, .f32⟩
  | .hbm, ⟨39, _⟩ => ⟨S16x256x1024, .f32⟩
  | .hbm, ⟨40, _⟩ => ⟨S16x256x1024, .f32⟩
  | .hbm, ⟨41, _⟩ => ⟨S16x256x1024, .f32⟩
  | .hbm, ⟨42, _⟩ => ⟨S16x1x256x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S16x256x1024, .f32⟩
  | .hbm, ⟨47, _⟩ => ⟨S_, .f32⟩
  | .hbm, ⟨48, _⟩ => ⟨S16x256x1024, .f32⟩
  | .hbm, ⟨49, _⟩ => ⟨S16x256x1024, .f32⟩
  | .hbm, ⟨50, _⟩ => ⟨S_, .f32⟩
  | .hbm, ⟨51, _⟩ => ⟨S16x256x1024, .f32⟩
  | .hbm, ⟨52, _⟩ => ⟨S16x256x1024, .f32⟩
  | .hbm, ⟨53, _⟩ => ⟨S16x256x1024, .f32⟩
  | .hbm, ⟨54, _⟩ => ⟨S16x256x1024, .f32⟩
  | .hbm, ⟨55, _⟩ => ⟨S_, .f32⟩
  | .hbm, ⟨56, _⟩ => ⟨S16x256x1024, .f32⟩
  | .hbm, ⟨57, _⟩ => ⟨S16x256x1024, .f32⟩
  | .hbm, ⟨58, _⟩ => ⟨S_, .f32⟩
  | .hbm, ⟨59, _⟩ => ⟨S16x256x1024, .f32⟩
  | .hbm, ⟨60, _⟩ => ⟨S16x256x1024, .f32⟩
  | .hbm, ⟨61, _⟩ => ⟨S16x256x1024, .f32⟩
  | .hbm, ⟨62, _⟩ => ⟨S16x256x1024, .f32⟩
  | .hbm, ⟨63, _⟩ => ⟨S16x256x1024, .bf16⟩
  | .hbm, ⟨64, _⟩ => ⟨S16x256x1024, .bf16⟩
  | .hbm, ⟨65, _⟩ => ⟨S16x1x1024x256, .f32⟩
  | .hbm, ⟨66, _⟩ => ⟨S16x1x1024x256, .bf16⟩
  | .hbm, ⟨67, _⟩ => ⟨S16x256x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Ada.lean ====
abbrev S4x1024 : Shape := ⟨2, ![4, 1024]⟩
abbrev S1024 : Shape := ⟨1, ![1024]⟩
abbrev S1024x3072 : Shape := ⟨2, ![1024, 3072]⟩
abbrev S3072 : Shape := ⟨1, ![3072]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x3072 : Shape := ⟨2, ![1, 3072]⟩
abbrev S8x3072 : Shape := ⟨2, ![8, 3072]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1x3072, .f32⟩
  | .hbm, ⟨9, _⟩ => ⟨S8x3072, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRef.lean ====
abbrev S4x1024 : Shape := ⟨2, ![4, 1024]⟩
abbrev S1024 : Shape := ⟨1, ![1024]⟩
abbrev S1024x3072 : Shape := ⟨2, ![1024, 3072]⟩
abbrev S3072 : Shape := ⟨1, ![3072]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x3072 : Shape := ⟨2, ![8, 3072]⟩
abbrev S1x3072 : Shape := ⟨2, ![1, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x3072, .f32⟩
  | .hbm, ⟨18, _⟩ => ⟨S1x3072, .f32⟩
  | .hbm, ⟨19, _⟩ => ⟨S8x3072, .f32⟩
  | .hbm, ⟨20, _⟩ => ⟨S8x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Cache.lean ====
abbrev S16x256x1024 : Shape := ⟨3, ![16, 256, 1024]⟩
abbrev S4x1024 : Shape := ⟨2, ![4, 1024]⟩
abbrev S1024 : Shape := ⟨1, ![1024]⟩
abbrev S1x1024 : Shape := ⟨2, ![1, 1024]⟩
abbrev S1x1024x3072 : Shape := ⟨3, ![1, 1024, 3072]⟩
abbrev S1x3072 : Shape := ⟨2, ![1, 3072]⟩
abbrev S1x1024x2560 : Shape := ⟨3, ![1, 1024, 2560]⟩
abbrev S_ : Shape := ⟨0, ![]⟩
abbrev S3x1024 : Shape := ⟨2, ![3, 1024]⟩
abbrev S8x1024 : Shape := ⟨2, ![8, 1024]⟩
abbrev S1024x3072 : Shape := ⟨2, ![1024, 3072]⟩
abbrev S3072 : Shape := ⟨1, ![3072]⟩
abbrev S8x3072 : Shape := ⟨2, ![8, 3072]⟩
abbrev S1024x1024 : Shape := ⟨2, ![1024, 1024]⟩
abbrev S8x3x1024 : Shape := ⟨3, ![8, 3, 1024]⟩
abbrev S1024x2560 : Shape := ⟨2, ![1024, 2560]⟩
abbrev S1x1024x256 : Shape := ⟨3, ![1, 1024, 256]⟩
abbrev S1024x256 : Shape := ⟨2, ![1024, 256]⟩
abbrev S256x1024 : Shape := ⟨2, ![256, 1024]⟩
abbrev S16x256x256 : Shape := ⟨3, ![16, 256, 256]⟩
abbrev S4x256x1024 : Shape := ⟨3, ![4, 256, 1024]⟩
abbrev S1x3x1024 : Shape := ⟨3, ![1, 3, 1024]⟩
abbrev S4x256x256 : Shape := ⟨3, ![4, 256, 256]⟩
abbrev S1024x1 : Shape := ⟨2, ![1024, 1]⟩
abbrev S256x256 : Shape := ⟨2, ![256, 256]⟩
abbrev S1x256x256 : Shape := ⟨3, ![1, 256, 256]⟩
abbrev S16x1x256x4x64 : Shape := ⟨5, ![16, 1, 256, 4, 64]⟩

abbrev nBuf : Space → Nat
  | .hbm => 29
  | .vmem => 23
  | .smem => 0
  | _ => 0

abbrev bufTy : (tb : Table) → Fin (tcTables nBuf tb) → BufTy
  | .hbm, ⟨0, _⟩ => ⟨S16x256x1024, .f32⟩
  | .hbm, ⟨1, _⟩ => ⟨S4x1024, .f32⟩
  | .hbm, ⟨2, _⟩ => ⟨S1024, .f32⟩
  | .hbm, ⟨3, _⟩ => ⟨S1x1024, .f32⟩
  | .hbm, ⟨4, _⟩ => ⟨S1x1024x3072, .f32⟩
  | .hbm, ⟨5, _⟩ => ⟨S1x3072, .f32⟩
  | .hbm, ⟨6, _⟩ => ⟨S1x1024x2560, .f32⟩
  | .hbm, ⟨7, _⟩ => ⟨S1x1024, .f32⟩
  | .hbm, ⟨8, _⟩ => ⟨S_, .f32⟩
  | .hbm, ⟨9, _⟩ => ⟨S3x1024, .f32⟩
  | .hbm, ⟨10, _⟩ => ⟨S8x1024, .f32⟩
  | .hbm, ⟨11, _⟩ => ⟨S1024x3072, .f32⟩
  | .hbm, ⟨12, _⟩ => ⟨S3072, .f32⟩
  | .hbm, ⟨13, _⟩ => ⟨S1x3072, .f32⟩
  | .hbm, ⟨14, _⟩ => ⟨S8x3072, .f32⟩
  | .hbm, ⟨15, _⟩ => ⟨S8x3x1024, .f32⟩
  | .hbm, ⟨16, _⟩ => ⟨S1024, .f32⟩
  | .hbm, ⟨17, _⟩ => ⟨S1024x2560, .f32⟩
  | .hbm, ⟨18, _⟩ => ⟨S1x1024x256, .f32⟩
  | .hbm, ⟨19, _⟩ => ⟨S1024x256, .f32⟩
  | .hbm, ⟨20, _⟩ => ⟨S256x1024, .f32⟩
  | .hbm, ⟨21, _⟩ => ⟨S1x1024, .f32⟩
  | .hbm, ⟨22, _⟩ => ⟨S16x256x1024, .bf16⟩
  | .hbm, ⟨23, _⟩ => ⟨S16x256x1024, .bf16⟩
  | .hbm, ⟨24, _⟩ => ⟨S16x256x256, .f32⟩
  | .hbm, ⟨25, _⟩ => ⟨S16x256x256, .bf16⟩
  | .hbm, ⟨26, _⟩ => ⟨S16x256x256, .f32⟩
  | .hbm, ⟨27, _⟩ => ⟨S16x1x256x4x64, .f32⟩
  | .hbm, ⟨28, _⟩ => ⟨S16x1x256x4x64, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S4x256x1024, .f32⟩
  | .local _ .vmem, ⟨8, _⟩ => ⟨S4x256x1024, .f32⟩
  | .local _ .vmem, ⟨9, _⟩ => ⟨S1x3x1024, .f32⟩
  | .local _ .vmem, ⟨10, _⟩ => ⟨S1x1024, .f32⟩
  | .local _ .vmem, ⟨11, _⟩ => ⟨S1024x2560, .f32⟩
  | .local _ .vmem, ⟨12, _⟩ => ⟨S256x1024, .f32⟩
  | .local _ .vmem, ⟨13, _⟩ => ⟨S4x256x1024, .bf16⟩
  | .local _ .vmem, ⟨14, _⟩ => ⟨S4x256x1024, .bf16⟩
  | .local _ .vmem, ⟨15, _⟩ => ⟨S4x256x1024, .bf16⟩
  | .local _ .vmem, ⟨16, _⟩ => ⟨S4x256x1024, .bf16⟩
  | .local _ .vmem, ⟨17, _⟩ => ⟨S4x256x256, .f32⟩
  | .local _ .vmem, ⟨18, _⟩ => ⟨S4x256x256, .f32⟩
  | .local _ .vmem, ⟨19, _⟩ => ⟨S4x256x256, .bf16⟩
  | .local _ .vmem, ⟨20, _⟩ => ⟨S4x256x256, .bf16⟩
  | .local _ .vmem, ⟨21, _⟩ => ⟨S4x256x256, .f32⟩
  | .local _ .vmem, ⟨22, _⟩ => ⟨S4x256x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S4x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x3x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x2560 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S4x256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4x256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S4x256x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S4x256x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== CacheIdeal.lean ====
variable {F : FTy → Type} [FloatOps F] [Named F]
def κ : String → Option EReal := fun
  | "qscale" => some (((8 * (Real.log 2))⁻¹ : ℝ) : EReal)
  | _ => none
-- ==== CacheRef.lean ====
abbrev S16x256x1024 : Shape := ⟨3, ![16, 256, 1024]⟩
abbrev S4x1024 : Shape := ⟨2, ![4, 1024]⟩
abbrev S1024 : Shape := ⟨1, ![1024]⟩
abbrev S1x1024 : Shape := ⟨2, ![1, 1024]⟩
abbrev S1x1024x3072 : Shape := ⟨3, ![1, 1024, 3072]⟩
abbrev S1x3072 : Shape := ⟨2, ![1, 3072]⟩
abbrev S1x1024x2560 : Shape := ⟨3, ![1, 1024, 2560]⟩
abbrev S_ : Shape := ⟨0, ![]⟩
abbrev S1024x3072 : Shape := ⟨2, ![1024, 3072]⟩
abbrev S3072 : Shape := ⟨1, ![3072]⟩
abbrev S16x256 : Shape := ⟨2, ![16, 256]⟩
abbrev S16x256x1 : Shape := ⟨3, ![16, 256, 1]⟩
abbrev S1x1x1024 : Shape := ⟨3, ![1, 1, 1024]⟩
abbrev S1024x2560 : Shape := ⟨2, ![1024, 2560]⟩
abbrev S16x256x2560 : Shape := ⟨3, ![16, 256, 2560]⟩
abbrev S16x256x256 : Shape := ⟨3, ![16, 256, 256]⟩
abbrev S16x256x4x64 : Shape := ⟨4, ![16, 256, 4, 64]⟩
abbrev S16x1x256x4x64 : Shape := ⟨5, ![16, 1, 256, 4, 64]⟩

abbrev nBuf : Space → Nat
  | .hbm => 59
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S4x1024, .f32⟩
  | .hbm, ⟨2, _⟩ => ⟨S1024, .f32⟩
  | .hbm, ⟨3, _⟩ => ⟨S1x1024, .f32⟩
  | .hbm, ⟨4, _⟩ => ⟨S1x1024x3072, .f32⟩
  | .hbm, ⟨5, _⟩ => ⟨S1x3072, .f32⟩
  | .hbm, ⟨6, _⟩ => ⟨S1x1024x2560, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S1x3072, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S16x256x1024, .f32⟩
  | .hbm, ⟨26, _⟩ => ⟨S_, .f32⟩
  | .hbm, ⟨27, _⟩ => ⟨S16x256, .f32⟩
  | .hbm, ⟨28, _⟩ => ⟨S16x256x1, .f32⟩
  | .hbm, ⟨29, _⟩ => ⟨S_, .f32⟩
  | .hbm, ⟨30, _⟩ => ⟨S16x256x1, .f32⟩
  | .hbm, ⟨31, _⟩ => ⟨S16x256x1, .f32⟩
  | .hbm, ⟨32, _⟩ => ⟨S_, .f32⟩
  | .hbm, ⟨33, _⟩ => ⟨S16x256x1, .f32⟩
  | .hbm, ⟨34, _⟩ => ⟨S16x256x1, .f32⟩
  | .hbm, ⟨35, _⟩ => ⟨S16x256x1, .f32⟩
  | .hbm, ⟨36, _⟩ => ⟨S16x256x1024, .f32⟩
  | .hbm, ⟨37, _⟩ => ⟨S16x256x1024, .f32⟩
  | .hbm, ⟨38, _⟩ => ⟨S1024, .f32⟩
  | .hbm, ⟨39, _⟩ => ⟨S1x1x1024, .f32⟩
  | .hbm, ⟨40, _⟩ => ⟨S16x256x1024, .f32⟩
  | .hbm, ⟨41, _⟩ => ⟨S16x256x1024, .f32⟩
  | .hbm, ⟨42, _⟩ => ⟨S1x1x1024, .f32⟩
  | .hbm, ⟨43, _⟩ => ⟨S_, .f32⟩
  | .hbm, ⟨44, _⟩ => ⟨S1x1x1024, .f32⟩
  | .hbm, ⟨45, _⟩ => ⟨S1x1x1024, .f32⟩
  | .hbm, ⟨46, _⟩ => ⟨S16x256x1024, .f32⟩
  | .hbm, ⟨47, _⟩ => ⟨S16x256x1024, .f32⟩
  | .hbm, ⟨48, _⟩ => ⟨S1x1x1024, .f32⟩
  | .hbm, ⟨49, _⟩ => ⟨S16x256x1024, .f32⟩
  | .hbm, ⟨50, _⟩ => ⟨S16x256x1024, .f32⟩
  | .hbm, ⟨51, _⟩ => ⟨S1024x2560, .f32⟩
  | .hbm, ⟨52, _⟩ => ⟨S16x256x2560, .f32⟩
  | .hbm, ⟨53, _⟩ => ⟨S16x256x256, .f32⟩
  | .hbm, ⟨54, _⟩ => ⟨S16x256x4x64, .f32⟩
  | .hbm, ⟨55, _⟩ => ⟨S16x256x256, .f32⟩
  | .hbm, ⟨56, _⟩ => ⟨S16x256x4x64, .f32⟩
  | .hbm, ⟨57, _⟩ => ⟨S16x1x256x4x64, .f32⟩
  | .hbm, ⟨58, _⟩ => ⟨S16x1x256x4x64, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Proof.Softmax.lean ====
module

public import Idealize.ShloMosaic.Lib.Pointwise

@[expose] public section

/-!
# Softmax attention with a sink, over the extended reals

`attn s v sk` is one number of an attention's output: the values `v` weighted by the exponentials of the scores `s`,
divided by the sum of the weights and the sink's own weight. `attn2` is the same with powers of two. The theorem
`attn2_eq` says that the two agree when the scores of `attn2` are those of `attn` divided by `ln 2`. `attn_embed` says
that keys whose score is `-∞` may be left out, and the others taken in any order.
-/

noncomputable section

open Idealize.ShloMosaic

namespace Attention

/-- `ln 2` as an extended real. -/
def ln2 : EReal := ((Real.log 2 : ℝ) : EReal)

/-- `1 / ln 2` as an extended real. -/
def log2e : EReal := (((Real.log 2)⁻¹ : ℝ) : EReal)

theorem log2_pos : 0 < Real.log 2 := Real.log_pos one_lt_two

/-- A power of two is the exponential of the exponent times `ln 2`, at the infinities as well. -/
theorem exp2_eq (x : EReal) : Ideal.exp2 x = Ideal.exp (x * ln2) := by
  have hp := log2_pos
  induction x with
  | bot => rw [ln2, EReal.bot_mul_coe_of_pos hp]; rfl
  | top => rw [ln2, EReal.top_mul_coe_of_pos hp]; rfl
  | coe r =>
    rw [ln2, ← EReal.coe_mul]
    show ((Real.rpow 2 r : ℝ) : EReal) = ((Real.exp (r * Real.log 2) : ℝ) : EReal)
    congr 1
    show (2 : ℝ) ^ r = _
    rw [Real.rpow_def_of_pos two_pos, mul_comm]

/-- Multiplying by `ln 2` distributes over a difference, at the infinities as well. -/
theorem sub_mul_ln2 (a b : EReal) : (a - b) * ln2 = a * ln2 - b * ln2 := by
  have hp := log2_pos
  unfold ln2
  induction a with
  | bot => simp [EReal.bot_mul_coe_of_pos hp, EReal.bot_sub]
  | top =>
    induction b with
    | bot => simp [EReal.bot_mul_coe_of_pos hp, EReal.top_mul_coe_of_pos hp]
    | top => simp [EReal.bot_mul_coe_of_pos hp, EReal.top_mul_coe_of_pos hp, EReal.sub_top]
    | coe r => rw [EReal.top_sub_coe, EReal.top_mul_coe_of_pos hp, ← EReal.coe_mul, EReal.top_sub_coe]
  | coe q =>
    induction b with
    | bot => simp [EReal.bot_mul_coe_of_pos hp, EReal.top_mul_coe_of_pos hp, ← EReal.coe_mul, EReal.coe_sub_bot]
    | top => simp [EReal.bot_mul_coe_of_pos hp, EReal.top_mul_coe_of_pos hp, ← EReal.coe_mul, EReal.sub_top]
    | coe r =>
      rw [← EReal.coe_sub, ← EReal.coe_mul, ← EReal.coe_mul, ← EReal.coe_mul, ← EReal.coe_sub, sub_mul]

theorem ln2_nonneg : 0 ≤ ln2 := EReal.coe_nonneg.2 log2_pos.le

/-- Multiplying by `ln 2` commutes with the larger of two numbers. -/
theorem max_mul_ln2 (a b : EReal) : max a b * ln2 = max (a * ln2) (b * ln2) := by
  rcases le_total a b with h | h
  · rw [max_eq_right h, max_eq_right (mul_le_mul_of_nonneg_right h ln2_nonneg)]
  · rw [max_eq_left h, max_eq_left (mul_le_mul_of_nonneg_right h ln2_nonneg)]

/-- Dividing by `ln 2` and multiplying by it again changes nothing. -/
theorem log2e_mul_ln2 (a : EReal) : a * log2e * ln2 = a := by
  rw [mul_assoc, log2e, ln2, ← EReal.coe_mul, inv_mul_cancel₀ log2_pos.ne', EReal.coe_one, mul_one]

/-- The largest of the scores and the sink. -/
def top {n : ℕ} (s : Fin n → EReal) (sk : EReal) : EReal := max (Finset.univ.fold max ⊥ s) sk

/-- One number of the attention's output: the values weighted by the exponentials of the scores, over the sum of the
    weights and the sink's weight, every exponent taken from the largest score. -/
def attn {n : ℕ} (s v : Fin n → EReal) (sk : EReal) : EReal :=
  Ideal.div (∑ k, v k * Ideal.exp (s k - top s sk)) ((∑ k, Ideal.exp (s k - top s sk)) + Ideal.exp (sk - top s sk))

/-- The same with powers of two. -/
def attn2 {n : ℕ} (s v : Fin n → EReal) (sk : EReal) : EReal :=
  Ideal.div (∑ k, v k * Ideal.exp2 (s k - top s sk)) ((∑ k, Ideal.exp2 (s k - top s sk)) + Ideal.exp2 (sk - top s sk))

/-- A running maximum is at most `c` exactly when its start and every term are. -/
theorem fold_max_le {ι : Type} (S : Finset ι) (b c : EReal) (f : ι → EReal) :
    S.fold max b f ≤ c ↔ b ≤ c ∧ ∀ x ∈ S, f x ≤ c := Finset.fold_max_le c

/-- The largest score is at most `c` exactly when every score and the sink are. -/
theorem top_le {n : ℕ} (s : Fin n → EReal) (sk c : EReal) : top s sk ≤ c ↔ (∀ k, s k ≤ c) ∧ sk ≤ c := by
  rw [top, max_le_iff, fold_max_le]; simp

/-- The largest score times `ln 2` is the largest of the scores times `ln 2`. -/
theorem top_mul_ln2 {n : ℕ} (s : Fin n → EReal) (sk : EReal) : top s sk * ln2 = top (fun k => s k * ln2) (sk * ln2) := by
  rw [top, top, max_mul_ln2]
  congr 1
  have : ∀ S : Finset (Fin n), S.fold max ⊥ s * ln2 = S.fold max ⊥ fun k => s k * ln2 := fun S => by
    induction S using Finset.induction_on with
    | empty => rw [Finset.fold_empty, Finset.fold_empty, ln2, EReal.bot_mul_coe_of_pos log2_pos]
    | insert a S ha ih => rw [Finset.fold_insert ha, Finset.fold_insert ha, max_mul_ln2, ih]
  exact this _

/-- THE CHANGE OF BASE: with powers of two at scores `s` and sink `sk / ln 2` the output is that of the exponentials at the
    scores `s * ln 2` and sink `sk`. -/
theorem attn2_eq {n : ℕ} (s v : Fin n → EReal) (sk : EReal) :
    attn2 s v (sk * log2e) = attn (fun k => s k * ln2) v sk := by
  unfold attn2 attn
  have h : ∀ x, Ideal.exp2 (x - top s (sk * log2e)) = Ideal.exp (x * ln2 - top (fun k => s k * ln2) sk) := fun x => by
    rw [exp2_eq, sub_mul_ln2, top_mul_ln2, log2e_mul_ln2]
  simp only [h, log2e_mul_ln2]

/-- LEAVING OUT MASKED KEYS: `e` sends each position of a list of keys to a key; positions and keys may be masked, which
    is to say their score is `-∞`. If every key that is not masked comes from exactly one position that is not masked, and
    there with the same score and value, then the outputs over the positions and over the keys are equal. -/
theorem attn_embed {a b : ℕ} (s v : Fin a → EReal) (s' v' : Fin b → EReal) (sk : EReal) (ok : Fin a → Prop) (e : Fin a → Fin b)
    (hout : ∀ i, ¬ ok i → s i = ⊥) (hs : ∀ i, ok i → s' (e i) = s i) (hv : ∀ i, ok i → v' (e i) = v i)
    (hinj : ∀ i j, ok i → ok j → e i = e j → i = j) (hsurj : ∀ k, s' k ≠ ⊥ → ∃ i, ok i ∧ e i = k) :
    attn s v sk = attn s' v' sk := by
  have ht : top s sk = top s' sk := by
    refine eq_of_forall_ge_iff fun c => ?_
    rw [top_le, top_le]
    refine and_congr_left fun _ => ⟨fun h k => ?_, fun h i => ?_⟩
    · by_cases hk : s' k = ⊥
      · rw [hk]; exact bot_le
      · obtain ⟨i, hi, rfl⟩ := hsurj k hk
        rw [hs i hi]; exact h i
    · by_cases hi : ok i
      · rw [← hs i hi]; exact h _
      · rw [hout i hi]; exact bot_le
  have hz : ∀ c : EReal, Ideal.exp (⊥ - c) = 0 := fun c => by rw [EReal.bot_sub]; rfl
  have key : ∀ f : EReal → EReal → EReal, (∀ x, f x 0 = 0) →
      ∑ k, f (v k) (Ideal.exp (s k - top s sk)) = ∑ k, f (v' k) (Ideal.exp (s' k - top s sk)) := fun f hf => by
    refine Finset.sum_bij_ne_zero (fun i _ _ => e i) (fun _ _ _ => Finset.mem_univ _) ?_ ?_ ?_
    · intro i _ hi j _ hj hij
      refine hinj i j ?_ ?_ hij
      · by_contra h; exact hi (by rw [hout i h, hz, hf])
      · by_contra h; exact hj (by rw [hout j h, hz, hf])
    · intro k _ hk
      obtain ⟨i, hi, rfl⟩ := hsurj k fun h => hk (by rw [h, hz, hf])
      exact ⟨i, Finset.mem_univ _, by rwa [← hs i hi, ← hv i hi], rfl⟩
    · intro i _ hi
      have ho : ok i := by by_contra h; exact hi (by rw [hout i h, hz, hf])
      rw [hs i ho, hv i ho]
  unfold attn
  rw [← ht, key (fun x y => x * y) (fun x => mul_zero x), key (fun _ y => y) fun _ => rfl]

/-- A table of numbers, read at natural numbers (zero outside it). -/
def tab {a b : ℕ} (f : Fin a → Fin b → EReal) (i j : ℕ) : EReal := if h : i < a ∧ j < b then f ⟨i, h.1⟩ ⟨j, h.2⟩ else 0

theorem tab_of {a b : ℕ} (f : Fin a → Fin b → EReal) {i j : ℕ} (hi : i < a) (hj : j < b) : tab f i j = f ⟨i, hi⟩ ⟨j, hj⟩ :=
  dif_pos ⟨hi, hj⟩

/-- The score of key `k` in column `c` of a unit: the key's row of head `g` against the query of the column, which is
    query `r0 + c % 128` of head `4 g + c / 128`. -/
def score (Q K : ℕ → ℕ → EReal) (r0 g k c : ℕ) : EReal :=
  ∑ d : Fin 64, K k (g * 64 + d) * Q (r0 + c % 128) ((g * 4 + c / 128) * 64 + d)

end Attention

end
-- ==== Proof.Words.lean ====
module
public import proofs.«01_k».proof.Proof.Softmax
public import Idealize.ShloMosaic.Lib.Pointwise
@[expose] public section

/-!
# Comparisons of 32-bit words as comparisons of numbers
-/

noncomputable section

open Idealize.ShloMosaic

namespace Attention

theorem ofBool_decide (P : Prop) [Decidable P] : BitVec.ofBool (decide P) = if P then 1#1 else 0#1 := by
  by_cases h : P <;> simp [h]

theorem cmp_sle (x y : BitVec 32) : IntOp.cmpi .sle x y = if x.toInt ≤ y.toInt then 1#1 else 0#1 := ofBool_decide _
theorem cmp_sge (x y : BitVec 32) : IntOp.cmpi .sge x y = if y.toInt ≤ x.toInt then 1#1 else 0#1 := ofBool_decide _
theorem cmp_slt (x y : BitVec 32) : IntOp.cmpi .slt x y = if x.toInt < y.toInt then 1#1 else 0#1 := ofBool_decide _
theorem cmp_sgt (x y : BitVec 32) : IntOp.cmpi .sgt x y = if y.toInt < x.toInt then 1#1 else 0#1 := ofBool_decide _

theorem toInt_small {n : ℕ} (h : n < 2 ^ 31) : (BitVec.ofNat 32 n).toInt = n := by
  rw [BitVec.toInt_ofNat']
  exact Int.bmod_eq_of_le (by omega) (by omega)

theorem toInt_sub {x y : BitVec 32} {a b : ℤ} (hx : x.toInt = a) (hy : y.toInt = b) (h1 : -2 ^ 31 ≤ a - b) (h2 : a - b < 2 ^ 31) :
    (IntOp.subi x y).toInt = a - b := by
  show (x - y).toInt = _
  rw [BitVec.toInt_sub, hx, hy]
  exact Int.bmod_eq_of_le (by omega) (by omega)

/-- The low seven bits of a word are the number modulo 128. -/
theorem and_127 {n : ℕ} (h : n < 2 ^ 32) : IntOp.andi (BitVec.ofNat 32 n) 127#32 = BitVec.ofNat 32 (n % 128) := by
  apply BitVec.eq_of_toNat_eq
  show (BitVec.ofNat 32 n &&& 127#32).toNat = _
  rw [BitVec.toNat_and, BitVec.toNat_ofNat, BitVec.toNat_ofNat, BitVec.toNat_ofNat, Nat.mod_eq_of_lt h, Nat.mod_eq_of_lt (by omega), Nat.mod_eq_of_lt (by omega)]
  exact Nat.and_two_pow_sub_one_eq_mod n 7

theorem and_bit (P Q : Prop) [Decidable P] [Decidable Q] :
    IntOp.andi (if P then 1#1 else 0#1) (if Q then 1#1 else 0#1) = if P ∧ Q then 1#1 else 0#1 := by
  by_cases p : P <;> by_cases q : Q <;> simp [p, q, IntOp.andi]

theorem or_bit (P Q : Prop) [Decidable P] [Decidable Q] :
    IntOp.ori (if P then 1#1 else 0#1) (if Q then 1#1 else 0#1) = if P ∨ Q then 1#1 else 0#1 := by
  by_cases p : P <;> by_cases q : Q <;> simp [p, q, IntOp.ori]

/-- A choice by such a bit. -/
theorem select_bit {α : Type} (P : Prop) [Decidable P] (x y : α) : Scalar.select (if P then 1#1 else 0#1) x y = if P then x else y := by
  by_cases p : P <;> simp [p, Scalar.select]

end Attention

end
-- ==== Proof.WinUnit.lean ====
module

public import proofs.«01_k».proof.Proof.Gen.AttnWinIdeal.Skeleton
public import proofs.«01_k».proof.Proof.Words

@[expose] public section

/-!
# One unit of the windowed attention, at an index

The kernel works unit by unit: 128 queries of one key/value head, which are 512 columns (four query heads of 128 queries),
against seven blocks of 128 keys. Here each step of a unit is written once, with the unit's offsets as parameters, and
read at an index.
-/

set_option maxRecDepth 16384

noncomputable section

open Idealize.ShloMosaic Idealize.ShloMosaic.TcCoe Idealize.SL.Sem

namespace Cert.AttnWinIdeal.Unit

open Cert.AttnWinIdeal Cert.AttnWinIdeal.Gen Attention

/-- The pattern of `-∞`. -/
theorem ninf : Ideal.ofBits FTy.f32 4286578688#32 = (⊥ : EReal) := by simp [Ideal.ofBits, Ideal.ieee]

theorem one_bits : Ideal.ofBits FTy.f32 1065353216#32 = (1 : EReal) := by
  simp [Ideal.ofBits, Ideal.ieee]
  rw [← EReal.coe_mul]
  norm_num

theorem zero_bits : Ideal.ofBits FTy.f32 0#32 = (0 : EReal) := by simp [Ideal.ofBits, Ideal.ieee]

/-- Four query heads of 128 queries, one below the other. -/
def qcat (o0 o1 o2 o3 : ℕ) (e0 : S128x1024.Slices ![0, o0] S128x64) (e1 : S128x1024.Slices ![0, o1] S128x64)
    (e2 : S128x1024.Slices ![0, o2] S128x64) (e3 : S128x1024.Slices ![0, o3] S128x64) (v : Vec Ideal S1x128x1024 .bf16) : FVec Ideal S512x64 .bf16 :=
  let w : FVec Ideal S128x1024 .bf16 := shapeCast S128x1024 v shapeCasts_S1x128x1024_S128x1024
  concatenate S512x64 0 [⟨S128x64, extractStridedSlice S128x64 ![0, o0] w e0⟩, ⟨S128x64, extractStridedSlice S128x64 ![0, o1] w e1⟩,
    ⟨S128x64, extractStridedSlice S128x64 ![0, o2] w e2⟩, ⟨S128x64, extractStridedSlice S128x64 ![0, o3] w e3⟩]
    concatenates_S128x64_S128x64_S128x64_S128x64_S512x64_d0

theorem qcat_apply (Q : ℕ → ℕ → EReal) (r0 g : ℕ) {o0 o1 o2 o3 : ℕ} (e0 : S128x1024.Slices ![0, o0] S128x64)
    (e1 : S128x1024.Slices ![0, o1] S128x64) (e2 : S128x1024.Slices ![0, o2] S128x64) (e3 : S128x1024.Slices ![0, o3] S128x64)
    (h0 : o0 = (g * 4 + 0) * 64) (h1 : o1 = (g * 4 + 1) * 64) (h2 : o2 = (g * 4 + 2) * 64) (h3 : o3 = (g * 4 + 3) * 64)
    (v : Vec Ideal S1x128x1024 .bf16) (hv : ∀ (a : Fin 128) (b : Fin 1024), v (ix3 0 a b) = Q (r0 + a) b) (c : Fin 512) (d : Fin 64) :
    qcat o0 o1 o2 o3 e0 e1 e2 e3 v (ix2 c d) = Q (r0 + c % 128) ((g * 4 + c / 128) * 64 + d) := by
  pointwise [qcat]
  have hc := c.isLt
  split
  · rw [hv]; congr 1 <;> (try simp only) <;> omega
  split
  · rw [hv]; congr 1 <;> (try simp only) <;> omega
  split
  · rw [hv]; congr 1 <;> (try simp only) <;> omega
  · rw [hv]; congr 1 <;> (try simp only) <;> omega

/-- Seven blocks of 128 keys, one below the other. -/
def kcat (k : ℕ → FVec Ideal S128x64 .bf16) : FVec Ideal S896x64 .bf16 :=
  concatenate S896x64 0 [⟨S128x64, k 0⟩, ⟨S128x64, k 1⟩, ⟨S128x64, k 2⟩, ⟨S128x64, k 3⟩, ⟨S128x64, k 4⟩, ⟨S128x64, k 5⟩, ⟨S128x64, k 6⟩]
    concatenates_S128x64_S128x64_S128x64_S128x64_S128x64_S128x64_S128x64_S896x64_d0

theorem kcat_apply (K : ℕ → ℕ → EReal) (k : ℕ → FVec Ideal S128x64 .bf16)
    (h : ∀ j : ℕ, j < 7 → ∀ (a : Fin 128) (b : Fin 64), k j (ix2 a b) = K (j * 128 + a) b) (p : Fin 896) (d : Fin 64) :
    kcat k (ix2 p d) = K p d := by
  pointwise [kcat]
  have hp := p.isLt
  split
  · rw [h 0 (by omega)]; congr 1; (try simp only); omega
  split
  · rw [h 1 (by omega)]; congr 1; (try simp only); omega
  split
  · rw [h 2 (by omega)]; congr 1; (try simp only); omega
  split
  · rw [h 3 (by omega)]; congr 1; (try simp only); omega
  split
  · rw [h 4 (by omega)]; congr 1; (try simp only); omega
  split
  · rw [h 5 (by omega)]; congr 1; (try simp only); omega
  · rw [h 6 (by omega)]; congr 1; (try simp only); omega

/-- The scores of 896 keys against the 512 columns. -/
def sAll (q : FVec Ideal S512x64 .bf16) (k : FVec Ideal S896x64 .bf16) : FVec Ideal S896x512 .f32 :=
  matmul dot_S896x64_S512x64_S896x512_1_1_0_0_n_n none k q (constant S896x512 .f32 0x00000000#32)

theorem sAll_apply (Q K : ℕ → ℕ → EReal) (r0 g : ℕ) (q : FVec Ideal S512x64 .bf16) (k : FVec Ideal S896x64 .bf16)
    (hq : ∀ (c : Fin 512) (d : Fin 64), q (ix2 c d) = Q (r0 + c % 128) ((g * 4 + c / 128) * 64 + d))
    (hk : ∀ (p : Fin 896) (d : Fin 64), k (ix2 p d) = K p (g * 64 + d)) (p : Fin 896) (c : Fin 512) :
    sAll q k (ix2 p c) = score Q K r0 g p c := by
  pointwise [sAll]
  refine Finset.sum_congr rfl fun d _ => ?_
  rw [hq, hk]

/-- The scores of the 128 keys from key `o` on. -/
def sBlk (o : ℕ) (e : S896x512.Slices ![o, 0] S128x512) (s : FVec Ideal S896x512 .f32) : FVec Ideal S128x512 .f32 :=
  extractStridedSlice S128x512 ![o, 0] s e

theorem sBlk_apply (o : ℕ) (e : S896x512.Slices ![o, 0] S128x512) (s : FVec Ideal S896x512 .f32) (f : ℕ → ℕ → EReal)
    (hs : ∀ (k : Fin 896) (c : Fin 512), s (ix2 k c) = f k c) (k : Fin 128) (c : Fin 512) : sBlk o e s (ix2 k c) = f (o + k) c := by
  pointwise [sBlk]
  rw [hs]

/-! ## The masks -/

/-- Where the key's place in its block is at least the query's. -/
theorem after_apply (k : Fin 128) (c : Fin 512) : k0_pay3 (ix2 k c) = if c.val % 128 ≤ k.val then 1#1 else 0#1 := by
  pointwise [k0_pay3, k0_pay2]
  rw [and_127 (by omega), cmp_sge, toInt_small (by omega), toInt_small (by omega)]
  simp only [Nat.cast_le]

/-- Where the key's place in its block is at most the query's. -/
theorem before_apply (k : Fin 128) (c : Fin 512) : k0_pay4 (ix2 k c) = if k.val ≤ c.val % 128 then 1#1 else 0#1 := by
  pointwise [k0_pay4, k0_pay2]
  rw [and_127 (by omega), cmp_sle, toInt_small (by omega), toInt_small (by omega)]
  simp only [Nat.cast_le]

/-- The mask of the block before the queries' own: for the first queries of a step, the step must not be the first. -/
def pMask (i : grid0.Coords) : ℕ → IVec S128x512 1
  | 0 => andi k0_pay3 (broadcast S128x512 (Scalar.cmpi .sgt (BitVec.ofNat 32 (i 1)) 0#32))
  | _ + 1 => k0_pay3

theorem pMask_apply (i : grid0.Coords) (q : ℕ) (k : Fin 128) (c : Fin 512) :
    pMask i q (ix2 k c) = if c.val % 128 ≤ k.val ∧ (q = 0 → 0 < (i 1).val) then 1#1 else 0#1 := by
  have hi : (i 1).val < 8 := (i 1).isLt
  match q with
  | 0 =>
    show IntOp.andi (k0_pay3 (ix2 k c)) (IntOp.cmpi .sgt (BitVec.ofNat 32 (i 1).val) (BitVec.ofNat 32 0)) = _
    rw [after_apply, cmp_sgt, toInt_small (by omega), toInt_small (by omega), and_bit]
    simp
  | q + 1 => exact (after_apply k c).trans (by simp)

/-- The mask of the block after the queries' own (`q` counts the query blocks after): for the last queries of a step, the
    step must not be the last. -/
def nMask (i : grid0.Coords) : ℕ → IVec S128x512 1
  | 0 => andi k0_pay4 (broadcast S128x512 (Scalar.cmpi .slt (BitVec.ofNat 32 (i 1)) 7#32))
  | _ + 1 => k0_pay4

theorem nMask_apply (i : grid0.Coords) (q : ℕ) (k : Fin 128) (c : Fin 512) :
    nMask i q (ix2 k c) = if k.val ≤ c.val % 128 ∧ (q = 0 → (i 1).val < 7) then 1#1 else 0#1 := by
  have hi : (i 1).val < 8 := (i 1).isLt
  match q with
  | 0 =>
    show IntOp.andi (k0_pay4 (ix2 k c)) (IntOp.cmpi .slt (BitVec.ofNat 32 (i 1).val) (BitVec.ofNat 32 7)) = _
    rw [before_apply, cmp_slt, toInt_small (by omega), toInt_small (by omega), and_bit]
    simp
  | q + 1 => exact (before_apply k c).trans (by simp)

/-- Masked scores. -/
def sMsk (m : IVec S128x512 1) (s : FVec Ideal S128x512 .f32) : FVec Ideal S128x512 .f32 :=
  select m s (broadcast S128x512 (Scalar.ofBits .f32 0xFF800000#32))

theorem sMsk_apply (m : IVec S128x512 1) (s : FVec Ideal S128x512 .f32) (P : Prop) [Decidable P] (k : Fin 128) (c : Fin 512)
    (h : m (ix2 k c) = if P then 1#1 else 0#1) : sMsk m s (ix2 k c) = if P then s (ix2 k c) else ⊥ := by
  pointwise [sMsk]
  rw [h, ninf]
  split <;> rfl

/-! ## The largest scores -/

/-- The maxima over the sixteen groups of eight keys of a block. -/
theorem group_max (s : FVec Ideal S128x512 .f32) (x : Fin 8) (c : Fin 512) :
    (multiReduction .maximumf [0] S8x512 (shapeCast S16x8x512 s shapeCasts_S128x512_S16x8x512 : FVec Ideal S16x8x512 .f32)
      0xFF800000#32 reduces_S16x8x512_S8x512 (.inl rfl) rfl : FVec Ideal S8x512 .f32) (ix2 x c)
      = Finset.univ.fold max ⊥ fun y : Fin 16 => s (ix2 ⟨y * 8 + x, by omega⟩ c) := by
  pointwise
  rw [ninf]

/-- The running maxima over the first blocks, eight rows of them. -/
def mAcc (s : ℕ → FVec Ideal S128x512 .f32) : ℕ → FVec Ideal S8x512 .f32
  | 0 => broadcast S8x512 (Scalar.ofBits .f32 0xFF800000#32)
  | n + 1 => maximumf (mAcc s n) (multiReduction .maximumf [0] S8x512 (shapeCast S16x8x512 (s n) shapeCasts_S128x512_S16x8x512 : FVec Ideal S16x8x512 .f32)
      0xFF800000#32 reduces_S16x8x512_S8x512 (.inl rfl) rfl)

theorem mAcc_le (s : ℕ → FVec Ideal S128x512 .f32) (f : ℕ → EReal) (c : Fin 512) (n : ℕ)
    (h : ∀ j < n, ∀ k : Fin 128, s j (ix2 k c) = f (j * 128 + k)) (x : Fin 8) (w : EReal) :
    mAcc s n (ix2 x c) ≤ w ↔ ∀ k < n * 128, k % 8 = x.val → f k ≤ w := by
  induction n with
  | zero =>
    have : mAcc s 0 (ix2 x c) = ⊥ := by pointwise [mAcc]; exact ninf
    rw [this]
    simp
  | succ n ih =>
    have e : mAcc s (n + 1) (ix2 x c) = max (mAcc s n (ix2 x c)) (Finset.univ.fold max ⊥ fun y : Fin 16 => s n (ix2 ⟨y * 8 + x, by omega⟩ c)) := by
      rw [mAcc, maximumf_apply]
      exact congrArg (max (mAcc s n (ix2 x c))) (group_max _ x c)
    rw [e, max_le_iff, ih (fun j hj => h j (by omega)), fold_max_le]
    have hx := x.isLt
    refine ⟨fun ⟨h1, _, h2⟩ k hk hkx => ?_, fun h1 => ⟨fun k hk => h1 k (by omega), bot_le, fun y _ => ?_⟩⟩
    · rcases lt_or_ge k (n * 128) with hlt | hge
      · exact h1 k hlt hkx
      · have := h2 ⟨(k - n * 128) / 8, by omega⟩ (Finset.mem_univ _)
        rw [h n (by omega)] at this
        convert this using 2; simp only; omega
    · have hy := y.isLt
      rw [h n (by omega)]
      exact h1 _ (by simp only; omega) (by simp only; omega)

/-- The largest scores and the sink, from the scores. -/
def mRow (s : ℕ → FVec Ideal S128x512 .f32) (sk : FVec Ideal S1x512 .f32) : FVec Ideal S1x512 .f32 :=
  maximumf (shapeCast S1x512 (multiReduction .maximumf [0] S512 (mAcc s 7) 0xFF800000#32 reduces_S8x512_S512 (.inl rfl) rfl) shapeCasts_S512_S1x512) sk

theorem mRow_apply (s : ℕ → FVec Ideal S128x512 .f32) (sk : FVec Ideal S1x512 .f32) (f : ℕ → EReal) (z : EReal) (c : Fin 512)
    (h : ∀ j < 7, ∀ k : Fin 128, s j (ix2 k c) = f (j * 128 + k)) (hz : sk (ix2 0 c) = z) :
    mRow s sk (ix2 0 c) = top (fun k : Fin 896 => f k) z := by
  have e : mRow s sk (ix2 0 c) = max (Finset.univ.fold max ⊥ fun x : Fin 8 => mAcc s 7 (ix2 x c)) (sk (ix2 0 c)) := by
    unfold mRow
    rw [maximumf_apply]
    generalize mAcc s 7 = m
    congr 1
    pointwise
    rw [ninf]
  rw [e, hz]
  refine eq_of_forall_ge_iff fun w => ?_
  rw [top_le, max_le_iff, fold_max_le]
  refine and_congr_left fun _ => ⟨fun h1 k => ?_, fun h1 => ⟨bot_le, fun x _ => ?_⟩⟩
  · exact (mAcc_le s f c 7 h ⟨k % 8, by omega⟩ w).1 (h1.2 _ (Finset.mem_univ _)) k k.isLt rfl
  · exact (mAcc_le s f c 7 h x w).2 fun k hk _ => h1 ⟨k, hk⟩

/-- The sinks of the four heads along the 512 columns, divided by `ln 2`. -/
def skRow (a b c d : Vec Ideal S1x1 .f32) : FVec Ideal S1x512 .f32 := k0_pay7 (F := Ideal) a b c d

theorem skRow_apply (S : ℕ → EReal) (g : ℕ) (a b c d : Vec Ideal S1x1 .f32) (ha : a (ix2 0 0) = S (g * 4 + 0)) (hb : b (ix2 0 0) = S (g * 4 + 1))
    (hc : c (ix2 0 0) = S (g * 4 + 2)) (hd : d (ix2 0 0) = S (g * 4 + 3)) (x : Fin 512) :
    skRow a b c d (ix2 0 x) = S (g * 4 + x / 128) * log2e := by
  pointwise [skRow, k0_pay7]
  have hx := x.isLt
  refine (congrArg _ (IdealRules.named_const.ideal_named_scalar κ "log2e" 0x3FB8AA3B#32 _ rfl)).trans ?_
  congr 1
  split
  · rw [ha]; congr 1; omega
  split
  · rw [hb]; congr 1; omega
  split
  · rw [hc]; congr 1; omega
  · rw [hd]; congr 1; omega

/-! ## The weights and the output -/

/-- The weights of 128 keys, from their scores and the largest ones. -/
def pBlk (m : FVec Ideal S1x512 .f32) (s : Vec Ideal S1x1x128x512 .f32) : FVec Ideal S1x128x512 .bf16 :=
  shapeCast S1x128x512 (truncf .bf16 (exp2 (subf (shapeCast S128x512 s shapeCasts_S1x1x128x512_S128x512 : FVec Ideal S128x512 .f32)
    (broadcastTo S128x512 m broadcasts_S1x512_S128x512))) bitsLt_bf16_f32) shapeCasts_S128x512_S1x128x512

theorem pBlk_apply (m : FVec Ideal S1x512 .f32) (s : Vec Ideal S1x1x128x512 .f32) (k : Fin 128) (c : Fin 512) :
    pBlk m s (ix3 0 k c) = Ideal.exp2 (s (ix4 0 0 k c) - m (ix2 0 c)) := by
  pointwise [pBlk]
  rfl

/-- Seven blocks of values side by side, and below them sixteen rows of which the first is ones and the others zeros. -/
def vcat (v : ℕ → FVec Ideal S64x128 .bf16) : FVec Ideal S80x896 .bf16 :=
  concatenate S80x896 0 [⟨S64x896, concatenate S64x896 1 [⟨S64x128, v 0⟩, ⟨S64x128, v 1⟩, ⟨S64x128, v 2⟩, ⟨S64x128, v 3⟩, ⟨S64x128, v 4⟩, ⟨S64x128, v 5⟩,
      ⟨S64x128, v 6⟩] concatenates_S64x128_S64x128_S64x128_S64x128_S64x128_S64x128_S64x128_S64x896_d1⟩,
    ⟨S16x896, concatenate S16x896 1 [⟨S16x128, k0_pay5 (F := Ideal)⟩, ⟨S16x128, k0_pay5 (F := Ideal)⟩, ⟨S16x128, k0_pay5 (F := Ideal)⟩, ⟨S16x128, k0_pay5 (F := Ideal)⟩,
      ⟨S16x128, k0_pay5 (F := Ideal)⟩, ⟨S16x128, k0_pay5 (F := Ideal)⟩, ⟨S16x128, k0_pay5 (F := Ideal)⟩]
      concatenates_S16x128_S16x128_S16x128_S16x128_S16x128_S16x128_S16x128_S16x896_d1⟩] concatenates_S64x896_S16x896_S80x896_d0

theorem vcat_apply (V : ℕ → ℕ → EReal) (v : ℕ → FVec Ideal S64x128 .bf16)
    (h : ∀ j : ℕ, j < 7 → ∀ (b : Fin 64) (a : Fin 128), v j (ix2 b a) = V b (j * 128 + a)) (d : Fin 64) (p : Fin 896) :
    vcat v (ix2 ⟨d, by omega⟩ p) = V d p := by
  pointwise [vcat]
  have hp := p.isLt
  have hd := d.isLt
  · split
    · rw [h 0 (by omega)]; congr 1; (try simp only); omega
    split
    · rw [h 1 (by omega)]; congr 1; (try simp only); omega
    split
    · rw [h 2 (by omega)]; congr 1; (try simp only); omega
    split
    · rw [h 3 (by omega)]; congr 1; (try simp only); omega
    split
    · rw [h 4 (by omega)]; congr 1; (try simp only); omega
    split
    · rw [h 5 (by omega)]; congr 1; (try simp only); omega
    · rw [h 6 (by omega)]; congr 1; (try simp only); omega

theorem ones_apply (a : Fin 128) : k0_pay5 (F := Ideal) (ix2 0 a) = (1 : EReal) := by
  pointwise [k0_pay5]

theorem vcat_ones (v : ℕ → FVec Ideal S64x128 .bf16) (p : Fin 896) : vcat v (ix2 64 p) = (1 : EReal) := by
  have h := ones_apply
  generalize hk : k0_pay5 (F := Ideal) = one at h
  pointwise [vcat, hk]
  simp only [h, dite_eq_ite, ite_self]

/-- The unit's output: weighted values over the sum of the weights. -/
def oAll (sk m : FVec Ideal S1x512 .f32) (v : FVec Ideal S80x896 .bf16) (p : Vec Ideal S1x896x512 .bf16) : FVec Ideal S64x512 .f32 :=
  let a : FVec Ideal S80x512 .f32 := matmul dot_S80x896_S896x512_S80x512_1_0_0_1_n_n none v (shapeCast S896x512 p shapeCasts_S1x896x512_S896x512 : FVec Ideal S896x512 .bf16)
    (constant S80x512 .f32 0x00000000#32)
  divf (extractStridedSlice S64x512 ![0, 0] a slices_S80x512_o0_0_S64x512)
    (broadcastTo S64x512 (addf (extractStridedSlice S1x512 ![64, 0] a slices_S80x512_o64_0_S1x512) (exp2 (subf sk m))) broadcasts_S1x512_S64x512)

theorem oAll_apply (V : ℕ → EReal) (f : ℕ → EReal) (z : EReal) (sk m : FVec Ideal S1x512 .f32) (v : FVec Ideal S80x896 .bf16)
    (p : Vec Ideal S1x896x512 .bf16) (d : Fin 64) (c : Fin 512) (hz : sk (ix2 0 c) = z) (hm : m (ix2 0 c) = top (fun k : Fin 896 => f k) z)
    (hv : ∀ k : Fin 896, v (ix2 ⟨d, by omega⟩ k) = V k) (h1 : ∀ k : Fin 896, v (ix2 64 k) = (1 : EReal))
    (hp : ∀ k : Fin 896, p (ix3 0 k c) = Ideal.exp2 (f k - top (fun k : Fin 896 => f k) z)) :
    oAll sk m v p (ix2 d c) = attn2 (fun k : Fin 896 => f k) (fun k : Fin 896 => V k) z := by
  pointwise [oAll]
  rw [hz, hm]
  simp only [hv, hp, h1, one_mul]
  rfl

end Cert.AttnWinIdeal.Unit
end
-- ==== Proof.WinRun.lean ====
module

public import proofs.«01_k».proof.Proof.WinUnit
public import proofs.«01_k».proof.Proof.Gen.AttnWinIdeal.Value
public import Idealize.ShloMosaic.Lib.Pipeline.ReadBack

@[expose] public section

/-!
# The windowed attention's run, unit by unit

The run of one grid point as lists of stores, written with the unit as a variable: unit `u` of 16 has the query block
`u / 4` of the point's four and the key/value head `u % 4`. The units run in two waves of eight; the scores of the second wave
are kept where those of the first were. The units' queries, blocks of keys, sinks and blocks of values are parameters here.
-/

set_option maxRecDepth 16384

noncomputable section

open Idealize.ShloMosaic Idealize.ShloMosaic.TcCoe Idealize.SL.Sem

namespace Cert.AttnWinIdeal.Unit

open Cert.AttnWinIdeal Cert.AttnWinIdeal.Gen Attention

/-! ## Closed forms -/

/-- Whether position `p` of the 896 is seen from column `c` of a unit with query block `qb`: a key of the block before from its
    place on, a key of the block after up to its place, and neither block outside the array. -/
def ok (i : grid0.Coords) (qb p c : ℕ) : Prop :=
  (512 ≤ p ∧ p < 640 → c % 128 ≤ p - 512 ∧ (qb = 0 → 0 < (i 1).val)) ∧ (768 ≤ p → p - 768 ≤ c % 128 ∧ (3 - qb = 0 → (i 1).val < 7))

instance (i : grid0.Coords) (qb p c : ℕ) : Decidable (ok i qb p c) := by unfold ok; infer_instance

/-- The masked score of position `p` in column `c` of unit `u`. -/
def sc (i : grid0.Coords) (Q : ℕ → ℕ → EReal) (K : ℕ → ℕ → ℕ → EReal) (u p c : ℕ) : EReal :=
  if ok i (u / 4) p c then score Q (K (u / 4)) (u / 4 % 4 * 128) (u % 4) p c else ⊥

/-- The scores of wave `w`, where the kernel keeps them. -/
def scores (i : grid0.Coords) (Q : ℕ → ℕ → EReal) (K : ℕ → ℕ → ℕ → EReal) (w : ℕ) : S8x7x128x512.Idx → EReal :=
  fun x => sc i Q K (8 * w + (x 0).val) ((x 1).val * 128 + x 2) (x 3)

/-- The largest score of column `c` of unit `u`, with the sink. -/
def mx (i : grid0.Coords) (Q : ℕ → ℕ → EReal) (K : ℕ → ℕ → ℕ → EReal) (S : ℕ → EReal) (u c : ℕ) : EReal :=
  top (fun p : Fin 896 => sc i Q K u p c) (S (u % 4 * 4 + c / 128) * log2e)

/-- Coordinate `d` of the output of unit `u` in column `c`. -/
def ou (i : grid0.Coords) (Q : ℕ → ℕ → EReal) (K V : ℕ → ℕ → ℕ → EReal) (S : ℕ → EReal) (u d c : ℕ) : EReal :=
  attn2 (fun p : Fin 896 => sc i Q K u p c) (fun p : Fin 896 => V (u / 4) (u % 4 * 64 + d) p) (S (u % 4 * 4 + c / 128) * log2e)

/-- The output where the kernel keeps it: row `n` is coordinate `n % 64` of head `n / 64`, column `r` is query `r`. -/
def outs (i : grid0.Coords) (Q : ℕ → ℕ → EReal) (K V : ℕ → ℕ → ℕ → EReal) (S : ℕ → EReal) : S1024x512.Idx → EReal := fun x =>
  ou i Q K V S ((x 1).val / 128 * 4 + (x 0).val / 256) ((x 0).val % 64) ((x 0).val / 64 % 4 * 128 + (x 1).val % 128)

/-- Pieces of a function in two lists are pieces of it in the lists' concatenation. -/
theorem pieces_append {s : Shape} {e : EltTy} {G : s.Idx → Elt Ideal e} : ∀ {L L' : List (View.Piece (Elt Ideal) s e)},
    View.PiecesOf G L → View.PiecesOf G L' → View.PiecesOf G (L ++ L')
  | [], _, _, h => h
  | _ :: _, _, h, h' => ⟨h.1, pieces_append h.2 h'⟩

section Run

variable (i : grid0.Coords) (q : ℕ → FVec Ideal S512x64 .bf16) (k : ℕ → ℕ → FVec Ideal S128x64 .bf16) (sk : ℕ → FVec Ideal S1x512 .f32)
  (v : ℕ → ℕ → FVec Ideal S64x128 .bf16) (arg17 : Memref sig .tc .vmem S8x7x128x512 .f32) (arg18 : Memref sig .tc .vmem S8x896x512 .bf16)
  (arg19 : Memref sig .tc .vmem S1024x512 .f32)

/-! ## Scores -/

/-- The scores of a block of unit `u`, unmasked. -/
def sS (u j : ℕ) : FVec Ideal S128x512 .f32 :=
  sBlk (j % 7 * 128) ⟨rfl, fun a => match a with | 0 => by simp; omega | 1 => by simp⟩ (sAll (q u) (kcat (k u)))

/-- The scores of a block of unit `u`: the block before and the block after are masked. -/
def sJ (u : ℕ) : ℕ → FVec Ideal S128x512 .f32
  | 4 => sMsk (pMask i (u / 4)) (sS q k u 4)
  | 6 => sMsk (nMask i (3 - u / 4)) (sS q k u 6)
  | j => sS q k u j

/-- The block of the scores' scratch that unit `u` keeps for block `j`. -/
abbrev sRect (u j : ℕ) : Rect S8x7x128x512 :=
  Rect.unit (s := S8x7x128x512) ![u % 8, j % 7, 0, 0] S1x1x128x512.size
    (fun a => match a with | 0 => by simp; omega | 1 => by simp; omega | 2 => by simp | 3 => by simp)

/-- The stores of the scores of the first blocks of unit `u`. -/
def sUnit (u : ℕ) : ℕ → List (View.Piece (Elt Ideal) S8x7x128x512 .f32)
  | 0 => []
  | j + 1 => ⟨sRect u j, shapeCast S1x1x128x512 (sJ i q k u j) shapeCasts_S128x512_S1x1x128x512⟩ :: sUnit u j

/-- The stores of the scores of `n` units from unit `u0` on. -/
def sFrom (u0 : ℕ) : ℕ → List (View.Piece (Elt Ideal) S8x7x128x512 .f32)
  | 0 => []
  | n + 1 => sUnit i q k (u0 + n) 7 ++ sFrom u0 n

/-- The stores of scores before the weights of unit `u`'s wave are taken. -/
def sAt (u : ℕ) : List (View.Piece (Elt Ideal) S8x7x128x512 .f32) := sFrom i q k (8 * (u / 8)) 8 ++ sFrom i q k 0 (8 * (u / 8))

/-- The load of the scores of a block of unit `u`. -/
def sLd (u j : ℕ) : Vec Ideal S1x1x128x512 .f32 := arg17.view.readCov (sAt i q k u) (sRect u j).toLoadRect

/-- Unit `u`'s largest scores. -/
def mU (u : ℕ) : FVec Ideal S1x512 .f32 := mRow (sJ i q k u) (sk u)

/-! ## The weights -/

/-- The block of the weights' scratch that unit `u` keeps for block `j`. -/
abbrev pRect (u j : ℕ) : Rect S8x896x512 :=
  Rect.unit (s := S8x896x512) ![u % 8, j % 7 * 128, 0] S1x128x512.size (fun a => match a with | 0 => by simp; omega | 1 => by simp; omega | 2 => by simp)

/-- The stores of the weights of the first blocks of unit `u`. -/
def pUnit (u : ℕ) : ℕ → List (View.Piece (Elt Ideal) S8x896x512 .bf16)
  | 0 => []
  | j + 1 => ⟨pRect u j, pBlk (mU i q k sk u) (sLd i q k arg17 u j)⟩ :: pUnit u j

/-- The stores of the weights of the first units. -/
def pList : ℕ → List (View.Piece (Elt Ideal) S8x896x512 .bf16)
  | 0 => []
  | u + 1 => pUnit i q k sk arg17 u 7 ++ pList u

/-- The load of a unit's weights, after they are stored. -/
def pLd (u : ℕ) : Vec Ideal S1x896x512 .bf16 :=
  arg18.view.readCov (pList i q k sk arg17 (u + 1)) (Rect.unit (s := S8x896x512) ![u % 8, 0, 0] S1x896x512.size
    (fun a => match a with | 0 => by simp; omega | 1 => by simp | 2 => by simp)).toLoadRect

/-! ## The outputs -/

/-- Unit `u`'s output. -/
def oU (u : ℕ) : FVec Ideal S64x512 .f32 := oAll (sk u) (mU i q k sk u) (vcat (v u)) (pLd i q k sk arg17 arg18 u)

/-- The block of the outputs' scratch for head `j` of unit `u`. -/
abbrev oRect (u j : ℕ) : Rect S1024x512 :=
  Rect.unit (s := S1024x512) ![(u % 4 * 4 + j % 4) * 64, u / 4 % 4 * 128] S64x128.size (fun a => match a with | 0 => by simp; omega | 1 => by simp; omega)

/-- Head `j`'s part of unit `u`'s output. -/
def oJ (u j : ℕ) : FVec Ideal S64x128 .f32 :=
  shapeCast S64x128 (extractStridedSlice S64x128 ![0, j % 4 * 128] (oU i q k sk v arg17 arg18 u)
    ⟨rfl, fun a => match a with | 0 => by simp | 1 => by simp; omega⟩ : FVec Ideal S64x128 .f32) shapeCasts_S64x128_S64x128

/-- The stores of the outputs of the first heads of unit `u`. -/
def oUnit (u : ℕ) : ℕ → List (View.Piece (Elt Ideal) S1024x512 .f32)
  | 0 => []
  | j + 1 => ⟨oRect u j, oJ i q k sk v arg17 arg18 u j⟩ :: oUnit u j

/-- The stores of the outputs of the first units. -/
def oList : ℕ → List (View.Piece (Elt Ideal) S1024x512 .f32)
  | 0 => []
  | u + 1 => oUnit i q k sk v arg17 arg18 u 4 ++ oList u

/-- The load of all outputs, after all are stored. -/
def oLd : Vec Ideal S1024x512 .f32 :=
  arg19.view.readCov (oList i q k sk v arg17 arg18 16)
    (Rect.unit (s := S1024x512) ![0, 0] S1024x512.size (fun a => match a with | 0 => by simp | 1 => by simp)).toLoadRect

/-! ## What they hold -/

variable (Q : ℕ → ℕ → EReal) (K V : ℕ → ℕ → ℕ → EReal) (S : ℕ → EReal)
  (hq : ∀ (u : ℕ) (c : Fin 512) (d : Fin 64), q u (ix2 c d) = Q (u / 4 % 4 * 128 + c % 128) ((u % 4 * 4 + c / 128) * 64 + d))
  (hk : ∀ u < 16, ∀ j < 7, ∀ (a : Fin 128) (b : Fin 64), k u j (ix2 a b) = K (u / 4) (j * 128 + a) (u % 4 * 64 + b))
  (hsk : ∀ (u : ℕ) (c : Fin 512), sk u (ix2 0 c) = S (u % 4 * 4 + c / 128) * log2e)
  (hv : ∀ u < 16, ∀ j < 7, ∀ (b : Fin 64) (a : Fin 128), v u j (ix2 b a) = V (u / 4) (u % 4 * 64 + b) (j * 128 + a))

include hq hk in
theorem sS_apply (u : ℕ) (hu : u < 16) (j : ℕ) (hj : j < 7) (a : Fin 128) (c : Fin 512) :
    sS q k u j (ix2 a c) = score Q (K (u / 4)) (u / 4 % 4 * 128) (u % 4) (j * 128 + a) c := by
  refine (sBlk_apply _ _ _ (fun p c => score Q (K (u / 4)) (u / 4 % 4 * 128) (u % 4) p c)
    (sAll_apply Q (K (u / 4)) _ _ _ _ (hq u) (kcat_apply (fun p d => K (u / 4) p (u % 4 * 64 + d)) _ (hk u hu))) a c).trans ?_
  simp only [Nat.mod_eq_of_lt hj]

include hq hk in
theorem sJ_apply (u : ℕ) (hu : u < 16) (j : ℕ) (hj : j < 7) (a : Fin 128) (c : Fin 512) :
    sJ i q k u j (ix2 a c) = sc i Q K u (j * 128 + a) c := by
  have h := sS_apply q k Q K hq hk u hu
  have ha := a.isLt
  unfold sJ sc
  split
  · rw [sMsk_apply _ _ _ a c (pMask_apply i (u / 4) a c), h 4 (by omega)]
    refine if_congr ?_ rfl rfl
    unfold ok
    have e1 : 4 * 128 + a.val - 512 = a.val := by omega
    rw [e1]
    constructor
    · exact fun h => ⟨fun _ => h, fun h' => by omega⟩
    · exact fun h => h.1 ⟨by omega, by omega⟩
  · rw [sMsk_apply _ _ _ a c (nMask_apply i (3 - u / 4) a c), h 6 (by omega)]
    refine if_congr ?_ rfl rfl
    unfold ok
    have e1 : 6 * 128 + a.val - 768 = a.val := by omega
    rw [e1]
    constructor
    · exact fun h => ⟨fun h' => by omega, fun _ => h⟩
    · exact fun h => h.2 (by omega)
  · rename_i h4 h6
    rw [h j hj, if_pos]
    exact ⟨fun h' => absurd (show j = 4 by omega) h4, fun h' => absurd (show j = 6 by omega) h6⟩

include hq hk in
theorem sUnit_pieces (w u : ℕ) (hw : w < 2) (hu : u / 8 = w) (n : ℕ) (hn : n ≤ 7) : View.PiecesOf (scores i Q K w) (sUnit i q k u n) := by
  induction n with
  | zero => trivial
  | succ j ih =>
    refine ⟨fun (y : S1x1x128x512.Idx) => ?_, ih (by omega)⟩
    rw [eq_ix4 y]
    idx_vars y
    have h : ∀ s : FVec Ideal S128x512 .f32, (shapeCast S1x1x128x512 s shapeCasts_S128x512_S1x1x128x512 : FVec Ideal S1x1x128x512 .f32)
        (ix4 y0 y1 y2 y3) = s (ix2 y2 y3) := fun s => by pointwise
    refine (h _).trans ((sJ_apply i q k Q K hq hk u (by omega) j (by omega) y2 y3).trans ?_)
    show _ = sc i Q K (8 * w + (u % 8 + 1 * y0.val)) ((j % 7 + 1 * y1.val) * 128 + (0 + 1 * y2.val)) (0 + 1 * y3.val)
    congr 1 <;> omega

include hq hk in
theorem sFrom_pieces (w : ℕ) (hw : w < 2) (n : ℕ) (hn : n ≤ 8) : View.PiecesOf (scores i Q K w) (sFrom i q k (8 * w) n) := by
  induction n with
  | zero => trivial
  | succ n ih => exact pieces_append (sUnit_pieces i q k Q K hq hk w (8 * w + n) hw (by omega) 7 le_rfl) (ih (by omega))

theorem sUnit_mem (u n j : ℕ) (hj : j < n) : ∃ p ∈ sUnit i q k u n, p.1 = sRect u j := by
  induction n with
  | zero => omega
  | succ m ih =>
    rcases Nat.lt_succ_iff_lt_or_eq.1 hj with h | rfl
    · obtain ⟨p, hp, he⟩ := ih h
      exact ⟨p, .tail _ hp, he⟩
    · exact ⟨_, .head _, rfl⟩

theorem sFrom_mem (u0 n u : ℕ) (h0 : u0 ≤ u) (hu : u < u0 + n) (j : ℕ) (hj : j < 7) : ∃ p ∈ sFrom i q k u0 n, p.1 = sRect u j := by
  induction n with
  | zero => omega
  | succ m ih =>
    by_cases h : u < u0 + m
    · obtain ⟨p, hp, he⟩ := ih h
      exact ⟨p, List.mem_append_right _ hp, he⟩
    · obtain rfl : u = u0 + m := by omega
      obtain ⟨p, hp, he⟩ := sUnit_mem i q k (u0 + m) 7 j hj
      exact ⟨p, List.mem_append_left _ hp, he⟩

include hq hk in
theorem sLd_apply (u : ℕ) (hu : u < 16) (j : ℕ) (hj : j < 7) (a : Fin 128) (c : Fin 512) :
    sLd i q k arg17 u j (ix4 0 0 a c) = sc i Q K u (j * 128 + a) c := by
  obtain ⟨p, hp, he⟩ := sFrom_mem i q k (8 * (u / 8)) 8 u (by omega) (by omega) j hj
  refine (congrFun (View.readCov_eq_canon' _ _ _) _).trans ?_
  refine (View.canon_append_of_piecesOf (Val := Elt Ideal) (e := .f32) (scores i Q K (u / 8)) (sFrom i q k 0 (8 * (u / 8)))
    (sFrom i q k (8 * (u / 8)) 8) (sFrom_pieces i q k Q K hq hk (u / 8) (by omega) 8 le_rfl) _
    ⟨p, hp, by rw [he]; exact (sRect u j).idx_mem _⟩).trans ?_
  show sc i Q K (8 * (u / 8) + (u % 8 + 1 * 0)) ((j % 7 + 1 * 0) * 128 + (0 + 1 * a.val)) (0 + 1 * c.val) = _
  congr 1 <;> omega

include hq hk hsk in
theorem mU_apply (u : ℕ) (hu : u < 16) (c : Fin 512) : mU i q k sk u (ix2 0 c) = mx i Q K S u c :=
  mRow_apply _ _ (fun p => sc i Q K u p c) _ c (fun j hj a => sJ_apply i q k Q K hq hk u hu j hj a c) (hsk u c)

/-- The weights of unit `u`, where the kernel keeps them. -/
def wts (u : ℕ) : S8x896x512.Idx → EReal := fun x => Ideal.exp2 (sc i Q K u (x 1).val (x 2).val - mx i Q K S u (x 2).val)

include hq hk hsk in
theorem pUnit_pieces (u : ℕ) (hu : u < 16) (n : ℕ) (hn : n ≤ 7) : View.PiecesOf (wts i Q K S u) (pUnit i q k sk arg17 u n) := by
  induction n with
  | zero => trivial
  | succ j ih =>
    refine ⟨fun (y : S1x128x512.Idx) => ?_, ih (by omega)⟩
    rw [eq_ix3 y]
    idx_vars y
    obtain rfl : y0 = 0 := Subsingleton.elim _ _
    refine (pBlk_apply _ _ y1 y2).trans ?_
    rw [sLd_apply i q k arg17 Q K hq hk u hu j (by omega), mU_apply i q k sk Q K S hq hk hsk u hu]
    show _ = Ideal.exp2 (sc i Q K u (j % 7 * 128 + 1 * y1.val) (0 + 1 * y2.val) - mx i Q K S u (0 + 1 * y2.val))
    rw [Nat.mod_eq_of_lt (by omega : j < 7)]
    simp only [zero_add, one_mul]

theorem pUnit_mem (u n j : ℕ) (hj : j < n) : ∃ p ∈ pUnit i q k sk arg17 u n, p.1 = pRect u j := by
  induction n with
  | zero => omega
  | succ m ih =>
    rcases Nat.lt_succ_iff_lt_or_eq.1 hj with h | rfl
    · obtain ⟨p, hp, he⟩ := ih h
      exact ⟨p, .tail _ hp, he⟩
    · exact ⟨_, .head _, rfl⟩

include hq hk hsk in
theorem pLd_apply (u : ℕ) (hu : u < 16) (p : Fin 896) (c : Fin 512) :
    pLd i q k sk arg17 arg18 u (ix3 0 p c) = Ideal.exp2 (sc i Q K u p c - mx i Q K S u c) := by
  have hp := p.isLt
  obtain ⟨x, hx, he⟩ := pUnit_mem i q k sk arg17 u 7 (p / 128) (by omega)
  refine (congrFun (View.readCov_eq_canon' _ _ _) _).trans ?_
  refine (View.canon_append_of_piecesOf (Val := Elt Ideal) (e := .bf16) (wts i Q K S u) (pList i q k sk arg17 u)
    (pUnit i q k sk arg17 u 7) (pUnit_pieces i q k sk arg17 Q K S hq hk hsk u hu 7 le_rfl) _ ⟨x, hx, ?_⟩).trans ?_
  · rw [he]
    refine Rect.mem_set_unit.2 fun a => ?_
    match a with
    | 0 => exact ⟨le_rfl, Nat.lt_succ_self _⟩
    | 1 =>
      show p.val / 128 % 7 * 128 ≤ 0 + 1 * p.val ∧ 0 + 1 * p.val < p.val / 128 % 7 * 128 + 128
      omega
    | 2 => exact ⟨Nat.zero_le _, by show 0 + 1 * c.val < 0 + 512; omega⟩
  · show Ideal.exp2 (sc i Q K u (0 + 1 * p.val) (0 + 1 * c.val) - mx i Q K S u (0 + 1 * c.val)) = _
    simp only [zero_add, one_mul]

include hq hk hsk hv in
theorem oU_apply (u : ℕ) (hu : u < 16) (d : Fin 64) (c : Fin 512) : oU i q k sk v arg17 arg18 u (ix2 d c) = ou i Q K V S u d c :=
  oAll_apply (fun p => V (u / 4) (u % 4 * 64 + d) p) (fun p => sc i Q K u p c) _ _ _ _ _ d c (hsk u c) (mU_apply i q k sk Q K S hq hk hsk u hu c)
    (fun p => vcat_apply (fun b p => V (u / 4) (u % 4 * 64 + b) p) _ (hv u hu) d p) (fun p => vcat_ones _ p)
    (fun p => pLd_apply i q k sk arg17 arg18 Q K S hq hk hsk u hu p c)

include hq hk hsk hv in
theorem oUnit_pieces (u : ℕ) (hu : u < 16) (n : ℕ) (hn : n ≤ 4) : View.PiecesOf (outs i Q K V S) (oUnit i q k sk v arg17 arg18 u n) := by
  induction n with
  | zero => trivial
  | succ j ih =>
    refine ⟨fun (y : S64x128.Idx) => ?_, ih (by omega)⟩
    rw [eq_ix2 y]
    idx_vars y
    have h : oJ i q k sk v arg17 arg18 u j (ix2 y0 y1) = oU i q k sk v arg17 arg18 u (ix2 y0 ⟨j % 4 * 128 + y1, by omega⟩) := by pointwise [oJ]
    refine h.trans ((oU_apply i q k sk v arg17 arg18 Q K V S hq hk hsk hv u hu _ _).trans ?_)
    show _ = ou i Q K V S ((u / 4 % 4 * 128 + 1 * y1.val) / 128 * 4 + ((u % 4 * 4 + j % 4) * 64 + 1 * y0.val) / 256) (((u % 4 * 4 + j % 4) * 64 + 1 * y0.val) % 64)
      (((u % 4 * 4 + j % 4) * 64 + 1 * y0.val) / 64 % 4 * 128 + (u / 4 % 4 * 128 + 1 * y1.val) % 128)
    congr 1 <;> (try simp only) <;> omega

include hq hk hsk hv in
theorem oList_pieces (n : ℕ) (hn : n ≤ 16) : View.PiecesOf (outs i Q K V S) (oList i q k sk v arg17 arg18 n) := by
  induction n with
  | zero => trivial
  | succ u ih => exact pieces_append (oUnit_pieces i q k sk v arg17 arg18 Q K V S hq hk hsk hv u (by omega) 4 le_rfl) (ih (by omega))

theorem oUnit_mem (u n j : ℕ) (hj : j < n) : ∃ p ∈ oUnit i q k sk v arg17 arg18 u n, p.1 = oRect u j := by
  induction n with
  | zero => omega
  | succ m ih =>
    rcases Nat.lt_succ_iff_lt_or_eq.1 hj with h | rfl
    · obtain ⟨p, hp, he⟩ := ih h
      exact ⟨p, .tail _ hp, he⟩
    · exact ⟨_, .head _, rfl⟩

theorem oList_mem (n u : ℕ) (hu : u < n) (j : ℕ) (hj : j < 4) : ∃ p ∈ oList i q k sk v arg17 arg18 n, p.1 = oRect u j := by
  induction n with
  | zero => omega
  | succ m ih =>
    rcases Nat.lt_succ_iff_lt_or_eq.1 hu with h | rfl
    · obtain ⟨p, hp, he⟩ := ih h
      exact ⟨p, List.mem_append_right _ hp, he⟩
    · obtain ⟨p, hp, he⟩ := oUnit_mem i q k sk v arg17 arg18 u 4 j hj
      exact ⟨p, List.mem_append_left _ hp, he⟩

include hq hk hsk hv in
theorem oLd_apply (a : Fin 1024) (b : Fin 512) : oLd i q k sk v arg17 arg18 arg19 (ix2 a b)
    = ou i Q K V S (b.val / 128 * 4 + a.val / 256) (a.val % 64) (a.val / 64 % 4 * 128 + b.val % 128) := by
  have ha := a.isLt
  have hb := b.isLt
  obtain ⟨p, hp, he⟩ := oList_mem i q k sk v arg17 arg18 16 (b.val / 128 * 4 + a.val / 256) (by omega) (a.val / 64 % 4) (by omega)
  refine (congrFun (View.readCov_eq_canon' _ _ _) _).trans ?_
  refine (View.canon_apply_of_pieces (outs i Q K V S) _ (oList_pieces i q k sk v arg17 arg18 Q K V S hq hk hsk hv 16 le_rfl).mem _
    ⟨p, hp, by
      rw [he]
      refine Rect.mem_set_unit.2 fun x => ?_
      match x with
      | 0 =>
        show ((b.val / 128 * 4 + a.val / 256) % 4 * 4 + a.val / 64 % 4 % 4) * 64 ≤ 0 + 1 * a.val
          ∧ 0 + 1 * a.val < ((b.val / 128 * 4 + a.val / 256) % 4 * 4 + a.val / 64 % 4 % 4) * 64 + 64
        omega
      | 1 =>
        show (b.val / 128 * 4 + a.val / 256) / 4 % 4 * 128 ≤ 0 + 1 * b.val
          ∧ 0 + 1 * b.val < (b.val / 128 * 4 + a.val / 256) / 4 % 4 * 128 + 128
        omega⟩).trans ?_
  show ou i Q K V S ((0 + 1 * b.val) / 128 * 4 + (0 + 1 * a.val) / 256) ((0 + 1 * a.val) % 64)
    ((0 + 1 * a.val) / 64 % 4 * 128 + (0 + 1 * b.val) % 128) = _
  simp only [zero_add, one_mul]

end Run

end Cert.AttnWinIdeal.Unit
end
-- ==== Proof.WinLoads.lean ====
module

public import proofs.«01_k».proof.Proof.WinRun

@[expose] public section

/-!
# The windowed attention's loads

A unit's queries, blocks of keys, sinks and blocks of values as the kernel loads them, and their entries in terms of the
blocks that a grid point is given. A unit's 896 positions are the 512 context keys, then the 128 keys of the query block before
(of the first query block: from the block of keys before the point's own), its own 128 keys and the 128 keys of the query block after.
-/

set_option maxRecDepth 16384

noncomputable section

open Idealize.ShloMosaic Idealize.ShloMosaic.TcCoe Idealize.SL.Sem

namespace Cert.AttnWinIdeal.Unit

open Cert.AttnWinIdeal Cert.AttnWinIdeal.Gen Attention

/-- A block with a leading axis of one as a table. -/
abbrev tab3 (m n : ℕ) (x : Vec Ideal (Shape.mk 3 ![1, m, n]) .bf16) : ℕ → ℕ → EReal := tab fun (i : Fin m) (j : Fin n) => x (ix3 0 i j)

/-- The sinks as a row. -/
abbrev sTab (x : Vec Ideal S1x16 .f32) : ℕ → EReal := tab (fun i j : Fin _ => x (ix2 i j)) 0

/-- The keys at the positions of query block `qb`, from the context's keys, the keys of the block before, the point's own and the block after. -/
def kpos (KC KP KM KN : ℕ → ℕ → EReal) (qb p e : ℕ) : EReal :=
  if p < 512 then KC p e else if p < 640 then (if qb = 0 then KP (p - 512) e else KM ((qb - 1) * 128 + (p - 512)) e)
  else if p < 768 then KM (qb * 128 + (p - 640)) e else if 3 - qb = 0 then KN (p - 768) e else KM ((qb + 1) * 128 + (p - 768)) e

/-- One value at zero, another family's after it. -/
def sel {α : Type} : ℕ → α → (ℕ → α) → α
  | 0, z, _ => z
  | n + 1, _, f => f n

theorem sel_zero {α : Type} {n : ℕ} (z : α) (f : ℕ → α) (h : n = 0) : sel n z f = z := by subst h; rfl

theorem sel_succ {α : Type} {n : ℕ} (z : α) (f : ℕ → α) (h : n ≠ 0) : sel n z f = f (n - 1) := by
  cases n with
  | zero => exact absurd rfl h
  | succ n => rfl

section Positions

variable (KC KP KM KN : ℕ → ℕ → EReal) (qb e a : ℕ) (ha : a < 128)
include ha

theorem kpos_ctx (j : ℕ) (hj : j < 4) : kpos KC KP KM KN qb (j * 128 + a) e = KC (j * 128 + a) e := by
  rw [kpos, if_pos (by omega)]

theorem kpos_edge0 (hq : qb = 0) : kpos KC KP KM KN qb (4 * 128 + a) e = KP a e := by
  rw [kpos, if_neg (by omega), if_pos (by omega), if_pos hq, (by omega : 4 * 128 + a - 512 = a)]

theorem kpos_prev (hq : qb ≠ 0) : kpos KC KP KM KN qb (4 * 128 + a) e = KM ((qb - 1) * 128 + a) e := by
  rw [kpos, if_neg (by omega), if_pos (by omega), if_neg hq, (by omega : 4 * 128 + a - 512 = a)]

theorem kpos_own : kpos KC KP KM KN qb (5 * 128 + a) e = KM (qb * 128 + a) e := by
  rw [kpos, if_neg (by omega), if_neg (by omega), if_pos (by omega), (by omega : 5 * 128 + a - 640 = a)]

theorem kpos_edge3 (hq : 3 - qb = 0) : kpos KC KP KM KN qb (6 * 128 + a) e = KN a e := by
  rw [kpos, if_neg (by omega), if_neg (by omega), if_neg (by omega), if_pos hq, (by omega : 6 * 128 + a - 768 = a)]

theorem kpos_next (hq : 3 - qb ≠ 0) : kpos KC KP KM KN qb (6 * 128 + a) e = KM ((qb + 1) * 128 + a) e := by
  rw [kpos, if_neg (by omega), if_neg (by omega), if_neg (by omega), if_neg hq, (by omega : 6 * 128 + a - 768 = a)]

end Positions

/-- The transposed values at the positions of query block `qb`. -/
def vpos (VC VP VM VN : ℕ → ℕ → EReal) (qb e p : ℕ) : EReal := kpos (fun p e => VC e p) (fun p e => VP e p) (fun p e => VM e p) (fun p e => VN e p) qb p e

theorem qLoad {arg : Memref sig .tc .vmem S1x512x1024 .bf16} {harg : arg.IsWhole} {x : Vec Ideal S1x512x1024 .bf16} {o : ℕ}
    {inb : ∀ a : Fin S1x512x1024.rank, (![0, o, 0] : Fin S1x512x1024.rank → ℕ) a + S1x128x1024.size a ≤ S1x512x1024.size a} (a : Fin 128) (b : Fin 1024) :
    View.readAt (Elt Ideal) arg.view (Rect.unit (s := S1x512x1024) ![0, o, 0] S1x128x1024.size inb).toLoadRect (harg.unread x) (ix3 0 a b)
      = tab3 512 1024 x (o + a) b := by
  refine Eq.trans ?_ (tab_of _ (by have := inb 1; simp at this; omega) b.isLt).symm
  rw [View.readAt_eq_ld, harg.read_unread]
  pointwise

theorem kLoad {arg : Memref sig .tc .vmem S1x512x256 .bf16} {harg : arg.IsWhole} {x : Vec Ideal S1x512x256 .bf16} {o o' : ℕ}
    {inb : ∀ a : Fin S1x512x256.rank, (![0, o, o'] : Fin S1x512x256.rank → ℕ) a + S1x128x64.size a ≤ S1x512x256.size a} (a : Fin 128) (b : Fin 64) :
    View.readAt (Elt Ideal) arg.view (Rect.unit (s := S1x512x256) ![0, o, o'] S1x128x64.size inb).toLoadRect (harg.unread x) (ix3 0 a b)
      = tab3 512 256 x (o + a) (o' + b) := by
  refine Eq.trans ?_ (tab_of _ (by have := inb 1; simp at this; omega) (by have := inb 2; simp at this; omega)).symm
  rw [View.readAt_eq_ld, harg.read_unread]
  pointwise

theorem vLoad {arg : Memref sig .tc .vmem S1x256x512 .bf16} {harg : arg.IsWhole} {x : Vec Ideal S1x256x512 .bf16} {o o' : ℕ}
    {inb : ∀ a : Fin S1x256x512.rank, (![0, o, o'] : Fin S1x256x512.rank → ℕ) a + S1x64x128.size a ≤ S1x256x512.size a} (a : Fin 64) (b : Fin 128) :
    View.readAt (Elt Ideal) arg.view (Rect.unit (s := S1x256x512) ![0, o, o'] S1x64x128.size inb).toLoadRect (harg.unread x) (ix3 0 a b)
      = tab3 256 512 x (o + a) (o' + b) := by
  refine Eq.trans ?_ (tab_of _ (by have := inb 1; simp at this; omega) (by have := inb 2; simp at this; omega)).symm
  rw [View.readAt_eq_ld, harg.read_unread]
  pointwise

theorem kLoad_edge {arg : Memref sig .tc .vmem S1x128x256 .bf16} {harg : arg.IsWhole} {x : Vec Ideal S1x128x256 .bf16}
    {inb : ∀ a : Fin S1x128x256.rank, (![0, 0, 0] : Fin S1x128x256.rank → ℕ) a + S1x128x256.size a ≤ S1x128x256.size a} (a : Fin 128) (b : Fin 256) :
    View.readAt (Elt Ideal) arg.view (Rect.unit (s := S1x128x256) ![0, 0, 0] S1x128x256.size inb).toLoadRect (harg.unread x) (ix3 0 a b)
      = tab3 128 256 x a b := by
  refine Eq.trans ?_ (tab_of _ a.isLt b.isLt).symm
  rw [View.readAt_eq_ld, harg.read_unread]
  pointwise

theorem vLoad_edge {arg : Memref sig .tc .vmem S1x256x128 .bf16} {harg : arg.IsWhole} {x : Vec Ideal S1x256x128 .bf16} {o : ℕ}
    {inb : ∀ a : Fin S1x256x128.rank, (![0, o, 0] : Fin S1x256x128.rank → ℕ) a + S1x64x128.size a ≤ S1x256x128.size a} (a : Fin 64) (b : Fin 128) :
    View.readAt (Elt Ideal) arg.view (Rect.unit (s := S1x256x128) ![0, o, 0] S1x64x128.size inb).toLoadRect (harg.unread x) (ix3 0 a b)
      = tab3 256 128 x (o + a) b := by
  refine Eq.trans ?_ (tab_of _ (by have := inb 1; simp at this; omega) b.isLt).symm
  rw [View.readAt_eq_ld, harg.read_unread]
  pointwise

theorem sLoad {arg : Memref sig .tc .vmem S1x16 .f32} {harg : arg.IsWhole} {x : Vec Ideal S1x16 .f32} {o : ℕ}
    {inb : ∀ a : Fin S1x16.rank, (![0, o] : Fin S1x16.rank → ℕ) a + S1x1.size a ≤ S1x16.size a} :
    View.readAt (Elt Ideal) arg.view (Rect.unit (s := S1x16) ![0, o] S1x1.size inb).toLoadRect (harg.unread x) (ix2 0 0) = sTab x o := by
  refine Eq.trans ?_ (tab_of _ (by omega) (by have := inb 1; simp at this; omega)).symm
  rw [View.readAt_eq_ld, harg.read_unread]
  pointwise

theorem kCast_apply (z : FVec Ideal S1x128x64 .bf16) (a : Fin 128) (e : Fin 64) : shapeCast S128x64 z shapeCasts_S1x128x64_S128x64 (ix2 a e) = z (ix3 0 a e) := by
  pointwise

theorem vCast_apply (z : FVec Ideal S1x64x128 .bf16) (e : Fin 64) (a : Fin 128) : shapeCast S64x128 z shapeCasts_S1x64x128_S64x128 (ix2 e a) = z (ix3 0 e a) := by
  pointwise

section Loads

variable (arg2 : Memref sig .tc .vmem S1x512x1024 .bf16) (harg2 : arg2.IsWhole) (arg6 : Memref sig .tc .vmem S1x512x256 .bf16) (harg6 : arg6.IsWhole)
  (arg7 : Memref sig .tc .vmem S1x256x512 .bf16) (harg7 : arg7.IsWhole) (arg8 : Memref sig .tc .vmem S1x128x256 .bf16) (harg8 : arg8.IsWhole)
  (arg9 : Memref sig .tc .vmem S1x512x256 .bf16) (harg9 : arg9.IsWhole) (arg10 : Memref sig .tc .vmem S1x128x256 .bf16) (harg10 : arg10.IsWhole)
  (arg11 : Memref sig .tc .vmem S1x256x128 .bf16) (harg11 : arg11.IsWhole) (arg12 : Memref sig .tc .vmem S1x256x512 .bf16) (harg12 : arg12.IsWhole)
  (arg13 : Memref sig .tc .vmem S1x256x128 .bf16) (harg13 : arg13.IsWhole) (arg14 : Memref sig .tc .vmem S1x16 .f32) (harg14 : arg14.IsWhole)
  (x0 : Vec Ideal S1x512x1024 .bf16) (x4 : Vec Ideal S1x512x256 .bf16) (x5 : Vec Ideal S1x256x512 .bf16) (x6 : Vec Ideal S1x128x256 .bf16)
  (x7 : Vec Ideal S1x512x256 .bf16) (x8 : Vec Ideal S1x128x256 .bf16) (x9 : Vec Ideal S1x256x128 .bf16) (x10 : Vec Ideal S1x256x512 .bf16)
  (x11 : Vec Ideal S1x256x128 .bf16) (x12 : Vec Ideal S1x16 .f32)

/-- Unit `u`'s queries. -/
def qU (u : ℕ) : FVec Ideal S512x64 .bf16 :=
  have hs (j : ℕ) (hj : j < 4) : S128x1024.Slices ![0, (u % 4 * 4 + j) * 64] S128x64 :=
    ⟨rfl, fun a => match a with | 0 => by simp | 1 => by simp; omega⟩
  qcat ((u % 4 * 4 + 0) * 64) ((u % 4 * 4 + 1) * 64) ((u % 4 * 4 + 2) * 64) ((u % 4 * 4 + 3) * 64)
    (hs 0 (by omega)) (hs 1 (by omega)) (hs 2 (by omega)) (hs 3 (by omega))
    (View.readAt (Elt Ideal) arg2.view (Rect.unit (s := S1x512x1024) ![0, u / 4 % 4 * 128, 0] S1x128x1024.size
      (fun a => match a with | 0 => by simp | 1 => by simp; omega | 2 => by simp)).toLoadRect (harg2.unread x0))

theorem qU_apply (u : ℕ) (c : Fin 512) (d : Fin 64) : qU arg2 harg2 x0 u (ix2 c d)
    = tab3 512 1024 x0 (u / 4 % 4 * 128 + c % 128) ((u % 4 * 4 + c / 128) * 64 + d) :=
  qcat_apply _ _ _ _ _ _ _ rfl rfl rfl rfl _ qLoad c d

/-- The 128 keys of block `b` of four, of the head of unit `u`. -/
def kOf (arg : Memref sig .tc .vmem S1x512x256 .bf16) (harg : arg.IsWhole) (x : Vec Ideal S1x512x256 .bf16) (u b : ℕ) : FVec Ideal S128x64 .bf16 :=
  shapeCast S128x64 (View.readAt (Elt Ideal) arg.view (Rect.unit (s := S1x512x256) ![0, b % 4 * 128, u % 4 * 64] S1x128x64.size
    (fun a => match a with | 0 => by simp | 1 => by simp; omega | 2 => by simp; omega)).toLoadRect (harg.unread x) : FVec Ideal S1x128x64 .bf16)
    shapeCasts_S1x128x64_S128x64

theorem kOf_apply (arg : Memref sig .tc .vmem S1x512x256 .bf16) (harg : arg.IsWhole) (x : Vec Ideal S1x512x256 .bf16) (u b : ℕ) (hb : b < 4)
    (a : Fin 128) (e : Fin 64) : kOf arg harg x u b (ix2 a e) = tab3 512 256 x (b * 128 + a) (u % 4 * 64 + e) := by
  refine (kCast_apply _ a e).trans ((kLoad (harg := harg) (x := x) a e).trans ?_)
  rw [Nat.mod_eq_of_lt hb]

/-- The 128 keys of an edge block, of the head of unit `u`. -/
def kEdge (arg : Memref sig .tc .vmem S1x128x256 .bf16) (harg : arg.IsWhole) (x : Vec Ideal S1x128x256 .bf16) (u : ℕ) : FVec Ideal S128x64 .bf16 :=
  extractStridedSlice S128x64 ![0, u % 4 * 64] (shapeCast S128x256 (View.readAt (Elt Ideal) arg.view (Rect.unit (s := S1x128x256) ![0, 0, 0] S1x128x256.size
    (fun a => match a with | 0 => by simp | 1 => by simp | 2 => by simp)).toLoadRect (harg.unread x) : FVec Ideal S1x128x256 .bf16)
    shapeCasts_S1x128x256_S128x256 : FVec Ideal S128x256 .bf16) ⟨rfl, fun a => match a with | 0 => by simp | 1 => by simp; omega⟩

theorem kEdge_apply (arg : Memref sig .tc .vmem S1x128x256 .bf16) (harg : arg.IsWhole) (x : Vec Ideal S1x128x256 .bf16) (u : ℕ)
    (a : Fin 128) (e : Fin 64) : kEdge arg harg x u (ix2 a e) = tab3 128 256 x a (u % 4 * 64 + e) := by
  have h : kEdge arg harg x u (ix2 a e) = View.readAt (Elt Ideal) arg.view (Rect.unit (s := S1x128x256) ![0, 0, 0] S1x128x256.size
    (fun a => match a with | 0 => by simp | 1 => by simp | 2 => by simp)).toLoadRect (harg.unread x) (ix3 0 a (⟨u % 4 * 64 + e, by omega⟩ : Fin 256)) := by
    unfold kEdge
    generalize View.readAt (Elt Ideal) arg.view _ _ = z
    pointwise
  exact h.trans (kLoad_edge (harg := harg) (x := x) a ⟨u % 4 * 64 + e, by omega⟩)

/-- Block `j` of unit `u`'s keys. -/
def kU (u : ℕ) : ℕ → FVec Ideal S128x64 .bf16
  | 4 => sel (u / 4) (kEdge arg8 harg8 x6 u) (kOf arg9 harg9 x7 u)
  | 5 => kOf arg9 harg9 x7 u (u / 4)
  | 6 => sel (3 - u / 4) (kEdge arg10 harg10 x8 u) (fun _ => kOf arg9 harg9 x7 u (u / 4 + 1))
  | j => kOf arg6 harg6 x4 u j

/-- The keys at the positions of query block `qb`, from a point's blocks. -/
abbrev kTab : ℕ → ℕ → ℕ → EReal :=
  kpos (tab3 512 256 x4) (tab3 128 256 x6) (tab3 512 256 x7) (tab3 128 256 x8)

theorem kU_apply (u : ℕ) (hu : u < 16) (j : ℕ) (hj : j < 7) (a : Fin 128) (b : Fin 64) :
    kU arg6 harg6 arg8 harg8 arg9 harg9 arg10 harg10 x4 x6 x7 x8 u j (ix2 a b) = kTab x4 x6 x7 x8 (u / 4) (j * 128 + a) (u % 4 * 64 + b) := by
  have ha := a.isLt
  unfold kU
  split
  · by_cases h : u / 4 = 0
    · rw [sel_zero _ _ h]
      refine Eq.trans ?_ (kpos_edge0 _ _ _ _ _ _ _ ha h).symm
      exact kEdge_apply _ _ _ _ _ _
    · rw [sel_succ _ _ h]
      refine Eq.trans ?_ (kpos_prev _ _ _ _ _ _ _ ha h).symm
      exact kOf_apply _ _ _ _ _ (by omega) _ _
  · refine Eq.trans ?_ (kpos_own _ _ _ _ _ _ _ ha).symm
    exact kOf_apply _ _ _ _ _ (by omega) _ _
  · by_cases h : 3 - u / 4 = 0
    · rw [sel_zero _ _ h]
      refine Eq.trans ?_ (kpos_edge3 _ _ _ _ _ _ _ ha h).symm
      exact kEdge_apply _ _ _ _ _ _
    · rw [sel_succ _ _ h]
      refine Eq.trans ?_ (kpos_next _ _ _ _ _ _ _ ha h).symm
      exact kOf_apply _ _ _ _ _ (by omega) _ _
  · rename_i h4 h5 h6
    have : j ≠ 4 := h4
    have : j ≠ 5 := h5
    have : j ≠ 6 := h6
    refine Eq.trans ?_ (kpos_ctx _ _ _ _ _ _ _ ha j (by omega)).symm
    exact kOf_apply _ _ _ _ _ (by omega) _ _

/-- The 128 values of block `b` of four, of the head of unit `u`. -/
def vOf (arg : Memref sig .tc .vmem S1x256x512 .bf16) (harg : arg.IsWhole) (x : Vec Ideal S1x256x512 .bf16) (u b : ℕ) : FVec Ideal S64x128 .bf16 :=
  shapeCast S64x128 (View.readAt (Elt Ideal) arg.view (Rect.unit (s := S1x256x512) ![0, u % 4 * 64, b % 4 * 128] S1x64x128.size
    (fun a => match a with | 0 => by simp | 1 => by simp; omega | 2 => by simp; omega)).toLoadRect (harg.unread x) : FVec Ideal S1x64x128 .bf16)
    shapeCasts_S1x64x128_S64x128

theorem vOf_apply (arg : Memref sig .tc .vmem S1x256x512 .bf16) (harg : arg.IsWhole) (x : Vec Ideal S1x256x512 .bf16) (u b : ℕ) (hb : b < 4)
    (e : Fin 64) (a : Fin 128) : vOf arg harg x u b (ix2 e a) = tab3 256 512 x (u % 4 * 64 + e) (b * 128 + a) := by
  refine (vCast_apply _ e a).trans ((vLoad (harg := harg) (x := x) e a).trans ?_)
  rw [Nat.mod_eq_of_lt hb]

/-- The 128 values of an edge block, of the head of unit `u`. -/
def vEdge (arg : Memref sig .tc .vmem S1x256x128 .bf16) (harg : arg.IsWhole) (x : Vec Ideal S1x256x128 .bf16) (u : ℕ) : FVec Ideal S64x128 .bf16 :=
  shapeCast S64x128 (View.readAt (Elt Ideal) arg.view (Rect.unit (s := S1x256x128) ![0, u % 4 * 64, 0] S1x64x128.size
    (fun a => match a with | 0 => by simp | 1 => by simp; omega | 2 => by simp)).toLoadRect (harg.unread x) : FVec Ideal S1x64x128 .bf16)
    shapeCasts_S1x64x128_S64x128

theorem vEdge_apply (arg : Memref sig .tc .vmem S1x256x128 .bf16) (harg : arg.IsWhole) (x : Vec Ideal S1x256x128 .bf16) (u : ℕ)
    (e : Fin 64) (a : Fin 128) : vEdge arg harg x u (ix2 e a) = tab3 256 128 x (u % 4 * 64 + e) a := by
  exact (vCast_apply _ e a).trans (vLoad_edge (harg := harg) (x := x) e a)

/-- Block `j` of unit `u`'s values. -/
def vU (u : ℕ) : ℕ → FVec Ideal S64x128 .bf16
  | 4 => sel (u / 4) (vEdge arg11 harg11 x9 u) (vOf arg12 harg12 x10 u)
  | 5 => vOf arg12 harg12 x10 u (u / 4)
  | 6 => sel (3 - u / 4) (vEdge arg13 harg13 x11 u) (fun _ => vOf arg12 harg12 x10 u (u / 4 + 1))
  | j => vOf arg7 harg7 x5 u j

/-- The transposed values at the positions of query block `qb`, from a point's blocks. -/
abbrev vTab : ℕ → ℕ → ℕ → EReal :=
  vpos (tab3 256 512 x5) (tab3 256 128 x9) (tab3 256 512 x10) (tab3 256 128 x11)

theorem vU_apply (u : ℕ) (hu : u < 16) (j : ℕ) (hj : j < 7) (b : Fin 64) (a : Fin 128) :
    vU arg7 harg7 arg11 harg11 arg12 harg12 arg13 harg13 x5 x9 x10 x11 u j (ix2 b a) = vTab x5 x9 x10 x11 (u / 4) (u % 4 * 64 + b) (j * 128 + a) := by
  have ha := a.isLt
  unfold vU
  split
  · by_cases h : u / 4 = 0
    · rw [sel_zero _ _ h]
      refine Eq.trans ?_ (kpos_edge0 _ _ _ _ _ _ _ ha h).symm
      exact vEdge_apply _ _ _ _ _ _
    · rw [sel_succ _ _ h]
      refine Eq.trans ?_ (kpos_prev _ _ _ _ _ _ _ ha h).symm
      exact vOf_apply _ _ _ _ _ (by omega) _ _
  · refine Eq.trans ?_ (kpos_own _ _ _ _ _ _ _ ha).symm
    exact vOf_apply _ _ _ _ _ (by omega) _ _
  · by_cases h : 3 - u / 4 = 0
    · rw [sel_zero _ _ h]
      refine Eq.trans ?_ (kpos_edge3 _ _ _ _ _ _ _ ha h).symm
      exact vEdge_apply _ _ _ _ _ _
    · rw [sel_succ _ _ h]
      refine Eq.trans ?_ (kpos_next _ _ _ _ _ _ _ ha h).symm
      exact vOf_apply _ _ _ _ _ (by omega) _ _
  · rename_i h4 h5 h6
    have : j ≠ 4 := h4
    have : j ≠ 5 := h5
    have : j ≠ 6 := h6
    refine Eq.trans ?_ (kpos_ctx _ _ _ _ _ _ _ ha j (by omega)).symm
    exact vOf_apply _ _ _ _ _ (by omega) _ _

/-- The sink of head `j` of unit `u`, as the kernel loads it. -/
def sL (u j : ℕ) : Vec Ideal S1x1 .f32 :=
  View.readAt (Elt Ideal) arg14.view (Rect.unit (s := S1x16) ![0, u % 4 * 4 + j % 4] S1x1.size
    (fun a => match a with | 0 => by simp | 1 => by simp; omega)).toLoadRect (harg14.unread x12)

/-- Unit `u`'s sinks, one for each column. -/
def skU (u : ℕ) : FVec Ideal S1x512 .f32 := skRow (sL arg14 harg14 x12 u 0) (sL arg14 harg14 x12 u 1) (sL arg14 harg14 x12 u 2) (sL arg14 harg14 x12 u 3)

theorem skU_apply (u : ℕ) (c : Fin 512) : skU arg14 harg14 x12 u (ix2 0 c) = sTab x12 (u % 4 * 4 + c / 128) * log2e :=
  skRow_apply (sTab x12) (u % 4) _ _ _ _ sLoad sLoad sLoad sLoad c

end Loads

end Cert.AttnWinIdeal.Unit
end
-- ==== Proof.WinList.lean ====
module

public import proofs.«01_k».proof.Proof.WinLoads

@[expose] public section

/-!
# The windowed attention's outputs, as the run holds them

The run's list of stores of outputs is the list written with the unit as a variable.
-/

set_option maxRecDepth 16384

noncomputable section

open Idealize.ShloMosaic Idealize.ShloMosaic.TcCoe Idealize.SL.Sem

namespace Cert.AttnWinIdeal.Unit

open Cert.AttnWinIdeal Cert.AttnWinIdeal.Gen Attention

variable (arg2 : Memref sig .tc .vmem S1x512x1024 .bf16) (harg2 : arg2.IsWhole) (arg6 : Memref sig .tc .vmem S1x512x256 .bf16) (harg6 : arg6.IsWhole)
  (arg7 : Memref sig .tc .vmem S1x256x512 .bf16) (harg7 : arg7.IsWhole) (arg8 : Memref sig .tc .vmem S1x128x256 .bf16) (harg8 : arg8.IsWhole)
  (arg9 : Memref sig .tc .vmem S1x512x256 .bf16) (harg9 : arg9.IsWhole) (arg10 : Memref sig .tc .vmem S1x128x256 .bf16) (harg10 : arg10.IsWhole)
  (arg11 : Memref sig .tc .vmem S1x256x128 .bf16) (harg11 : arg11.IsWhole) (arg12 : Memref sig .tc .vmem S1x256x512 .bf16) (harg12 : arg12.IsWhole)
  (arg13 : Memref sig .tc .vmem S1x256x128 .bf16) (harg13 : arg13.IsWhole) (arg14 : Memref sig .tc .vmem S1x16 .f32) (harg14 : arg14.IsWhole)
  (arg17 : Memref sig .tc .vmem S8x7x128x512 .f32) (arg18 : Memref sig .tc .vmem S8x896x512 .bf16)
  (x0 : Vec Ideal S1x512x1024 .bf16) (x4 : Vec Ideal S1x512x256 .bf16) (x5 : Vec Ideal S1x256x512 .bf16) (x6 : Vec Ideal S1x128x256 .bf16)
  (x7 : Vec Ideal S1x512x256 .bf16) (x8 : Vec Ideal S1x128x256 .bf16) (x9 : Vec Ideal S1x256x128 .bf16) (x10 : Vec Ideal S1x256x512 .bf16)
  (x11 : Vec Ideal S1x256x128 .bf16) (x12 : Vec Ideal S1x16 .f32)

theorem sFrom_first (c : Dev nD) (i : grid0.Coords) :
    kernelRun0_A.sl.HS0_56 (F := Ideal) c i arg2 harg2 arg6 harg6 arg8 harg8 arg9 harg9 x0 x4 x6 x7
      = sAt i (qU arg2 harg2 x0) (kU arg6 harg6 arg8 harg8 arg9 harg9 arg10 harg10 x4 x6 x7 x8) 0 := by
  rfl

theorem sFrom_second (c : Dev nD) (i : grid0.Coords) :
    kernelRun0_A.sl.HS0_112 (F := Ideal) c i arg2 harg2 arg6 harg6 arg8 harg8 arg9 harg9 arg10 harg10 x0 x4 x6 x7 x8
      = sAt i (qU arg2 harg2 x0) (kU arg6 harg6 arg8 harg8 arg9 harg9 arg10 harg10 x4 x6 x7 x8) 8 := by
  sl_kernel_rfl

theorem oList_eq (c : Dev nD) (i : grid0.Coords) :
    kernelRun0_A.sl.HS2_64 (F := Ideal) c i arg2 harg2 arg6 harg6 arg7 harg7 arg8 harg8 arg9 harg9 arg10 harg10 arg11 harg11 arg12 harg12
        arg13 harg13 arg14 harg14 arg17 arg18 x0 x4 x5 x6 x7 x8 x9 x10 x11 x12
      = oList i (qU arg2 harg2 x0) (kU arg6 harg6 arg8 harg8 arg9 harg9 arg10 harg10 x4 x6 x7 x8) (skU arg14 harg14 x12)
          (vU arg7 harg7 arg11 harg11 arg12 harg12 arg13 harg13 x5 x9 x10 x11) arg17 arg18 16 := by
  sl_kernel_rfl

end Cert.AttnWinIdeal.Unit
end
-- ==== Proof.HostMax.lean ====
module
public import proofs.«01_k».proof.Proof.Softmax
public import Idealize.ShloMosaic.Lib.Pointwise
@[expose] public section

/-!
# Numbers and maxima of the references

The constants of the references as extended reals, and their largest score over the last axis as a maximum over the keys.
-/

set_option maxRecDepth 16384

noncomputable section

open Idealize.ShloMosaic

namespace Attention

theorem neg_inf : (Ideal.ofBits FTy.f32 4286578688#32 : EReal) = ⊥ := by simp [Ideal.ofBits, Ideal.ieee]

theorem two_bits : (Ideal.ofBits FTy.f32 1073741824#32 : EReal) = ((2 : ℝ) : EReal) := by
  simp [Ideal.ofBits, Ideal.ieee]
  rw [← EReal.coe_mul]
  norm_num

/-- The logarithm of the constant 2 is `ln 2`. -/
theorem log_two : Ideal.log (Ideal.ofBits FTy.f32 1073741824#32) = ln2 := by
  rw [two_bits]
  show (if (2 : ℝ) ≤ 0 then ⊥ else ((Real.log 2 : ℝ) : EReal)) = _
  rw [if_neg (by norm_num)]
  rfl

/-- A maximum over the last of five axes, from −∞, is the largest entry along it. -/
theorem hostMax {a b c d e : ℕ} (s : FVec Ideal ⟨5, ![a, b, c, d, e]⟩ .f32)
    (h : (⟨5, ![a, b, c, d, e]⟩ : Shape).ReducesTo [4] ⟨4, ![a, b, c, d]⟩) (hu : 0 < (⟨0, ![]⟩ : Shape).numel)
    (i : Fin a) (j : Fin b) (k : Fin c) (l : Fin d) :
    Host.reduce FloatOps.maximumf s (constant (⟨0, ![]⟩ : Shape) .f32 0xFF800000#32) h hu (ix4 i j k l)
      = Finset.univ.fold max ⊥ fun x : Fin e => s (ix5 i j k l x) := by
  pointwise
  rw [neg_inf]

end Attention

end
-- ==== Proof.WinRef.lean ====
module
public import proofs.«01_k».proof.Proof.Gen.AttnWinRefIdeal.Run
public import proofs.«01_k».proof.Proof.HostMax
public import proofs.«01_k».proof.Proof.Words
@[expose] public section

/-!
# The windowed attention's reference

The reference's result in closed form over its arguments: the stages of its composed term, each read at an index. Its 4608 keys
are the 512 context keys, then the 4096 latent keys.
-/

set_option maxRecDepth 16384

noncomputable section

open Idealize.ShloMosaic Idealize.ShloMosaic.TcCoe Idealize.SL.Sem

namespace Cert.AttnWinRefIdeal.Closed

open Cert.AttnWinRefIdeal Cert.AttnWinRefIdeal.Gen Attention

variable (Q : FVec Ideal S4x4096x1024 .bf16) (SG : FVec Ideal S4x4096x1024 .bf16) (X : FVec Ideal S4x4096x1024 .f32) (MD : FVec Ideal S8x3x1024 .f32)
  (KC : FVec Ideal S4x512x256 .bf16) (VC : FVec Ideal S4x256x512 .bf16) (KL : FVec Ideal S4x4096x256 .bf16) (VL : FVec Ideal S4x256x4096 .bf16)
  (S : FVec Ideal S16 .f32) (W : FVec Ideal S1024x1024 .f32)

/-- All keys. -/
def kR : FVec Ideal S4x4608x256 .f32 :=
  concatenate S4x4608x256 1 [⟨S4x512x256, (extf .f32 KC bitsLt_bf16_f32)⟩, ⟨S4x4096x256, (extf .f32 KL bitsLt_bf16_f32)⟩] concatenates_S4x512x256_S4x4096x256_S4x4608x256_d1

/-- All transposed values. -/
def vR : FVec Ideal S4x256x4608 .f32 :=
  concatenate S4x256x4608 2 [⟨S4x256x512, (extf .f32 VC bitsLt_bf16_f32)⟩, ⟨S4x256x4096, (extf .f32 VL bitsLt_bf16_f32)⟩] concatenates_S4x256x512_S4x256x4096_S4x256x4608_d2

/-- The scores before the mask. -/
def sR (k : FVec Ideal S4x4608x256 .f32) : FVec Ideal S4x4x4x4096x4608 .f32 :=
  mulf (transpose S4x4x4x4096x4608 [0, 1, 4, 3, 2] (Host.dotGeneral dot_S4x4608x4x64_S4x4096x4x4x64_S4x4x4608x4096x4_3_4_1_13_02_02 none (shapeCast _ k shapeCasts_S4x4608x256_S4x4608x4x64) (shapeCast _ (extf .f32 Q bitsLt_bf16_f32) shapeCasts_S4x4096x1024_S4x4096x4x4x64)) transposes_S4x4x4608x4096x4_S4x4x4x4096x4608_0_1_4_3_2) (broadcastInDim S4x4x4x4096x4608 ![] bcast_S_S4x4x4x4096x4608 (Host.log (constant S_ .f32 0x40000000#32)))

/-- A key's place among the latent keys; negative for a context key. -/
def jR : IVec S4096x4608 32 := subi (iotaInDim S4096x4608 32 1) (broadcastInDim S4096x4608 ![] bcast_S_S4096x4608 (constantI S_ 32 512#32))

/-- Which keys a query sees. -/
def maskR : IVec S4096x4608 1 :=
  ori (cmpi .slt jR (broadcastInDim S4096x4608 ![] bcast_S_S4096x4608 (constantI S_ 32 0#32))) (andi (cmpi .sle (subi (iotaInDim S4096x4608 32 0) jR) (broadcastInDim S4096x4608 ![] bcast_S_S4096x4608 (constantI S_ 32 128#32))) (cmpi .sle (subi jR (iotaInDim S4096x4608 32 0)) (broadcastInDim S4096x4608 ![] bcast_S_S4096x4608 (constantI S_ 32 128#32))))

/-- The masked scores. -/
def mskR (s : FVec Ideal S4x4x4x4096x4608 .f32) : FVec Ideal S4x4x4x4096x4608 .f32 :=
  select (broadcastInDim S4x4x4x4096x4608 ![3, 4] bcast_S4096x4608_S4x4x4x4096x4608_3_4 maskR) s (broadcastInDim S4x4x4x4096x4608 ![] bcast_S_S4x4x4x4096x4608 (id (constant S_ .f32 0xFF800000#32)))

/-- The sinks, over the queries. -/
def skR : FVec Ideal S4x4x4x4096 .f32 :=
  broadcastInDim S4x4x4x4096 ![0, 1, 2, 3] bcast_S1x4x4x1_S4x4x4x4096_0_1_2_3 (shapeCast _ S shapeCasts_S16_S1x4x4x1)

/-- The largest scores. -/
def mR (s : FVec Ideal S4x4x4x4096x4608 .f32) (k : FVec Ideal S4x4x4x4096 .f32) : FVec Ideal S4x4x4x4096 .f32 :=
  maximumf (Host.reduce FloatOps.maximumf s (constant S_ .f32 0xFF800000#32) reducesTo_S4x4x4x4096x4608_S4x4x4x4096_d4 h_S_) k

/-- The weights. -/
def eR (s : FVec Ideal S4x4x4x4096x4608 .f32) (m : FVec Ideal S4x4x4x4096 .f32) : FVec Ideal S4x4x4x4096x4608 .f32 :=
  Host.exp (subf s (broadcastInDim S4x4x4x4096x4608 ![0, 1, 2, 3, 4] bcast_S4x4x4x4096x1_S4x4x4x4096x4608_0_1_2_3_4 (broadcastInDim S4x4x4x4096x1 ![0, 1, 2, 3] bcast_S4x4x4x4096_S4x4x4x4096x1_0_1_2_3 m)))

/-- The weights' sums. -/
def dR (e : FVec Ideal S4x4x4x4096x4608 .f32) (k m : FVec Ideal S4x4x4x4096 .f32) : FVec Ideal S4x4x4x4096 .f32 :=
  addf (Host.reduceAdd e (constant S_ .f32 0x00000000#32) reducesTo_S4x4x4x4096x4608_S4x4x4x4096_d4 h_S_) (Host.exp (subf k m))

/-- The attention. -/
def oR (v : FVec Ideal S4x256x4608 .f32) (e : FVec Ideal S4x4x4x4096x4608 .f32) (d : FVec Ideal S4x4x4x4096 .f32) : FVec Ideal S4x4096x1024 .f32 :=
  shapeCast S4x4096x1024 (Host.divf (transpose S4x4096x4x4x64 [0, 4, 1, 3, 2] (Host.dotGeneral dot_S4x4x64x4608_S4x4x4x4096x4608_S4x4x64x4x4096_3_4_2_23_01_01 none (shapeCast _ v shapeCasts_S4x256x4608_S4x4x64x4608) e) transposes_S4x4x64x4x4096_S4x4096x4x4x64_0_4_1_3_2) (broadcastInDim S4x4096x4x4x64 ![0, 1, 2, 3, 4] bcast_S4x4096x4x4x1_S4x4096x4x4x64_0_1_2_3_4 (broadcastInDim S4x4096x4x4x1 ![0, 1, 2, 3] bcast_S4x4096x4x4_S4x4096x4x4x1_0_1_2_3 (transpose S4x4096x4x4 [0, 3, 1, 2] d transposes_S4x4x4x4096_S4x4096x4x4_0_3_1_2)))) shapeCasts_S4x4096x4x4x64_S4x4096x1024

/-- The result. -/
def yR (o : FVec Ideal S4x4096x1024 .f32) : FVec Ideal S4x4096x1024 .f32 :=
  addf X (mulf (broadcastInDim S4x4096x1024 ![0, 1, 2] bcast_S4x1x1024_S4x4096x1024_0_1_2 (broadcastInDim S4x1x1024 ![0, 2] bcast_S4x1024_S4x1x1024_0_2 (shapeCast S4x1024 (extractStridedSlice S4x1x1024 ![1, 2, 0] MD slices_S8x3x1024_S4x1x1024_1_2_0) shapeCasts_S4x1x1024_S4x1024))) (Host.dotGeneral dot_S4x4096x1024_S1024x1024_S4x4096x1024_2_0_01_1_n_n none (mulf o (extf .f32 SG bitsLt_bf16_f32)) W))

/-- The reference from its masked scores on. -/
def tailR (s : FVec Ideal S4x4x4x4096x4608 .f32) : FVec Ideal S4x4096x1024 .f32 :=
  yR SG X MD W (oR (vR VC VL) (eR s (mR s (skR S))) (dR (eR s (mR s (skR S))) (skR S) (mR s (skR S))))

/-- The whole reference. -/
def ref : FVec Ideal S4x4096x1024 .f32 := tailR SG X MD VC VL S W (mskR (sR Q (kR KC KL)))

/-- The keys as a table: a context key up to 512, a latent key from there on. -/
def keyT (b : Fin 4) (k : Fin 4608) (n : Fin 256) : EReal :=
  if h : k.val < 512 then KC (ix3 b ⟨k, h⟩ n) else KL (ix3 b ⟨k - 512, by omega⟩ n)

/-- The transposed values as a table. -/
def valT (b : Fin 4) (n : Fin 256) (k : Fin 4608) : EReal :=
  if h : k.val < 512 then VC (ix3 b n ⟨k, h⟩) else VL (ix3 b n ⟨k - 512, by omega⟩)

/-- Query `q` sees key `k`: a context key, or a latent key at most 128 places away. -/
def sees (q k : ℕ) : Prop := k < 512 ∨ ((q : ℤ) - (k - 512) ≤ 128 ∧ ((k : ℤ) - 512) - q ≤ 128)

instance (q k : ℕ) : Decidable (sees q k) := by unfold sees; infer_instance

theorem kR_apply (b : Fin 4) (k : Fin 4608) (n : Fin 256) : kR KC KL (ix3 b k n) = keyT KC KL b k n := by
  pointwise [kR, keyT]

theorem vR_apply (b : Fin 4) (n : Fin 256) (k : Fin 4608) : vR VC VL (ix3 b n k) = valT VC VL b n k := by
  pointwise [vR, valT]

theorem sR_apply (K : FVec Ideal S4x4608x256 .f32) (b : Fin 4) (g j : Fin 4) (q : Fin 4096) (k : Fin 4608) : sR Q K (ix5 b g j q k)
    = (∑ d : Fin 64, K (ix3 b k ⟨g * 64 + d, by omega⟩) * Q (ix3 b q ⟨(g * 4 + j) * 64 + d, by omega⟩)) * ln2 := by
  pointwise [sR]
  rw [log_two]
  congr 1
  refine Finset.sum_congr rfl fun d _ => ?_
  congr 3
  exact Fin.ext (by show _ = _; simp only; omega)

theorem skR_apply (b : Fin 4) (g j : Fin 4) (q : Fin 4096) : skR S (ix4 b g j q) = S (ix1 ⟨g * 4 + j, by omega⟩) := by
  pointwise [skR]

theorem mR_apply (s : FVec Ideal S4x4x4x4096x4608 .f32) (sk : FVec Ideal S4x4x4x4096 .f32) (b : Fin 4) (g j : Fin 4) (q : Fin 4096) :
    mR s sk (ix4 b g j q) = top (fun k : Fin 4608 => s (ix5 b g j q k)) (sk (ix4 b g j q)) := by
  unfold mR top
  rw [maximumf_apply]
  exact congrArg (fun z : EReal => max z (sk (ix4 b g j q))) (hostMax s _ _ b g j q)

theorem eR_apply (s : FVec Ideal S4x4x4x4096x4608 .f32) (m : FVec Ideal S4x4x4x4096 .f32) (b : Fin 4) (g j : Fin 4) (q : Fin 4096) (k : Fin 4608) :
    eR s m (ix5 b g j q k) = Ideal.exp (s (ix5 b g j q k) - m (ix4 b g j q)) := by
  pointwise [eR]

theorem dR_apply (e : FVec Ideal S4x4x4x4096x4608 .f32) (sk m : FVec Ideal S4x4x4x4096 .f32) (b : Fin 4) (g j : Fin 4) (q : Fin 4096) :
    dR e sk m (ix4 b g j q) = (∑ k, e (ix5 b g j q k)) + Ideal.exp (sk (ix4 b g j q) - m (ix4 b g j q)) := by
  pointwise [dR]

theorem oR_apply (v : FVec Ideal S4x256x4608 .f32) (e : FVec Ideal S4x4x4x4096x4608 .f32) (d : FVec Ideal S4x4x4x4096 .f32) (b : Fin 4) (q : Fin 4096) (i : Fin 1024) :
    oR v e d (ix3 b q i) = Ideal.div (∑ k : Fin 4608, v (ix3 b ⟨i / 256 * 64 + i % 64, by omega⟩ k) * e (ix5 b ⟨i / 256, by omega⟩ ⟨i / 64 % 4, by omega⟩ q k))
      (d (ix4 b ⟨i / 256, by omega⟩ ⟨i / 64 % 4, by omega⟩ q)) := by
  pointwise [oR]

theorem yR_apply (o : FVec Ideal S4x4096x1024 .f32) (b : Fin 4) (q : Fin 4096) (l : Fin 1024) : yR SG X MD W o (ix3 b q l)
    = X (ix3 b q l) + MD (ix3 ⟨b + 1, by omega⟩ 2 l) * ∑ k : Fin 1024, o (ix3 b q k) * SG (ix3 b q k) * W (ix2 k l) := by
  have e : (⟨b + 1, by omega⟩ : Fin 8) = ⟨1 + b, by omega⟩ := Fin.ext (Nat.add_comm _ _)
  rw [e]
  pointwise [yR]

theorem jR_apply (q : Fin 4096) (k : Fin 4608) : (jR (ix2 q k)).toInt = (k : ℤ) - 512 := by
  pointwise [jR]
  exact toInt_sub (toInt_small (by omega)) (toInt_small (by omega)) (by omega) (by omega)

theorem maskR_apply (q : Fin 4096) (k : Fin 4608) : maskR (ix2 q k) = if sees q k then 1#1 else 0#1 := by
  have hj := jR_apply q k
  have hq : (BitVec.ofNat 32 q.val).toInt = q.val := toInt_small (by omega)
  have h : maskR (ix2 q k) = IntOp.ori (IntOp.cmpi .slt (jR (ix2 q k)) 0#32)
      (IntOp.andi (IntOp.cmpi .sle (IntOp.subi (BitVec.ofNat 32 q.val) (jR (ix2 q k))) 128#32)
        (IntOp.cmpi .sle (IntOp.subi (jR (ix2 q k)) (BitVec.ofNat 32 q.val)) 128#32)) := by
    unfold maskR
    generalize jR = j
    pointwise
  have h0 : (0#32 : BitVec 32).toInt = 0 := rfl
  have h128 : (128#32 : BitVec 32).toInt = 128 := rfl
  rw [h, cmp_slt, cmp_sle, cmp_sle, toInt_sub hq hj (by omega) (by omega), toInt_sub hj hq (by omega) (by omega), and_bit, or_bit, hj, h0, h128]
  refine if_congr ?_ rfl rfl
  unfold sees
  omega

theorem mskR_apply (s : FVec Ideal S4x4x4x4096x4608 .f32) (b : Fin 4) (g j : Fin 4) (q : Fin 4096) (k : Fin 4608) :
    mskR s (ix5 b g j q k) = if sees q k then s (ix5 b g j q k) else ⊥ := by
  have h : mskR s (ix5 b g j q k) = Scalar.select (maskR (ix2 q k)) (s (ix5 b g j q k)) ⊥ := by
    unfold mskR
    generalize maskR = j
    pointwise
    exact congrArg _ neg_inf
  rw [h, maskR_apply, select_bit]

/-- The score of key `k` for query `q` of head `i / 64`. -/
def scoreT (b : Fin 4) (q : Fin 4096) (i : Fin 1024) (k : Fin 4608) : EReal :=
  if sees q k then (∑ d : Fin 64, keyT KC KL b k ⟨i / 256 * 64 + d, by omega⟩ * Q (ix3 b q ⟨(i / 256 * 4 + i / 64 % 4) * 64 + d, by omega⟩)) * ln2 else ⊥

/-- The reference at an index: the input plus the gate times the output projection of the gated attention, coordinate
    `i` of the attention being coordinate `i % 64` of head `i / 64`, whose key/value head is `i / 256`. -/
theorem ref_apply (b : Fin 4) (q : Fin 4096) (l : Fin 1024) : ref Q SG X MD KC VC KL VL S W (ix3 b q l)
    = X (ix3 b q l) + MD (ix3 ⟨b + 1, by omega⟩ 2 l) * ∑ i : Fin 1024, attn (scoreT Q KC KL b q i)
        (fun k : Fin 4608 => valT VC VL b ⟨i / 256 * 64 + i % 64, by omega⟩ k) (S (ix1 ⟨i / 256 * 4 + i / 64 % 4, by omega⟩))
      * SG (ix3 b q i) * W (ix2 i l) := by
  unfold ref tailR attn scoreT
  rw [yR_apply]
  simp only [oR_apply, dR_apply, eR_apply, mR_apply, skR_apply, mskR_apply, sR_apply, kR_apply, vR_apply]

theorem res_eq (m : (ℓ : Loc nD τ sig) → Buf (Elt Ideal) ℓ) (c : Dev nD) : Value.res_out0 m c
    = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  rfl

end Cert.AttnWinRefIdeal.Closed
-- ==== Proof.WinAtt.lean ====
module
public import proofs.«01_k».proof.Proof.WinLoads
public import proofs.«01_k».proof.Proof.WinRef
@[expose] public section

/-!
# The window: 896 positions of a query block, 4608 keys of the reference

A position that a query sees is a key that the reference's query sees, and the other way round; so the attention over a block's
positions is the attention over all keys.
-/

set_option maxRecDepth 16384

noncomputable section

open Idealize.ShloMosaic Idealize.ShloMosaic.TcCoe Idealize.SL.Sem

namespace Cert.AttnWinIdeal.Unit

open Cert.AttnWinIdeal Cert.AttnWinIdeal.Gen Attention
open Cert.AttnWinRefIdeal.Closed (sees keyT valT scoreT)

/-- Query `r`'s attention in coordinate `k` (coordinate `k % 64` of head `k / 64`), as the kernel computes it. -/
def att (i : grid0.Coords) (Q : ℕ → ℕ → EReal) (K V : ℕ → ℕ → ℕ → EReal) (S : ℕ → EReal) (r k : ℕ) : EReal :=
  ou i Q K V S (r / 128 * 4 + k / 256) (k % 64) (k / 64 % 4 * 128 + r % 128)

/-- The key at position `p` of query block `qb` of the point's step `st`. -/
def keyAt (st qb : ℕ) (p : Fin 896) : Fin 4608 :=
  if h : p.val < 512 then ⟨p, by omega⟩ else ⟨512 + min (st * 512 + qb * 128 + (p - 512) - 128) 4095, by omega⟩

theorem keyAt_ctx {st qb : ℕ} {p : Fin 896} (h : p.val < 512) : (keyAt st qb p).val = p := by rw [keyAt, dif_pos h]

theorem keyAt_lat {i : grid0.Coords} {qb c : ℕ} (hqb : qb < 4) {p : Fin 896} (h : 512 ≤ p.val) (hok : ok i qb p c) :
    (keyAt (i 1).val qb p).val + 640 = 512 + ((i 1).val * 512 + qb * 128 + p) ∧ 512 ≤ (keyAt (i 1).val qb p).val := by
  have hi : (i 1).val < 8 := (i 1).isLt
  have hp := p.isLt
  unfold ok at hok
  rw [keyAt, dif_neg (by omega)]
  simp only
  omega

/-- What stands at a position that is seen is what stands at its key. -/
theorem kpos_eq (i : grid0.Coords) (KC KP KM KN : ℕ → ℕ → EReal) (n : ℕ) (F : Fin 4608 → EReal)
    (hC : ∀ a : Fin 512, KC a n = F ⟨a, by omega⟩)
    (hP : ∀ a : Fin 128, ∀ h : 0 < (i 1).val, KP a n = F ⟨512 + ((i 1).val * 512 - 128 + a), by have : (i 1).val < 8 := (i 1).isLt; omega⟩)
    (hM : ∀ a : Fin 512, KM a n = F ⟨512 + ((i 1).val * 512 + a), by have : (i 1).val < 8 := (i 1).isLt; omega⟩)
    (hN : ∀ a : Fin 128, ∀ h : (i 1).val < 7, KN a n = F ⟨512 + ((i 1).val * 512 + 512 + a), by omega⟩)
    (qb c : ℕ) (hqb : qb < 4) (p : Fin 896) (hok : ok i qb p c) : kpos KC KP KM KN qb p n = F (keyAt (i 1).val qb p) := by
  have hp := p.isLt
  have hi : (i 1).val < 8 := (i 1).isLt
  unfold kpos
  split
  · rename_i h
    exact (hC ⟨p, h⟩).trans (congrArg F (Fin.ext (keyAt_ctx h).symm))
  · rename_i h
    have hk := keyAt_lat hqb (Nat.le_of_not_lt h) hok
    unfold ok at hok
    split
    · split
      · exact (hP ⟨p - 512, by omega⟩ (by omega)).trans (congrArg F (Fin.ext (by simp only; omega)))
      · exact (hM ⟨(qb - 1) * 128 + (p - 512), by omega⟩).trans (congrArg F (Fin.ext (by simp only; omega)))
    · split
      · exact (hM ⟨qb * 128 + (p - 640), by omega⟩).trans (congrArg F (Fin.ext (by simp only; omega)))
      · split
        · exact (hN ⟨p - 768, by omega⟩ (by omega)).trans (congrArg F (Fin.ext (by simp only; omega)))
        · exact (hM ⟨(qb + 1) * 128 + (p - 768), by omega⟩).trans (congrArg F (Fin.ext (by simp only; omega)))

theorem sees_keyAt (i : grid0.Coords) (r : ℕ) (hr : r < 512) (c : ℕ) (hc : c % 128 = r % 128) (p : Fin 896) (hok : ok i (r / 128) p c) :
    sees ((i 1).val * 512 + r) (keyAt (i 1).val (r / 128) p) := by
  have hp := p.isLt
  by_cases h : p.val < 512
  · exact .inl (by rw [keyAt_ctx h]; exact h)
  · have hk := keyAt_lat (by omega) (Nat.le_of_not_lt h) hok
    unfold ok at hok
    unfold sees
    omega

theorem keyAt_inj (i : grid0.Coords) (qb c : ℕ) (hqb : qb < 4) (p p' : Fin 896) (h : ok i qb p c) (h' : ok i qb p' c)
    (he : keyAt (i 1).val qb p = keyAt (i 1).val qb p') : p = p' := by
  have he := congrArg Fin.val he
  refine Fin.ext ?_
  by_cases hp : p.val < 512 <;> by_cases hp' : p'.val < 512
  · rwa [keyAt_ctx hp, keyAt_ctx hp'] at he
  · have := keyAt_lat hqb (Nat.le_of_not_lt hp') h'
    rw [keyAt_ctx hp] at he
    omega
  · have := keyAt_lat hqb (Nat.le_of_not_lt hp) h
    rw [keyAt_ctx hp'] at he
    omega
  · have := keyAt_lat hqb (Nat.le_of_not_lt hp) h
    have := keyAt_lat hqb (Nat.le_of_not_lt hp') h'
    omega

theorem keyAt_surj (i : grid0.Coords) (r : ℕ) (hr : r < 512) (c : ℕ) (hc : c % 128 = r % 128) (k : Fin 4608)
    (hk : sees ((i 1).val * 512 + r) k) : ∃ p : Fin 896, ok i (r / 128) p c ∧ keyAt (i 1).val (r / 128) p = k := by
  have hi : (i 1).val < 8 := (i 1).isLt
  have hlt := k.isLt
  by_cases h : k.val < 512
  · refine ⟨⟨k, by omega⟩, by unfold ok; simp only; omega, Fin.ext (keyAt_ctx h)⟩
  · have hk : ((i 1).val * 512 + r : ℤ) - (k - 512) ≤ 128 ∧ (k - 512 : ℤ) - ((i 1).val * 512 + r) ≤ 128 := by
      rcases hk with hk | hk
      · exact absurd hk h
      · push_cast at hk; exact hk
    have hok : ok i (r / 128) (k + 128 - (i 1).val * 512 - r / 128 * 128) c := by unfold ok; omega
    refine ⟨⟨k + 128 - (i 1).val * 512 - r / 128 * 128, by omega⟩, hok, Fin.ext ?_⟩
    have := keyAt_lat (p := ⟨k + 128 - (i 1).val * 512 - r / 128 * 128, by omega⟩) (by omega) (by simp only; omega) hok
    simp only at this
    omega

/-- The kernel's attention over its 896 positions is the attention over all keys, given what the point's blocks hold. -/
theorem att_eq (i : grid0.Coords) (Q : FVec Ideal Cert.AttnWinRefIdeal.S4x4096x1024 .bf16) (KC : FVec Ideal Cert.AttnWinRefIdeal.S4x512x256 .bf16)
    (VC : FVec Ideal Cert.AttnWinRefIdeal.S4x256x512 .bf16) (KL : FVec Ideal Cert.AttnWinRefIdeal.S4x4096x256 .bf16)
    (VL : FVec Ideal Cert.AttnWinRefIdeal.S4x256x4096 .bf16) (S : FVec Ideal Cert.AttnWinRefIdeal.S16 .f32) (b : Fin 4)
    (x0 : Vec Ideal S1x512x1024 .bf16) (x4 : Vec Ideal S1x512x256 .bf16) (x5 : Vec Ideal S1x256x512 .bf16) (x6 : Vec Ideal S1x128x256 .bf16)
    (x7 : Vec Ideal S1x512x256 .bf16) (x8 : Vec Ideal S1x128x256 .bf16) (x9 : Vec Ideal S1x256x128 .bf16) (x10 : Vec Ideal S1x256x512 .bf16)
    (x11 : Vec Ideal S1x256x128 .bf16) (x12 : Vec Ideal S1x16 .f32) (hi : (i 1).val < 8)
    (h0 : ∀ (r : Fin 512) (k : Fin 1024), x0 (ix3 0 r k) = Q (ix3 b ⟨(i 1).val * 512 + r, by omega⟩ k))
    (h4 : ∀ (k : Fin 512) (n : Fin 256), x4 (ix3 0 k n) = KC (ix3 b k n))
    (h5 : ∀ (n : Fin 256) (k : Fin 512), x5 (ix3 0 n k) = VC (ix3 b n k))
    (h6 : ∀ (k : Fin 128) (n : Fin 256), x6 (ix3 0 k n) = KL (ix3 b ⟨(4 * (i 1).val - 1) * 128 + k, by omega⟩ n))
    (h7 : ∀ (k : Fin 512) (n : Fin 256), x7 (ix3 0 k n) = KL (ix3 b ⟨(i 1).val * 512 + k, by omega⟩ n))
    (h8 : ∀ (k : Fin 128) (n : Fin 256), x8 (ix3 0 k n) = KL (ix3 b ⟨min (4 * (i 1).val + 4) 31 * 128 + k, by omega⟩ n))
    (h9 : ∀ (n : Fin 256) (k : Fin 128), x9 (ix3 0 n k) = VL (ix3 b n ⟨(4 * (i 1).val - 1) * 128 + k, by omega⟩))
    (h10 : ∀ (n : Fin 256) (k : Fin 512), x10 (ix3 0 n k) = VL (ix3 b n ⟨(i 1).val * 512 + k, by omega⟩))
    (h11 : ∀ (n : Fin 256) (k : Fin 128), x11 (ix3 0 n k) = VL (ix3 b n ⟨min (4 * (i 1).val + 4) 31 * 128 + k, by omega⟩))
    (h12 : ∀ j : Fin 16, x12 (ix2 0 j) = S (ix1 j)) (r : Fin 512) (k : Fin 1024) :
    att i (tab3 512 1024 x0) (kTab x4 x6 x7 x8) (vTab x5 x9 x10 x11) (sTab x12) r k
      = attn (scoreT Q KC KL b ⟨(i 1).val * 512 + r, by omega⟩ k) (fun kk : Fin 4608 => valT VC VL b ⟨k / 256 * 64 + k % 64, by omega⟩ kk)
          (S (ix1 ⟨k / 256 * 4 + k / 64 % 4, by omega⟩)) := by
  have hr := r.isLt
  have hk := k.isLt
  have e0 : (r.val / 128 * 4 + k.val / 256) / 4 = r.val / 128 := by omega
  have e1 : (r.val / 128 * 4 + k.val / 256) % 4 = k.val / 256 := by omega
  have e2 : r.val / 128 % 4 * 128 + (k.val / 64 % 4 * 128 + r.val % 128) % 128 = r.val := by omega
  have e3 : (k.val / 64 % 4 * 128 + r.val % 128) / 128 = k.val / 64 % 4 := by omega
  have hsk : sTab x12 (k.val / 256 * 4 + k.val / 64 % 4) = S (ix1 ⟨k / 256 * 4 + k / 64 % 4, by omega⟩) :=
    (tab_of _ (by omega) (by omega)).trans (h12 ⟨k / 256 * 4 + k / 64 % 4, by omega⟩)
  unfold att ou
  rw [attn2_eq, e0, e1, e3, hsk]
  refine attn_embed _ _ _ _ _ (fun p => ok i (r.val / 128) p (k.val / 64 % 4 * 128 + r.val % 128)) (keyAt (i 1).val (r.val / 128)) ?_ ?_ ?_ ?_ ?_
  · intro p hp
    unfold sc
    rw [e0, if_neg hp]
    exact EReal.bot_mul_coe_of_pos log2_pos
  · intro p hp
    unfold sc scoreT score
    rw [e0, e1, e2, e3, if_pos hp, if_pos (sees_keyAt i r hr _ (by omega) p hp)]
    refine congrArg (· * ln2) (Finset.sum_congr rfl fun d _ => ?_)
    refine congrArg₂ (· * ·) ?_ ?_
    · refine (kpos_eq i _ _ _ _ (k.val / 256 * 64 + d) (fun x => keyT KC KL b x ⟨k / 256 * 64 + d, by omega⟩) ?_ ?_ ?_ ?_ (r.val / 128) _ (by omega) p hp).symm
      · intro a
        exact (tab_of _ a.isLt (by omega)).trans ((h4 a ⟨k / 256 * 64 + d, by omega⟩).trans (by rw [keyT, dif_pos a.isLt]))
      · intro a h
        refine (tab_of _ a.isLt (by omega)).trans ((h6 a ⟨k / 256 * 64 + d, by omega⟩).trans ?_)
        rw [keyT, dif_neg (by simp only; omega)]
        exact congrArg (fun z => KL (ix3 b z _)) (Fin.ext (by simp only; omega))
      · intro a
        refine (tab_of _ a.isLt (by omega)).trans ((h7 a ⟨k / 256 * 64 + d, by omega⟩).trans ?_)
        rw [keyT, dif_neg (by simp only; omega)]
        exact congrArg (fun z => KL (ix3 b z _)) (Fin.ext (by simp only; omega))
      · intro a h
        refine (tab_of _ a.isLt (by omega)).trans ((h8 a ⟨k / 256 * 64 + d, by omega⟩).trans ?_)
        rw [keyT, dif_neg (by simp only; omega)]
        exact congrArg (fun z => KL (ix3 b z _)) (Fin.ext (by simp only; omega))
    · exact ((tab_of _ r.isLt (by omega)).trans (h0 r ⟨(k / 256 * 4 + k / 64 % 4) * 64 + d, by omega⟩)).symm
  · intro p hp
    refine (kpos_eq i _ _ _ _ (k.val / 256 * 64 + k.val % 64) (fun x => valT VC VL b ⟨k / 256 * 64 + k % 64, by omega⟩ x) ?_ ?_ ?_ ?_ (r.val / 128) _ (by omega) p hp).symm
    · intro a
      exact (tab_of _ (by omega) a.isLt).trans ((h5 ⟨k / 256 * 64 + k % 64, by omega⟩ a).trans (by rw [valT, dif_pos a.isLt]))
    · intro a h
      refine (tab_of _ (by omega) a.isLt).trans ((h9 ⟨k / 256 * 64 + k % 64, by omega⟩ a).trans ?_)
      rw [valT, dif_neg (by simp only; omega)]
      exact congrArg (fun z => VL (ix3 b _ z)) (Fin.ext (by simp only; omega))
    · intro a
      refine (tab_of _ (by omega) a.isLt).trans ((h10 ⟨k / 256 * 64 + k % 64, by omega⟩ a).trans ?_)
      rw [valT, dif_neg (by simp only; omega)]
      exact congrArg (fun z => VL (ix3 b _ z)) (Fin.ext (by simp only; omega))
    · intro a h
      refine (tab_of _ (by omega) a.isLt).trans ((h11 ⟨k / 256 * 64 + k % 64, by omega⟩ a).trans ?_)
      rw [valT, dif_neg (by simp only; omega)]
      exact congrArg (fun z => VL (ix3 b _ z)) (Fin.ext (by simp only; omega))
  · exact fun p p' h h' he => keyAt_inj i _ _ (by omega) p p' h h' he
  · intro x hx
    refine keyAt_surj i r hr _ (by omega) x ?_
    by_contra h
    exact hx (if_neg h)

end Cert.AttnWinIdeal.Unit
end
-- ==== Proof.WinValue.lean ====
module
public import proofs.«01_k».proof.Proof.WinList
public import proofs.«01_k».proof.Proof.WinAtt
public import Idealize.ShloMosaic.Lib.Pipeline.ValueKit
@[expose] public section

/-!
# The windowed attention's value

The block a grid point stores, and the result array after all grid points, both in closed form over the argument arrays.
-/

set_option maxRecDepth 16384

noncomputable section

open Idealize.ShloMosaic Idealize.ShloMosaic.TcCoe Idealize.SL.Sem
open Idealize.ShloMosaic.Pipeline (Dat)

namespace Cert.AttnWinIdeal.Unit

open Cert.AttnWinIdeal Cert.AttnWinIdeal.Gen Attention

theorem zero2 : (![0, 0] : Fin 2 → ℕ) = fun _ => 0 := by funext a; fin_cases a <;> rfl

theorem zero3 : (![0, 0, 0] : Fin 3 → ℕ) = fun _ => 0 := by funext a; fin_cases a <;> rfl

/-- A load of a whole buffer is the buffer. -/
theorem load_all {s : Shape} {e : EltTy} {M : Memref sig .tc .vmem s e} (hM : M.IsWhole) (x : Vec Ideal s e) {o : Fin s.rank → ℕ} (ho : o = fun _ => 0)
    (inb : ∀ a, o a + s.size a ≤ s.size a) :
    View.readAt (Elt Ideal) M.view (Rect.unit (s := s) o s.size inb).toLoadRect (hM.unread x) = x := by
  subst ho
  rw [View.readAt_eq_ld, hM.read_unread]
  exact View.ld_unit_zero rfl inb x

/-- The outputs, transposed and gated. -/
def gated (o : Vec Ideal S1024x512 .f32) (sg : Vec Ideal S1x512x1024 .bf16) : FVec Ideal S512x1024 .f32 :=
  mulf (transpose S512x1024 [1, 0] o transposes_S1024x512_p1_0_S512x1024) (extf .f32 (shapeCast S512x1024 sg shapeCasts_S1x512x1024_S512x1024 : FVec Ideal S512x1024 .bf16) bitsLt_bf16_f32)

theorem final_apply (o : Vec Ideal S1024x512 .f32) (sg : Vec Ideal S1x512x1024 .bf16) (w : Vec Ideal S1024x1024 .f32) (x : Vec Ideal S1x512x1024 .f32)
    (md : Vec Ideal S1x3x1024 .f32) (a : ℕ → ℕ → EReal) (h : ∀ (k : Fin 1024) (r : Fin 512), o (ix2 k r) = a r k) (r : Fin 512) (l : Fin 1024) :
    k0_pay1 (k0_pay651 (gated o sg) w x md) (ix3 0 r l) = x (ix3 0 r l) + md (ix3 0 2 l) * ∑ k : Fin 1024, a r k * sg (ix3 0 r k) * w (ix2 k l) := by
  pointwise [gated, k0_pay1, k0_pay651, h]

section Out
variable (arg2 : Memref sig .tc .vmem S1x512x1024 .bf16) (harg2 : arg2.IsWhole) (arg3 : Memref sig .tc .vmem S1x512x1024 .bf16) (harg3 : arg3.IsWhole) (arg4 :
    Memref sig .tc .vmem S1x512x1024 .f32) (harg4 : arg4.IsWhole) (arg5 : Memref sig .tc .vmem S1x3x1024 .f32) (harg5 : arg5.IsWhole) (arg6 : Memref sig
    .tc .vmem S1x512x256 .bf16) (harg6 : arg6.IsWhole) (arg7 : Memref sig .tc .vmem S1x256x512 .bf16) (harg7 : arg7.IsWhole) (arg8 : Memref sig .tc .vmem
    S1x128x256 .bf16) (harg8 : arg8.IsWhole) (arg9 : Memref sig .tc .vmem S1x512x256 .bf16) (harg9 : arg9.IsWhole) (arg10 : Memref sig .tc .vmem S1x128x256
    .bf16) (harg10 : arg10.IsWhole) (arg11 : Memref sig .tc .vmem S1x256x128 .bf16) (harg11 : arg11.IsWhole) (arg12 : Memref sig .tc .vmem S1x256x512
    .bf16) (harg12 : arg12.IsWhole) (arg13 : Memref sig .tc .vmem S1x256x128 .bf16) (harg13 : arg13.IsWhole) (arg14 : Memref sig .tc .vmem S1x16 .f32)
    (harg14 : arg14.IsWhole) (arg15 : Memref sig .tc .vmem S1024x1024 .f32) (harg15 : arg15.IsWhole) (arg16 : Memref sig .tc .vmem S1x512x1024 .f32)
    (harg16 : arg16.IsWhole) (arg17 : Memref sig .tc .vmem S8x7x128x512 .f32) (harg17 : arg17.IsWhole) (arg18 : Memref sig .tc .vmem S8x896x512 .bf16)
    (harg18 : arg18.IsWhole) (arg19 : Memref sig .tc .vmem S1024x512 .f32) (harg19 : arg19.IsWhole)
    (x0 : Vec Ideal S1x512x1024 .bf16) (x1 : Vec Ideal S1x512x1024 .bf16) (x2 : Vec Ideal S1x512x1024 .f32) (x3 : Vec Ideal S1x3x1024 .f32) (x4 : Vec Ideal
    S1x512x256 .bf16) (x5 : Vec Ideal S1x256x512 .bf16) (x6 : Vec Ideal S1x128x256 .bf16) (x7 : Vec Ideal S1x512x256 .bf16) (x8 : Vec Ideal S1x128x256
    .bf16) (x9 : Vec Ideal S1x256x128 .bf16) (x10 : Vec Ideal S1x256x512 .bf16) (x11 : Vec Ideal S1x256x128 .bf16) (x12 : Vec Ideal S1x16 .f32) (x13 : Vec
    Ideal S1024x1024 .f32)

/-- What a grid point stores: every output element from the point's input blocks. -/
theorem out_apply (c : Dev nD) (i : grid0.Coords) (r : Fin 512) (l : Fin 1024) :
    out0_A_14 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17 arg18 harg18 arg19 harg19 x0 x1 x2 x3 x4 x5 x6 x7 x8 x9 x10 x11 x12 x13 (ix3 0 r l)
      = x2 (ix3 0 r l) + x3 (ix3 0 2 l) * ∑ k : Fin 1024,
          att i (tab3 512 1024 x0) (kTab x4 x6 x7 x8) (vTab x5 x9 x10 x11) (sTab x12) r k * x1 (ix3 0 r k) * x13 (ix2 k l) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17 arg18 harg18 arg19 harg19 x0 x1 x2 x3 x4 x5 x6 x7 x8 x9 x10 x11 x12 x13)]
  unfold kernelRun0_A
  dsimp only
  rw [View.canon_unit_zero (h := zero3)]
  have h := final_apply (oLd i (qU arg2 harg2 x0) (kU arg6 harg6 arg8 harg8 arg9 harg9 arg10 harg10 x4 x6 x7 x8) (skU arg14 harg14 x12)
      (vU arg7 harg7 arg11 harg11 arg12 harg12 arg13 harg13 x5 x9 x10 x11) arg17 arg18 arg19) x1 x13 x2 x3
    (att i (tab3 512 1024 x0) (kTab x4 x6 x7 x8) (vTab x5 x9 x10 x11) (sTab x12))
    (fun k r => oLd_apply i _ _ _ _ _ _ _ _ _ _ _ (qU_apply arg2 harg2 x0) (kU_apply arg6 harg6 arg8 harg8 arg9 harg9 arg10 harg10 x4 x6 x7 x8)
      (skU_apply arg14 harg14 x12) (vU_apply arg7 harg7 arg11 harg11 arg12 harg12 arg13 harg13 x5 x9 x10 x11) k r) r l
  refine Eq.trans (congrFun ?_ _) h
  unfold oLd
  rw [← oList_eq arg2 harg2 arg6 harg6 arg7 harg7 arg8 harg8 arg9 harg9 arg10 harg10 arg11 harg11 arg12 harg12 arg13 harg13 arg14 harg14 arg17 arg18
    x0 x4 x5 x6 x7 x8 x9 x10 x11 x12 c i]
  have h1 := load_all (s := S1x512x1024) (e := .bf16) harg3 x1 zero3
  have h7 := load_all (s := S1024x1024) (e := .f32) harg15 x13 zero2
  have h2 := load_all (s := S1x512x1024) (e := .f32) harg4 x2 zero3
  have h3 := load_all (s := S1x3x1024) (e := .f32) harg5 x3 zero3
  conv_rhs => rw [← h1 (fun a => match a with | 0 => by simp | 1 => by simp | 2 => by simp),
    ← h7 (fun a => match a with | 0 => by simp | 1 => by simp), ← h2 (fun a => match a with | 0 => by simp | 1 => by simp | 2 => by simp),
    ← h3 (fun a => match a with | 0 => by simp | 1 => by simp | 2 => by simp)]
  sl_kernel_rfl

end Out

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8 + 1, 0, 0] ∧ win0_4.index t = ![t.val / 8, 0, 0]
    ∧ win0_5.index t = ![t.val / 8, 0, 0] ∧ win0_6.index t = ![t.val / 8, 4 * (t.val % 8) - 1, 0] ∧ win0_7.index t = ![t.val / 8, t.val % 8, 0]
    ∧ win0_8.index t = ![t.val / 8, min (4 * (t.val % 8) + 4) 31, 0] ∧ win0_9.index t = ![t.val / 8, 0, 4 * (t.val % 8) - 1]
    ∧ win0_10.index t = ![t.val / 8, 0, t.val % 8] ∧ win0_11.index t = ![t.val / 8, 0, min (4 * (t.val % 8) + 4) 31]
    ∧ win0_12.index t = ![0, 0] ∧ win0_13.index t = ![0, 0] ∧ win0_14.index t = ![t.val / 8, t.val % 8, 0] :=
  (by decide +kernel : ∀ t : Fin grid0.N, _)

theorem coord : ∀ t : Fin cfg0.N, ((grid0.coords t) 1).val = t.val % 8 := (by decide +kernel : ∀ t : Fin grid0.N, _)

/-- The kernel's result array is the reference's term over the kernel's arguments. -/
theorem final (c : Dev nD) : (dats m 0 c).arrAt 14 (cfgs 0).N = Cert.AttnWinRefIdeal.Closed.ref
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) := by
  refine (dats m 0 c).arrAt_eq_of_covers 14 _ (by decide +kernel) fun t _ y => ?_
  blk_simp
  rw [after0_14]
  unfold outsAt0
  obtain ⟨r, l, rfl⟩ : ∃ (r : Fin 512) (l : Fin 1024), y = ix3 0 r l := ⟨y 1, y 2, by
    refine (eq_ix3 y).trans ?_
    congr 1
    exact Subsingleton.elim (α := Fin 1) _ _⟩
  have ht : t.val < 32 := t.isLt
  have hc := coord t
  have hc8 : ((grid0.coords t) 1).val < 8 := by omega
  have e : ((cfg0.win 14).blk t).view.emb (ix3 0 r l) = ix3 (⟨t.val / 8, by omega⟩ : Fin 4) (⟨((grid0.coords t) 1).val * 512 + r, by omega⟩ : Fin 4096) l := by
    blk_ext [idx t, hc]
  refine (out_apply _ _ _ _ _ _ _ _ _ _ _ _ _ _ _ _ _ _ _ _ _ _ _ _ _ _ _ _ _ _ _ _ _ _ _ _ _ _ _ _ _ _ _ _ _ _ _ _ _ _ c _ r l).trans ?_
  rw [e]
  refine Eq.trans ?_ (Cert.AttnWinRefIdeal.Closed.ref_apply _ _ _ _ _ _ _ _ _ _ ⟨t.val / 8, by omega⟩ ⟨((grid0.coords t) 1).val * 512 + r, by omega⟩ l).symm
  have ha := att_eq (grid0.coords t) (m ((c.tc : Thread nD τ).loc main_arg0)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) ⟨t.val / 8, by omega⟩
    (iblk m c 0 t) (iblk m c 4 t) (iblk m c 5 t) (iblk m c 6 t) (iblk m c 7 t) (iblk m c 8 t) (iblk m c 9 t) (iblk m c 10 t) (iblk m c 11 t)
    (iblk m c 12 t) hc8 (fun r k => by blk_point [iblk, V, idx t, hc]) (fun k n => by blk_point [iblk, V, idx t, hc])
    (fun n k => by blk_point [iblk, V, idx t, hc]) (fun k n => by blk_point [iblk, V, idx t, hc])
    (fun k n => by blk_point [iblk, V, idx t, hc]) (fun k n => by blk_point [iblk, V, idx t, hc])
    (fun n k => by blk_point [iblk, V, idx t, hc]) (fun n k => by blk_point [iblk, V, idx t, hc])
    (fun n k => by blk_point [iblk, V, idx t, hc]) (fun j => by blk_point [iblk, V, idx t, hc]) r
  simp only [ha]
  blk_point [iblk, V, idx t, hc]

end Cert.AttnWinIdeal.Unit
end
-- ==== Proof.WinClaim.lean ====
module
public import proofs.«01_k».proof.Proof.WinValue
public import proofs.«01_k».proof.Defs
@[expose] public section

/-!
# The windowed attention's claims

The kernel's result equals the reference's over the extended reals, whatever the arguments.
-/

noncomputable section

open Idealize.ShloMosaic Idealize.SL.Sem

namespace Cert.Proof

theorem win_algebraic : algebraic_AttnWinIdeal_AttnWinRefIdeal :=
  fun m ρ m' ρ' _ hag => ⟨fun c => Cert.AttnWinRefIdeal.Closed.ref
      (m ((c.tc : Thread Cert.AttnWinIdeal.nD Cert.AttnWinIdeal.τ).loc Cert.AttnWinIdeal.main_arg0))
      (m ((c.tc : Thread Cert.AttnWinIdeal.nD Cert.AttnWinIdeal.τ).loc Cert.AttnWinIdeal.main_arg1))
      (m ((c.tc : Thread Cert.AttnWinIdeal.nD Cert.AttnWinIdeal.τ).loc Cert.AttnWinIdeal.main_arg2))
      (m ((c.tc : Thread Cert.AttnWinIdeal.nD Cert.AttnWinIdeal.τ).loc Cert.AttnWinIdeal.main_arg3))
      (m ((c.tc : Thread Cert.AttnWinIdeal.nD Cert.AttnWinIdeal.τ).loc Cert.AttnWinIdeal.main_arg4))
      (m ((c.tc : Thread Cert.AttnWinIdeal.nD Cert.AttnWinIdeal.τ).loc Cert.AttnWinIdeal.main_arg5))
      (m ((c.tc : Thread Cert.AttnWinIdeal.nD Cert.AttnWinIdeal.τ).loc Cert.AttnWinIdeal.main_arg6))
      (m ((c.tc : Thread Cert.AttnWinIdeal.nD Cert.AttnWinIdeal.τ).loc Cert.AttnWinIdeal.main_arg7))
      (m ((c.tc : Thread Cert.AttnWinIdeal.nD Cert.AttnWinIdeal.τ).loc Cert.AttnWinIdeal.main_arg8))
      (m ((c.tc : Thread Cert.AttnWinIdeal.nD Cert.AttnWinIdeal.τ).loc Cert.AttnWinIdeal.main_arg9)),
    (θ_run _ _ _).mono (fun _ h c => ⟨(h c).1.trans (Cert.AttnWinIdeal.Unit.final m c), (h c).2⟩) (Cert.AttnWinIdeal.Value.run_blocks m ρ),
    (θ_run _ _ _).mono (fun _ h c => ⟨(h c).1.trans (by
      obtain ⟨h0, h1, h2, h3, h4, h5, h6, h7, h8, h9⟩ := hag c
      rw [show Cert.AttnWinRefIdeal.Value.res_main_v58 m' c = _ from Cert.AttnWinRefIdeal.Closed.res_eq m' c]
      rw [h0, h1, h2, h3, h4, h5, h6, h7, h8, h9]), (h c).2⟩)
      (Cert.AttnWinRefIdeal.Value.run m' ρ')⟩

end Cert.Proof

end
-- ==== Proof.CtxUnit.lean ====
module

public import proofs.«01_k».proof.Proof.Gen.AttnCtxIdeal.Skeleton
public import proofs.«01_k».proof.Proof.Softmax

@[expose] public section

/-!
# One unit of the context attention, at an index

The kernel works unit by unit: 128 queries of one key/value head, which are 512 columns (four query heads of 128 queries).
Here each step of a unit is written once, with the unit's offsets as parameters, and read at an index.
-/

set_option maxRecDepth 16384

noncomputable section

open Idealize.ShloMosaic Idealize.ShloMosaic.TcCoe Idealize.SL.Sem

namespace Cert.AttnCtxIdeal.Unit

open Cert.AttnCtxIdeal Cert.AttnCtxIdeal.Gen Attention

/-- The pattern of `-∞`. -/
theorem ninf : Ideal.ofBits FTy.f32 4286578688#32 = (⊥ : EReal) := by simp [Ideal.ofBits, Ideal.ieee]

/-- Four query heads of 128 queries, one below the other. -/
def qcat (o0 o1 o2 o3 : ℕ) (e0 : S128x1024.Slices ![0, o0] S128x64) (e1 : S128x1024.Slices ![0, o1] S128x64)
    (e2 : S128x1024.Slices ![0, o2] S128x64) (e3 : S128x1024.Slices ![0, o3] S128x64) (v : Vec Ideal S1x128x1024 .bf16) : FVec Ideal S512x64 .bf16 :=
  let w : FVec Ideal S128x1024 .bf16 := shapeCast S128x1024 v shapeCasts_S1x128x1024_S128x1024
  concatenate S512x64 0 [⟨S128x64, extractStridedSlice S128x64 ![0, o0] w e0⟩, ⟨S128x64, extractStridedSlice S128x64 ![0, o1] w e1⟩,
    ⟨S128x64, extractStridedSlice S128x64 ![0, o2] w e2⟩, ⟨S128x64, extractStridedSlice S128x64 ![0, o3] w e3⟩]
    concatenates_S128x64_S128x64_S128x64_S128x64_S512x64_d0

theorem qcat_apply (Q : ℕ → ℕ → EReal) (r0 g : ℕ) {o0 o1 o2 o3 : ℕ} (e0 : S128x1024.Slices ![0, o0] S128x64)
    (e1 : S128x1024.Slices ![0, o1] S128x64) (e2 : S128x1024.Slices ![0, o2] S128x64) (e3 : S128x1024.Slices ![0, o3] S128x64)
    (h0 : o0 = (g * 4 + 0) * 64) (h1 : o1 = (g * 4 + 1) * 64) (h2 : o2 = (g * 4 + 2) * 64) (h3 : o3 = (g * 4 + 3) * 64)
    (v : Vec Ideal S1x128x1024 .bf16) (hv : ∀ (a : Fin 128) (b : Fin 1024), v (ix3 0 a b) = Q (r0 + a) b) (c : Fin 512) (d : Fin 64) :
    qcat o0 o1 o2 o3 e0 e1 e2 e3 v (ix2 c d) = Q (r0 + c % 128) ((g * 4 + c / 128) * 64 + d) := by
  pointwise [qcat]
  have hc := c.isLt
  split
  · rw [hv]; congr 1 <;> (try simp only) <;> omega
  split
  · rw [hv]; congr 1 <;> (try simp only) <;> omega
  split
  · rw [hv]; congr 1 <;> (try simp only) <;> omega
  · rw [hv]; congr 1 <;> (try simp only) <;> omega

/-- The scores of 256 keys against the 512 columns. -/
def sAll (q : FVec Ideal S512x64 .bf16) (k0 k1 : Vec Ideal S1x128x64 .f32) : FVec Ideal S256x512 .f32 :=
  matmul dot_S256x64_S512x64_S256x512_1_1_0_0_n_n none
    (concatenate S256x64 0 [⟨S128x64, truncf .bf16 (shapeCast S128x64 k0 shapeCasts_S1x128x64_S128x64 : FVec Ideal S128x64 .f32) bitsLt_bf16_f32⟩,
      ⟨S128x64, truncf .bf16 (shapeCast S128x64 k1 shapeCasts_S1x128x64_S128x64 : FVec Ideal S128x64 .f32) bitsLt_bf16_f32⟩]
      concatenates_S128x64_S128x64_S256x64_d0 : FVec Ideal S256x64 .bf16) q (constant S256x512 .f32 0x00000000#32)

theorem sAll_apply (Q K : ℕ → ℕ → EReal) (r0 g : ℕ) (q : FVec Ideal S512x64 .bf16) (k0 k1 : Vec Ideal S1x128x64 .f32)
    (hq : ∀ (c : Fin 512) (d : Fin 64), q (ix2 c d) = Q (r0 + c % 128) ((g * 4 + c / 128) * 64 + d))
    (h0 : ∀ (a : Fin 128) (b : Fin 64), k0 (ix3 0 a b) = K (0 + a) (g * 64 + b))
    (h1 : ∀ (a : Fin 128) (b : Fin 64), k1 (ix3 0 a b) = K (128 + a) (g * 64 + b)) (k : Fin 256) (c : Fin 512) :
    sAll q k0 k1 (ix2 k c) = score Q K r0 g k c := by
  pointwise [sAll]
  refine Finset.sum_congr rfl fun d _ => ?_
  rw [hq]
  congr 1
  split
  · rw [h0]; congr 1; simp
  · rw [h1]; congr 1; simp only; omega

/-- The scores of the 128 keys from key `o` on. -/
def sBlk (o : ℕ) (e : S256x512.Slices ![o, 0] S128x512) (s : FVec Ideal S256x512 .f32) : FVec Ideal S128x512 .f32 :=
  extractStridedSlice S128x512 ![o, 0] s e

theorem sBlk_apply (o : ℕ) (e : S256x512.Slices ![o, 0] S128x512) (s : FVec Ideal S256x512 .f32) (f : ℕ → ℕ → EReal)
    (hs : ∀ (k : Fin 256) (c : Fin 512), s (ix2 k c) = f k c) (k : Fin 128) (c : Fin 512) : sBlk o e s (ix2 k c) = f (o + k) c := by
  pointwise [sBlk]
  rw [hs]

/-- The largest scores and the sink, from the scores. -/
def mRow (s0 s1 : FVec Ideal S128x512 .f32) (sk : FVec Ideal S1x512 .f32) : FVec Ideal S1x512 .f32 :=
  maximumf (shapeCast S1x512 (multiReduction .maximumf [0] S512 (maximumf (maximumf (broadcast S8x512 (Scalar.ofBits .f32 0xFF800000#32))
    (multiReduction .maximumf [0] S8x512 (shapeCast S16x8x512 s0 shapeCasts_S128x512_S16x8x512 : FVec Ideal S16x8x512 .f32) 0xFF800000#32 reduces_S16x8x512_S8x512 (.inl rfl) rfl))
    (multiReduction .maximumf [0] S8x512 (shapeCast S16x8x512 s1 shapeCasts_S128x512_S16x8x512 : FVec Ideal S16x8x512 .f32) 0xFF800000#32 reduces_S16x8x512_S8x512 (.inl rfl) rfl))
    0xFF800000#32 reduces_S8x512_S512 (.inl rfl) rfl) shapeCasts_S512_S1x512) sk

theorem mRow_apply (s0 s1 : FVec Ideal S128x512 .f32) (sk : FVec Ideal S1x512 .f32) (f : ℕ → ℕ → EReal) (z : EReal) (c : Fin 512)
    (h0 : ∀ k : Fin 128, s0 (ix2 k c) = f (0 + k) c) (h1 : ∀ k : Fin 128, s1 (ix2 k c) = f (128 + k) c) (hz : sk (ix2 0 c) = z) :
    mRow s0 s1 sk (ix2 0 c) = top (fun k : Fin 256 => f k c) z := by
  pointwise [mRow]
  rw [hz]
  refine eq_of_forall_ge_iff fun w => ?_
  rw [ninf, top_le, max_le_iff, fold_max_le]
  refine and_congr_left fun _ => ⟨fun h k => ?_, fun h => ⟨bot_le, fun x _ => ?_⟩⟩
  · have hk := k.isLt
    rcases lt_or_ge k.val 128 with hlt | hge
    · have := (max_le_iff.1 ((max_le_iff.1 (h.2 ⟨k % 8, by omega⟩ (Finset.mem_univ _))).1)).2
      have := ((fold_max_le _ _ _ _).1 this).2 ⟨k / 8, by omega⟩ (Finset.mem_univ _)
      rw [h0] at this
      convert this using 2; simp only; omega
    · have := (max_le_iff.1 (h.2 ⟨k % 8, by omega⟩ (Finset.mem_univ _))).2
      have := ((fold_max_le _ _ _ _).1 this).2 ⟨(k - 128) / 8, by omega⟩ (Finset.mem_univ _)
      rw [h1] at this
      convert this using 2; simp only; omega
  · have hx := x.isLt
    rw [max_le_iff, max_le_iff, fold_max_le, fold_max_le]
    refine ⟨⟨bot_le, bot_le, fun y _ => ?_⟩, bot_le, fun y _ => ?_⟩
    · have hy := y.isLt
      rw [h0]; exact h ⟨0 + (y * 8 + x), by omega⟩
    · have hy := y.isLt
      rw [h1]; exact h ⟨128 + (y * 8 + x), by omega⟩

/-- The sinks of the four heads along the 512 columns, divided by `ln 2`. -/
def skRow (a b c d : Vec Ideal S1x1 .f32) : FVec Ideal S1x512 .f32 := k0_pay3 (F := Ideal) a b c d

theorem skRow_apply (S : ℕ → EReal) (g : ℕ) (a b c d : Vec Ideal S1x1 .f32) (ha : a (ix2 0 0) = S (g * 4 + 0)) (hb : b (ix2 0 0) = S (g * 4 + 1))
    (hc : c (ix2 0 0) = S (g * 4 + 2)) (hd : d (ix2 0 0) = S (g * 4 + 3)) (x : Fin 512) :
    skRow a b c d (ix2 0 x) = S (g * 4 + x / 128) * log2e := by
  pointwise [skRow, k0_pay3]
  have hx := x.isLt
  refine (congrArg _ (IdealRules.named_const.ideal_named_scalar κ "log2e" 0x3FB8AA3B#32 _ rfl)).trans ?_
  congr 1
  split
  · rw [ha]; congr 1; omega
  split
  · rw [hb]; congr 1; omega
  split
  · rw [hc]; congr 1; omega
  · rw [hd]; congr 1; omega

/-- The weights of 128 keys, from their scores and the largest ones. -/
def pBlk (m : FVec Ideal S1x512 .f32) (s : Vec Ideal S1x1x128x512 .f32) : FVec Ideal S1x128x512 .bf16 := k0_pay81 (F := Ideal) m s

theorem pBlk_apply (m : FVec Ideal S1x512 .f32) (s : Vec Ideal S1x1x128x512 .f32) (k : Fin 128) (c : Fin 512) :
    pBlk m s (ix3 0 k c) = Ideal.exp2 (s (ix4 0 0 k c) - m (ix2 0 c)) := by
  pointwise [pBlk, k0_pay81]
  rfl

/-- The unit's output: weighted values over the sum of the weights. -/
def oAll (sk m : FVec Ideal S1x512 .f32) (v0 v1 : Vec Ideal S1x64x128 .bf16) (p : Vec Ideal S1x256x512 .bf16) : FVec Ideal S64x512 .f32 :=
  k0_pay84 (F := Ideal) k0_pay1 sk m v0 v1 p

theorem oAll_apply (V : ℕ → EReal) (f : ℕ → EReal) (z : EReal) (sk m : FVec Ideal S1x512 .f32) (v0 v1 : Vec Ideal S1x64x128 .bf16)
    (p : Vec Ideal S1x256x512 .bf16) (d : Fin 64) (c : Fin 512) (hz : sk (ix2 0 c) = z) (hm : m (ix2 0 c) = top (fun k : Fin 256 => f k) z)
    (h0 : ∀ k : Fin 128, v0 (ix3 0 d k) = V (0 + k)) (h1 : ∀ k : Fin 128, v1 (ix3 0 d k) = V (128 + k))
    (hp : ∀ k : Fin 256, p (ix3 0 k c) = Ideal.exp2 (f k - top (fun k : Fin 256 => f k) z)) :
    oAll sk m v0 v1 p (ix2 d c) = attn2 (fun k : Fin 256 => f k) (fun k : Fin 256 => V k) z := by
  pointwise [oAll, k0_pay84, k0_pay1]
  rw [hz, hm]
  simp only [h0, h1, hp, zero_add]
  have hs : ∀ g : ℕ → EReal, ∑ x : Fin 128, g x + ∑ x : Fin 128, g (128 + x) = ∑ k : Fin 256, g k := fun g =>
    (Fin.sum_univ_two_halves 128 128 rfl fun k : Fin 256 => g k).symm
  exact congrArg₂ Ideal.div (hs fun k => V k * Ideal.exp2 (f k - _)) (congrArg (· + _) (hs fun k => Ideal.exp2 (f k - _)))

end Cert.AttnCtxIdeal.Unit
end
-- ==== Proof.CtxLoads.lean ====
module

public import proofs.«01_k».proof.Proof.CtxUnit
public import proofs.«01_k».proof.Proof.Gen.AttnCtxIdeal.Value
public import Idealize.ShloMosaic.Lib.Pipeline.ReadBack

@[expose] public section

/-!
# The context attention's loads, at an index
-/

set_option maxRecDepth 16384

noncomputable section

open Idealize.ShloMosaic Idealize.ShloMosaic.TcCoe Idealize.SL.Sem

namespace Cert.AttnCtxIdeal.Unit

open Cert.AttnCtxIdeal Cert.AttnCtxIdeal.Gen Attention

/-- The query block as a table. -/
abbrev qTab (x : Vec Ideal S1x256x1024 .bf16) : ℕ → ℕ → EReal := tab fun i j : Fin _ => x (ix3 0 i j)

/-- The key block as a table. -/
abbrev kTab (x : Vec Ideal S1x256x256 .f32) : ℕ → ℕ → EReal := tab fun i j : Fin _ => x (ix3 0 i j)

/-- The block of transposed values as a table. -/
abbrev vTab (x : Vec Ideal S1x256x256 .bf16) : ℕ → ℕ → EReal := tab fun i j : Fin _ => x (ix3 0 i j)

/-- The sinks as a row. -/
abbrev sTab (x : Vec Ideal S1x16 .f32) : ℕ → EReal := tab (fun i j : Fin _ => x (ix2 i j)) 0

theorem qLoad {arg : Memref sig .tc .vmem S1x256x1024 .bf16} {harg : arg.IsWhole} {x : Vec Ideal S1x256x1024 .bf16} {o : ℕ}
    {inb : ∀ a : Fin S1x256x1024.rank, (![0, o, 0] : Fin S1x256x1024.rank → ℕ) a + S1x128x1024.size a ≤ S1x256x1024.size a} (a : Fin 128) (b : Fin 1024) :
    View.readAt (Elt Ideal) arg.view (Rect.unit (s := S1x256x1024) ![0, o, 0] S1x128x1024.size inb).toLoadRect (harg.unread x) (ix3 0 a b)
      = qTab x (o + a) b := by
  refine Eq.trans ?_ (tab_of _ (by have := inb 1; simp at this; omega) b.isLt).symm
  rw [View.readAt_eq_ld, harg.read_unread]
  pointwise

theorem kLoad {arg : Memref sig .tc .vmem S1x256x256 .f32} {harg : arg.IsWhole} {x : Vec Ideal S1x256x256 .f32} {o o' : ℕ}
    {inb : ∀ a : Fin S1x256x256.rank, (![0, o, o'] : Fin S1x256x256.rank → ℕ) a + S1x128x64.size a ≤ S1x256x256.size a} (a : Fin 128) (b : Fin 64) :
    View.readAt (Elt Ideal) arg.view (Rect.unit (s := S1x256x256) ![0, o, o'] S1x128x64.size inb).toLoadRect (harg.unread x) (ix3 0 a b)
      = kTab x (o + a) (o' + b) := by
  refine Eq.trans ?_ (tab_of _ (by have := inb 1; simp at this; omega) (by have := inb 2; simp at this; omega)).symm
  rw [View.readAt_eq_ld, harg.read_unread]
  pointwise

theorem vLoad {arg : Memref sig .tc .vmem S1x256x256 .bf16} {harg : arg.IsWhole} {x : Vec Ideal S1x256x256 .bf16} {o o' : ℕ}
    {inb : ∀ a : Fin S1x256x256.rank, (![0, o, o'] : Fin S1x256x256.rank → ℕ) a + S1x64x128.size a ≤ S1x256x256.size a} (a : Fin 64) (b : Fin 128) :
    View.readAt (Elt Ideal) arg.view (Rect.unit (s := S1x256x256) ![0, o, o'] S1x64x128.size inb).toLoadRect (harg.unread x) (ix3 0 a b)
      = vTab x (o + a) (o' + b) := by
  refine Eq.trans ?_ (tab_of _ (by have := inb 1; simp at this; omega) (by have := inb 2; simp at this; omega)).symm
  rw [View.readAt_eq_ld, harg.read_unread]
  pointwise

theorem sLoad {arg : Memref sig .tc .vmem S1x16 .f32} {harg : arg.IsWhole} {x : Vec Ideal S1x16 .f32} {o : ℕ}
    {inb : ∀ a : Fin S1x16.rank, (![0, o] : Fin S1x16.rank → ℕ) a + S1x1.size a ≤ S1x16.size a} :
    View.readAt (Elt Ideal) arg.view (Rect.unit (s := S1x16) ![0, o] S1x1.size inb).toLoadRect (harg.unread x) (ix2 0 0) = sTab x o := by
  refine Eq.trans ?_ (tab_of _ (by omega) (by have := inb 1; simp at this; omega)).symm
  rw [View.readAt_eq_ld, harg.read_unread]
  pointwise

end Cert.AttnCtxIdeal.Unit
end
-- ==== Proof.CtxRun.lean ====
module

public import proofs.«01_k».proof.Proof.CtxLoads

@[expose] public section

/-!
# The context attention's run, unit by unit

The run of one grid point as lists of stores, written with the unit as a variable: unit `u` of 8 has the query rows from
`u / 4 * 128` on and the key/value head `u % 4`. `sList`, `pList` and `oList` are the stores of scores, weights and outputs
of the first units, last store first.
-/

set_option maxRecDepth 16384

noncomputable section

open Idealize.ShloMosaic Idealize.ShloMosaic.TcCoe Idealize.SL.Sem

namespace Cert.AttnCtxIdeal.Unit

open Cert.AttnCtxIdeal Cert.AttnCtxIdeal.Gen Attention

/-! ## Closed forms -/

/-- Key `k`'s score in column `c` of unit `u`. -/
def sc (Q K : ℕ → ℕ → EReal) (u k c : ℕ) : EReal := score Q K (u / 4 % 2 * 128) (u % 4) k c

/-- All scores, where the kernel keeps them. -/
def scores (Q K : ℕ → ℕ → EReal) : S8x2x128x512.Idx → EReal := fun i => sc Q K (i 0) ((i 1).val * 128 + i 2) (i 3)

/-- The largest score of column `c` of unit `u`, with the sink. -/
def mx (Q K : ℕ → ℕ → EReal) (S : ℕ → EReal) (u c : ℕ) : EReal :=
  top (fun k : Fin 256 => sc Q K u k c) (S (u % 4 * 4 + c / 128) * log2e)

/-- Coordinate `d` of the output of unit `u` in column `c`. -/
def ou (Q K V : ℕ → ℕ → EReal) (S : ℕ → EReal) (u d c : ℕ) : EReal :=
  attn2 (fun k : Fin 256 => sc Q K u k c) (fun k : Fin 256 => V (u % 4 * 64 + d) k) (S (u % 4 * 4 + c / 128) * log2e)

/-- The output where the kernel keeps it: row `n` is coordinate `n % 64` of head `n / 64`, column `r` is query `r`. -/
def outs (Q K V : ℕ → ℕ → EReal) (S : ℕ → EReal) : S1024x256.Idx → EReal := fun i =>
  ou Q K V S ((i 1).val / 128 * 4 + (i 0).val / 256) ((i 0).val % 64) ((i 0).val / 64 % 4 * 128 + (i 1).val % 128)

section Run

variable (arg2 : Memref sig .tc .vmem S1x256x1024 .bf16) (harg2 : arg2.IsWhole) (arg6 : Memref sig .tc .vmem S1x256x256 .f32)
  (harg6 : arg6.IsWhole) (arg7 : Memref sig .tc .vmem S1x256x256 .bf16) (harg7 : arg7.IsWhole) (arg8 : Memref sig .tc .vmem S1x16 .f32)
  (harg8 : arg8.IsWhole) (arg11 : Memref sig .tc .vmem S8x2x128x512 .f32) (arg12 : Memref sig .tc .vmem S8x256x512 .bf16) (arg13 : Memref sig .tc .vmem S1024x256 .f32)
  (x0 : Vec Ideal S1x256x1024 .bf16) (x4 : Vec Ideal S1x256x256 .f32) (x5 : Vec Ideal S1x256x256 .bf16) (x6 : Vec Ideal S1x16 .f32)

/-! ## Scores -/

/-- The load of unit `u`'s 128 keys from key `o` on. -/
def kU (u o : ℕ) (ho : o + 128 ≤ 256) : Vec Ideal S1x128x64 .f32 :=
  View.readAt (Elt Ideal) arg6.view (Rect.unit (s := S1x256x256) ![0, o, u % 4 * 64] S1x128x64.size
    (fun a => match a with | 0 => by simp | 1 => by simpa using ho | 2 => by simp; omega)).toLoadRect (harg6.unread x4)

/-- Unit `u`'s queries. -/
def qU (u : ℕ) : FVec Ideal S512x64 .bf16 :=
  have hs (j : ℕ) (hj : j < 4) : S128x1024.Slices ![0, (u % 4 * 4 + j) * 64] S128x64 :=
    ⟨rfl, fun a => match a with | 0 => by simp | 1 => by simp; omega⟩
  qcat ((u % 4 * 4 + 0) * 64) ((u % 4 * 4 + 1) * 64) ((u % 4 * 4 + 2) * 64) ((u % 4 * 4 + 3) * 64)
    (hs 0 (by omega)) (hs 1 (by omega)) (hs 2 (by omega)) (hs 3 (by omega))
    (View.readAt (Elt Ideal) arg2.view (Rect.unit (s := S1x256x1024) ![0, u / 4 % 2 * 128, 0] S1x128x1024.size
      (fun a => match a with | 0 => by simp | 1 => by simp; omega | 2 => by simp)).toLoadRect (harg2.unread x0))

/-- Unit `u`'s scores. -/
def sU (u : ℕ) : FVec Ideal S256x512 .f32 :=
  sAll (qU arg2 harg2 x0 u) (kU arg6 harg6 x4 u 0 (by omega)) (kU arg6 harg6 x4 u 128 (by omega))

theorem sU_apply (u : ℕ) (k : Fin 256) (c : Fin 512) :
    sU arg2 harg2 arg6 harg6 x0 x4 u (ix2 k c) = sc (qTab x0) (kTab x4) u k c :=
  sAll_apply _ _ _ _ _ _ _ (qcat_apply _ _ _ _ _ _ _ rfl rfl rfl rfl _ qLoad) kLoad kLoad k c

/-- The scores of the unit's 128 keys from key `j * 128` on. -/
def sJ (u j : ℕ) (hj : j < 2) : FVec Ideal S128x512 .f32 :=
  sBlk (j * 128) ⟨rfl, fun a => match a with | 0 => by simp; omega | 1 => by simp⟩ (sU arg2 harg2 arg6 harg6 x0 x4 u)

theorem sJ_apply (u j : ℕ) (hj : j < 2) (k : Fin 128) (c : Fin 512) :
    sJ arg2 harg2 arg6 harg6 x0 x4 u j hj (ix2 k c) = sc (qTab x0) (kTab x4) u (j * 128 + k) c :=
  sBlk_apply _ _ _ _ (sU_apply arg2 harg2 arg6 harg6 x0 x4 u) k c

/-- The block of the scores' scratch that unit `u` keeps for the 128 keys from `j * 128` on. -/
abbrev sRect (u j : ℕ) (hj : j < 2) : Rect S8x2x128x512 :=
  Rect.unit (s := S8x2x128x512) ![u % 8, j, 0, 0] S1x1x128x512.size
    (fun a => match a with | 0 => by simp; omega | 1 => by simp; omega | 2 => by simp | 3 => by simp)

/-- The stores of the scores of the first units. -/
def sList : ℕ → List (View.Piece (Elt Ideal) S8x2x128x512 .f32)
  | 0 => []
  | u + 1 =>
    ⟨sRect u 1 (by omega), shapeCast S1x1x128x512 (sJ arg2 harg2 arg6 harg6 x0 x4 u 1 (by omega)) shapeCasts_S128x512_S1x1x128x512⟩ ::
    ⟨sRect u 0 (by omega), shapeCast S1x1x128x512 (sJ arg2 harg2 arg6 harg6 x0 x4 u 0 (by omega)) shapeCasts_S128x512_S1x1x128x512⟩ :: sList u

theorem sList_eq (c : Dev nD) : kernelRun0_A.sl.HS0_16 (F := Ideal) c arg2 harg2 arg6 harg6 x0 x4 = sList arg2 harg2 arg6 harg6 x0 x4 8 := by
  rfl

theorem sList_pieces (n : ℕ) (hn : n ≤ 8) : View.PiecesOf (scores (qTab x0) (kTab x4)) (sList arg2 harg2 arg6 harg6 x0 x4 n) := by
  induction n with
  | zero => trivial
  | succ u ih =>
    have key : ∀ (j : ℕ) (hj : j < 2) (y : S1x1x128x512.Idx),
        (shapeCast S1x1x128x512 (sJ arg2 harg2 arg6 harg6 x0 x4 u j hj) shapeCasts_S128x512_S1x1x128x512 : FVec Ideal S1x1x128x512 .f32) y
          = scores (qTab x0) (kTab x4) ((sRect u j hj).emb y) := fun j hj y => by
      rw [eq_ix4 y]
      idx_vars y
      have h : ∀ s : FVec Ideal S128x512 .f32, (shapeCast S1x1x128x512 s shapeCasts_S128x512_S1x1x128x512 : FVec Ideal S1x1x128x512 .f32)
          (ix4 y0 y1 y2 y3) = s (ix2 y2 y3) := fun s => by pointwise
      rw [h, sJ_apply]
      show _ = sc (qTab x0) (kTab x4) (u % 8 + 1 * y0.val) ((j + 1 * y1.val) * 128 + (0 + 1 * y2.val)) (0 + 1 * y3.val)
      congr 1 <;> omega
    exact ⟨key 1 (by omega), key 0 (by omega), ih (by omega)⟩

theorem sList_mem (n u : ℕ) (hu : u < n) (j : ℕ) (hj : j < 2) : ∃ p ∈ sList arg2 harg2 arg6 harg6 x0 x4 n, p.1 = sRect u j hj := by
  induction n with
  | zero => omega
  | succ m ih =>
    rcases Nat.lt_succ_iff_lt_or_eq.1 hu with h | rfl
    · obtain ⟨p, hp, he⟩ := ih h
      exact ⟨p, .tail _ (.tail _ hp), he⟩
    · rcases Nat.lt_succ_iff_lt_or_eq.1 hj with h | rfl
      · obtain rfl : j = 0 := by omega
        exact ⟨_, .tail _ (.head _), rfl⟩
      · exact ⟨_, .head _, rfl⟩

/-- The load of a unit's scores of 128 keys, after all scores are stored. -/
def sLd (u j : ℕ) (hj : j < 2) : Vec Ideal S1x1x128x512 .f32 :=
  arg11.view.readCov (sList arg2 harg2 arg6 harg6 x0 x4 8) (sRect u j hj).toLoadRect

theorem sLd_apply (u : ℕ) (hu : u < 8) (j : ℕ) (hj : j < 2) (k : Fin 128) (c : Fin 512) :
    sLd arg2 harg2 arg6 harg6 arg11 x0 x4 u j hj (ix4 0 0 k c) = sc (qTab x0) (kTab x4) u (j * 128 + k) c := by
  obtain ⟨p, hp, he⟩ := sList_mem arg2 harg2 arg6 harg6 x0 x4 8 u hu j hj
  refine (congrFun (View.readCov_eq_canon' _ _ _) _).trans ?_
  refine (View.canon_apply_of_pieces (scores (qTab x0) (kTab x4)) _ (sList_pieces arg2 harg2 arg6 harg6 x0 x4 8 le_rfl).mem _
    ⟨p, hp, by rw [he]; exact (sRect u j hj).idx_mem _⟩).trans ?_
  show sc (qTab x0) (kTab x4) (u % 8 + 1 * 0) ((j + 1 * 0) * 128 + (0 + 1 * k.val)) (0 + 1 * c.val) = _
  congr 1 <;> omega

/-! ## The largest scores -/

/-- The load of head `h`'s sink. -/
def kS (h : ℕ) (hh : h < 16) : Vec Ideal S1x1 .f32 :=
  View.readAt (Elt Ideal) arg8.view (Rect.unit (s := S1x16) ![0, h] S1x1.size
    (fun a => match a with | 0 => by simp | 1 => by simp; omega)).toLoadRect (harg8.unread x6)

/-- Unit `u`'s sinks. -/
def skU (u : ℕ) : FVec Ideal S1x512 .f32 :=
  skRow (kS arg8 harg8 x6 (u % 4 * 4 + 0) (by omega)) (kS arg8 harg8 x6 (u % 4 * 4 + 1) (by omega))
    (kS arg8 harg8 x6 (u % 4 * 4 + 2) (by omega)) (kS arg8 harg8 x6 (u % 4 * 4 + 3) (by omega))

theorem skU_apply (u : ℕ) (c : Fin 512) : skU arg8 harg8 x6 u (ix2 0 c) = sTab x6 (u % 4 * 4 + c / 128) * log2e :=
  skRow_apply (sTab x6) (u % 4) _ _ _ _ sLoad sLoad sLoad sLoad c

/-- Unit `u`'s largest scores. -/
def mU (u : ℕ) : FVec Ideal S1x512 .f32 :=
  mRow (sJ arg2 harg2 arg6 harg6 x0 x4 u 0 (by omega)) (sJ arg2 harg2 arg6 harg6 x0 x4 u 1 (by omega)) (skU arg8 harg8 x6 u)

theorem mU_apply (u : ℕ) (c : Fin 512) :
    mU arg2 harg2 arg6 harg6 arg8 harg8 x0 x4 x6 u (ix2 0 c) = mx (qTab x0) (kTab x4) (sTab x6) u c :=
  mRow_apply _ _ _ (sc (qTab x0) (kTab x4) u) _ c (fun k => (sJ_apply _ _ _ _ _ _ _ _ _ k c).trans (by rw [zero_mul]))
    (fun k => (sJ_apply _ _ _ _ _ _ _ _ _ k c).trans (by rw [one_mul])) (skU_apply _ _ _ _ c)

/-! ## The weights -/

/-- The block of the weights' scratch that unit `u` keeps for the 128 keys from `o` on. -/
abbrev pRect (u o : ℕ) (ho : o + 128 ≤ 256) : Rect S8x256x512 :=
  Rect.unit (s := S8x256x512) ![u % 8, o, 0] S1x128x512.size (fun a => match a with | 0 => by simp; omega | 1 => by simpa using ho | 2 => by simp)

/-- The weights of the unit's 128 keys from key `j * 128` on. -/
def pJ (u j : ℕ) (hj : j < 2) : FVec Ideal S1x128x512 .bf16 :=
  pBlk (mU arg2 harg2 arg6 harg6 arg8 harg8 x0 x4 x6 u) (sLd arg2 harg2 arg6 harg6 arg11 x0 x4 u j hj)

theorem pJ_apply (u : ℕ) (hu : u < 8) (j : ℕ) (hj : j < 2) (k : Fin 128) (c : Fin 512) :
    pJ arg2 harg2 arg6 harg6 arg8 harg8 arg11 x0 x4 x6 u j hj (ix3 0 k c)
      = Ideal.exp2 (sc (qTab x0) (kTab x4) u (j * 128 + k) c - mx (qTab x0) (kTab x4) (sTab x6) u c) := by
  rw [pJ, pBlk_apply, sLd_apply _ _ _ _ _ _ _ u hu, mU_apply]

/-- The stores of the weights of the first units. -/
def pList : ℕ → List (View.Piece (Elt Ideal) S8x256x512 .bf16)
  | 0 => []
  | u + 1 =>
    ⟨pRect u 128 (by omega), pJ arg2 harg2 arg6 harg6 arg8 harg8 arg11 x0 x4 x6 u 1 (by omega)⟩ ::
    ⟨pRect u 0 (by omega), pJ arg2 harg2 arg6 harg6 arg8 harg8 arg11 x0 x4 x6 u 0 (by omega)⟩ :: pList u

/-- The load of a unit's weights, after they are stored. -/
def pLd (u : ℕ) : Vec Ideal S1x256x512 .bf16 :=
  arg12.view.readCov (pList arg2 harg2 arg6 harg6 arg8 harg8 arg11 x0 x4 x6 (u + 1))
    (Rect.unit (s := S8x256x512) ![u % 8, 0, 0] S1x256x512.size
      (fun a => match a with | 0 => by simp; omega | 1 => by simp | 2 => by simp)).toLoadRect

theorem pLd_apply (u : ℕ) (hu : u < 8) (k : Fin 256) (c : Fin 512) :
    pLd arg2 harg2 arg6 harg6 arg8 harg8 arg11 arg12 x0 x4 x6 u (ix3 0 k c)
      = Ideal.exp2 (sc (qTab x0) (kTab x4) u k c - mx (qTab x0) (kTab x4) (sTab x6) u c) := by
  refine (congrFun (View.readCov_eq_canon' _ _ _) _).trans ?_
  let G : S8x256x512.Idx → EReal := fun i => Ideal.exp2 (sc (qTab x0) (kTab x4) u (i 1).val (i 2).val - mx (qTab x0) (kTab x4) (sTab x6) u (i 2).val)
  have key : ∀ (j : ℕ) (hj : j < 2) (o : ℕ) (ho : o + 128 ≤ 256) (_ : o = j * 128) (y : S1x128x512.Idx),
      pJ arg2 harg2 arg6 harg6 arg8 harg8 arg11 x0 x4 x6 u j hj y = G ((pRect u o ho).emb y) := fun j hj o ho h y => by
    rw [eq_ix3 y]
    idx_vars y
    obtain rfl : y0 = 0 := Subsingleton.elim _ _
    rw [pJ_apply _ _ _ _ _ _ _ _ _ _ u hu]
    subst h
    show _ = Ideal.exp2 (sc (qTab x0) (kTab x4) u (j * 128 + 1 * y1.val) (0 + 1 * y2.val) - mx (qTab x0) (kTab x4) (sTab x6) u (0 + 1 * y2.val))
    simp only [zero_add, one_mul]
  have hm : ∀ (o : ℕ) (ho : o + 128 ≤ 256), o ≤ k.val → k.val < o + 128 →
      (Rect.unit (s := S8x256x512) ![u % 8, 0, 0] S1x256x512.size
        (fun a => match a with | 0 => by simp; omega | 1 => by simp | 2 => by simp)).toLoadRect.idx (ix3 0 k c) ∈ (pRect u o ho).set :=
    fun o ho h1 h2 => Rect.mem_set_unit.2 fun a => by
      match a with
      | 0 => exact ⟨le_rfl, Nat.lt_succ_self _⟩
      | 1 => exact ⟨by show o ≤ 0 + 1 * k.val; omega, by show 0 + 1 * k.val < o + 128; omega⟩
      | 2 => exact ⟨Nat.zero_le _, by show 0 + 1 * c.val < 0 + 512; omega⟩
  refine (View.canon_append_of_piecesOf (Val := Elt Ideal) (e := .bf16) G (pList arg2 harg2 arg6 harg6 arg8 harg8 arg11 x0 x4 x6 u)
    [⟨pRect u 128 (by omega), pJ arg2 harg2 arg6 harg6 arg8 harg8 arg11 x0 x4 x6 u 1 (by omega)⟩,
      ⟨pRect u 0 (by omega), pJ arg2 harg2 arg6 harg6 arg8 harg8 arg11 x0 x4 x6 u 0 (by omega)⟩]
    ⟨key 1 (by omega) 128 (by omega) rfl, key 0 (by omega) 0 (by omega) rfl, trivial⟩ _ ?_).trans ?_
  · have hk := k.isLt
    rcases lt_or_ge k.val 128 with h | h
    · exact ⟨_, .tail _ (.head _), hm 0 (by omega) (Nat.zero_le _) (by omega)⟩
    · exact ⟨_, .head _, hm 128 (by omega) h (by omega)⟩
  · show Ideal.exp2 (sc (qTab x0) (kTab x4) u (0 + 1 * k.val) (0 + 1 * c.val) - mx (qTab x0) (kTab x4) (sTab x6) u (0 + 1 * c.val)) = _
    simp only [zero_add, one_mul]

/-! ## The outputs -/

/-- The load of unit `u`'s values of the 128 keys from `o` on. -/
def vU (u o : ℕ) (ho : o + 128 ≤ 256) : Vec Ideal S1x64x128 .bf16 :=
  View.readAt (Elt Ideal) arg7.view (Rect.unit (s := S1x256x256) ![0, u % 4 * 64, o] S1x64x128.size
    (fun a => match a with | 0 => by simp | 1 => by simp; omega | 2 => by simpa using ho)).toLoadRect (harg7.unread x5)

/-- Unit `u`'s output. -/
def oU (u : ℕ) : FVec Ideal S64x512 .f32 :=
  oAll (skU arg8 harg8 x6 u) (mU arg2 harg2 arg6 harg6 arg8 harg8 x0 x4 x6 u) (vU arg7 harg7 x5 u 0 (by omega)) (vU arg7 harg7 x5 u 128 (by omega))
    (pLd arg2 harg2 arg6 harg6 arg8 harg8 arg11 arg12 x0 x4 x6 u)

theorem oU_apply (u : ℕ) (hu : u < 8) (d : Fin 64) (c : Fin 512) :
    oU arg2 harg2 arg6 harg6 arg7 harg7 arg8 harg8 arg11 arg12 x0 x4 x5 x6 u (ix2 d c) = ou (qTab x0) (kTab x4) (vTab x5) (sTab x6) u d c :=
  oAll_apply (fun k => vTab x5 (u % 4 * 64 + d) k) (fun k => sc (qTab x0) (kTab x4) u k c) _ _ _ _ _ _ d c (skU_apply _ _ _ u c) (mU_apply _ _ _ _ _ _ _ _ _ u c)
    (fun k => vLoad d k) (fun k => vLoad d k) (fun k => pLd_apply _ _ _ _ _ _ _ _ _ _ _ u hu k c)

/-- The block of the outputs' scratch for head `j` of unit `u`. -/
abbrev oRect (u j : ℕ) (hj : j < 4) : Rect S1024x256 :=
  Rect.unit (s := S1024x256) ![(u % 4 * 4 + j) * 64, u / 4 % 2 * 128] S64x128.size (fun a => match a with | 0 => by simp; omega | 1 => by simp; omega)

/-- Head `j`'s part of unit `u`'s output. -/
def oJ (u j : ℕ) (hj : j < 4) : FVec Ideal S64x128 .f32 :=
  shapeCast S64x128 (extractStridedSlice S64x128 ![0, j * 128] (oU arg2 harg2 arg6 harg6 arg7 harg7 arg8 harg8 arg11 arg12 x0 x4 x5 x6 u)
    ⟨rfl, fun a => match a with | 0 => by simp | 1 => by simp; omega⟩ : FVec Ideal S64x128 .f32) shapeCasts_S64x128_S64x128

/-- The stores of the outputs of the first units. -/
def oList : ℕ → List (View.Piece (Elt Ideal) S1024x256 .f32)
  | 0 => []
  | u + 1 =>
    ⟨oRect u 3 (by omega), oJ arg2 harg2 arg6 harg6 arg7 harg7 arg8 harg8 arg11 arg12 x0 x4 x5 x6 u 3 (by omega)⟩ ::
    ⟨oRect u 2 (by omega), oJ arg2 harg2 arg6 harg6 arg7 harg7 arg8 harg8 arg11 arg12 x0 x4 x5 x6 u 2 (by omega)⟩ ::
    ⟨oRect u 1 (by omega), oJ arg2 harg2 arg6 harg6 arg7 harg7 arg8 harg8 arg11 arg12 x0 x4 x5 x6 u 1 (by omega)⟩ ::
    ⟨oRect u 0 (by omega), oJ arg2 harg2 arg6 harg6 arg7 harg7 arg8 harg8 arg11 arg12 x0 x4 x5 x6 u 0 (by omega)⟩ :: oList u

theorem oList_pieces (n : ℕ) (hn : n ≤ 8) : View.PiecesOf (outs (qTab x0) (kTab x4) (vTab x5) (sTab x6))
    (oList arg2 harg2 arg6 harg6 arg7 harg7 arg8 harg8 arg11 arg12 x0 x4 x5 x6 n) := by
  induction n with
  | zero => trivial
  | succ u ih =>
    have key : ∀ (j : ℕ) (hj : j < 4) (y : S64x128.Idx),
        oJ arg2 harg2 arg6 harg6 arg7 harg7 arg8 harg8 arg11 arg12 x0 x4 x5 x6 u j hj y
          = outs (qTab x0) (kTab x4) (vTab x5) (sTab x6) ((oRect u j hj).emb y) := fun j hj y => by
      rw [eq_ix2 y]
      idx_vars y
      have h : oJ arg2 harg2 arg6 harg6 arg7 harg7 arg8 harg8 arg11 arg12 x0 x4 x5 x6 u j hj (ix2 y0 y1)
          = oU arg2 harg2 arg6 harg6 arg7 harg7 arg8 harg8 arg11 arg12 x0 x4 x5 x6 u (ix2 y0 ⟨j * 128 + y1, by omega⟩) := by pointwise [oJ]
      rw [h, oU_apply _ _ _ _ _ _ _ _ _ _ _ _ _ _ u (by omega)]
      show _ = ou (qTab x0) (kTab x4) (vTab x5) (sTab x6)
        ((u / 4 % 2 * 128 + 1 * y1.val) / 128 * 4 + ((u % 4 * 4 + j) * 64 + 1 * y0.val) / 256) (((u % 4 * 4 + j) * 64 + 1 * y0.val) % 64)
        (((u % 4 * 4 + j) * 64 + 1 * y0.val) / 64 % 4 * 128 + (u / 4 % 2 * 128 + 1 * y1.val) % 128)
      congr 1 <;> (try simp only) <;> omega
    exact ⟨key 3 (by omega), key 2 (by omega), key 1 (by omega), key 0 (by omega), ih (by omega)⟩

theorem oList_eq (c : Dev nD) : kernelRun0_A.sl.HS2_32 (F := Ideal) c arg2 harg2 arg6 harg6 arg7 harg7 arg8 harg8 arg11 arg12 x0 x4 x5 x6
    = oList arg2 harg2 arg6 harg6 arg7 harg7 arg8 harg8 arg11 arg12 x0 x4 x5 x6 8 := by
  rfl

theorem oList_mem (n u : ℕ) (hu : u < n) (j : ℕ) (hj : j < 4) :
    ∃ p ∈ oList arg2 harg2 arg6 harg6 arg7 harg7 arg8 harg8 arg11 arg12 x0 x4 x5 x6 n, p.1 = oRect u j hj := by
  induction n with
  | zero => omega
  | succ m ih =>
    rcases Nat.lt_succ_iff_lt_or_eq.1 hu with h | rfl
    · obtain ⟨p, hp, he⟩ := ih h
      exact ⟨p, .tail _ (.tail _ (.tail _ (.tail _ hp))), he⟩
    · obtain rfl | rfl | rfl | rfl : j = 0 ∨ j = 1 ∨ j = 2 ∨ j = 3 := by omega
      · exact ⟨_, .tail _ (.tail _ (.tail _ (.head _))), rfl⟩
      · exact ⟨_, .tail _ (.tail _ (.head _)), rfl⟩
      · exact ⟨_, .tail _ (.head _), rfl⟩
      · exact ⟨_, .head _, rfl⟩

/-- The load of all outputs, after all are stored. -/
def oLd : Vec Ideal S1024x256 .f32 :=
  arg13.view.readCov (oList arg2 harg2 arg6 harg6 arg7 harg7 arg8 harg8 arg11 arg12 x0 x4 x5 x6 8)
    (Rect.unit (s := S1024x256) ![0, 0] S1024x256.size (fun a => match a with | 0 => by simp | 1 => by simp)).toLoadRect

theorem oLd_apply (a : Fin 1024) (b : Fin 256) :
    oLd arg2 harg2 arg6 harg6 arg7 harg7 arg8 harg8 arg11 arg12 arg13 x0 x4 x5 x6 (ix2 a b)
      = ou (qTab x0) (kTab x4) (vTab x5) (sTab x6) (b.val / 128 * 4 + a.val / 256) (a.val % 64) (a.val / 64 % 4 * 128 + b.val % 128) := by
  obtain ⟨p, hp, he⟩ := oList_mem arg2 harg2 arg6 harg6 arg7 harg7 arg8 harg8 arg11 arg12 x0 x4 x5 x6 8 (b.val / 128 * 4 + a.val / 256) (by omega)
    (a.val / 64 % 4) (by omega)
  refine (congrFun (View.readCov_eq_canon' _ _ _) _).trans ?_
  refine (View.canon_apply_of_pieces (outs (qTab x0) (kTab x4) (vTab x5) (sTab x6)) _
    (oList_pieces arg2 harg2 arg6 harg6 arg7 harg7 arg8 harg8 arg11 arg12 x0 x4 x5 x6 8 le_rfl).mem _
    ⟨p, hp, by
      rw [he]
      refine Rect.mem_set_unit.2 fun i => ?_
      match i with
      | 0 =>
        show ((b.val / 128 * 4 + a.val / 256) % 4 * 4 + a.val / 64 % 4) * 64 ≤ 0 + 1 * a.val
          ∧ 0 + 1 * a.val < ((b.val / 128 * 4 + a.val / 256) % 4 * 4 + a.val / 64 % 4) * 64 + 64
        omega
      | 1 =>
        show (b.val / 128 * 4 + a.val / 256) / 4 % 2 * 128 ≤ 0 + 1 * b.val
          ∧ 0 + 1 * b.val < (b.val / 128 * 4 + a.val / 256) / 4 % 2 * 128 + 128
        omega⟩).trans ?_
  show ou (qTab x0) (kTab x4) (vTab x5) (sTab x6) ((0 + 1 * b.val) / 128 * 4 + (0 + 1 * a.val) / 256) ((0 + 1 * a.val) % 64)
    ((0 + 1 * a.val) / 64 % 4 * 128 + (0 + 1 * b.val) % 128) = _
  simp only [zero_add, one_mul]

end Run

end Cert.AttnCtxIdeal.Unit
end
-- ==== Proof.CtxRef.lean ====
module
public import proofs.«01_k».proof.Proof.Gen.AttnCtxRefIdeal.Run
public import proofs.«01_k».proof.Proof.HostMax
@[expose] public section

/-!
# The context attention's reference

The reference's result in closed form over its arguments: the stages of its composed term, each read at an index.
-/

set_option maxRecDepth 16384

noncomputable section

open Idealize.ShloMosaic Idealize.ShloMosaic.TcCoe Idealize.SL.Sem

namespace Cert.AttnCtxRefIdeal.Closed

open Cert.AttnCtxRefIdeal Cert.AttnCtxRefIdeal.Gen Attention

variable (Q : FVec Ideal S16x256x1024 .bf16) (SG : FVec Ideal S16x256x1024 .bf16) (X : FVec Ideal S16x256x1024 .f32) (MD : FVec Ideal S8x3x1024 .f32)
  (K : FVec Ideal S16x256x256 .f32) (V : FVec Ideal S16x256x256 .bf16) (S : FVec Ideal S16 .f32) (W : FVec Ideal S1024x1024 .f32)

/-- The scores. -/
def sR : FVec Ideal S16x4x4x256x256 .f32 :=
  mulf (transpose S16x4x4x256x256 [0, 1, 4, 3, 2] (Host.dotGeneral dot_S16x256x4x64_S16x256x4x4x64_S16x4x256x256x4_3_4_1_13_02_02 none (shapeCast S16x256x4x64 K shapeCasts_S16x256x256_S16x256x4x64) (shapeCast S16x256x4x4x64 (extf .f32 Q bitsLt_bf16_f32) shapeCasts_S16x256x1024_S16x256x4x4x64)) transposes_S16x4x256x256x4_S16x4x4x256x256_0_1_4_3_2) (broadcastInDim S16x4x4x256x256 ![] bcast_S_S16x4x4x256x256 (Host.log (constant S_ .f32 0x40000000#32)))

/-- The sinks, over the queries. -/
def skR : FVec Ideal S16x4x4x256 .f32 :=
  broadcastInDim S16x4x4x256 ![0, 1, 2, 3] bcast_S1x4x4x1_S16x4x4x256_0_1_2_3 (shapeCast S1x4x4x1 S shapeCasts_S16_S1x4x4x1)

/-- The largest scores. -/
def mR (s : FVec Ideal S16x4x4x256x256 .f32) (k : FVec Ideal S16x4x4x256 .f32) : FVec Ideal S16x4x4x256 .f32 :=
  maximumf (Host.reduce FloatOps.maximumf s (constant S_ .f32 0xFF800000#32) reducesTo_S16x4x4x256x256_S16x4x4x256_d4 h_S_) k

/-- The weights. -/
def eR (s : FVec Ideal S16x4x4x256x256 .f32) (m : FVec Ideal S16x4x4x256 .f32) : FVec Ideal S16x4x4x256x256 .f32 :=
  Host.exp (subf s (broadcastInDim S16x4x4x256x256 ![0, 1, 2, 3, 4] bcast_S16x4x4x256x1_S16x4x4x256x256_0_1_2_3_4 (broadcastInDim S16x4x4x256x1 ![0, 1, 2, 3] bcast_S16x4x4x256_S16x4x4x256x1_0_1_2_3 m)))

/-- The weights' sums. -/
def dR (e : FVec Ideal S16x4x4x256x256 .f32) (k m : FVec Ideal S16x4x4x256 .f32) : FVec Ideal S16x4x4x256 .f32 :=
  addf (Host.reduceAdd e (constant S_ .f32 0x00000000#32) reducesTo_S16x4x4x256x256_S16x4x4x256_d4 h_S_) (Host.exp (subf k m))

/-- The attention. -/
def oR (e : FVec Ideal S16x4x4x256x256 .f32) (d : FVec Ideal S16x4x4x256 .f32) : FVec Ideal S16x256x1024 .f32 :=
  shapeCast S16x256x1024 (Host.divf (transpose S16x256x4x4x64 [0, 4, 1, 3, 2] (Host.dotGeneral dot_S16x4x64x256_S16x4x4x256x256_S16x4x64x4x256_3_4_2_23_01_01 none (shapeCast S16x4x64x256 (extf .f32 V bitsLt_bf16_f32) shapeCasts_S16x256x256_S16x4x64x256) e) transposes_S16x4x64x4x256_S16x256x4x4x64_0_4_1_3_2) (broadcastInDim S16x256x4x4x64 ![0, 1, 2, 3, 4] bcast_S16x256x4x4x1_S16x256x4x4x64_0_1_2_3_4 (broadcastInDim S16x256x4x4x1 ![0, 1, 2, 3] bcast_S16x256x4x4_S16x256x4x4x1_0_1_2_3 (transpose S16x256x4x4 [0, 3, 1, 2] d transposes_S16x4x4x256_S16x256x4x4_0_3_1_2)))) shapeCasts_S16x256x4x4x64_S16x256x1024

/-- The result. -/
def yR (o : FVec Ideal S16x256x1024 .f32) : FVec Ideal S16x256x1024 .f32 :=
  addf X (mulf (broadcastInDim S16x256x1024 ![0, 1, 2] bcast_S1x1x1024_S16x256x1024_0_1_2 (broadcastInDim S1x1x1024 ![0, 2] bcast_S1x1024_S1x1x1024_0_2 (shapeCast S1x1024 (extractStridedSlice S1x1x1024 ![0, 2, 0] MD slices_S8x3x1024_S1x1x1024_0_2_0) shapeCasts_S1x1x1024_S1x1024))) (Host.dotGeneral dot_S16x256x1024_S1024x1024_S16x256x1024_2_0_01_1_n_n none (mulf o (extf .f32 SG bitsLt_bf16_f32)) W))

/-- The whole reference. -/
def ref : FVec Ideal S16x256x1024 .f32 :=
  yR SG X MD W (oR V (eR (sR Q K) (mR (sR Q K) (skR S))) (dR (eR (sR Q K) (mR (sR Q K) (skR S))) (skR S) (mR (sR Q K) (skR S))))

theorem sR_apply (b : Fin 16) (g j : Fin 4) (q k : Fin 256) : sR Q K (ix5 b g j q k)
    = (∑ d : Fin 64, K (ix3 b k ⟨g * 64 + d, by omega⟩) * Q (ix3 b q ⟨(g * 4 + j) * 64 + d, by omega⟩)) * ln2 := by
  pointwise [sR]
  rw [log_two]
  congr 1
  refine Finset.sum_congr rfl fun d _ => ?_
  congr 3
  exact Fin.ext (by show _ = _; simp only; omega)

theorem skR_apply (b : Fin 16) (g j : Fin 4) (q : Fin 256) : skR S (ix4 b g j q) = S (ix1 ⟨g * 4 + j, by omega⟩) := by
  pointwise [skR]

theorem mR_apply (s : FVec Ideal S16x4x4x256x256 .f32) (sk : FVec Ideal S16x4x4x256 .f32) (b : Fin 16) (g j : Fin 4) (q : Fin 256) :
    mR s sk (ix4 b g j q) = top (fun k : Fin 256 => s (ix5 b g j q k)) (sk (ix4 b g j q)) := by
  unfold mR top
  rw [maximumf_apply]
  exact congrArg (fun z : EReal => max z (sk (ix4 b g j q))) (hostMax s _ _ b g j q)

theorem eR_apply (s : FVec Ideal S16x4x4x256x256 .f32) (m : FVec Ideal S16x4x4x256 .f32) (b : Fin 16) (g j : Fin 4) (q k : Fin 256) :
    eR s m (ix5 b g j q k) = Ideal.exp (s (ix5 b g j q k) - m (ix4 b g j q)) := by
  pointwise [eR]

theorem dR_apply (e : FVec Ideal S16x4x4x256x256 .f32) (sk m : FVec Ideal S16x4x4x256 .f32) (b : Fin 16) (g j : Fin 4) (q : Fin 256) :
    dR e sk m (ix4 b g j q) = (∑ k, e (ix5 b g j q k)) + Ideal.exp (sk (ix4 b g j q) - m (ix4 b g j q)) := by
  pointwise [dR]

theorem oR_apply (e : FVec Ideal S16x4x4x256x256 .f32) (d : FVec Ideal S16x4x4x256 .f32) (b : Fin 16) (q : Fin 256) (i : Fin 1024) :
    oR V e d (ix3 b q i) = Ideal.div (∑ k : Fin 256, V (ix3 b ⟨i / 256 * 64 + i % 64, by omega⟩ k) * e (ix5 b ⟨i / 256, by omega⟩ ⟨i / 64 % 4, by omega⟩ q k))
      (d (ix4 b ⟨i / 256, by omega⟩ ⟨i / 64 % 4, by omega⟩ q)) := by
  pointwise [oR]

theorem yR_apply (o : FVec Ideal S16x256x1024 .f32) (b : Fin 16) (q : Fin 256) (l : Fin 1024) : yR SG X MD W o (ix3 b q l)
    = X (ix3 b q l) + MD (ix3 0 2 l) * ∑ k : Fin 1024, o (ix3 b q k) * SG (ix3 b q k) * W (ix2 k l) := by
  pointwise [yR]

/-- The reference at an index: the input plus the gate times the output projection of the gated attention, coordinate
    `i` of the attention being coordinate `i % 64` of head `i / 64`, whose key/value head is `i / 256`. -/
theorem ref_apply (b : Fin 16) (q : Fin 256) (l : Fin 1024) : ref Q SG X MD K V S W (ix3 b q l)
    = X (ix3 b q l) + MD (ix3 0 2 l) * ∑ i : Fin 1024, attn
        (fun k : Fin 256 => (∑ d : Fin 64, K (ix3 b k ⟨i / 256 * 64 + d, by omega⟩) * Q (ix3 b q ⟨(i / 256 * 4 + i / 64 % 4) * 64 + d, by omega⟩)) * ln2)
        (fun k : Fin 256 => V (ix3 b ⟨i / 256 * 64 + i % 64, by omega⟩ k)) (S (ix1 ⟨i / 256 * 4 + i / 64 % 4, by omega⟩))
      * SG (ix3 b q i) * W (ix2 i l) := by
  unfold ref attn
  rw [yR_apply]
  simp only [oR_apply, dR_apply, eR_apply, mR_apply, skR_apply, sR_apply]

theorem res_eq (m : (ℓ : Loc nD τ sig) → Buf (Elt Ideal) ℓ) (c : Dev nD) : Value.res_out0 m c
    = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  rfl

end Cert.AttnCtxRefIdeal.Closed
-- ==== Proof.CtxValue.lean ====
module
public import proofs.«01_k».proof.Proof.CtxRun
public import proofs.«01_k».proof.Proof.CtxRef
public import Idealize.ShloMosaic.Lib.Pipeline.ValueKit
@[expose] public section

/-!
# The context attention's value

The block a grid point stores, and the result array after all grid points, both in closed form over the argument arrays.
-/

set_option maxRecDepth 16384

noncomputable section

open Idealize.ShloMosaic Idealize.ShloMosaic.TcCoe Idealize.SL.Sem
open Idealize.ShloMosaic.Pipeline (Dat)

namespace Cert.AttnCtxIdeal.Unit

open Cert.AttnCtxIdeal Cert.AttnCtxIdeal.Gen Attention

/-- Query `r`'s attention in coordinate `k` (coordinate `k % 64` of head `k / 64`), as the kernel computes it. -/
def att (Q K V : ℕ → ℕ → EReal) (S : ℕ → EReal) (r k : ℕ) : EReal :=
  ou Q K V S (r / 128 * 4 + k / 256) (k % 64) (k / 64 % 4 * 128 + r % 128)

theorem zero2 : (![0, 0] : Fin 2 → ℕ) = fun _ => 0 := by funext a; fin_cases a <;> rfl

theorem zero3 : (![0, 0, 0] : Fin 3 → ℕ) = fun _ => 0 := by funext a; fin_cases a <;> rfl

/-- A load of a whole buffer is the buffer. -/
theorem load_all {s : Shape} {e : EltTy} {M : Memref sig .tc .vmem s e} (hM : M.IsWhole) (x : Vec Ideal s e) {o : Fin s.rank → ℕ} (ho : o = fun _ => 0)
    (inb : ∀ a, o a + s.size a ≤ s.size a) :
    View.readAt (Elt Ideal) M.view (Rect.unit (s := s) o s.size inb).toLoadRect (hM.unread x) = x := by
  subst ho
  rw [View.readAt_eq_ld, hM.read_unread]
  exact View.ld_unit_zero rfl inb x

theorem final_apply (o : Vec Ideal S1024x256 .f32) (sg : Vec Ideal S1x256x1024 .bf16) (w : Vec Ideal S1024x1024 .f32) (x : Vec Ideal S1x256x1024 .f32)
    (md : Vec Ideal S1x3x1024 .f32) (a : ℕ → ℕ → EReal) (h : ∀ (k : Fin 1024) (r : Fin 256), o (ix2 k r) = a r k) (r : Fin 256) (l : Fin 1024) :
    k0_pay145 o sg w x md (ix3 0 r l) = x (ix3 0 r l) + md (ix3 0 2 l) * ∑ k : Fin 1024, a r k * sg (ix3 0 r k) * w (ix2 k l) := by
  pointwise [k0_pay145, h]

section Out
variable (arg2 : Memref sig .tc .vmem S1x256x1024 .bf16) (harg2 : arg2.IsWhole) (arg3 : Memref sig .tc .vmem S1x256x1024 .bf16) (harg3 : arg3.IsWhole)
  (arg4 : Memref sig .tc .vmem S1x256x1024 .f32) (harg4 : arg4.IsWhole) (arg5 : Memref sig .tc .vmem S1x3x1024 .f32) (harg5 : arg5.IsWhole)
  (arg6 : Memref sig .tc .vmem S1x256x256 .f32) (harg6 : arg6.IsWhole) (arg7 : Memref sig .tc .vmem S1x256x256 .bf16) (harg7 : arg7.IsWhole)
  (arg8 : Memref sig .tc .vmem S1x16 .f32) (harg8 : arg8.IsWhole) (arg9 : Memref sig .tc .vmem S1024x1024 .f32) (harg9 : arg9.IsWhole)
  (arg10 : Memref sig .tc .vmem S1x256x1024 .f32) (harg10 : arg10.IsWhole) (arg11 : Memref sig .tc .vmem S8x2x128x512 .f32) (harg11 : arg11.IsWhole)
  (arg12 : Memref sig .tc .vmem S8x256x512 .bf16) (harg12 : arg12.IsWhole) (arg13 : Memref sig .tc .vmem S1024x256 .f32) (harg13 : arg13.IsWhole)
  (x0 : Vec Ideal S1x256x1024 .bf16) (x1 : Vec Ideal S1x256x1024 .bf16) (x2 : Vec Ideal S1x256x1024 .f32) (x3 : Vec Ideal S1x3x1024 .f32)
  (x4 : Vec Ideal S1x256x256 .f32) (x5 : Vec Ideal S1x256x256 .bf16) (x6 : Vec Ideal S1x16 .f32) (x7 : Vec Ideal S1024x1024 .f32)

/-- What a grid point stores: every output element from the point's input blocks. -/
theorem out_apply (c : Dev nD) (i : grid0.Coords) (r : Fin 256) (l : Fin 1024) :
    out0_A_8 c i arg2 harg2 arg3 harg3 arg4 harg4 arg5 harg5 arg6 harg6 arg7 harg7 arg8 harg8 arg9 harg9 arg10 harg10 arg11 harg11 arg12 harg12
      arg13 harg13 x0 x1 x2 x3 x4 x5 x6 x7 (ix3 0 r l)
      = x2 (ix3 0 r l) + x3 (ix3 0 2 l) * ∑ k : Fin 1024, att (qTab x0) (kTab x4) (vTab x5) (sTab x6) r k * x1 (ix3 0 r k) * x7 (ix2 k l) := by
  unfold out0_A_8
  rw [View.read_writes_eq_canon _ _ _ (cover0_A_8 c i arg2 harg2 arg3 harg3 arg4 harg4 arg5 harg5 arg6 harg6 arg7 harg7 arg8 harg8 arg9 harg9
    arg10 harg10 arg11 harg11 arg12 harg12 arg13 harg13 x0 x1 x2 x3 x4 x5 x6 x7)]
  unfold kernelRun0_A
  dsimp only
  rw [View.canon_unit_zero (h := zero3)]
  have h := final_apply (oLd arg2 harg2 arg6 harg6 arg7 harg7 arg8 harg8 arg11 arg12 arg13 x0 x4 x5 x6) x1 x7 x2 x3
    (att (qTab x0) (kTab x4) (vTab x5) (sTab x6)) (fun k r => oLd_apply _ _ _ _ _ _ _ _ _ _ _ _ _ _ _ k r) r l
  refine Eq.trans (congrFun ?_ _) h
  have h1 := load_all (s := S1x256x1024) (e := .bf16) harg3 x1 zero3
  have h7 := load_all (s := S1024x1024) (e := .f32) harg9 x7 zero2
  have h2 := load_all (s := S1x256x1024) (e := .f32) harg4 x2 zero3
  have h3 := load_all (s := S1x3x1024) (e := .f32) harg5 x3 zero3
  conv_rhs => rw [← h1 (fun a => match a with | 0 => by simp | 1 => by simp | 2 => by simp),
    ← h7 (fun a => match a with | 0 => by simp | 1 => by simp), ← h2 (fun a => match a with | 0 => by simp | 1 => by simp | 2 => by simp),
    ← h3 (fun a => match a with | 0 => by simp | 1 => by simp | 2 => by simp)]
  rfl

end Out

/-- The kernel's attention with powers of two is the attention with exponentials, over the arrays' entries. -/
theorem att_eq (q : Fin 256 → Fin 1024 → EReal) (k v : Fin 256 → Fin 256 → EReal) (s : Fin 1 → Fin 16 → EReal) (r : Fin 256) (i : Fin 1024) :
    att (tab q) (tab k) (tab v) (tab s 0) r i = attn
      (fun kk : Fin 256 => (∑ d : Fin 64, k kk ⟨i / 256 * 64 + d, by omega⟩ * q r ⟨(i / 256 * 4 + i / 64 % 4) * 64 + d, by omega⟩) * ln2)
      (fun kk : Fin 256 => v ⟨i / 256 * 64 + i % 64, by omega⟩ kk) (s 0 ⟨i / 256 * 4 + i / 64 % 4, by omega⟩) := by
  have hr := r.isLt
  have hi := i.isLt
  have e1 : (r.val / 128 * 4 + i.val / 256) % 4 = i.val / 256 := by omega
  have e2 : (r.val / 128 * 4 + i.val / 256) / 4 % 2 * 128 + (i.val / 64 % 4 * 128 + r.val % 128) % 128 = r.val := by omega
  have e3 : (i.val / 64 % 4 * 128 + r.val % 128) / 128 = i.val / 64 % 4 := by omega
  unfold att ou
  rw [attn2_eq]
  unfold sc score
  rw [e1, e2, e3]
  have hs : ∀ kk : Fin 256, (∑ d : Fin 64, tab k kk (i.val / 256 * 64 + d) * tab q r ((i.val / 256 * 4 + i.val / 64 % 4) * 64 + d))
      = ∑ d : Fin 64, k kk ⟨i / 256 * 64 + d, by omega⟩ * q r ⟨(i / 256 * 4 + i / 64 % 4) * 64 + d, by omega⟩ := fun kk =>
    Finset.sum_congr rfl fun d _ => congrArg₂ (· * ·) (tab_of k kk.isLt (by omega)) (tab_of q r.isLt (by omega))
  have hv : ∀ kk : Fin 256, tab v (i.val / 256 * 64 + i.val % 64) kk = v ⟨i / 256 * 64 + i % 64, by omega⟩ kk := fun kk => tab_of v (by omega) kk.isLt
  have hk : tab s 0 (i.val / 256 * 4 + i.val / 64 % 4) = s 0 ⟨i / 256 * 4 + i / 64 % 4, by omega⟩ := tab_of s (by omega) (by omega)
  simp only [hs, hv, hk]

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![0, 0, 0] ∧ win0_4.index t = ![t.val, 0, 0] ∧ win0_5.index t = ![t.val, 0, 0] ∧ win0_6.index t = ![0, 0]
    ∧ win0_7.index t = ![0, 0] ∧ win0_8.index t = ![t.val, 0, 0] :=
  (by decide +kernel : ∀ t : Fin grid0.N, _)

/-- The kernel's result array is the reference's term over the kernel's arguments. -/
theorem final (c : Dev nD) : (dats m 0 c).arrAt 8 (cfgs 0).N = Cert.AttnCtxRefIdeal.Closed.ref
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  refine (dats m 0 c).arrAt_eq_of_covers 8 _ (by decide +kernel) fun t _ y => ?_
  blk_simp
  rw [after0_8]
  unfold outsAt0
  obtain ⟨r, l, rfl⟩ : ∃ (r : Fin 256) (l : Fin 1024), y = ix3 0 r l := ⟨y 1, y 2, by
    refine (eq_ix3 y).trans ?_
    congr 1
    exact Subsingleton.elim (α := Fin 1) _ _⟩
  have ht : t.val < 16 := t.isLt
  have e : ((cfg0.win 8).blk t).view.emb (ix3 0 r l) = ix3 (⟨t.val, ht⟩ : Fin 16) r l := by blk_ext [idx t]
  refine (out_apply _ _ _ _ _ _ _ _ _ _ _ _ _ _ _ _ _ _ _ _ _ _ _ _ _ _ _ _ _ _ _ _ c _ r l).trans ?_
  rw [e]
  refine Eq.trans ?_ (Cert.AttnCtxRefIdeal.Closed.ref_apply _ _ _ _ _ _ _ _ ⟨t.val, ht⟩ r l).symm
  simp only [att_eq]
  blk_point [iblk, V, idx t]

end Cert.AttnCtxIdeal.Unit
-- ==== Proof.CtxClaim.lean ====
module
public import proofs.«01_k».proof.Proof.CtxValue
public import proofs.«01_k».proof.Defs
@[expose] public section

/-!
# The context attention's claims

The kernel's result equals the reference's over the extended reals, whatever the arguments.
-/

noncomputable section

open Idealize.ShloMosaic Idealize.SL.Sem

namespace Cert.Proof

theorem ctx_algebraic : algebraic_AttnCtxIdeal_AttnCtxRefIdeal :=
  fun m ρ m' ρ' _ hag => ⟨fun c => Cert.AttnCtxRefIdeal.Closed.ref
      (m ((c.tc : Thread Cert.AttnCtxIdeal.nD Cert.AttnCtxIdeal.τ).loc Cert.AttnCtxIdeal.main_arg0))
      (m ((c.tc : Thread Cert.AttnCtxIdeal.nD Cert.AttnCtxIdeal.τ).loc Cert.AttnCtxIdeal.main_arg1))
      (m ((c.tc : Thread Cert.AttnCtxIdeal.nD Cert.AttnCtxIdeal.τ).loc Cert.AttnCtxIdeal.main_arg2))
      (m ((c.tc : Thread Cert.AttnCtxIdeal.nD Cert.AttnCtxIdeal.τ).loc Cert.AttnCtxIdeal.main_arg3))
      (m ((c.tc : Thread Cert.AttnCtxIdeal.nD Cert.AttnCtxIdeal.τ).loc Cert.AttnCtxIdeal.main_arg4))
      (m ((c.tc : Thread Cert.AttnCtxIdeal.nD Cert.AttnCtxIdeal.τ).loc Cert.AttnCtxIdeal.main_arg5))
      (m ((c.tc : Thread Cert.AttnCtxIdeal.nD Cert.AttnCtxIdeal.τ).loc Cert.AttnCtxIdeal.main_arg6))
      (m ((c.tc : Thread Cert.AttnCtxIdeal.nD Cert.AttnCtxIdeal.τ).loc Cert.AttnCtxIdeal.main_arg7)),
    (θ_run _ _ _).mono (fun _ h c => ⟨(h c).1.trans (Cert.AttnCtxIdeal.Unit.final m c), (h c).2⟩) (Cert.AttnCtxIdeal.Value.run_blocks m ρ),
    (θ_run _ _ _).mono (fun _ h c => ⟨(h c).1.trans (by
      obtain ⟨h0, h1, h2, h3, h4, h5, h6, h7⟩ := hag c
      rw [show Cert.AttnCtxRefIdeal.Value.res_main_v38 m' c = _ from Cert.AttnCtxRefIdeal.Closed.res_eq m' c]
      rw [h0, h1, h2, h3, h4, h5, h6, h7]), (h c).2⟩)
      (Cert.AttnCtxRefIdeal.Value.run m' ρ')⟩

end Cert.Proof

end
-- ==== Proof.Norm.lean ====
module
public import proofs.«01_k».proof.Proof.Softmax
public import Idealize.ShloMosaic.Lib.Pointwise
@[expose] public section

/-!
# A modulated, normalised row

The input projections' common first step: a row over its root mean square, times the norm's weights, scaled and shifted by
the modulation.
-/

noncomputable section

open Idealize.ShloMosaic

namespace Attention

/-- Entry `l` of the row `x`, normalised with weights `w`, scaled by `1 + sc` and shifted by `sh`. -/
def normed (x w sc sh : Fin 1024 → EReal) (l : Fin 1024) : EReal :=
  x l * Ideal.rsqrt (Ideal.div (∑ j, x j * x j) (Ideal.ofBits .f32 0x44800000#32) + Ideal.ofBits .f32 0x358637BD#32)
    * w l * (1 + sc l) + sh l

theorem eighth_bits : (Ideal.ofBits FTy.f32 1040187392#32 : EReal) = ((1 / 8 : ℝ) : EReal) := by
  simp [Ideal.ofBits, Ideal.ieee]
  rw [← EReal.coe_mul]
  congr 1
  norm_num

/-- A value times an eighth, over `ln 2`, is the value over `8 ln 2`. -/
theorem div_ln2 (s : EReal) : Ideal.div (s * Ideal.ofBits FTy.f32 1040187392#32) ln2 = s * (((8 * (Real.log 2))⁻¹ : ℝ) : EReal) := by
  have h : Real.log 2 ≠ 0 := log2_pos.ne'
  rw [ln2, Ideal.div_coe h, eighth_bits, mul_assoc, ← EReal.coe_mul]
  congr 2
  field_simp

end Attention

end
-- ==== Proof.InUnit.lean ====
module
public import proofs.«01_k».proof.Proof.Gen.AttnInIdeal.Frame
public import proofs.«01_k».proof.Proof.Norm
public import Idealize.ShloMosaic.Lib.Pipeline.ReadBack
public import Idealize.ShloMosaic.Lib.Pipeline.ValueKit
@[expose] public section

/-!
# The prompt's input projection: what a grid point stores

A grid point holds four requests' rows, the modulation, the norm weights and the projection weights, and stores four requests' rows of each
result. Every stored element is given here in closed form over the point's input blocks.
-/

set_option maxRecDepth 16384

noncomputable section

open Idealize.ShloMosaic Idealize.ShloMosaic.TcCoe Idealize.SL.Sem

namespace Cert.AttnInIdeal.Unit

open Cert.AttnInIdeal Cert.AttnInIdeal.Gen Attention

/-- The normalised row `r` of request `b` of a grid point's four requests. -/
def hrow (x0 : Vec Ideal S4x256x1024 .f32) (x1 : Vec Ideal S1x3x1024 .f32) (x2 : Vec Ideal S1x1024 .f32) (b : Fin 4) (r : Fin 256) : Fin 1024 → EReal :=
  normed (fun j => x0 (ix3 b r j)) (fun j => x2 (ix2 0 j)) (fun j => x1 (ix3 0 1 j)) (fun j => x1 (ix3 0 0 j))

/-- The normalised rows. -/
theorem h_apply (v0 : Vec Ideal S4x256x1024 .f32) (v2 : Vec Ideal S1x1024 .f32) (v4 : Vec Ideal S1x3x1024 .f32) (i l : Fin 1024) :
    k0_pay2 v0 v2 v4 (ix2 i l) = hrow v0 v4 v2 ⟨i / 256, by omega⟩ ⟨i % 256, by omega⟩ l := by
  unfold hrow normed
  pointwise [k0_pay2]

theorem zero2 : (![0, 0] : Fin 2 → ℕ) = fun _ => 0 := by funext a; fin_cases a <;> rfl

theorem zero3 : (![0, 0, 0] : Fin 3 → ℕ) = fun _ => 0 := by funext a; fin_cases a <;> rfl

section Out
variable (x0 : Vec Ideal S4x256x1024 .f32) (x1 : Vec Ideal S1x3x1024 .f32) (x2 : Vec Ideal S1x1024 .f32) (x3 : Vec Ideal S1024x2560 .f32)
  (x4 : Vec Ideal S256x1024 .f32)

theorem ld0 : View.ld x0 r0_0 = x0 := View.ld_unit_zero zero3 _ x0

theorem ld1 : View.ld x1 r0_2 = x1 := View.ld_unit_zero zero3 _ x1

theorem ld2 : View.ld x2 r0_1 = x2 := View.ld_unit_zero zero2 _ x2

theorem ld4 : View.ld x4 r0_7 = x4 := View.ld_unit_zero zero2 _ x4

/-- The row at flat position `n = 256 b + r` is row `r` of request `b`. -/
theorem row_at (b : Fin 4) (r : Fin 256) (l : Fin 1024) (n : ℕ) (e : n = b.val * 256 + r.val) (h1 : n / 256 < 4) (h2 : n % 256 < 256) :
    hrow x0 x1 x2 ⟨n / 256, h1⟩ ⟨n % 256, h2⟩ l = hrow x0 x1 x2 b r l := by
  subst e
  congr 1
  · exact Fin.ext (by simp only; omega)
  · exact Fin.ext (by simp only; omega)

theorem row_eq (b : Fin 4) (r : Fin 256) (l : Fin 1024) (h1 : (b.val * 256 + r.val) / 256 < 4) (h2 : (b.val * 256 + r.val) % 256 < 256) :
    hrow x0 x1 x2 ⟨(b.val * 256 + r.val) / 256, h1⟩ ⟨(b.val * 256 + r.val) % 256, h2⟩ l = hrow x0 x1 x2 b r l :=
  row_at x0 x1 x2 b r l _ rfl h1 h2

/-- The scaled queries a grid point stores. -/
theorem out5_apply (b : Fin 4) (r : Fin 256) (l : Fin 1024) : out0_5 x0 x1 x2 x3 x4 (ix3 b r l)
    = (∑ k : Fin 1024, hrow x0 x1 x2 b r k * x3 (ix2 k ⟨l, by omega⟩)) * (((8 * (Real.log 2))⁻¹ : ℝ) : EReal) := by
  unfold out0_5
  rw [View.canon_unit_zero (h := zero3), ld0, ld1, ld2]
  pointwise [k0_pay5, h_apply]
  simp only [row_eq]
  refine congrArg₂ (fun a b : EReal => a * b) rfl ?_
  exact IdealRules.named_const.ideal_named_scalar (φ := .f32) κ "qscale" 0x3E38AA3B#32 _ rfl

/-- The gate a grid point stores. -/
theorem out6_apply (b : Fin 4) (r : Fin 256) (l : Fin 1024) : out0_6 x0 x1 x2 x3 x4 (ix3 b r l)
    = (∑ k : Fin 1024, hrow x0 x1 x2 b r k * x3 (ix2 k ⟨1024 + l, by omega⟩))
      * Ideal.logistic (∑ k : Fin 1024, hrow x0 x1 x2 b r k * x3 (ix2 k ⟨1024 + l, by omega⟩)) := by
  unfold out0_6
  rw [View.canon_unit_zero (h := zero3), ld0, ld1, ld2]
  pointwise [k0_pay6, k0_pay3, h_apply]
  simp only [row_eq]

/-- The keys a grid point stores. -/
theorem out7_apply (b : Fin 4) (r : Fin 256) (l : Fin 256) : out0_7 x0 x1 x2 x3 x4 (ix3 b r l)
    = ∑ k : Fin 1024, hrow x0 x1 x2 b r k * x3 (ix2 k ⟨2048 + l, by omega⟩) := by
  unfold out0_7
  rw [View.canon_unit_zero (h := zero3), ld0, ld1, ld2]
  pointwise [k0_pay7, k0_pay4, h_apply]
  simp only [row_eq]

/-- The values a grid point stores. -/
theorem out9_apply (b : Fin 4) (r : Fin 256) (l : Fin 256) : out0_9 x0 x1 x2 x3 x4 (ix3 b r l)
    = ∑ k : Fin 1024, hrow x0 x1 x2 b r k * x3 (ix2 k ⟨2304 + l, by omega⟩) := by
  unfold out0_9
  rw [View.canon_unit_zero (h := zero3)]
  unfold k0_pay13
  rw [ld0, ld1, ld2]
  pointwise [k0_pay1, h_apply]
  simp only [row_eq]

/-- The transposed values of a grid point. -/
def vt : Vec Ideal S4x256x256 .bf16 := fun y => ∑ k : Fin 1024, x4 (ix2 (y 1) k) * hrow x0 x1 x2 (y 0) (y 2) k

/-- A request's transposed values, by its position among the grid point's four. -/
theorem vt_apply (b : Fin 4) (d s : Fin 256) : vt x0 x1 x2 x4 (ix3 b d s) = ∑ k : Fin 1024, x4 (ix2 d k) * hrow x0 x1 x2 b s k := rfl

theorem pay8_apply (d : Fin 256) (i : Fin 1024) : k0_pay8 (k0_pay2 x0 x2 x1) x4 (ix2 d i)
    = ∑ k : Fin 1024, x4 (ix2 d k) * hrow x0 x1 x2 ⟨i / 256, by omega⟩ ⟨i % 256, by omega⟩ k := by
  pointwise [k0_pay8, h_apply]

theorem split_piece (y : S1x256x256.Idx) : ∃ (d s : Fin 256), y = ix3 0 d s := ⟨y 1, y 2, by
  refine (eq_ix3 y).trans ?_
  congr 1
  exact Subsingleton.elim (α := Fin 1) _ _⟩

/-- The transposed values a grid point stores: four pieces, one per request. -/
theorem out8_apply (y : S4x256x256.Idx) : out0_8 x0 x1 x2 x3 x4 y = vt x0 x1 x2 x4 y := by
  have hp : View.PiecesOf (Val := Elt Ideal) (s := S4x256x256) (e := .bf16) (vt x0 x1 x2 x4) [⟨r0_11, k0_pay12 (k0_pay13 x0 x1 x2 x3 x4) (View.ld x4 r0_7)⟩,
    ⟨r0_10, k0_pay11 (k0_pay13 x0 x1 x2 x3 x4) (View.ld x4 r0_7)⟩, ⟨r0_9, k0_pay10 (k0_pay13 x0 x1 x2 x3 x4) (View.ld x4 r0_7)⟩,
    ⟨r0_8, k0_pay9 (k0_pay13 x0 x1 x2 x3 x4) (View.ld x4 r0_7)⟩] := by
    unfold k0_pay13
    rw [ld0, ld1, ld2, ld4]
    refine ⟨fun y => ?_, fun y => ?_, fun y => ?_, fun y => ?_, trivial⟩
    · obtain ⟨d, s, rfl⟩ := split_piece y
      rw [show r0_11.emb (ix3 0 d s : S1x256x256.Idx) = ix3 3 d s from by blk_ext [r0_11], vt_apply]
      pointwise [k0_pay12, pay8_apply]
      exact Finset.sum_congr rfl fun k _ => congrArg (fun z : EReal => x4 (ix2 d k) * z) (row_at x0 x1 x2 3 s k _ (by simp) _ _)
    · obtain ⟨d, s, rfl⟩ := split_piece y
      rw [show r0_10.emb (ix3 0 d s : S1x256x256.Idx) = ix3 2 d s from by blk_ext [r0_10], vt_apply]
      pointwise [k0_pay11, pay8_apply]
      exact Finset.sum_congr rfl fun k _ => congrArg (fun z : EReal => x4 (ix2 d k) * z) (row_at x0 x1 x2 2 s k _ (by simp) _ _)
    · obtain ⟨d, s, rfl⟩ := split_piece y
      rw [show r0_9.emb (ix3 0 d s : S1x256x256.Idx) = ix3 1 d s from by blk_ext [r0_9], vt_apply]
      pointwise [k0_pay10, pay8_apply]
      exact Finset.sum_congr rfl fun k _ => congrArg (fun z : EReal => x4 (ix2 d k) * z) (row_at x0 x1 x2 1 s k _ (by simp) _ _)
    · obtain ⟨d, s, rfl⟩ := split_piece y
      rw [show r0_8.emb (ix3 0 d s : S1x256x256.Idx) = ix3 0 d s from by blk_ext [r0_8], vt_apply]
      pointwise [k0_pay9, pay8_apply]
      exact Finset.sum_congr rfl fun k _ => congrArg (fun z : EReal => x4 (ix2 d k) * z) (row_at x0 x1 x2 0 s k _ (by simp) _ _)
  exact View.canon_apply_of_pieces (vt x0 x1 x2 x4) _ hp.mem y (cover0_8 _ _ _ _ y)

end Out

end Cert.AttnInIdeal.Unit
-- ==== Proof.InRef.lean ====
module
public import proofs.«01_k».proof.Proof.Gen.AttnInRefIdeal.Run
public import proofs.«01_k».proof.Proof.HostMax
public import Idealize.ShloMosaic.Lib.Pipeline.ValueKit
public import proofs.«01_k».proof.Proof.Norm
@[expose] public section

/-!
# The prompt's input projection: what the reference computes

The reference's five results at an index: the normalised rows projected to queries, gate, keys and values.
-/

set_option maxRecDepth 16384

noncomputable section

open Idealize.ShloMosaic Idealize.ShloMosaic.TcCoe Idealize.SL.Sem

namespace Cert.AttnInRefIdeal.Closed

open Cert.AttnInRefIdeal Cert.AttnInRefIdeal.Gen Attention

variable (X : FVec Ideal S16x256x1024 .f32) (MD : FVec Ideal S8x3x1024 .f32) (NW : FVec Ideal S1024 .f32) (W : FVec Ideal S1024x2560 .f32)

/-- The normalised and modulated rows. -/
def hR : FVec Ideal S16x256x1024 .f32 :=
  (addf (mulf (mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 NW))) (broadcastInDim S16x256x1024 ![0, 1, 2] bcast_S1x1x1024_S16x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 1, 0] (extractStridedSlice S1x3x1024 ![0, 0, 0] MD slices_S8x3x1024_S1x3x1024_0_0_0) slices_S1x3x1024_S1x1x1024_0_1_0) shapeCasts_S1x1x1024_S1x1024))))) (broadcastInDim S16x256x1024 ![0, 1, 2] bcast_S1x1x1024_S16x256x1024_0_1_2 (broadcastInDim S1x1x1024 ![0, 2] bcast_S1x1024_S1x1x1024_0_2 (shapeCast _ (extractStridedSlice S1x1x1024 ![0, 0, 0] (extractStridedSlice S1x3x1024 ![0, 0, 0] MD slices_S8x3x1024_S1x3x1024_0_0_0) slices_S1x3x1024_S1x1x1024_0_0_0) shapeCasts_S1x1x1024_S1x1024))))

/-- The projection. -/
def pR (h : FVec Ideal S16x256x1024 .f32) : FVec Ideal S16x256x2560 .f32 :=
  (Host.dotGeneral dot_S16x256x1024_S1024x2560_S16x256x2560_2_0_01_1_n_n none h W)

/-- The scaled queries. -/
def qR (p : FVec Ideal S16x256x2560 .f32) : FVec Ideal S16x256x1024 .bf16 :=
  truncf .bf16 (Host.divf (mulf (extractStridedSlice S16x256x1024 ![0, 0, 0] p slices_S16x256x2560_S16x256x1024_0_0_0) (broadcastInDim S16x256x1024 ![] bcast_S_S16x256x1024 (constant S_ .f32 0x3E000000#32))) (broadcastInDim S16x256x1024 ![] bcast_S_S16x256x1024 (Host.log (constant S_ .f32 0x40000000#32)))) bitsLt_bf16_f32

/-- The gate. -/
def sR (p : FVec Ideal S16x256x2560 .f32) : FVec Ideal S16x256x1024 .bf16 :=
  truncf .bf16 (mulf (extractStridedSlice S16x256x1024 ![0, 0, 1024] p slices_S16x256x2560_S16x256x1024_0_0_1024) (Host.divf (broadcastInDim S16x256x1024 ![] bcast_S_S16x256x1024 (constant S_ .f32 0x3F800000#32)) (addf (broadcastInDim S16x256x1024 ![] bcast_S_S16x256x1024 (constant S_ .f32 0x3F800000#32)) (Host.exp (Host.negf (extractStridedSlice S16x256x1024 ![0, 0, 1024] p slices_S16x256x2560_S16x256x1024_0_0_1024)))))) bitsLt_bf16_f32

/-- The keys. -/
def kR (p : FVec Ideal S16x256x2560 .f32) : FVec Ideal S16x256x256 .f32 :=
  extractStridedSlice S16x256x256 ![0, 0, 2048] p slices_S16x256x2560_S16x256x256_0_0_2048

/-- The transposed values. -/
def tR (p : FVec Ideal S16x256x2560 .f32) : FVec Ideal S16x256x256 .bf16 :=
  truncf .bf16 (transpose S16x256x256 [0, 2, 1] (extractStridedSlice S16x256x256 ![0, 0, 2304] p slices_S16x256x2560_S16x256x256_0_0_2304) transposes_S16x256x256_S16x256x256_0_2_1) bitsLt_bf16_f32

/-- The values. -/
def vR (p : FVec Ideal S16x256x2560 .f32) : FVec Ideal S16x256x256 .f32 :=
  extractStridedSlice S16x256x256 ![0, 0, 2304] p slices_S16x256x2560_S16x256x256_0_0_2304

/-- The normalised row `r` of request `b`. -/
def row (b : Fin 16) (r : Fin 256) : Fin 1024 → EReal :=
  normed (fun j => X (ix3 b r j)) (fun j => NW (ix1 j)) (fun j => MD (ix3 0 1 j)) (fun j => MD (ix3 0 0 j))

theorem hR_apply (b : Fin 16) (r : Fin 256) (l : Fin 1024) : hR X MD NW (ix3 b r l) = row X MD NW b r l := by
  unfold row normed
  pointwise [hR]

theorem pR_apply (b : Fin 16) (r : Fin 256) (l : Fin 2560) : pR W (hR X MD NW) (ix3 b r l) = ∑ k : Fin 1024, row X MD NW b r k * W (ix2 k l) := by
  pointwise [pR, hR_apply]

theorem q_apply (b : Fin 16) (r : Fin 256) (l : Fin 1024) : qR (pR W (hR X MD NW)) (ix3 b r l)
    = (∑ k : Fin 1024, row X MD NW b r k * W (ix2 k ⟨l, by omega⟩)) * (((8 * (Real.log 2))⁻¹ : ℝ) : EReal) := by
  pointwise [qR, pR_apply]
  rw [log_two]
  exact div_ln2 _

theorem s_apply (b : Fin 16) (r : Fin 256) (l : Fin 1024) : sR (pR W (hR X MD NW)) (ix3 b r l)
    = (∑ k : Fin 1024, row X MD NW b r k * W (ix2 k ⟨1024 + l, by omega⟩))
      * Ideal.logistic (∑ k : Fin 1024, row X MD NW b r k * W (ix2 k ⟨1024 + l, by omega⟩)) := by
  unfold Ideal.logistic
  pointwise [sR, pR_apply]

theorem k_apply (b : Fin 16) (r : Fin 256) (l : Fin 256) : kR (pR W (hR X MD NW)) (ix3 b r l)
    = ∑ k : Fin 1024, row X MD NW b r k * W (ix2 k ⟨2048 + l, by omega⟩) := by
  pointwise [kR, pR_apply]

theorem t_apply (b : Fin 16) (l : Fin 256) (r : Fin 256) : tR (pR W (hR X MD NW)) (ix3 b l r)
    = ∑ k : Fin 1024, row X MD NW b r k * W (ix2 k ⟨2304 + l, by omega⟩) := by
  pointwise [tR, pR_apply]

theorem v_apply (b : Fin 16) (r : Fin 256) (l : Fin 256) : vR (pR W (hR X MD NW)) (ix3 b r l)
    = ∑ k : Fin 1024, row X MD NW b r k * W (ix2 k ⟨2304 + l, by omega⟩) := by
  pointwise [vR, pR_apply]

/-- The projection of the reference's arguments on a device. -/
def proj (m : (ℓ : Loc nD τ sig) → Buf (Elt Ideal) ℓ) (c : Dev nD) : FVec Ideal S16x256x2560 .f32 :=
  pR (m ((c.tc : Thread nD τ).loc main_arg3))
    (hR (m ((c.tc : Thread nD τ).loc main_arg0)) (m ((c.tc : Thread nD τ).loc main_arg1)) (m ((c.tc : Thread nD τ).loc main_arg2)))

/-- The reference's run, its five results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = qR (proj m c)
      ∧ r.2.mem ((c.tc : Thread nD τ).loc main_v38) = sR (proj m c)
      ∧ r.2.mem ((c.tc : Thread nD τ).loc main_v34) = kR (proj m c)
      ∧ r.2.mem ((c.tc : Thread nD τ).loc main_v40) = tR (proj m c)
      ∧ r.2.mem ((c.tc : Thread nD τ).loc main_v35) = vR (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (by sl_kernel_rfl), (h c).2.1.trans (by sl_kernel_rfl), (h c).2.2.1.trans (by sl_kernel_rfl),
    (h c).2.2.2.1.trans (by sl_kernel_rfl), (h c).2.2.2.2.1.trans (by sl_kernel_rfl), (h c).2.2.2.2.2⟩) (Value.run m ρ)

end Cert.AttnInRefIdeal.Closed
-- ==== Proof.InValue.lean ====
module
public import proofs.«01_k».proof.Proof.InUnit
public import proofs.«01_k».proof.Proof.InRef
public import Idealize.ShloMosaic.Lib.Pipeline.Value
@[expose] public section

/-!
# The prompt's input projection: the kernel's results

After all grid points each of the five result arrays is the reference's.
-/

set_option maxRecDepth 16384

noncomputable section

open Idealize.ShloMosaic Idealize.ShloMosaic.TcCoe Idealize.SL.Sem
open Idealize.ShloMosaic.Pipeline (Dat)

namespace Cert.AttnInIdeal.Unit

open Cert.AttnInIdeal Cert.AttnInIdeal.Gen Attention
open Cert.AttnInRefIdeal.Closed (hR pR qR sR kR tR vR)

variable (m : (ℓ : Loc nD τ sig) → Buf (Elt Ideal) ℓ)

theorem idx : ∀ t : Fin cfg0.N, win0_0.index t = ![t.val, 0, 0] ∧ win0_1.index t = ![0, 0, 0] ∧ win0_2.index t = ![0, 0]
    ∧ win0_3.index t = ![0, 0] ∧ win0_4.index t = ![0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] :=
  (by decide +kernel : ∀ t : Fin grid0.N, _)

/-- The projection of the kernel's arguments on a device, as the reference computes it. -/
def proj (c : Dev nD) : FVec Ideal Cert.AttnInRefIdeal.S16x256x2560 .f32 :=
  pR (m ((c.tc : Thread nD τ).loc main_arg3))
    (hR (m ((c.tc : Thread nD τ).loc main_arg0)) (m ((c.tc : Thread nD τ).loc main_arg1)) (m ((c.tc : Thread nD τ).loc main_arg2)))

/-- The scaled queries. -/
theorem final5 (c : Dev nD) : (dats m 0 c).arrAt 5 (cfgs 0).N = qR (proj m c) := by
  refine (dats m 0 c).arrAt_eq_of_covers 5 _ (by decide +kernel) fun t _ y => ?_
  blk_simp
  rw [after0_5]
  obtain ⟨b, r, l, rfl⟩ : ∃ (b : Fin 4) (r : Fin 256) (l : Fin 1024), y = ix3 b r l := ⟨y 0, y 1, y 2, eq_ix3 y⟩
  have ht : t.val < 4 := t.isLt
  have hb : b.val < 4 := b.isLt
  have e : ((cfg0.win 5).blk t).view.emb (ix3 b r l) = ix3 (⟨4 * t.val + b.val, by omega⟩ : Fin 16) r l := by blk_ext [idx t]
  refine (out5_apply _ _ _ _ _ b r l).trans ?_
  rw [e]
  refine Eq.trans ?_ (Cert.AttnInRefIdeal.Closed.q_apply _ _ _ _ ⟨4 * t.val + b.val, by omega⟩ r l).symm
  unfold hrow Cert.AttnInRefIdeal.Closed.row
  blk_point [iblk, V, idx t]

/-- The gate. -/
theorem final6 (c : Dev nD) : (dats m 0 c).arrAt 6 (cfgs 0).N = sR (proj m c) := by
  refine (dats m 0 c).arrAt_eq_of_covers 6 _ (by decide +kernel) fun t _ y => ?_
  blk_simp
  rw [after0_6]
  obtain ⟨b, r, l, rfl⟩ : ∃ (b : Fin 4) (r : Fin 256) (l : Fin 1024), y = ix3 b r l := ⟨y 0, y 1, y 2, eq_ix3 y⟩
  have ht : t.val < 4 := t.isLt
  have hb : b.val < 4 := b.isLt
  have e : ((cfg0.win 6).blk t).view.emb (ix3 b r l) = ix3 (⟨4 * t.val + b.val, by omega⟩ : Fin 16) r l := by blk_ext [idx t]
  refine (out6_apply _ _ _ _ _ b r l).trans ?_
  rw [e]
  refine Eq.trans ?_ (Cert.AttnInRefIdeal.Closed.s_apply _ _ _ _ ⟨4 * t.val + b.val, by omega⟩ r l).symm
  unfold hrow Cert.AttnInRefIdeal.Closed.row
  blk_point [iblk, V, idx t]

/-- The keys. -/
theorem final7 (c : Dev nD) : (dats m 0 c).arrAt 7 (cfgs 0).N = kR (proj m c) := by
  refine (dats m 0 c).arrAt_eq_of_covers 7 _ (by decide +kernel) fun t _ y => ?_
  blk_simp
  rw [after0_7]
  obtain ⟨b, r, l, rfl⟩ : ∃ (b : Fin 4) (r : Fin 256) (l : Fin 256), y = ix3 b r l := ⟨y 0, y 1, y 2, eq_ix3 y⟩
  have ht : t.val < 4 := t.isLt
  have hb : b.val < 4 := b.isLt
  have e : ((cfg0.win 7).blk t).view.emb (ix3 b r l) = ix3 (⟨4 * t.val + b.val, by omega⟩ : Fin 16) r l := by blk_ext [idx t]
  refine (out7_apply _ _ _ _ _ b r l).trans ?_
  rw [e]
  refine Eq.trans ?_ (Cert.AttnInRefIdeal.Closed.k_apply _ _ _ _ ⟨4 * t.val + b.val, by omega⟩ r l).symm
  unfold hrow Cert.AttnInRefIdeal.Closed.row
  blk_point [iblk, V, idx t]

/-- The transposed values. -/
theorem final8 (c : Dev nD) : (dats m 0 c).arrAt 8 (cfgs 0).N = tR (proj m c) := by
  refine (dats m 0 c).arrAt_eq_of_covers 8 _ (by decide +kernel) fun t _ y => ?_
  blk_simp
  rw [after0_8]
  obtain ⟨b, r, l, rfl⟩ : ∃ (b : Fin 4) (r : Fin 256) (l : Fin 256), y = ix3 b l r := ⟨y 0, y 2, y 1, eq_ix3 y⟩
  have ht : t.val < 4 := t.isLt
  have hb : b.val < 4 := b.isLt
  have e : ((cfg0.win 8).blk t).view.emb (ix3 b l r) = ix3 (⟨4 * t.val + b.val, by omega⟩ : Fin 16) l r := by blk_ext [idx t]
  refine (out8_apply _ _ _ _ _ _).trans ?_
  rw [e]
  refine Eq.trans ?_ (Cert.AttnInRefIdeal.Closed.t_apply _ _ _ _ ⟨4 * t.val + b.val, by omega⟩ l r).symm
  rw [vt_apply]
  refine Finset.sum_congr rfl fun k _ => (mul_comm _ _).trans ?_
  unfold hrow Cert.AttnInRefIdeal.Closed.row
  blk_point [iblk, V, idx t]

/-- The values. -/
theorem final9 (c : Dev nD) : (dats m 0 c).arrAt 9 (cfgs 0).N = vR (proj m c) := by
  refine (dats m 0 c).arrAt_eq_of_covers 9 _ (by decide +kernel) fun t _ y => ?_
  blk_simp
  rw [after0_9]
  obtain ⟨b, r, l, rfl⟩ : ∃ (b : Fin 4) (r : Fin 256) (l : Fin 256), y = ix3 b r l := ⟨y 0, y 1, y 2, eq_ix3 y⟩
  have ht : t.val < 4 := t.isLt
  have hb : b.val < 4 := b.isLt
  have e : ((cfg0.win 9).blk t).view.emb (ix3 b r l) = ix3 (⟨4 * t.val + b.val, by omega⟩ : Fin 16) r l := by blk_ext [idx t]
  refine (out9_apply _ _ _ _ _ b r l).trans ?_
  rw [e]
  refine Eq.trans ?_ (Cert.AttnInRefIdeal.Closed.v_apply _ _ _ _ ⟨4 * t.val + b.val, by omega⟩ r l).symm
  unfold hrow Cert.AttnInRefIdeal.Closed.row
  blk_point [iblk, V, idx t]

/-- The kernel's run, its five results named. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = qR (proj m c)
      ∧ r.2.mem ((c.tc : Thread nD τ).loc main_v3_1) = sR (proj m c)
      ∧ r.2.mem ((c.tc : Thread nD τ).loc main_v3_2) = kR (proj m c)
      ∧ r.2.mem ((c.tc : Thread nD τ).loc main_v3_3) = tR (proj m c)
      ∧ r.2.mem ((c.tc : Thread nD τ).loc main_v3_4) = vR (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 5).trans (final5 m c), ((h c).1 6).trans (final6 m c), ((h c).1 7).trans (final7 m c),
      ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩)
    (run_main m ρ)

end Cert.AttnInIdeal.Unit
-- ==== Proof.InClaim.lean ====
module
public import proofs.«01_k».proof.Proof.InValue
public import proofs.«01_k».proof.Defs
@[expose] public section

/-!
# The prompt's input projection: its claim

The kernel's five results equal the reference's over the extended reals, whatever the arguments.
-/

noncomputable section

open Idealize.ShloMosaic Idealize.SL.Sem

namespace Cert.Proof

theorem in_algebraic : algebraic_AttnInIdeal_AttnInRefIdeal := by
  intro m ρ m' ρ' _ hag
  have e : ∀ c, Cert.AttnInRefIdeal.Closed.proj m' c = Cert.AttnInIdeal.Unit.proj m c := fun c => by
    obtain ⟨h0, h1, h2, h3⟩ := hag c
    unfold Cert.AttnInRefIdeal.Closed.proj Cert.AttnInIdeal.Unit.proj
    rw [h0, h1, h2, h3]
  refine ⟨_, _, _, _, _, Cert.AttnInIdeal.Unit.run m ρ, ?_⟩
  have h := Cert.AttnInRefIdeal.Closed.run m' ρ'
  simp only [e] at h
  exact h

end Cert.Proof

end
-- ==== Proof.Rotary.lean ====
module
public import proofs.«01_k».proof.Proof.Softmax
public import Idealize.ShloMosaic.Lib.Pointwise
@[expose] public section

/-!
# Rotary positions

The projection's columns fall into heads of 64; each half of a head (32 columns) is a group of 16 pairs, column `n` paired with
the column 16 further, rotated by an angle that depends on the token and the pair.
-/

noncomputable section

open Idealize.ShloMosaic

namespace Attention

/-- The column paired with column `n`. -/
def mate (n : Fin 2560) : Fin 2560 := if h : n.val % 32 < 16 then ⟨n.val + 16, by omega⟩ else ⟨n.val - 16, by omega⟩

/-- Column `n` of a rotated row: `c` is the cosine's row and `s` the signed sine's row, both by the lane within 128 columns. -/
def turned (f : Fin 2560 → EReal) (c s : Fin 128 → EReal) (n : Fin 2560) : EReal :=
  f n * c ⟨n.val % 128, by omega⟩ + f (mate n) * s ⟨n.val % 128, by omega⟩

/-- The angle of lane `j` for token `t` of a 64 by 64 grid: the token's grid row (first half of a head) or grid column (second half),
    times the power `10000 ^ (-(j mod 16) / 16)`. -/
def angle (t j : ℕ) : EReal :=
  FloatOps.sitofp (F := Ideal) .f32 (BitVec.ofNat 32 (if j % 64 < 32 then t / 64 else t % 64))
    * Ideal.pow (Ideal.ofBits .f32 0x461C4000#32) (Ideal.div (-(FloatOps.sitofp (F := Ideal) .f32 (BitVec.ofNat 32 (j % 16)) : EReal)) (Ideal.ofBits .f32 0x41800000#32))

/-- The cosine's row for a token. -/
def cosine (t : ℕ) (j : Fin 128) : EReal := Ideal.cos (angle t j)

/-- The sine's row for a token, signed: negative where the pair's second column is subtracted. -/
def sine (t : ℕ) (j : Fin 128) : EReal := if j.val % 32 < 16 then -Ideal.sin (angle t j) else Ideal.sin (angle t j)

/-- The first column of a pair: rotated, it is the difference of the two products. -/
theorem turned_first (f : Fin 2560 → EReal) (t : ℕ) (n n₁ n₂ : Fin 2560) (a : EReal) (h : n.val % 32 < 16) (h₁ : n₁.val = n.val) (h₂ : n₂.val = n.val + 16)
    (ha : a = angle t (n.val % 128)) : f n₁ * Ideal.cos a - f n₂ * Ideal.sin a = turned f (cosine t) (sine t) n := by
  have e₁ : n₁ = n := Fin.ext h₁
  have e₂ : n₂ = mate n := Fin.ext (by unfold mate; rw [dif_pos h]; exact h₂)
  unfold turned cosine sine
  rw [if_pos (by simp only; omega), e₁, e₂, ha, mul_neg, sub_eq_add_neg]

/-- The second column of a pair: rotated, it is the sum of the two products. -/
theorem turned_second (f : Fin 2560 → EReal) (t : ℕ) (n n₁ n₂ : Fin 2560) (a : EReal) (h : ¬ n.val % 32 < 16) (h₁ : n₁.val = n.val - 16) (h₂ : n₂.val = n.val)
    (ha : a = angle t (n.val % 128)) : f n₁ * Ideal.sin a + f n₂ * Ideal.cos a = turned f (cosine t) (sine t) n := by
  have e₁ : n₁ = mate n := Fin.ext (by unfold mate; rw [dif_neg h]; exact h₁)
  have e₂ : n₂ = n := Fin.ext h₂
  unfold turned cosine sine
  rw [if_neg (by simp only; omega), e₁, e₂, ha, add_comm]

end Attention

end
-- ==== Proof.RopeUnit.lean ====
module
public import proofs.«01_k».proof.Proof.Gen.AttnInRopeIdeal.Frame
public import proofs.«01_k».proof.Proof.Norm
public import proofs.«01_k».proof.Proof.Rotary
public import Idealize.ShloMosaic.Lib.Pipeline.ReadBack
public import Idealize.ShloMosaic.Lib.Pipeline.ValueKit
@[expose] public section

/-!
# The sample's input projection: what a grid point stores

A grid point holds 1024 rows of a request, the modulation, the norm weights, the projection weights and 1024 rows of the tables
of cosines and sines, and stores 1024 rows of each result. Every stored element is given here in closed form over the point's input blocks.
-/

set_option maxRecDepth 16384

noncomputable section

open Idealize.ShloMosaic Idealize.ShloMosaic.TcCoe Idealize.SL.Sem

namespace Cert.AttnInRopeIdeal.Unit

open Cert.AttnInRopeIdeal Cert.AttnInRopeIdeal.Gen Attention

/-- The normalised row `r` of a grid point. -/
def hrow (x0 : Vec Ideal S1x1024x1024 .f32) (x1 : Vec Ideal S1x3x1024 .f32) (x2 : Vec Ideal S1x1024 .f32) (r : Fin 1024) : Fin 1024 → EReal :=
  normed (fun j => x0 (ix3 0 r j)) (fun j => x2 (ix2 0 j)) (fun j => x1 (ix3 0 1 j)) (fun j => x1 (ix3 0 0 j))

/-- The normalised rows. -/
theorem h_apply (v0 : Vec Ideal S1x1024x1024 .f32) (v2 : Vec Ideal S1x1024 .f32) (v4 : Vec Ideal S1x3x1024 .f32) (i l : Fin 1024) :
    k0_pay4 v0 v2 v4 (ix2 i l) = hrow v0 v4 v2 i l := by
  unfold hrow normed
  pointwise [k0_pay4]

theorem zero2 : (![0, 0] : Fin 2 → ℕ) = fun _ => 0 := by funext a; fin_cases a <;> rfl

theorem zero3 : (![0, 0, 0] : Fin 3 → ℕ) = fun _ => 0 := by funext a; fin_cases a <;> rfl

/-- The first half of every 32 lanes is marked. -/
theorem mark : ∀ l : Fin 128, IntOp.cmpi CmpIPredicate.slt (IntOp.andi (BitVec.ofNat 32 l.val) 31#32) 16#32 = if l.val % 32 < 16 then 1#1 else 0#1 := by
  decide +kernel

/-- One group of 128 lanes, rotated with the cosines `c` and the signed sines `s`. -/
def grp (v c s : FVec Ideal S1024x128 .f32) : FVec Ideal S1024x128 .f32 :=
  addf (mulf v c) (mulf (select k0_pay10 (dynamicRotate 1 112#32 none v rotates_S1024x128_d1) (dynamicRotate 1 16#32 none v rotates_S1024x128_d1)) s)

theorem grp_apply (f : Fin 2560 → EReal) (o : ℕ) (ho : o % 128 = 0) (hl : o + 128 ≤ 2560) (v c s : FVec Ideal S1024x128 .f32) (i : Fin 1024)
    (hv : ∀ l : Fin 128, v (ix2 i l) = f ⟨o + l.val, by omega⟩) (l : Fin 128) :
    grp v c s (ix2 i l) = turned f (fun l => c (ix2 i l)) (fun l => s (ix2 i l)) ⟨o + l.val, by omega⟩ := by
  have e : (o + l.val) % 128 = l.val := by omega
  unfold turned mate
  pointwise [grp, k0_pay10]
  rw [mark, hv, hv, hv]
  have h32 : (o + l.val) % 32 = l.val % 32 := by omega
  simp only [e, Fin.eta]
  congr 2
  by_cases h : l.val % 32 < 16
  · rw [if_pos h, dif_pos (by omega)]
    refine (if_pos rfl).trans (congrArg f (Fin.ext ?_))
    simp only
    omega
  · rw [if_neg h, dif_neg (by omega)]
    refine (if_neg (by decide)).trans (congrArg f (Fin.ext ?_))
    simp only
    omega

/-- The eight groups of the queries, rotated, side by side. -/
def eight (P : FVec Ideal S1024x1024 .f32) (C S : FVec Ideal S1024x128 .f32) : FVec Ideal S1024x1024 .f32 :=
  concatenate S1024x1024 1 [⟨S1024x128, grp (extractStridedSlice S1024x128 ![0, 0] P slices_S1024x1024_o0_0_S1024x128) C S⟩,
    ⟨S1024x128, grp (extractStridedSlice S1024x128 ![0, 128] P slices_S1024x1024_o0_128_S1024x128) C S⟩,
    ⟨S1024x128, grp (extractStridedSlice S1024x128 ![0, 256] P slices_S1024x1024_o0_256_S1024x128) C S⟩,
    ⟨S1024x128, grp (extractStridedSlice S1024x128 ![0, 384] P slices_S1024x1024_o0_384_S1024x128) C S⟩,
    ⟨S1024x128, grp (extractStridedSlice S1024x128 ![0, 512] P slices_S1024x1024_o0_512_S1024x128) C S⟩,
    ⟨S1024x128, grp (extractStridedSlice S1024x128 ![0, 640] P slices_S1024x1024_o0_640_S1024x128) C S⟩,
    ⟨S1024x128, grp (extractStridedSlice S1024x128 ![0, 768] P slices_S1024x1024_o0_768_S1024x128) C S⟩,
    ⟨S1024x128, grp (extractStridedSlice S1024x128 ![0, 896] P slices_S1024x1024_o0_896_S1024x128) C S⟩]
    concatenates_S1024x128_S1024x128_S1024x128_S1024x128_S1024x128_S1024x128_S1024x128_S1024x128_S1024x1024_d1

theorem slice_apply (f : Fin 2560 → EReal) (P : FVec Ideal S1024x1024 .f32) (o : ℕ) (h : S1024x1024.Slices ![0, o] S1024x128) (i : Fin 1024) (ho : o + 128 ≤ 1024)
    (hP : ∀ l : Fin 1024, P (ix2 i l) = f ⟨l, by omega⟩) (l : Fin 128) :
    extractStridedSlice S1024x128 ![0, o] P h (ix2 i l) = f ⟨o + l.val, by omega⟩ := by
  refine Eq.trans ?_ (hP ⟨o + l.val, by omega⟩)
  pointwise []

theorem eight_apply (f : Fin 2560 → EReal) (P : FVec Ideal S1024x1024 .f32) (C S : FVec Ideal S1024x128 .f32) (i : Fin 1024)
    (hP : ∀ l : Fin 1024, P (ix2 i l) = f ⟨l, by omega⟩) (l : Fin 1024) :
    eight P C S (ix2 i l) = turned f (fun j => C (ix2 i j)) (fun j => S (ix2 i j)) ⟨l, by omega⟩ := by
  have hl := l.isLt
  pointwise [eight]
  repeat' split
  all_goals
    rw [grp_apply f _ (by decide) (by decide) _ _ _ _ (slice_apply f P _ _ i (by decide) hP)]
    congr 1
    exact Fin.ext (by simp only; omega)

/-- The two groups of the keys, rotated, side by side. -/
def two (P : FVec Ideal S1024x256 .f32) (C S : FVec Ideal S1024x128 .f32) : FVec Ideal S1024x256 .f32 :=
  concatenate S1024x256 1 [⟨S1024x128, grp (extractStridedSlice S1024x128 ![0, 0] P slices_S1024x256_o0_0_S1024x128) C S⟩,
    ⟨S1024x128, grp (extractStridedSlice S1024x128 ![0, 128] P slices_S1024x256_o0_128_S1024x128) C S⟩] concatenates_S1024x128_S1024x128_S1024x256_d1

theorem two_apply (f : Fin 2560 → EReal) (P : FVec Ideal S1024x256 .f32) (C S : FVec Ideal S1024x128 .f32) (i : Fin 1024)
    (hP : ∀ l : Fin 256, P (ix2 i l) = f ⟨2048 + l, by omega⟩) (l : Fin 256) :
    two P C S (ix2 i l) = turned f (fun j => C (ix2 i j)) (fun j => S (ix2 i j)) ⟨2048 + l, by omega⟩ := by
  have hl := l.isLt
  have h0 : ∀ j : Fin 128, extractStridedSlice S1024x128 ![0, 0] P slices_S1024x256_o0_0_S1024x128 (ix2 i j) = f ⟨2048 + j.val, by omega⟩ := fun j => by
    refine Eq.trans ?_ (hP ⟨j, by omega⟩)
    pointwise []
  have h1 : ∀ j : Fin 128, extractStridedSlice S1024x128 ![0, 128] P slices_S1024x256_o0_128_S1024x128 (ix2 i j) = f ⟨2176 + j.val, by omega⟩ := fun j => by
    refine Eq.trans ?_ ((hP ⟨128 + j, by omega⟩).trans (congrArg f (Fin.ext (by simp only; omega))))
    pointwise []
  pointwise [two]
  split
  · rw [grp_apply f 2048 (by decide) (by decide) _ _ _ _ h0]
  · rw [grp_apply f 2176 (by decide) (by decide) _ _ _ _ h1]
    congr 1
    exact Fin.ext (by simp only; omega)

section Out
variable (x0 : Vec Ideal S1x1024x1024 .f32) (x1 : Vec Ideal S1x3x1024 .f32) (x2 : Vec Ideal S1x1024 .f32) (x3 : Vec Ideal S1024x2560 .f32)
  (x4 : Vec Ideal S256x1024 .f32) (x5 x6 : Vec Ideal S1024x128 .f32)

theorem ld0 : View.ld x0 r0_0 = x0 := View.ld_unit_zero zero3 _ x0

theorem ld1 : View.ld x1 r0_2 = x1 := View.ld_unit_zero zero3 _ x1

theorem ld2 : View.ld x2 r0_1 = x2 := View.ld_unit_zero zero2 _ x2

theorem ld4 : View.ld x4 r0_8 = x4 := View.ld_unit_zero zero2 _ x4

theorem ld5 : View.ld x5 r0_6 = x5 := View.ld_unit_zero zero2 _ x5

theorem ld6 : View.ld x6 r0_6 = x6 := View.ld_unit_zero zero2 _ x6

/-- Column `n` of row `r` of the projection. -/
def pcol (r : Fin 1024) (n : Fin 2560) : EReal := ∑ k : Fin 1024, hrow x0 x1 x2 r k * x3 (ix2 k n)

theorem pay5_apply (i l : Fin 1024) : k0_pay5 x0 x2 x1 (View.ld x3 r0_3) (ix2 i l) = pcol x0 x1 x2 x3 i ⟨l, by omega⟩ := by
  unfold pcol
  pointwise [k0_pay5, h_apply]

theorem pay7_apply (i : Fin 1024) (l : Fin 256) : k0_pay7 x0 x2 x1 (View.ld x3 r0_5) (ix2 i l) = pcol x0 x1 x2 x3 i ⟨2048 + l, by omega⟩ := by
  unfold pcol
  pointwise [k0_pay7, h_apply]

/-- The rotated and scaled queries a grid point stores. -/
theorem out7_apply (r l : Fin 1024) : out0_7 x0 x1 x2 x3 x4 x5 x6 (ix3 0 r l)
    = turned (pcol x0 x1 x2 x3 r) (fun j => x5 (ix2 r j)) (fun j => x6 (ix2 r j)) ⟨l, by omega⟩ * (((8 * (Real.log 2))⁻¹ : ℝ) : EReal) := by
  unfold out0_7
  rw [View.canon_unit_zero (h := zero3)]
  unfold k0_pay22 k0_pay23 k0_pay24
  rw [ld0, ld1, ld2, ld5, ld6]
  have hc : k0_pay8 x5 = x5 := shapeCast_self x5 _
  have hs : k0_pay9 x6 = x6 := shapeCast_self x6 _
  have e := eight_apply (pcol x0 x1 x2 x3 r) _ (k0_pay8 x5) (k0_pay9 x6) r (pay5_apply x0 x1 x2 x3 r) l
  refine Eq.trans (b := shapeCast S1x1024x1024 (truncf .bf16 (mulf (eight (k0_pay5 x0 x2 x1 (View.ld x3 r0_3)) (k0_pay8 x5) (k0_pay9 x6))
    (broadcast S1024x1024 (Named.named κ "qscale" 0x3E38AA3B#32 : Ideal .f32))) bitsLt_bf16_f32) shapeCasts_S1024x1024_S1x1024x1024 (ix3 0 r l)) rfl ?_
  rw [hc, hs] at e ⊢
  pointwise []
  rw [e]
  refine congrArg₂ (fun a b : EReal => a * b) rfl ?_
  exact IdealRules.named_const.ideal_named_scalar (φ := .f32) κ "qscale" 0x3E38AA3B#32 _ rfl

/-- The gate a grid point stores. -/
theorem out8_apply (r l : Fin 1024) : out0_8 x0 x1 x2 x3 x4 x5 x6 (ix3 0 r l)
    = pcol x0 x1 x2 x3 r ⟨1024 + l, by omega⟩ * Ideal.logistic (pcol x0 x1 x2 x3 r ⟨1024 + l, by omega⟩) := by
  unfold out0_8 pcol
  rw [View.canon_unit_zero (h := zero3), ld0, ld1, ld2]
  pointwise [k0_pay1, k0_pay21, k0_pay6, h_apply]

/-- The rotated keys a grid point stores. -/
theorem out9_apply (r : Fin 1024) (l : Fin 256) : out0_9 x0 x1 x2 x3 x4 x5 x6 (ix3 0 r l)
    = turned (pcol x0 x1 x2 x3 r) (fun j => x5 (ix2 r j)) (fun j => x6 (ix2 r j)) ⟨2048 + l, by omega⟩ := by
  unfold out0_9
  rw [View.canon_unit_zero (h := zero3)]
  unfold k0_pay23 k0_pay24
  rw [ld0, ld1, ld2, ld5, ld6]
  have hc : k0_pay8 x5 = x5 := shapeCast_self x5 _
  have hs : k0_pay9 x6 = x6 := shapeCast_self x6 _
  rw [hc, hs, show k0_pay19 (k0_pay7 x0 x2 x1 (View.ld x3 r0_5)) x5 x6 (iota .tc S1024x128 32 [1] iota_S1024x128_d1_w32)
    = two (k0_pay7 x0 x2 x1 (View.ld x3 r0_5)) x5 x6 from rfl]
  refine Eq.trans ?_ (two_apply (pcol x0 x1 x2 x3 r) _ x5 x6 r (pay7_apply x0 x1 x2 x3 r) l)
  pointwise [k0_pay2]

/-- The transposed values a grid point stores. -/
theorem out10_apply (d : Fin 256) (r : Fin 1024) : out0_10 x0 x1 x2 x3 x4 x5 x6 (ix3 0 d r)
    = ∑ k : Fin 1024, x4 (ix2 d k) * hrow x0 x1 x2 r k := by
  unfold out0_10
  rw [View.canon_unit_zero (h := zero3), ld0, ld1, ld2, ld4]
  pointwise [k0_pay3, h_apply]

end Out

end Cert.AttnInRopeIdeal.Unit
-- ==== Proof.RopeTable.lean ====
module
public import proofs.«01_k».proof.Proof.Gen.AttnInRopeIdeal.Frame
public import proofs.«01_k».proof.Proof.Rotary
public import Idealize.ShloMosaic.Lib.StableHlo.ReadAt
@[expose] public section

/-!
# The sample's input projection: the rotary tables

What the two tables that the host code builds from the token's grid position hold at an index.
-/

set_option maxRecDepth 16384

noncomputable section

open Idealize.ShloMosaic Idealize.ShloMosaic.TcCoe Idealize.SL.Sem

namespace Cert.AttnInRopeIdeal.Table

open Cert.AttnInRopeIdeal Cert.AttnInRopeIdeal.Gen Attention

/-- The floor division of the token's number by 64, as the host code computes it in 32-bit words. -/
def rowWord (t : ℕ) : BitVec 32 := Scalar.select
      (IntOp.andi
        (IntOp.cmpi CmpIPredicate.ne (if BitVec.ofNat 32 t = 0 then 0 else if (BitVec.ofNat 32 t).msb = true then -1 else (1 : BitVec 32))
          (if (64#32 : BitVec 32) = 0 then 0 else if BitVec.msb 64#32 = true then -1 else 1))
        (IntOp.cmpi CmpIPredicate.ne (IntOp.remsi ArithUnit.host (BitVec.ofNat 32 t) 64#32) 0#32))
      (IntOp.subi (IntOp.divsi ArithUnit.host (BitVec.ofNat 32 t) 64#32) 1#32)
      (IntOp.divsi ArithUnit.host (BitVec.ofNat 32 t) 64#32)

/-- It is the quotient. -/
theorem row_word : ∀ t : Fin 4096, rowWord t.val = BitVec.ofNat 32 (t.val / 64) := by decide +kernel

/-- The remainder of the token's number by 64, as the host code computes it in 32-bit words. -/
def colWord (t : ℕ) : BitVec 32 := Scalar.select
      (IntOp.andi
        (IntOp.cmpi CmpIPredicate.ne (IntOp.cmpi CmpIPredicate.slt (IntOp.remsi ArithUnit.host (BitVec.ofNat 32 t) (Scalar.select (IntOp.cmpi CmpIPredicate.eq 64#32 0#32) (1#32) 64#32)) 0#32) (IntOp.cmpi CmpIPredicate.slt (Scalar.select (IntOp.cmpi CmpIPredicate.eq 64#32 0#32) (1#32) 64#32) 0#32))
        (IntOp.cmpi CmpIPredicate.ne (IntOp.remsi ArithUnit.host (BitVec.ofNat 32 t) (Scalar.select (IntOp.cmpi CmpIPredicate.eq 64#32 0#32) (1#32) 64#32)) 0#32))
      (IntOp.addi (IntOp.remsi ArithUnit.host (BitVec.ofNat 32 t) (Scalar.select (IntOp.cmpi CmpIPredicate.eq 64#32 0#32) (1#32) 64#32)) (Scalar.select (IntOp.cmpi CmpIPredicate.eq 64#32 0#32) (1#32) 64#32)) (IntOp.remsi ArithUnit.host (BitVec.ofNat 32 t) (Scalar.select (IntOp.cmpi CmpIPredicate.eq 64#32 0#32) (1#32) 64#32))

/-- It is the remainder. -/
theorem col_word : ∀ t : Fin 4096, colWord t.val = BitVec.ofNat 32 (t.val % 64) := by decide +kernel

/-- The angle, from the word for the grid row. -/
theorem angle_row (t : Fin 4096) (j k : ℕ) (h : j % 64 < 32) (hk : j % 16 = k) :
    FloatOps.sitofp (F := Ideal) .f32 (rowWord t.val)
      * Ideal.pow (Ideal.ofBits .f32 0x461C4000#32) (Ideal.div (-(FloatOps.sitofp (F := Ideal) .f32 (BitVec.ofNat 32 k) : EReal)) (Ideal.ofBits .f32 0x41800000#32))
    = angle t.val j := by
  rw [row_word, ← hk]
  unfold angle
  rw [if_pos h]

/-- The angle, from the word for the grid column. -/
theorem angle_col (t : Fin 4096) (j k : ℕ) (h : ¬ j % 64 < 32) (hk : j % 16 = k) :
    FloatOps.sitofp (F := Ideal) .f32 (colWord t.val)
      * Ideal.pow (Ideal.ofBits .f32 0x461C4000#32) (Ideal.div (-(FloatOps.sitofp (F := Ideal) .f32 (BitVec.ofNat 32 k) : EReal)) (Ideal.ofBits .f32 0x41800000#32))
    = angle t.val j := by
  rw [col_word, ← hk]
  unfold angle
  rw [if_neg h]

variable (m : (ℓ : Loc nD τ sig) → Buf (Elt Ideal) ℓ)

/-- The cosine table. -/
theorem cos_apply (c : Dev nD) (t : Fin 4096) (j : Fin 128) : V m c main_v37 (ix2 t j) = cosine t j := by
  have hj := j.isLt
  unfold V
  after_reads_at
  after_reads_at
  split
  · exact congrArg Ideal.cos (angle_row t j _ (by omega) (by omega))
  split
  · exact congrArg Ideal.cos (angle_row t j _ (by omega) (by omega))
  split
  · exact congrArg Ideal.cos (angle_col t j _ (by omega) (by omega))
  · exact congrArg Ideal.cos (angle_col t j _ (by omega) (by omega))

/-- The signed sine table. -/
theorem sin_apply (c : Dev nD) (t : Fin 4096) (j : Fin 128) : V m c main_v40 (ix2 t j) = sine t j := by
  have hj := j.isLt
  unfold V
  after_reads_at
  after_reads_at
  split
  · refine Eq.trans ?_ (if_pos (by omega)).symm
    exact congrArg (fun a => -Ideal.sin a) (angle_row t j _ (by omega) (by omega))
  split
  · refine Eq.trans ?_ (if_neg (by omega)).symm
    exact congrArg Ideal.sin (angle_row t j _ (by omega) (by omega))
  split
  · refine Eq.trans ?_ (if_pos (by omega)).symm
    exact congrArg (fun a => -Ideal.sin a) (angle_col t j _ (by omega) (by omega))
  · refine Eq.trans ?_ (if_neg (by omega)).symm
    exact congrArg Ideal.sin (angle_col t j _ (by omega) (by omega))

/-- The normalisation's weights as a row. -/
theorem norm_apply (c : Dev nD) (j : Fin 1024) : V m c main_v41 (ix2 0 j) = m ((c.tc : Thread nD τ).loc main_arg2) (ix1 j) := by
  unfold V
  after_reads_at

/-- The values' weights transposed. -/
theorem wv_apply (c : Dev nD) (d : Fin 256) (k : Fin 1024) : V m c main_v1 (ix2 d k) = m ((c.tc : Thread nD τ).loc main_arg3) (ix2 k ⟨2304 + d, by omega⟩) := by
  unfold V
  after_reads_at

end Cert.AttnInRopeIdeal.Table
-- ==== Proof.RopeRef.lean ====
module
public import proofs.«01_k».proof.Proof.Gen.AttnInRopeRefIdeal.Run
public import proofs.«01_k».proof.Proof.HostMax
public import proofs.«01_k».proof.Proof.Norm
public import proofs.«01_k».proof.Proof.Rotary
public import Idealize.ShloMosaic.Lib.Pipeline.ValueKit
@[expose] public section

/-!
# The sample's input projection: what the reference computes

The reference's four results at an index: the normalised rows projected to queries, gate, keys and values, queries and keys
rotated by the token's grid position.
-/

set_option maxRecDepth 16384

noncomputable section

open Idealize.ShloMosaic Idealize.ShloMosaic.TcCoe Idealize.SL.Sem

namespace Cert.AttnInRopeRefIdeal.Closed

open Cert.AttnInRopeRefIdeal Cert.AttnInRopeRefIdeal.Gen Attention

variable (X : FVec Ideal S4x4096x1024 .f32) (MD : FVec Ideal S8x3x1024 .f32) (NW : FVec Ideal S1024 .f32) (W : FVec Ideal S1024x2560 .f32)

/-- The samples' rows of the modulation. -/
def modR : FVec Ideal S4x3x1024 .f32 := extractStridedSlice S4x3x1024 ![1, 0, 0] MD slices_S8x3x1024_S4x3x1024_1_0_0

/-- The normalised and modulated rows. -/
def hR : FVec Ideal S4x4096x1024 .f32 :=
  (addf (mulf (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 NW))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1024 ![0, 1, 0] (modR MD) slices_S4x3x1024_S4x1x1024_0_1_0) shapeCasts_S4x1x1024_S4x1024))))) (broadcastInDim S4x4096x1024 ![0, 1, 2] bcast_S4x1x1024_S4x4096x1024_0_1_2 (broadcastInDim S4x1x1024 ![0, 2] bcast_S4x1024_S4x1x1024_0_2 (shapeCast _ (extractStridedSlice S4x1x1024 ![0, 0, 0] (modR MD) slices_S4x3x1024_S4x1x1024_0_0_0) shapeCasts_S4x1x1024_S4x1024))))

/-- The projection. -/
def pR (h : FVec Ideal S4x4096x1024 .f32) : FVec Ideal S4x4096x2560 .f32 :=
  (Host.dotGeneral dot_S4x4096x1024_S1024x2560_S4x4096x2560_2_0_01_1_n_n none h W)

/-- The frequencies of the 16 pairs. -/
def freq : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

/-- The angles by the token's grid row. -/
def rowAng : FVec Ideal S1x4096x1x16 .f32 :=
  shapeCast S1x4096x1x16 (mulf (broadcastInDim S4096x16 ![0, 1] bcast_S4096x1_S4096x16_0_1 (broadcastInDim S4096x1 ![0] bcast_S4096_S4096x1_0 (sitofp .f32 (shapeCast S4096 (broadcastInDim S64x64 ![0] bcast_S64_S64x64_0 (iotaInDim S64 32 0)) shapeCasts_S64x64_S4096))))
    (broadcastInDim S4096x16 ![0, 1] bcast_S1x16_S4096x16_0_1 (broadcastInDim S1x16 ![1] bcast_S16_S1x16_1 freq))) shapeCasts_S4096x16_S1x4096x1x16

/-- The angles by the token's grid column. -/
def colAng : FVec Ideal S1x4096x1x16 .f32 :=
  shapeCast S1x4096x1x16 (mulf (broadcastInDim S4096x16 ![0, 1] bcast_S4096x1_S4096x16_0_1 (broadcastInDim S4096x1 ![0] bcast_S4096_S4096x1_0 (sitofp .f32 (shapeCast S4096 (broadcastInDim S64x64 ![0, 1] bcast_S1x64_S64x64_0_1 (shapeCast S1x64 (iotaInDim S64 32 0) shapeCasts_S64_S1x64)) shapeCasts_S64x64_S4096))))
    (broadcastInDim S4096x16 ![0, 1] bcast_S1x16_S4096x16_0_1 (broadcastInDim S1x16 ![1] bcast_S16_S1x16_1 freq))) shapeCasts_S4096x16_S1x4096x1x16

/-- A half head of the queries rotated by given angles. -/
def rot16 (x : FVec Ideal S4x4096x16x32 .f32) (ang : FVec Ideal S1x4096x1x16 .f32) : FVec Ideal S4x4096x16x32 .f32 :=
  concatenate S4x4096x16x32 3 [⟨S4x4096x16x16, (subf (mulf (extractStridedSlice S4x4096x16x16 ![0, 0, 0, 0] x slices_S4x4096x16x32_S4x4096x16x16_0_0_0_0) (broadcastInDim S4x4096x16x16 ![0, 1, 2, 3] bcast_S1x4096x1x16_S4x4096x16x16_0_1_2_3 (Host.cos ang))) (mulf (extractStridedSlice S4x4096x16x16 ![0, 0, 0, 16] x slices_S4x4096x16x32_S4x4096x16x16_0_0_0_16) (broadcastInDim S4x4096x16x16 ![0, 1, 2, 3] bcast_S1x4096x1x16_S4x4096x16x16_0_1_2_3 (Host.sin ang))))⟩,
    ⟨S4x4096x16x16, (addf (mulf (extractStridedSlice S4x4096x16x16 ![0, 0, 0, 0] x slices_S4x4096x16x32_S4x4096x16x16_0_0_0_0) (broadcastInDim S4x4096x16x16 ![0, 1, 2, 3] bcast_S1x4096x1x16_S4x4096x16x16_0_1_2_3 (Host.sin ang))) (mulf (extractStridedSlice S4x4096x16x16 ![0, 0, 0, 16] x slices_S4x4096x16x32_S4x4096x16x16_0_0_0_16) (broadcastInDim S4x4096x16x16 ![0, 1, 2, 3] bcast_S1x4096x1x16_S4x4096x16x16_0_1_2_3 (Host.cos ang))))⟩] concatenates_S4x4096x16x16_S4x4096x16x16_S4x4096x16x32_d3

/-- A half head of the keys rotated by given angles. -/
def rot4 (x : FVec Ideal S4x4096x4x32 .f32) (ang : FVec Ideal S1x4096x1x16 .f32) : FVec Ideal S4x4096x4x32 .f32 :=
  concatenate S4x4096x4x32 3 [⟨S4x4096x4x16, (subf (mulf (extractStridedSlice S4x4096x4x16 ![0, 0, 0, 0] x slices_S4x4096x4x32_S4x4096x4x16_0_0_0_0) (broadcastInDim S4x4096x4x16 ![0, 1, 2, 3] bcast_S1x4096x1x16_S4x4096x4x16_0_1_2_3 (Host.cos ang))) (mulf (extractStridedSlice S4x4096x4x16 ![0, 0, 0, 16] x slices_S4x4096x4x32_S4x4096x4x16_0_0_0_16) (broadcastInDim S4x4096x4x16 ![0, 1, 2, 3] bcast_S1x4096x1x16_S4x4096x4x16_0_1_2_3 (Host.sin ang))))⟩,
    ⟨S4x4096x4x16, (addf (mulf (extractStridedSlice S4x4096x4x16 ![0, 0, 0, 0] x slices_S4x4096x4x32_S4x4096x4x16_0_0_0_0) (broadcastInDim S4x4096x4x16 ![0, 1, 2, 3] bcast_S1x4096x1x16_S4x4096x4x16_0_1_2_3 (Host.sin ang))) (mulf (extractStridedSlice S4x4096x4x16 ![0, 0, 0, 16] x slices_S4x4096x4x32_S4x4096x4x16_0_0_0_16) (broadcastInDim S4x4096x4x16 ![0, 1, 2, 3] bcast_S1x4096x1x16_S4x4096x4x16_0_1_2_3 (Host.cos ang))))⟩] concatenates_S4x4096x4x16_S4x4096x4x16_S4x4096x4x32_d3

/-- The queries' heads, first half rotated by the grid row, second half by the grid column. -/
def axial16 (x : FVec Ideal S4x4096x1024 .f32) : FVec Ideal S4x4096x1024 .f32 :=
  shapeCast _ (concatenate S4x4096x16x64 3
    [⟨S4x4096x16x32, rot16 (extractStridedSlice S4x4096x16x32 ![0, 0, 0, 0] (shapeCast S4x4096x16x64 x shapeCasts_S4x4096x1024_S4x4096x16x64) slices_S4x4096x16x64_S4x4096x16x32_0_0_0_0) rowAng⟩,
      ⟨S4x4096x16x32, rot16 (extractStridedSlice S4x4096x16x32 ![0, 0, 0, 32] (shapeCast S4x4096x16x64 x shapeCasts_S4x4096x1024_S4x4096x16x64) slices_S4x4096x16x64_S4x4096x16x32_0_0_0_32) colAng⟩]
    concatenates_S4x4096x16x32_S4x4096x16x32_S4x4096x16x64_d3) shapeCasts_S4x4096x16x64_S4x4096x1024

/-- The keys' heads, likewise. -/
def axial4 (x : FVec Ideal S4x4096x256 .f32) : FVec Ideal S4x4096x256 .f32 :=
  shapeCast _ (concatenate S4x4096x4x64 3
    [⟨S4x4096x4x32, rot4 (extractStridedSlice S4x4096x4x32 ![0, 0, 0, 0] (shapeCast S4x4096x4x64 x shapeCasts_S4x4096x256_S4x4096x4x64) slices_S4x4096x4x64_S4x4096x4x32_0_0_0_0) rowAng⟩,
      ⟨S4x4096x4x32, rot4 (extractStridedSlice S4x4096x4x32 ![0, 0, 0, 32] (shapeCast S4x4096x4x64 x shapeCasts_S4x4096x256_S4x4096x4x64) slices_S4x4096x4x64_S4x4096x4x32_0_0_0_32) colAng⟩]
    concatenates_S4x4096x4x32_S4x4096x4x32_S4x4096x4x64_d3) shapeCasts_S4x4096x4x64_S4x4096x256

/-- The queries' part of the projection. -/
def qPart (p : FVec Ideal S4x4096x2560 .f32) : FVec Ideal S4x4096x1024 .f32 :=
  extractStridedSlice S4x4096x1024 ![0, 0, 0] p slices_S4x4096x2560_S4x4096x1024_0_0_0

/-- The keys' part of the projection. -/
def kPart (p : FVec Ideal S4x4096x2560 .f32) : FVec Ideal S4x4096x256 .f32 :=
  extractStridedSlice S4x4096x256 ![0, 0, 2048] p slices_S4x4096x2560_S4x4096x256_0_0_2048

/-- Values scaled by an eighth over the logarithm of two. -/
def scaled (y : FVec Ideal S4x4096x1024 .f32) : FVec Ideal S4x4096x1024 .bf16 :=
  truncf .bf16 (Host.divf (mulf y (broadcastInDim S4x4096x1024 ![] bcast_S_S4x4096x1024 (constant S_ .f32 0x3E000000#32)))
    (broadcastInDim S4x4096x1024 ![] bcast_S_S4x4096x1024 (Host.log (constant S_ .f32 0x40000000#32)))) bitsLt_bf16_f32

/-- The rotated and scaled queries. -/
def qR (p : FVec Ideal S4x4096x2560 .f32) : FVec Ideal S4x4096x1024 .bf16 := scaled (axial16 (qPart p))

/-- The gate. -/
def sR (p : FVec Ideal S4x4096x2560 .f32) : FVec Ideal S4x4096x1024 .bf16 :=
  truncf .bf16 (mulf (extractStridedSlice S4x4096x1024 ![0, 0, 1024] p slices_S4x4096x2560_S4x4096x1024_0_0_1024) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] p slices_S4x4096x2560_S4x4096x1024_0_0_1024)))))) bitsLt_bf16_f32

/-- The rotated keys. -/
def kR (p : FVec Ideal S4x4096x2560 .f32) : FVec Ideal S4x4096x256 .bf16 :=
  truncf .bf16 (axial4 (kPart p)) bitsLt_bf16_f32

/-- The transposed values. -/
def tR (p : FVec Ideal S4x4096x2560 .f32) : FVec Ideal S4x256x4096 .bf16 :=
  truncf .bf16 (transpose S4x256x4096 [0, 2, 1] (extractStridedSlice S4x4096x256 ![0, 0, 2304] p slices_S4x4096x2560_S4x4096x256_0_0_2304) transposes_S4x4096x256_S4x256x4096_0_2_1) bitsLt_bf16_f32

/-- The normalised row `r` of request `b`. -/
def row (b : Fin 4) (r : Fin 4096) : Fin 1024 → EReal :=
  normed (fun j => X (ix3 b r j)) (fun j => NW (ix1 j)) (fun j => MD (ix3 ⟨1 + b, by omega⟩ 1 j)) (fun j => MD (ix3 ⟨1 + b, by omega⟩ 0 j))

/-- The row's projection to column `n`. -/
def col (b : Fin 4) (r : Fin 4096) (n : Fin 2560) : EReal := ∑ k : Fin 1024, row X MD NW b r k * W (ix2 k n)

theorem hR_apply (b : Fin 4) (r : Fin 4096) (l : Fin 1024) : hR X MD NW (ix3 b r l) = row X MD NW b r l := by
  unfold row normed
  pointwise [hR, modR]

theorem pR_apply (b : Fin 4) (r : Fin 4096) (l : Fin 2560) : pR W (hR X MD NW) (ix3 b r l) = col X MD NW W b r l := by
  unfold col
  pointwise [pR, hR_apply]

theorem rowAng_apply (t : Fin 4096) (k : Fin 16) (j : ℕ) (h : j % 64 < 32) (hk : j % 16 = k.val) : rowAng (ix4 0 t 0 k) = angle t j := by
  unfold angle
  rw [if_pos h, hk]
  pointwise [rowAng, freq]

theorem colAng_apply (t : Fin 4096) (k : Fin 16) (j : ℕ) (h : ¬ j % 64 < 32) (hk : j % 16 = k.val) : colAng (ix4 0 t 0 k) = angle t j := by
  unfold angle
  rw [if_neg h, hk]
  pointwise [colAng, freq]

/-- A half head rotated, at an index. -/
theorem rot16_apply (x : FVec Ideal S4x4096x16x32 .f32) (ang : FVec Ideal S1x4096x1x16 .f32) (b : Fin 4) (t : Fin 4096) (h : Fin 16) (l : Fin 32) :
    rot16 x ang (ix4 b t h l) = if hl : l.val < 16
      then x (ix4 b t h ⟨l, by omega⟩) * Ideal.cos (ang (ix4 0 t 0 ⟨l, hl⟩)) - x (ix4 b t h ⟨16 + l, by omega⟩) * Ideal.sin (ang (ix4 0 t 0 ⟨l, hl⟩))
      else x (ix4 b t h ⟨l - 16, by omega⟩) * Ideal.sin (ang (ix4 0 t 0 ⟨l - 16, by omega⟩)) + x (ix4 b t h ⟨16 + (l - 16), by omega⟩) * Ideal.cos (ang (ix4 0 t 0 ⟨l - 16, by omega⟩)) := by
  pointwise [rot16]

/-- Column `o + l` of a row, rotated. -/
theorem axial16_apply (f : Fin 2560 → EReal) (o : ℕ) (ho : o + 1024 ≤ 2560) (h128 : o % 128 = 0) (x : FVec Ideal S4x4096x1024 .f32) (b : Fin 4) (t : Fin 4096)
    (hx : ∀ l : Fin 1024, x (ix3 b t l) = f ⟨o + l, by omega⟩) (l : Fin 1024) :
    axial16 x (ix3 b t l) = turned f (cosine t) (sine t) ⟨o + l, by omega⟩ := by
  have hl := l.isLt
  pointwise [axial16, rot16_apply, hx]
  split
  · split
    · exact turned_first f t _ _ _ _ (by simp only; omega) (by simp only) (by simp only; omega) (rowAng_apply t _ _ (by simp only; omega) (by simp only; omega))
    · exact turned_second f t _ _ _ _ (by simp only; omega) (by simp only; omega) (by simp only; omega) (rowAng_apply t _ _ (by simp only; omega) (by simp only; omega))
  · split
    · exact turned_first f t _ _ _ _ (by simp only; omega) (by simp only; omega) (by simp only; omega) (colAng_apply t _ _ (by simp only; omega) (by simp only; omega))
    · exact turned_second f t _ _ _ _ (by simp only; omega) (by simp only; omega) (by simp only; omega) (colAng_apply t _ _ (by simp only; omega) (by simp only; omega))

/-- A half head rotated, at an index. -/
theorem rot4_apply (x : FVec Ideal S4x4096x4x32 .f32) (ang : FVec Ideal S1x4096x1x16 .f32) (b : Fin 4) (t : Fin 4096) (h : Fin 4) (l : Fin 32) :
    rot4 x ang (ix4 b t h l) = if hl : l.val < 16
      then x (ix4 b t h ⟨l, by omega⟩) * Ideal.cos (ang (ix4 0 t 0 ⟨l, hl⟩)) - x (ix4 b t h ⟨16 + l, by omega⟩) * Ideal.sin (ang (ix4 0 t 0 ⟨l, hl⟩))
      else x (ix4 b t h ⟨l - 16, by omega⟩) * Ideal.sin (ang (ix4 0 t 0 ⟨l - 16, by omega⟩)) + x (ix4 b t h ⟨16 + (l - 16), by omega⟩) * Ideal.cos (ang (ix4 0 t 0 ⟨l - 16, by omega⟩)) := by
  pointwise [rot4]

/-- Column `o + l` of a row, rotated. -/
theorem axial4_apply (f : Fin 2560 → EReal) (o : ℕ) (ho : o + 256 ≤ 2560) (h128 : o % 128 = 0) (x : FVec Ideal S4x4096x256 .f32) (b : Fin 4) (t : Fin 4096)
    (hx : ∀ l : Fin 256, x (ix3 b t l) = f ⟨o + l, by omega⟩) (l : Fin 256) :
    axial4 x (ix3 b t l) = turned f (cosine t) (sine t) ⟨o + l, by omega⟩ := by
  have hl := l.isLt
  pointwise [axial4, rot4_apply, hx]
  split
  · split
    · exact turned_first f t _ _ _ _ (by simp only; omega) (by simp only) (by simp only; omega) (rowAng_apply t _ _ (by simp only; omega) (by simp only; omega))
    · exact turned_second f t _ _ _ _ (by simp only; omega) (by simp only; omega) (by simp only; omega) (rowAng_apply t _ _ (by simp only; omega) (by simp only; omega))
  · split
    · exact turned_first f t _ _ _ _ (by simp only; omega) (by simp only; omega) (by simp only; omega) (colAng_apply t _ _ (by simp only; omega) (by simp only; omega))
    · exact turned_second f t _ _ _ _ (by simp only; omega) (by simp only; omega) (by simp only; omega) (colAng_apply t _ _ (by simp only; omega) (by simp only; omega))

theorem qPart_apply (b : Fin 4) (r : Fin 4096) (l : Fin 1024) : qPart (pR W (hR X MD NW)) (ix3 b r l) = col X MD NW W b r ⟨l, by omega⟩ := by
  pointwise [qPart, pR_apply]

theorem kPart_apply (b : Fin 4) (r : Fin 4096) (l : Fin 256) : kPart (pR W (hR X MD NW)) (ix3 b r l) = col X MD NW W b r ⟨2048 + l, by omega⟩ := by
  pointwise [kPart, pR_apply]

theorem scaled_apply (y : FVec Ideal S4x4096x1024 .f32) (b : Fin 4) (r : Fin 4096) (l : Fin 1024) :
    scaled y (ix3 b r l) = y (ix3 b r l) * (((8 * (Real.log 2))⁻¹ : ℝ) : EReal) := by
  pointwise [scaled]
  rw [log_two]
  exact div_ln2 _

theorem s_apply (b : Fin 4) (r : Fin 4096) (l : Fin 1024) : sR (pR W (hR X MD NW)) (ix3 b r l)
    = col X MD NW W b r ⟨1024 + l, by omega⟩ * Ideal.logistic (col X MD NW W b r ⟨1024 + l, by omega⟩) := by
  unfold Ideal.logistic
  pointwise [sR, pR_apply]

theorem k_apply (b : Fin 4) (r : Fin 4096) (l : Fin 256) : kR (pR W (hR X MD NW)) (ix3 b r l)
    = turned (col X MD NW W b r) (cosine r) (sine r) ⟨2048 + l, by omega⟩ := by
  refine Eq.trans ?_ (axial4_apply (col X MD NW W b r) 2048 (by omega) (by omega) (kPart (pR W (hR X MD NW))) b r (kPart_apply X MD NW W b r) l)
  pointwise [kR]

theorem t_apply (b : Fin 4) (l : Fin 256) (r : Fin 4096) : tR (pR W (hR X MD NW)) (ix3 b l r)
    = col X MD NW W b r ⟨2304 + l, by omega⟩ := by
  pointwise [tR, pR_apply]

/-- The projection of the reference's arguments on a device. -/
def proj (m : (ℓ : Loc nD τ sig) → Buf (Elt Ideal) ℓ) (c : Dev nD) : FVec Ideal S4x4096x2560 .f32 :=
  pR (m ((c.tc : Thread nD τ).loc main_arg3))
    (hR (m ((c.tc : Thread nD τ).loc main_arg0)) (m ((c.tc : Thread nD τ).loc main_arg1)) (m ((c.tc : Thread nD τ).loc main_arg2)))

end Cert.AttnInRopeRefIdeal.Closed
-- ==== Proof.RopeRefRun.lean ====
module
public import proofs.«01_k».proof.Proof.RopeRef
@[expose] public section

/-!
# The sample's input projection: the reference's run

The scaled queries at an index; every execution of the reference ends with the four named results and its arguments unchanged.
-/

set_option maxRecDepth 16384

noncomputable section

open Idealize.ShloMosaic Idealize.ShloMosaic.TcCoe Idealize.SL.Sem

namespace Cert.AttnInRopeRefIdeal.Closed

open Cert.AttnInRopeRefIdeal Cert.AttnInRopeRefIdeal.Gen Attention

variable (X : FVec Ideal S4x4096x1024 .f32) (MD : FVec Ideal S8x3x1024 .f32) (NW : FVec Ideal S1024 .f32) (W : FVec Ideal S1024x2560 .f32)

theorem q_apply (b : Fin 4) (r : Fin 4096) (l : Fin 1024) : qR (pR W (hR X MD NW)) (ix3 b r l)
    = turned (col X MD NW W b r) (cosine r) (sine r) ⟨l, by omega⟩ * (((8 * (Real.log 2))⁻¹ : ℝ) : EReal) := by
  have e := (axial16_apply (col X MD NW W b r) 0 (by omega) (by omega) (qPart (pR W (hR X MD NW))) b r
    (fun l => (qPart_apply X MD NW W b r l).trans (congrArg _ (Fin.ext (Nat.zero_add _).symm))) l).trans
      (congrArg (turned (col X MD NW W b r) (cosine r) (sine r)) (Fin.ext (Nat.zero_add _) : _ = (⟨l, by omega⟩ : Fin 2560)))
  exact (scaled_apply _ b r l).trans (congrArg (fun z : EReal => z * _) e)

/-- The reference's run, its four results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v160) = qR (proj m c)
      ∧ r.2.mem ((c.tc : Thread nD τ).loc main_v162) = sR (proj m c)
      ∧ r.2.mem ((c.tc : Thread nD τ).loc main_v163) = kR (proj m c)
      ∧ r.2.mem ((c.tc : Thread nD τ).loc main_v165) = tR (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (by sl_kernel_rfl), (h c).2.1.trans (by sl_kernel_rfl), (h c).2.2.1.trans (by sl_kernel_rfl),
    (h c).2.2.2.1.trans (by sl_kernel_rfl), (h c).2.2.2.2⟩) (Value.run m ρ)

end Cert.AttnInRopeRefIdeal.Closed
-- ==== Proof.RopeValue.lean ====
module
public import proofs.«01_k».proof.Proof.RopeUnit
public import proofs.«01_k».proof.Proof.RopeTable
public import proofs.«01_k».proof.Proof.RopeRefRun
public import Idealize.ShloMosaic.Lib.Pipeline.Value
@[expose] public section

/-!
# The sample's input projection: the kernel's results

After all grid points each of the four result arrays is the reference's.
-/

set_option maxRecDepth 16384

noncomputable section

open Idealize.ShloMosaic Idealize.ShloMosaic.TcCoe Idealize.SL.Sem
open Idealize.ShloMosaic.Pipeline (Dat)

namespace Cert.AttnInRopeIdeal.Unit

open Cert.AttnInRopeIdeal Cert.AttnInRopeIdeal.Gen Attention
open Cert.AttnInRopeRefIdeal.Closed (hR pR qR sR kR tR col)

variable (m : (ℓ : Loc nD τ sig) → Buf (Elt Ideal) ℓ)

theorem idx : ∀ t : Fin cfg0.N, win0_0.index t = ![t.val / 4, t.val % 4, 0] ∧ win0_1.index t = ![1 + t.val / 4, 0, 0] ∧ win0_2.index t = ![0, 0]
    ∧ win0_3.index t = ![0, 0] ∧ win0_4.index t = ![0, 0] ∧ win0_5.index t = ![t.val % 4, 0] ∧ win0_6.index t = ![t.val % 4, 0]
    ∧ win0_7.index t = ![t.val / 4, t.val % 4, 0] ∧ win0_8.index t = ![t.val / 4, t.val % 4, 0] ∧ win0_9.index t = ![t.val / 4, t.val % 4, 0]
    ∧ win0_10.index t = ![t.val / 4, 0, t.val % 4] :=
  (by decide +kernel : ∀ t : Fin grid0.N, _)

/-- The request of a grid point. -/
def req (t : Fin cfg0.N) : Fin 4 := ⟨t.val / 4, by have : t.val < 16 := t.isLt; omega⟩

/-- The token of a grid point's row. -/
def tok (t : Fin cfg0.N) (r : Fin 1024) : Fin 4096 := ⟨1024 * (t.val % 4) + r.val, by omega⟩

/-! What each argument's block at a grid point holds. -/

theorem blk0 (c : Dev nD) (t : Fin cfg0.N) (r k : Fin 1024) : iblk m c 0 t (ix3 0 r k) = m ((c.tc : Thread nD τ).loc main_arg0) (ix3 (req t) (tok t r) k) := by
  have ht : t.val < 16 := t.isLt
  have e : ((cfg0.win 0).blk t).view.emb (ix3 0 r k) = ix3 (req t) (tok t r) k := by blk_ext [idx t, req, tok]
  blk_simp [iblk]
  rw [e]
  exact congrFun (V_main_arg0 m c) _

theorem blk1 (c : Dev nD) (t : Fin cfg0.N) (i : Fin 3) (k : Fin 1024) :
    iblk m c 1 t (ix3 0 i k) = m ((c.tc : Thread nD τ).loc main_arg1) (ix3 (⟨1 + (req t).val, by omega⟩ : Fin 8) i k) := by
  have ht : t.val < 16 := t.isLt
  have e : ((cfg0.win 1).blk t).view.emb (ix3 0 i k) = ix3 (⟨1 + (req t).val, by omega⟩ : Fin 8) i k := by blk_ext [idx t, req]
  blk_simp [iblk]
  rw [e]
  exact congrFun (V_main_arg1 m c) _

theorem blk2 (c : Dev nD) (t : Fin cfg0.N) (k : Fin 1024) : iblk m c 2 t (ix2 0 k) = m ((c.tc : Thread nD τ).loc main_arg2) (ix1 k) := by
  have e : ((cfg0.win 2).blk t).view.emb (ix2 0 k) = ix2 0 k := by blk_ext [idx t]
  blk_simp [iblk]
  rw [e]
  exact Table.norm_apply m c k

theorem blk3 (c : Dev nD) (t : Fin cfg0.N) (k : Fin 1024) (n : Fin 2560) : iblk m c 3 t (ix2 k n) = m ((c.tc : Thread nD τ).loc main_arg3) (ix2 k n) := by
  have e : ((cfg0.win 3).blk t).view.emb (ix2 k n) = ix2 k n := by blk_ext [idx t]
  blk_simp [iblk]
  rw [e]
  exact congrFun (V_main_arg3 m c) _

theorem blk4 (c : Dev nD) (t : Fin cfg0.N) (d : Fin 256) (k : Fin 1024) :
    iblk m c 4 t (ix2 d k) = m ((c.tc : Thread nD τ).loc main_arg3) (ix2 k (⟨2304 + d.val, by omega⟩ : Fin 2560)) := by
  have e : ((cfg0.win 4).blk t).view.emb (ix2 d k) = ix2 d k := by blk_ext [idx t]
  blk_simp [iblk]
  rw [e]
  exact Table.wv_apply m c d k

theorem blk5 (c : Dev nD) (t : Fin cfg0.N) (r : Fin 1024) (j : Fin 128) : iblk m c 5 t (ix2 r j) = cosine (tok t r) j := by
  have e : ((cfg0.win 5).blk t).view.emb (ix2 r j) = ix2 (tok t r) j := by blk_ext [idx t, tok]
  blk_simp [iblk]
  rw [e]
  exact Table.cos_apply m c _ j

theorem blk6 (c : Dev nD) (t : Fin cfg0.N) (r : Fin 1024) (j : Fin 128) : iblk m c 6 t (ix2 r j) = sine (tok t r) j := by
  have e : ((cfg0.win 6).blk t).view.emb (ix2 r j) = ix2 (tok t r) j := by blk_ext [idx t, tok]
  blk_simp [iblk]
  rw [e]
  exact Table.sin_apply m c _ j

/-- The normalised row of a grid point is the reference's. -/
theorem hrow_eq (c : Dev nD) (t : Fin cfg0.N) (r : Fin 1024) : hrow (iblk m c 0 t) (iblk m c 1 t) (iblk m c 2 t) r
    = Cert.AttnInRopeRefIdeal.Closed.row (m ((c.tc : Thread nD τ).loc main_arg0)) (m ((c.tc : Thread nD τ).loc main_arg1)) (m ((c.tc : Thread nD τ).loc main_arg2)) (req t) (tok t r) := by
  unfold hrow Cert.AttnInRopeRefIdeal.Closed.row
  simp only [blk0, blk1, blk2]

/-- The projected row of a grid point is the reference's. -/
theorem pcol_eq (c : Dev nD) (t : Fin cfg0.N) (r : Fin 1024) : pcol (iblk m c 0 t) (iblk m c 1 t) (iblk m c 2 t) (iblk m c 3 t) r
    = col (m ((c.tc : Thread nD τ).loc main_arg0)) (m ((c.tc : Thread nD τ).loc main_arg1)) (m ((c.tc : Thread nD τ).loc main_arg2)) (m ((c.tc : Thread nD τ).loc main_arg3)) (req t) (tok t r) := by
  funext n
  unfold pcol col
  rw [hrow_eq]
  exact Finset.sum_congr rfl fun k _ => congrArg _ (blk3 m c t k n)

/-- The projection of the kernel's arguments on a device, as the reference computes it. -/
def proj (c : Dev nD) : FVec Ideal Cert.AttnInRopeRefIdeal.S4x4096x2560 .f32 :=
  pR (m ((c.tc : Thread nD τ).loc main_arg3))
    (hR (m ((c.tc : Thread nD τ).loc main_arg0)) (m ((c.tc : Thread nD τ).loc main_arg1)) (m ((c.tc : Thread nD τ).loc main_arg2)))

/-- A one-request block's index: its row and column. -/
theorem split_blk {a b : ℕ} (y : Shape.Idx ⟨3, ![1, a, b]⟩) : ∃ (r : Fin a) (l : Fin b), y = ix3 0 r l := ⟨y 1, y 2, by
  refine (eq_ix3 y).trans ?_
  congr 1
  exact Fin.ext (by have h : (y 0).val < 1 := (y 0).isLt; simp only [Fin.val_zero]; omega)⟩

/-- The rotated and scaled queries. -/
theorem final7 (c : Dev nD) : (dats m 0 c).arrAt 7 (cfgs 0).N = qR (proj m c) := by
  refine (dats m 0 c).arrAt_eq_of_covers 7 _ (by decide +kernel) fun t _ y => ?_
  blk_simp
  rw [after0_7]
  obtain ⟨r, l, rfl⟩ : ∃ (r l : Fin 1024), y = ix3 0 r l := split_blk y
  have ht : t.val < 16 := t.isLt
  have e : ((cfg0.win 7).blk t).view.emb (ix3 0 r l) = ix3 (req t) (tok t r) l := by blk_ext [idx t, req, tok]
  refine (out7_apply _ _ _ _ _ _ _ r l).trans ?_
  rw [e]
  refine Eq.trans ?_ (Cert.AttnInRopeRefIdeal.Closed.q_apply _ _ _ _ (req t) (tok t r) l).symm
  rw [pcol_eq]
  simp only [blk5, blk6]

/-- The gate. -/
theorem final8 (c : Dev nD) : (dats m 0 c).arrAt 8 (cfgs 0).N = sR (proj m c) := by
  refine (dats m 0 c).arrAt_eq_of_covers 8 _ (by decide +kernel) fun t _ y => ?_
  blk_simp
  rw [after0_8]
  obtain ⟨r, l, rfl⟩ : ∃ (r l : Fin 1024), y = ix3 0 r l := split_blk y
  have ht : t.val < 16 := t.isLt
  have e : ((cfg0.win 8).blk t).view.emb (ix3 0 r l) = ix3 (req t) (tok t r) l := by blk_ext [idx t, req, tok]
  refine (out8_apply _ _ _ _ _ _ _ r l).trans ?_
  rw [e]
  refine Eq.trans ?_ (Cert.AttnInRopeRefIdeal.Closed.s_apply _ _ _ _ (req t) (tok t r) l).symm
  rw [pcol_eq]

/-- The rotated keys. -/
theorem final9 (c : Dev nD) : (dats m 0 c).arrAt 9 (cfgs 0).N = kR (proj m c) := by
  refine (dats m 0 c).arrAt_eq_of_covers 9 _ (by decide +kernel) fun t _ y => ?_
  blk_simp
  rw [after0_9]
  obtain ⟨r, l, rfl⟩ : ∃ (r : Fin 1024) (l : Fin 256), y = ix3 0 r l := split_blk y
  have ht : t.val < 16 := t.isLt
  have e : ((cfg0.win 9).blk t).view.emb (ix3 0 r l) = ix3 (req t) (tok t r) l := by blk_ext [idx t, req, tok]
  refine (out9_apply _ _ _ _ _ _ _ r l).trans ?_
  rw [e]
  refine Eq.trans ?_ (Cert.AttnInRopeRefIdeal.Closed.k_apply _ _ _ _ (req t) (tok t r) l).symm
  rw [pcol_eq]
  simp only [blk5, blk6]

/-- The transposed values. -/
theorem final10 (c : Dev nD) : (dats m 0 c).arrAt 10 (cfgs 0).N = tR (proj m c) := by
  refine (dats m 0 c).arrAt_eq_of_covers 10 _ (by decide +kernel) fun t _ y => ?_
  blk_simp
  rw [after0_10]
  obtain ⟨d, r, rfl⟩ : ∃ (d : Fin 256) (r : Fin 1024), y = ix3 0 d r := split_blk y
  have ht : t.val < 16 := t.isLt
  have e : ((cfg0.win 10).blk t).view.emb (ix3 0 d r) = ix3 (req t) d (tok t r) := by blk_ext [idx t, req, tok]
  refine (out10_apply _ _ _ _ _ _ _ d r).trans ?_
  rw [e]
  refine Eq.trans ?_ (Cert.AttnInRopeRefIdeal.Closed.t_apply _ _ _ _ (req t) d (tok t r)).symm
  rw [hrow_eq]
  exact Finset.sum_congr rfl fun k _ => (mul_comm _ _).trans (congrArg _ (blk4 m c t d k))

set_option maxHeartbeats 1600000 in
/-- The kernel's run, its four results named. -/
theorem run (ρ : Dev nD → PrngReg) :
    θ_run defs (onTc (τ := τ) (main (F := Ideal))) ⟨m, fun _ => 0, ρ⟩ fun r => ∀ c : Dev nD,
      r.2.mem ((c.tc : Thread nD τ).loc main_v42_0) = qR (proj m c)
      ∧ r.2.mem ((c.tc : Thread nD τ).loc main_v42_1) = sR (proj m c)
      ∧ r.2.mem ((c.tc : Thread nD τ).loc main_v42_2) = kR (proj m c)
      ∧ r.2.mem ((c.tc : Thread nD τ).loc main_v42_3) = tR (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 7).trans (final7 m c), ((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩)
    (run_main m ρ)

end Cert.AttnInRopeIdeal.Unit
-- ==== Proof.RopeClaim.lean ====
module
public import proofs.«01_k».proof.Proof.RopeValue
public import proofs.«01_k».proof.Defs
@[expose] public section

/-!
# The sample's input projection: its claim

The kernel's four results equal the reference's over the extended reals, whatever the arguments.
-/

noncomputable section

open Idealize.ShloMosaic Idealize.SL.Sem

namespace Cert.Proof

theorem rope_algebraic : algebraic_AttnInRopeIdeal_AttnInRopeRefIdeal := by
  intro m ρ m' ρ' _ hag
  have e : ∀ c, Cert.AttnInRopeRefIdeal.Closed.proj m' c = Cert.AttnInRopeIdeal.Unit.proj m c := fun c => by
    obtain ⟨h0, h1, h2, h3⟩ := hag c
    unfold Cert.AttnInRopeRefIdeal.Closed.proj Cert.AttnInRopeIdeal.Unit.proj
    rw [h0, h1, h2, h3]
  refine ⟨_, _, _, _, Cert.AttnInRopeIdeal.Unit.run m ρ, ?_⟩
  have h := Cert.AttnInRopeRefIdeal.Closed.run m' ρ'
  simp only [e] at h
  exact h

end Cert.Proof

end
-- ==== Proof.MinUnit.lean ====
module
public import proofs.«01_k».proof.Proof.Gen.MlstmInIdeal.Frame
public import proofs.«01_k».proof.Proof.Norm
public import Idealize.ShloMosaic.Lib.Pipeline.ReadBack
public import Idealize.ShloMosaic.Lib.Pipeline.ValueKit
@[expose] public section

/-!
# The sample's recurrence inputs: what a grid point stores

A grid point holds 1024 rows of one request, the request's modulation, the norm weights and the transposed projection weights, and stores the
rows' queries, keys, values (transposed chunk by chunk) and output gate, given here in closed form over the point's input blocks.
-/

set_option maxRecDepth 16384

noncomputable section

open Idealize.ShloMosaic Idealize.ShloMosaic.TcCoe Idealize.SL.Sem

namespace Cert.MlstmInIdeal.Unit

open Cert.MlstmInIdeal Cert.MlstmInIdeal.Gen Attention

/-- The normalised row `r` of a grid point. -/
def hrow (x0 : Vec Ideal S1x1024x1024 .f32) (x1 : Vec Ideal S1x3x1024 .f32) (x2 : Vec Ideal S1x1024 .f32) (r : Fin 1024) : Fin 1024 → EReal :=
  normed (fun j => x0 (ix3 0 r j)) (fun j => x2 (ix2 0 j)) (fun j => x1 (ix3 0 1 j)) (fun j => x1 (ix3 0 0 j))

theorem h_apply (v0 : Vec Ideal S1x1024x1024 .f32) (v2 : Vec Ideal S1x1024 .f32) (v4 : Vec Ideal S1x3x1024 .f32) (i l : Fin 1024) :
    k0_pay2 v0 v2 v4 (ix2 i l) = hrow v0 v4 v2 i l := by
  unfold hrow normed
  pointwise [k0_pay2]

theorem zero2 : (![0, 0] : Fin 2 → ℕ) = fun _ => 0 := by funext a; fin_cases a <;> rfl

theorem zero3 : (![0, 0, 0] : Fin 3 → ℕ) = fun _ => 0 := by funext a; fin_cases a <;> rfl

section Out
variable (x0 : Vec Ideal S1x1024x1024 .f32) (x1 : Vec Ideal S1x3x1024 .f32) (x2 : Vec Ideal S1x1024 .f32) (x3 : Vec Ideal S5152x1024 .f32)
  (x4 : Vec Ideal S32x1 .f32)

/-- The rows every payload reads are the normalised rows. -/
theorem rows_eq : k0_pay68 x0 x1 x2 x3 x4 = k0_pay2 x0 x2 x1 := by
  unfold k0_pay68
  rw [show View.ld x0 r0_0 = x0 from View.ld_unit_zero zero3 _ x0, show View.ld x1 r0_2 = x1 from View.ld_unit_zero zero3 _ x1,
    show View.ld x2 r0_1 = x2 from View.ld_unit_zero zero2 _ x2]

/-- The queries a grid point stores. -/
theorem out5_apply (r l : Fin 1024) : out0_5 x0 x1 x2 x3 x4 (ix3 0 r l) = ∑ k : Fin 1024, hrow x0 x1 x2 r k * x3 (ix2 ⟨l, by omega⟩ k) := by
  unfold out0_5
  rw [View.canon_unit_zero (h := zero3), rows_eq]
  pointwise [k0_pay59, h_apply]

/-- The scaled keys a grid point stores. -/
theorem out6_apply (r l : Fin 1024) : out0_6 x0 x1 x2 x3 x4 (ix3 0 r l)
    = (∑ k : Fin 1024, hrow x0 x1 x2 r k * x3 (ix2 ⟨1024 + l, by omega⟩ k)) * Ideal.ofBits .f32 0x3DB504F3#32 := by
  unfold out0_6
  rw [View.canon_unit_zero (h := zero3), rows_eq]
  pointwise [k0_pay61, k0_pay60, h_apply]

/-- The output gate a grid point stores. -/
theorem out8_apply (r l : Fin 1024) : out0_8 x0 x1 x2 x3 x4 (ix3 0 r l)
    = Ideal.logistic (∑ k : Fin 1024, hrow x0 x1 x2 r k * x3 (ix2 ⟨3072 + l, by omega⟩ k))
      * ((∑ k : Fin 1024, hrow x0 x1 x2 r k * x3 (ix2 ⟨4096 + l, by omega⟩ k))
        * Ideal.logistic (∑ k : Fin 1024, hrow x0 x1 x2 r k * x3 (ix2 ⟨4096 + l, by omega⟩ k))) := by
  unfold out0_8
  rw [View.canon_unit_zero (h := zero3), rows_eq]
  pointwise [k0_pay58, h_apply]

/-- The transposed values of a grid point: row `s` of chunk `c` is row `256 c + s` of the block. -/
def vt : Vec Ideal S1x4x1024x256 .bf16 := fun y =>
  ∑ k : Fin 1024, x3 (ix2 ⟨2048 + y 2, by have h : (y 2).val < 1024 := (y 2).isLt; omega⟩ k)
    * hrow x0 x1 x2 ⟨y 1 * 256 + y 3, by
        have h1 : (y 1).val < 4 := (y 1).isLt
        have h3 : (y 3).val < 256 := (y 3).isLt
        omega⟩ k

theorem vt_apply (c : Fin 4) (d : Fin 1024) (s : Fin 256) : vt x0 x1 x2 x3 (ix4 0 c d s)
    = ∑ k : Fin 1024, x3 (ix2 ⟨2048 + d, by omega⟩ k) * hrow x0 x1 x2 ⟨c * 256 + s, by omega⟩ k := rfl

theorem pay62_apply (d i : Fin 1024) : k0_pay62 (k0_pay2 x0 x2 x1) (View.ld x3 r0_25) (ix2 d i)
    = ∑ k : Fin 1024, x3 (ix2 ⟨2048 + d, by omega⟩ k) * hrow x0 x1 x2 i k := by
  pointwise [k0_pay62, h_apply]

theorem split_piece (y : S1x1x1024x256.Idx) : ∃ (d : Fin 1024) (s : Fin 256), y = ix4 0 0 d s := ⟨y 2, y 3, by
  refine (eq_ix4 y).trans ?_
  congr 1
  · exact Subsingleton.elim (α := Fin 1) _ _
  · exact Subsingleton.elim (α := Fin 1) _ _⟩

/-- The transposed values a grid point stores: four pieces, one per chunk of 256 rows. -/
theorem out7_apply (y : S1x4x1024x256.Idx) : out0_7 x0 x1 x2 x3 x4 y = vt x0 x1 x2 x3 y := by
  have hp : View.PiecesOf (Val := Elt Ideal) (s := S1x4x1024x256) (e := .bf16) (vt x0 x1 x2 x3) [⟨r0_29, k0_pay1 (k0_pay66 (k0_pay68 x0 x1 x2 x3 x4) (View.ld x3 r0_25))⟩,
    ⟨r0_28, k0_pay65 (k0_pay68 x0 x1 x2 x3 x4) (View.ld x3 r0_25)⟩, ⟨r0_27, k0_pay64 (k0_pay68 x0 x1 x2 x3 x4) (View.ld x3 r0_25)⟩,
    ⟨r0_26, k0_pay63 (k0_pay68 x0 x1 x2 x3 x4) (View.ld x3 r0_25)⟩] := by
    rw [rows_eq]
    refine ⟨fun y => ?_, fun y => ?_, fun y => ?_, fun y => ?_, trivial⟩
    · obtain ⟨d, s, rfl⟩ := split_piece y
      rw [show r0_29.emb (ix4 0 0 d s : S1x1x1024x256.Idx) = ix4 0 3 d s from by blk_ext [r0_29], vt_apply]
      pointwise [k0_pay1, k0_pay66, pay62_apply]
    · obtain ⟨d, s, rfl⟩ := split_piece y
      rw [show r0_28.emb (ix4 0 0 d s : S1x1x1024x256.Idx) = ix4 0 2 d s from by blk_ext [r0_28], vt_apply]
      pointwise [k0_pay65, pay62_apply]
    · obtain ⟨d, s, rfl⟩ := split_piece y
      rw [show r0_27.emb (ix4 0 0 d s : S1x1x1024x256.Idx) = ix4 0 1 d s from by blk_ext [r0_27], vt_apply]
      pointwise [k0_pay64, pay62_apply]
    · obtain ⟨d, s, rfl⟩ := split_piece y
      rw [show r0_26.emb (ix4 0 0 d s : S1x1x1024x256.Idx) = ix4 0 0 d s from by blk_ext [r0_26], vt_apply]
      pointwise [k0_pay63, pay62_apply]
  exact View.canon_apply_of_pieces (vt x0 x1 x2 x3) _ hp.mem y (cover0_7 _ _ _ _ y)

end Out

end Cert.MlstmInIdeal.Unit
-- ==== Proof.MinRef.lean ====
module
public import proofs.«01_k».proof.Proof.Gen.MlstmInRefIdeal.Run
public import Idealize.ShloMosaic.Lib.Pipeline.ValueKit
public import proofs.«01_k».proof.Proof.Norm
@[expose] public section

/-!
# The sample's recurrence inputs: what the reference computes

The reference's four results at an index: the normalised rows projected to queries, scaled keys, values and output gate.
-/

set_option maxRecDepth 16384

noncomputable section

open Idealize.ShloMosaic Idealize.ShloMosaic.TcCoe Idealize.SL.Sem

namespace Cert.MlstmInRefIdeal.Closed

open Cert.MlstmInRefIdeal Cert.MlstmInRefIdeal.Gen Attention

variable (X : FVec Ideal S4x4096x1024 .f32) (MD : FVec Ideal S8x3x1024 .f32) (NW : FVec Ideal S1024 .f32) (W : FVec Ideal S1024x5152 .f32)

/-- The normalised and modulated rows. -/
def hR : FVec Ideal S4x4096x1024 .f32 :=
  (addf (mulf (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 NW))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1024 ![0, 1, 0] (extractStridedSlice S4x3x1024 ![1, 0, 0] MD slices_S8x3x1024_S4x3x1024_1_0_0) slices_S4x3x1024_S4x1x1024_0_1_0) shapeCasts_S4x1x1024_S4x1024))))) (broadcastInDim S4x4096x1024 ![0, 1, 2] bcast_S4x1x1024_S4x4096x1024_0_1_2 (broadcastInDim S4x1x1024 ![0, 2] bcast_S4x1024_S4x1x1024_0_2 (shapeCast _ (extractStridedSlice S4x1x1024 ![0, 0, 0] (extractStridedSlice S4x3x1024 ![1, 0, 0] MD slices_S8x3x1024_S4x3x1024_1_0_0) slices_S4x3x1024_S4x1x1024_0_0_0) shapeCasts_S4x1x1024_S4x1024))))

/-- The projection. -/
def pR (h : FVec Ideal S4x4096x1024 .f32) : FVec Ideal S4x4096x5152 .f32 :=
  (Host.dotGeneral dot_S4x4096x1024_S1024x5152_S4x4096x5152_2_0_01_1_n_n none h W)

/-- The queries. -/
def qR (p : FVec Ideal S4x4096x5152 .f32) : FVec Ideal S4x4096x1024 .bf16 :=
  truncf .bf16 (extractStridedSlice S4x4096x1024 ![0, 0, 0] p slices_S4x4096x5152_S4x4096x1024_0_0_0) bitsLt_bf16_f32

/-- The scaled keys. -/
def kR (p : FVec Ideal S4x4096x5152 .f32) : FVec Ideal S4x4096x1024 .bf16 :=
  truncf .bf16 (mulf (extractStridedSlice S4x4096x1024 ![0, 0, 1024] p slices_S4x4096x5152_S4x4096x1024_0_0_1024) (broadcastInDim S4x4096x1024 ![] bcast_S_S4x4096x1024 (constant S_ .f32 0x3DB504F3#32))) bitsLt_bf16_f32

/-- The values, in chunks of 256 rows, each transposed. -/
def vR (p : FVec Ideal S4x4096x5152 .f32) : FVec Ideal S4x16x1024x256 .bf16 :=
  truncf .bf16 (transpose S4x16x1024x256 [0, 1, 3, 2] (shapeCast _ (extractStridedSlice S4x4096x1024 ![0, 0, 2048] p slices_S4x4096x5152_S4x4096x1024_0_0_2048) shapeCasts_S4x4096x1024_S4x16x256x1024) transposes_S4x16x256x1024_S4x16x1024x256_0_1_3_2) bitsLt_bf16_f32

/-- The output gate. -/
def oR (p : FVec Ideal S4x4096x5152 .f32) : FVec Ideal S4x4096x1024 .bf16 :=
  truncf .bf16 (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 3072] p slices_S4x4096x5152_S4x4096x1024_0_0_3072))))) (mulf (extractStridedSlice S4x4096x1024 ![0, 0, 4096] p slices_S4x4096x5152_S4x4096x1024_0_0_4096) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 4096] p slices_S4x4096x5152_S4x4096x1024_0_0_4096))))))) bitsLt_bf16_f32

/-- The normalised row `r` of request `b`. -/
def row (b : Fin 4) (r : Fin 4096) : Fin 1024 → EReal :=
  normed (fun j => X (ix3 b r j)) (fun j => NW (ix1 j)) (fun j => MD (ix3 ⟨1 + b, by omega⟩ 1 j)) (fun j => MD (ix3 ⟨1 + b, by omega⟩ 0 j))

theorem hR_apply (b : Fin 4) (r : Fin 4096) (l : Fin 1024) : hR X MD NW (ix3 b r l) = row X MD NW b r l := by
  unfold row normed
  pointwise [hR]

theorem pR_apply (b : Fin 4) (r : Fin 4096) (l : Fin 5152) : pR W (hR X MD NW) (ix3 b r l) = ∑ k : Fin 1024, row X MD NW b r k * W (ix2 k l) := by
  pointwise [pR, hR_apply]

theorem q_apply (b : Fin 4) (r : Fin 4096) (l : Fin 1024) : qR (pR W (hR X MD NW)) (ix3 b r l)
    = ∑ k : Fin 1024, row X MD NW b r k * W (ix2 k ⟨l, by omega⟩) := by
  pointwise [qR, pR_apply]

theorem k_apply (b : Fin 4) (r : Fin 4096) (l : Fin 1024) : kR (pR W (hR X MD NW)) (ix3 b r l)
    = (∑ k : Fin 1024, row X MD NW b r k * W (ix2 k ⟨1024 + l, by omega⟩)) * Ideal.ofBits .f32 0x3DB504F3#32 := by
  pointwise [kR, pR_apply]

theorem v_apply (b : Fin 4) (c : Fin 16) (l : Fin 1024) (s : Fin 256) : vR (pR W (hR X MD NW)) (ix4 b c l s)
    = ∑ k : Fin 1024, row X MD NW b ⟨c * 256 + s, by omega⟩ k * W (ix2 k ⟨2048 + l, by omega⟩) := by
  pointwise [vR, pR_apply]

theorem o_apply (b : Fin 4) (r : Fin 4096) (l : Fin 1024) : oR (pR W (hR X MD NW)) (ix3 b r l)
    = Ideal.logistic (∑ k : Fin 1024, row X MD NW b r k * W (ix2 k ⟨3072 + l, by omega⟩))
      * ((∑ k : Fin 1024, row X MD NW b r k * W (ix2 k ⟨4096 + l, by omega⟩))
        * Ideal.logistic (∑ k : Fin 1024, row X MD NW b r k * W (ix2 k ⟨4096 + l, by omega⟩))) := by
  unfold Ideal.logistic
  pointwise [oR, pR_apply]

/-- The projection of the reference's arguments on a device. -/
def proj (m : (ℓ : Loc nD τ sig) → Buf (Elt Ideal) ℓ) (c : Dev nD) : FVec Ideal S4x4096x5152 .f32 :=
  pR (m ((c.tc : Thread nD τ).loc main_arg3))
    (hR (m ((c.tc : Thread nD τ).loc main_arg0)) (m ((c.tc : Thread nD τ).loc main_arg1)) (m ((c.tc : Thread nD τ).loc main_arg2)))

/-- The reference's run, its four results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = qR (proj m c)
      ∧ r.2.mem ((c.tc : Thread nD τ).loc main_v44) = kR (proj m c)
      ∧ r.2.mem ((c.tc : Thread nD τ).loc main_v46) = vR (proj m c)
      ∧ r.2.mem ((c.tc : Thread nD τ).loc main_v47) = oR (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (by sl_kernel_rfl), (h c).2.1.trans (by sl_kernel_rfl), (h c).2.2.1.trans (by sl_kernel_rfl),
    (h c).2.2.2.1.trans (by sl_kernel_rfl), (h c).2.2.2.2⟩) (Value.run m ρ)

end Cert.MlstmInRefIdeal.Closed
-- ==== Proof.MinValue.lean ====
module
public import proofs.«01_k».proof.Proof.MinUnit
public import proofs.«01_k».proof.Proof.MinRef
public import proofs.«01_k».proof.Proof.Gen.MlstmInIdeal.Value
@[expose] public section

/-!
# The sample's recurrence inputs: the kernel's results

After all grid points each of the four result arrays is the reference's.
-/

set_option maxRecDepth 16384

noncomputable section

open Idealize.ShloMosaic Idealize.ShloMosaic.TcCoe Idealize.SL.Sem
open Idealize.ShloMosaic.Pipeline (Dat)

namespace Cert.MlstmInIdeal.Unit

open Cert.MlstmInIdeal Cert.MlstmInIdeal.Gen Attention
open Cert.MlstmInRefIdeal.Closed (hR pR qR kR vR oR)

variable (m : (ℓ : Loc nD τ sig) → Buf (Elt Ideal) ℓ)

/-- The projection of the kernel's arguments on a device, as the reference computes it. -/
def proj (c : Dev nD) : FVec Ideal Cert.MlstmInRefIdeal.S4x4096x5152 .f32 :=
  pR (m ((c.tc : Thread nD τ).loc main_arg3))
    (hR (m ((c.tc : Thread nD τ).loc main_arg0)) (m ((c.tc : Thread nD τ).loc main_arg1)) (m ((c.tc : Thread nD τ).loc main_arg2)))

theorem idx : ∀ t : Fin cfg0.N, win0_0.index t = ![t.val / 4, t.val % 4, 0] ∧ win0_1.index t = ![1 + t.val / 4, 0, 0] ∧ win0_2.index t = ![0, 0]
    ∧ win0_3.index t = ![0, 0] ∧ win0_4.index t = ![0, 0] ∧ win0_5.index t = ![t.val / 4, t.val % 4, 0] ∧ win0_6.index t = ![t.val / 4, t.val % 4, 0]
    ∧ win0_7.index t = ![t.val / 4, t.val % 4, 0, 0] ∧ win0_8.index t = ![t.val / 4, t.val % 4, 0] :=
  (by decide +kernel : ∀ t : Fin grid0.N, _)

/-- A result block's index: its row and coordinate. -/
theorem split3 (y : S1x1024x1024.Idx) : ∃ (r l : Fin 1024), y = ix3 0 r l := ⟨y 1, y 2, by
  refine (eq_ix3 y).trans ?_
  congr 1
  exact Subsingleton.elim (α := Fin 1) _ _⟩

/-- A block of transposed values' index: its chunk, coordinate and row. -/
theorem split4 (y : S1x4x1024x256.Idx) : ∃ (j : Fin 4) (d : Fin 1024) (s : Fin 256), y = ix4 0 j d s := ⟨y 1, y 2, y 3, by
  refine (eq_ix4 y).trans ?_
  congr 1
  exact Subsingleton.elim (α := Fin 1) _ _⟩

/-- The queries. -/
theorem final5 (c : Dev nD) : (dats m 0 c).arrAt 5 (cfgs 0).N = qR (proj m c) := by
  refine (dats m 0 c).arrAt_eq_of_covers 5 _ (by decide +kernel) fun t _ y => ?_
  blk_simp
  rw [after0_5]
  obtain ⟨r, l, rfl⟩ := split3 y
  have ht : t.val < 16 := t.isLt
  have e : ((cfg0.win 5).blk t).view.emb (ix3 0 r l) = ix3 (⟨t.val / 4, by omega⟩ : Fin 4) (⟨t.val % 4 * 1024 + r.val, by omega⟩ : Fin 4096) l := by blk_ext [idx t]
  refine (out5_apply _ _ _ _ _ r l).trans ?_
  rw [e]
  refine Eq.trans ?_ (Cert.MlstmInRefIdeal.Closed.q_apply _ _ _ _ ⟨t.val / 4, by omega⟩ ⟨t.val % 4 * 1024 + r.val, by omega⟩ l).symm
  unfold hrow Cert.MlstmInRefIdeal.Closed.row
  blk_point [iblk, V, idx t]

/-- The scaled keys. -/
theorem final6 (c : Dev nD) : (dats m 0 c).arrAt 6 (cfgs 0).N = kR (proj m c) := by
  refine (dats m 0 c).arrAt_eq_of_covers 6 _ (by decide +kernel) fun t _ y => ?_
  blk_simp
  rw [after0_6]
  obtain ⟨r, l, rfl⟩ := split3 y
  have ht : t.val < 16 := t.isLt
  have e : ((cfg0.win 6).blk t).view.emb (ix3 0 r l) = ix3 (⟨t.val / 4, by omega⟩ : Fin 4) (⟨t.val % 4 * 1024 + r.val, by omega⟩ : Fin 4096) l := by blk_ext [idx t]
  refine (out6_apply _ _ _ _ _ r l).trans ?_
  rw [e]
  refine Eq.trans ?_ (Cert.MlstmInRefIdeal.Closed.k_apply _ _ _ _ ⟨t.val / 4, by omega⟩ ⟨t.val % 4 * 1024 + r.val, by omega⟩ l).symm
  unfold hrow Cert.MlstmInRefIdeal.Closed.row
  blk_point [iblk, V, idx t]

/-- The output gate. -/
theorem final8 (c : Dev nD) : (dats m 0 c).arrAt 8 (cfgs 0).N = oR (proj m c) := by
  refine (dats m 0 c).arrAt_eq_of_covers 8 _ (by decide +kernel) fun t _ y => ?_
  blk_simp
  rw [after0_8]
  obtain ⟨r, l, rfl⟩ := split3 y
  have ht : t.val < 16 := t.isLt
  have e : ((cfg0.win 8).blk t).view.emb (ix3 0 r l) = ix3 (⟨t.val / 4, by omega⟩ : Fin 4) (⟨t.val % 4 * 1024 + r.val, by omega⟩ : Fin 4096) l := by blk_ext [idx t]
  refine (out8_apply _ _ _ _ _ r l).trans ?_
  rw [e]
  refine Eq.trans ?_ (Cert.MlstmInRefIdeal.Closed.o_apply _ _ _ _ ⟨t.val / 4, by omega⟩ ⟨t.val % 4 * 1024 + r.val, by omega⟩ l).symm
  unfold hrow Cert.MlstmInRefIdeal.Closed.row
  blk_point [iblk, V, idx t]

/-- The transposed values. -/
theorem final7 (c : Dev nD) : (dats m 0 c).arrAt 7 (cfgs 0).N = vR (proj m c) := by
  refine (dats m 0 c).arrAt_eq_of_covers 7 _ (by decide +kernel) fun t _ y => ?_
  blk_simp
  rw [after0_7]
  obtain ⟨j, d, s, rfl⟩ := split4 y
  have ht : t.val < 16 := t.isLt
  have e : ((cfg0.win 7).blk t).view.emb (ix4 0 j d s) = ix4 (⟨t.val / 4, by omega⟩ : Fin 4) (⟨t.val % 4 * 4 + j.val, by omega⟩ : Fin 16) d s := by blk_ext [idx t]
  refine (out7_apply _ _ _ _ _ _).trans ?_
  rw [e]
  refine Eq.trans ?_ (Cert.MlstmInRefIdeal.Closed.v_apply _ _ _ _ ⟨t.val / 4, by omega⟩ ⟨t.val % 4 * 4 + j.val, by omega⟩ d s).symm
  rw [vt_apply]
  refine Finset.sum_congr rfl fun k _ => (mul_comm _ _).trans ?_
  unfold hrow Cert.MlstmInRefIdeal.Closed.row
  blk_point [iblk, V, idx t]

/-- The kernel's run, its four results named. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = qR (proj m c)
      ∧ r.2.mem ((c.tc : Thread nD τ).loc main_v3_1) = kR (proj m c)
      ∧ r.2.mem ((c.tc : Thread nD τ).loc main_v3_2) = vR (proj m c)
      ∧ r.2.mem ((c.tc : Thread nD τ).loc main_v3_3) = oR (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2.2.2⟩) (Value.run_blocks m ρ)

end Cert.MlstmInIdeal.Unit
-- ==== Proof.MinClaim.lean ====
module
public import proofs.«01_k».proof.Proof.MinValue
public import proofs.«01_k».proof.Defs
@[expose] public section

/-!
# The sample's recurrence inputs: its claim

The kernel's four results equal the reference's over the extended reals, whatever the arguments.
-/

set_option maxRecDepth 16384

noncomputable section

open Idealize.ShloMosaic Idealize.ShloMosaic.TcCoe Idealize.SL.Sem

namespace Cert.Proof

theorem min_algebraic : algebraic_MlstmInIdeal_MlstmInRefIdeal := by
  intro m ρ m' ρ' _ hag
  have e : ∀ c, Cert.MlstmInRefIdeal.Closed.proj m' c = Cert.MlstmInIdeal.Unit.proj m c := fun c => by
    obtain ⟨h0, h1, h2, h3, h4⟩ := hag c
    unfold Cert.MlstmInRefIdeal.Closed.proj Cert.MlstmInIdeal.Unit.proj
    rw [h0, h1, h2, h3]
  refine ⟨_, _, _, _, Cert.MlstmInIdeal.Unit.run m ρ, ?_⟩
  have h := Cert.MlstmInRefIdeal.Closed.run m' ρ'
  simp only [e] at h
  exact h

end Cert.Proof

end
-- ==== Proof.MinCtxUnit.lean ====
module
public import proofs.«01_k».proof.Proof.Gen.MlstmInCtxIdeal.Frame
public import proofs.«01_k».proof.Proof.Norm
public import Idealize.ShloMosaic.Lib.Pipeline.ReadBack
public import Idealize.ShloMosaic.Lib.Pipeline.ValueKit
@[expose] public section

/-!
# The prompt's recurrence inputs: what a grid point stores

A grid point holds four requests' 256 rows each, the modulation, the norm weights and the transposed projection weights, and stores the
rows' queries, keys, values (transposed request by request) and output gate, given here in closed form over the point's input blocks.
-/

set_option maxRecDepth 16384

noncomputable section

open Idealize.ShloMosaic Idealize.ShloMosaic.TcCoe Idealize.SL.Sem

namespace Cert.MlstmInCtxIdeal.Unit

open Cert.MlstmInCtxIdeal Cert.MlstmInCtxIdeal.Gen Attention

/-- The normalised row `r` of request `b` of a grid point's four requests. -/
def hrow (x0 : Vec Ideal S4x256x1024 .f32) (x1 : Vec Ideal S1x3x1024 .f32) (x2 : Vec Ideal S1x1024 .f32) (b : Fin 4) (r : Fin 256) : Fin 1024 → EReal :=
  normed (fun j => x0 (ix3 b r j)) (fun j => x2 (ix2 0 j)) (fun j => x1 (ix3 0 1 j)) (fun j => x1 (ix3 0 0 j))

theorem h_apply (v0 : Vec Ideal S4x256x1024 .f32) (v2 : Vec Ideal S1x1024 .f32) (v4 : Vec Ideal S1x3x1024 .f32) (i l : Fin 1024) :
    k0_pay2 v0 v2 v4 (ix2 i l) = hrow v0 v4 v2 ⟨i / 256, by omega⟩ ⟨i % 256, by omega⟩ l := by
  unfold hrow normed
  pointwise [k0_pay2]

theorem zero2 : (![0, 0] : Fin 2 → ℕ) = fun _ => 0 := by funext a; fin_cases a <;> rfl

theorem zero3 : (![0, 0, 0] : Fin 3 → ℕ) = fun _ => 0 := by funext a; fin_cases a <;> rfl

section Out
variable (x0 : Vec Ideal S4x256x1024 .f32) (x1 : Vec Ideal S1x3x1024 .f32) (x2 : Vec Ideal S1x1024 .f32) (x3 : Vec Ideal S5152x1024 .f32)
  (x4 : Vec Ideal S32x1 .f32)

/-- The rows every payload reads are the normalised rows. -/
theorem rows_eq : k0_pay68 x0 x1 x2 x3 x4 = k0_pay2 x0 x2 x1 := by
  unfold k0_pay68
  rw [show View.ld x0 r0_0 = x0 from View.ld_unit_zero zero3 _ x0, show View.ld x1 r0_2 = x1 from View.ld_unit_zero zero3 _ x1,
    show View.ld x2 r0_1 = x2 from View.ld_unit_zero zero2 _ x2]

/-- The row at flat position `n = 256 b + r` is row `r` of request `b`. -/
theorem row_at (b : Fin 4) (r : Fin 256) (l : Fin 1024) (n : ℕ) (e : n = b.val * 256 + r.val) (h1 : n / 256 < 4) (h2 : n % 256 < 256) :
    hrow x0 x1 x2 ⟨n / 256, h1⟩ ⟨n % 256, h2⟩ l = hrow x0 x1 x2 b r l := by
  subst e
  congr 1
  · exact Fin.ext (by simp only; omega)
  · exact Fin.ext (by simp only; omega)

theorem row_eq (b : Fin 4) (r : Fin 256) (l : Fin 1024) (h1 : (b.val * 256 + r.val) / 256 < 4) (h2 : (b.val * 256 + r.val) % 256 < 256) :
    hrow x0 x1 x2 ⟨(b.val * 256 + r.val) / 256, h1⟩ ⟨(b.val * 256 + r.val) % 256, h2⟩ l = hrow x0 x1 x2 b r l :=
  row_at x0 x1 x2 b r l _ rfl h1 h2

/-- The queries a grid point stores. -/
theorem out5_apply (b : Fin 4) (r : Fin 256) (l : Fin 1024) : out0_5 x0 x1 x2 x3 x4 (ix3 b r l) = ∑ k : Fin 1024, hrow x0 x1 x2 b r k * x3 (ix2 ⟨l, by omega⟩ k) := by
  unfold out0_5
  rw [View.canon_unit_zero (h := zero3), rows_eq]
  pointwise [k0_pay59, h_apply]
  simp only [row_eq]

/-- The scaled keys a grid point stores. -/
theorem out6_apply (b : Fin 4) (r : Fin 256) (l : Fin 1024) : out0_6 x0 x1 x2 x3 x4 (ix3 b r l)
    = (∑ k : Fin 1024, hrow x0 x1 x2 b r k * x3 (ix2 ⟨1024 + l, by omega⟩ k)) * Ideal.ofBits .f32 0x3DB504F3#32 := by
  unfold out0_6
  rw [View.canon_unit_zero (h := zero3), rows_eq]
  pointwise [k0_pay61, k0_pay60, h_apply]
  simp only [row_eq]

/-- The output gate a grid point stores. -/
theorem out8_apply (b : Fin 4) (r : Fin 256) (l : Fin 1024) : out0_8 x0 x1 x2 x3 x4 (ix3 b r l)
    = Ideal.logistic (∑ k : Fin 1024, hrow x0 x1 x2 b r k * x3 (ix2 ⟨3072 + l, by omega⟩ k))
      * ((∑ k : Fin 1024, hrow x0 x1 x2 b r k * x3 (ix2 ⟨4096 + l, by omega⟩ k))
        * Ideal.logistic (∑ k : Fin 1024, hrow x0 x1 x2 b r k * x3 (ix2 ⟨4096 + l, by omega⟩ k))) := by
  unfold out0_8
  rw [View.canon_unit_zero (h := zero3), rows_eq]
  pointwise [k0_pay58, h_apply]
  simp only [row_eq]

/-- The transposed values of a grid point. -/
def vt : Vec Ideal S4x1x1024x256 .bf16 := fun y =>
  ∑ k : Fin 1024, x3 (ix2 ⟨2048 + y 2, by have h : (y 2).val < 1024 := (y 2).isLt; omega⟩ k) * hrow x0 x1 x2 (y 0) (y 3) k

theorem vt_apply (b : Fin 4) (d : Fin 1024) (s : Fin 256) : vt x0 x1 x2 x3 (ix4 b 0 d s)
    = ∑ k : Fin 1024, x3 (ix2 ⟨2048 + d, by omega⟩ k) * hrow x0 x1 x2 b s k := rfl

theorem pay62_apply (d i : Fin 1024) : k0_pay62 (k0_pay2 x0 x2 x1) (View.ld x3 r0_25) (ix2 d i)
    = ∑ k : Fin 1024, x3 (ix2 ⟨2048 + d, by omega⟩ k) * hrow x0 x1 x2 ⟨i / 256, by omega⟩ ⟨i % 256, by omega⟩ k := by
  pointwise [k0_pay62, h_apply]

theorem split_piece (y : S1x1x1024x256.Idx) : ∃ (d : Fin 1024) (s : Fin 256), y = ix4 0 0 d s := ⟨y 2, y 3, by
  refine (eq_ix4 y).trans ?_
  congr 1
  · exact Subsingleton.elim (α := Fin 1) _ _
  · exact Subsingleton.elim (α := Fin 1) _ _⟩

/-- The transposed values a grid point stores: four pieces, one per request. -/
theorem out7_apply (y : S4x1x1024x256.Idx) : out0_7 x0 x1 x2 x3 x4 y = vt x0 x1 x2 x3 y := by
  have hp : View.PiecesOf (Val := Elt Ideal) (s := S4x1x1024x256) (e := .bf16) (vt x0 x1 x2 x3) [⟨r0_29, k0_pay1 (k0_pay66 (k0_pay68 x0 x1 x2 x3 x4) (View.ld x3 r0_25))⟩,
    ⟨r0_28, k0_pay65 (k0_pay68 x0 x1 x2 x3 x4) (View.ld x3 r0_25)⟩, ⟨r0_27, k0_pay64 (k0_pay68 x0 x1 x2 x3 x4) (View.ld x3 r0_25)⟩,
    ⟨r0_26, k0_pay63 (k0_pay68 x0 x1 x2 x3 x4) (View.ld x3 r0_25)⟩] := by
    rw [rows_eq]
    refine ⟨fun y => ?_, fun y => ?_, fun y => ?_, fun y => ?_, trivial⟩
    · obtain ⟨d, s, rfl⟩ := split_piece y
      rw [show r0_29.emb (ix4 0 0 d s : S1x1x1024x256.Idx) = ix4 3 0 d s from by blk_ext [r0_29], vt_apply]
      pointwise [k0_pay1, k0_pay66, pay62_apply]
      exact Finset.sum_congr rfl fun k _ => congrArg (fun z : EReal => x3 (ix2 ⟨2048 + d, _⟩ k) * z) (row_at x0 x1 x2 3 s k _ (by simp) _ _)
    · obtain ⟨d, s, rfl⟩ := split_piece y
      rw [show r0_28.emb (ix4 0 0 d s : S1x1x1024x256.Idx) = ix4 2 0 d s from by blk_ext [r0_28], vt_apply]
      pointwise [k0_pay65, pay62_apply]
      exact Finset.sum_congr rfl fun k _ => congrArg (fun z : EReal => x3 (ix2 ⟨2048 + d, _⟩ k) * z) (row_at x0 x1 x2 2 s k _ (by simp) _ _)
    · obtain ⟨d, s, rfl⟩ := split_piece y
      rw [show r0_27.emb (ix4 0 0 d s : S1x1x1024x256.Idx) = ix4 1 0 d s from by blk_ext [r0_27], vt_apply]
      pointwise [k0_pay64, pay62_apply]
      exact Finset.sum_congr rfl fun k _ => congrArg (fun z : EReal => x3 (ix2 ⟨2048 + d, _⟩ k) * z) (row_at x0 x1 x2 1 s k _ (by simp) _ _)
    · obtain ⟨d, s, rfl⟩ := split_piece y
      rw [show r0_26.emb (ix4 0 0 d s : S1x1x1024x256.Idx) = ix4 0 0 d s from by blk_ext [r0_26], vt_apply]
      pointwise [k0_pay63, pay62_apply]
      exact Finset.sum_congr rfl fun k _ => congrArg (fun z : EReal => x3 (ix2 ⟨2048 + d, _⟩ k) * z) (row_at x0 x1 x2 0 s k _ (by simp) _ _)
  exact View.canon_apply_of_pieces (vt x0 x1 x2 x3) _ hp.mem y (cover0_7 _ _ _ _ y)

end Out

end Cert.MlstmInCtxIdeal.Unit
-- ==== Proof.MinCtxRef.lean ====
module
public import proofs.«01_k».proof.Proof.Gen.MlstmInCtxRefIdeal.Run
public import Idealize.ShloMosaic.Lib.Pipeline.ValueKit
public import proofs.«01_k».proof.Proof.Norm
@[expose] public section

/-!
# The prompt's recurrence inputs: what the reference computes

The reference's four results at an index: the normalised rows projected to queries, scaled keys, values and output gate.
-/

set_option maxRecDepth 16384

noncomputable section

open Idealize.ShloMosaic Idealize.ShloMosaic.TcCoe Idealize.SL.Sem

namespace Cert.MlstmInCtxRefIdeal.Closed

open Cert.MlstmInCtxRefIdeal Cert.MlstmInCtxRefIdeal.Gen Attention

variable (X : FVec Ideal S16x256x1024 .f32) (MD : FVec Ideal S8x3x1024 .f32) (NW : FVec Ideal S1024 .f32) (W : FVec Ideal S1024x5152 .f32)

/-- The normalised and modulated rows. -/
def hR : FVec Ideal S16x256x1024 .f32 :=
  (addf (mulf (mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 NW))) (broadcastInDim S16x256x1024 ![0, 1, 2] bcast_S1x1x1024_S16x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 1, 0] (extractStridedSlice S1x3x1024 ![0, 0, 0] MD slices_S8x3x1024_S1x3x1024_0_0_0) slices_S1x3x1024_S1x1x1024_0_1_0) shapeCasts_S1x1x1024_S1x1024))))) (broadcastInDim S16x256x1024 ![0, 1, 2] bcast_S1x1x1024_S16x256x1024_0_1_2 (broadcastInDim S1x1x1024 ![0, 2] bcast_S1x1024_S1x1x1024_0_2 (shapeCast _ (extractStridedSlice S1x1x1024 ![0, 0, 0] (extractStridedSlice S1x3x1024 ![0, 0, 0] MD slices_S8x3x1024_S1x3x1024_0_0_0) slices_S1x3x1024_S1x1x1024_0_0_0) shapeCasts_S1x1x1024_S1x1024))))

/-- The projection. -/
def pR (h : FVec Ideal S16x256x1024 .f32) : FVec Ideal S16x256x5152 .f32 :=
  (Host.dotGeneral dot_S16x256x1024_S1024x5152_S16x256x5152_2_0_01_1_n_n none h W)

/-- The queries. -/
def qR (p : FVec Ideal S16x256x5152 .f32) : FVec Ideal S16x256x1024 .bf16 :=
  truncf .bf16 (extractStridedSlice S16x256x1024 ![0, 0, 0] p slices_S16x256x5152_S16x256x1024_0_0_0) bitsLt_bf16_f32

/-- The scaled keys. -/
def kR (p : FVec Ideal S16x256x5152 .f32) : FVec Ideal S16x256x1024 .bf16 :=
  truncf .bf16 (mulf (extractStridedSlice S16x256x1024 ![0, 0, 1024] p slices_S16x256x5152_S16x256x1024_0_0_1024) (broadcastInDim S16x256x1024 ![] bcast_S_S16x256x1024 (constant S_ .f32 0x3DB504F3#32))) bitsLt_bf16_f32

/-- The values, in chunks of 256 rows, each transposed. -/
def vR (p : FVec Ideal S16x256x5152 .f32) : FVec Ideal S16x1x1024x256 .bf16 :=
  truncf .bf16 (transpose S16x1x1024x256 [0, 1, 3, 2] (shapeCast _ (extractStridedSlice S16x256x1024 ![0, 0, 2048] p slices_S16x256x5152_S16x256x1024_0_0_2048) shapeCasts_S16x256x1024_S16x1x256x1024) transposes_S16x1x256x1024_S16x1x1024x256_0_1_3_2) bitsLt_bf16_f32

/-- The output gate. -/
def oR (p : FVec Ideal S16x256x5152 .f32) : FVec Ideal S16x256x1024 .bf16 :=
  truncf .bf16 (mulf (Host.divf (broadcastInDim S16x256x1024 ![] bcast_S_S16x256x1024 (constant S_ .f32 0x3F800000#32)) (addf (broadcastInDim S16x256x1024 ![] bcast_S_S16x256x1024 (constant S_ .f32 0x3F800000#32)) (Host.exp (Host.negf (extractStridedSlice S16x256x1024 ![0, 0, 3072] p slices_S16x256x5152_S16x256x1024_0_0_3072))))) (mulf (extractStridedSlice S16x256x1024 ![0, 0, 4096] p slices_S16x256x5152_S16x256x1024_0_0_4096) (Host.divf (broadcastInDim S16x256x1024 ![] bcast_S_S16x256x1024 (constant S_ .f32 0x3F800000#32)) (addf (broadcastInDim S16x256x1024 ![] bcast_S_S16x256x1024 (constant S_ .f32 0x3F800000#32)) (Host.exp (Host.negf (extractStridedSlice S16x256x1024 ![0, 0, 4096] p slices_S16x256x5152_S16x256x1024_0_0_4096))))))) bitsLt_bf16_f32

/-- The normalised row `r` of request `b`. -/
def row (b : Fin 16) (r : Fin 256) : Fin 1024 → EReal :=
  normed (fun j => X (ix3 b r j)) (fun j => NW (ix1 j)) (fun j => MD (ix3 0 1 j)) (fun j => MD (ix3 0 0 j))

theorem hR_apply (b : Fin 16) (r : Fin 256) (l : Fin 1024) : hR X MD NW (ix3 b r l) = row X MD NW b r l := by
  unfold row normed
  pointwise [hR]

theorem pR_apply (b : Fin 16) (r : Fin 256) (l : Fin 5152) : pR W (hR X MD NW) (ix3 b r l) = ∑ k : Fin 1024, row X MD NW b r k * W (ix2 k l) := by
  pointwise [pR, hR_apply]

theorem q_apply (b : Fin 16) (r : Fin 256) (l : Fin 1024) : qR (pR W (hR X MD NW)) (ix3 b r l)
    = ∑ k : Fin 1024, row X MD NW b r k * W (ix2 k ⟨l, by omega⟩) := by
  pointwise [qR, pR_apply]

theorem k_apply (b : Fin 16) (r : Fin 256) (l : Fin 1024) : kR (pR W (hR X MD NW)) (ix3 b r l)
    = (∑ k : Fin 1024, row X MD NW b r k * W (ix2 k ⟨1024 + l, by omega⟩)) * Ideal.ofBits .f32 0x3DB504F3#32 := by
  pointwise [kR, pR_apply]

theorem v_apply (b : Fin 16) (c : Fin 1) (l : Fin 1024) (s : Fin 256) : vR (pR W (hR X MD NW)) (ix4 b c l s)
    = ∑ k : Fin 1024, row X MD NW b ⟨c * 256 + s, by omega⟩ k * W (ix2 k ⟨2048 + l, by omega⟩) := by
  pointwise [vR, pR_apply]

theorem o_apply (b : Fin 16) (r : Fin 256) (l : Fin 1024) : oR (pR W (hR X MD NW)) (ix3 b r l)
    = Ideal.logistic (∑ k : Fin 1024, row X MD NW b r k * W (ix2 k ⟨3072 + l, by omega⟩))
      * ((∑ k : Fin 1024, row X MD NW b r k * W (ix2 k ⟨4096 + l, by omega⟩))
        * Ideal.logistic (∑ k : Fin 1024, row X MD NW b r k * W (ix2 k ⟨4096 + l, by omega⟩))) := by
  unfold Ideal.logistic
  pointwise [oR, pR_apply]

/-- The projection of the reference's arguments on a device. -/
def proj (m : (ℓ : Loc nD τ sig) → Buf (Elt Ideal) ℓ) (c : Dev nD) : FVec Ideal S16x256x5152 .f32 :=
  pR (m ((c.tc : Thread nD τ).loc main_arg3))
    (hR (m ((c.tc : Thread nD τ).loc main_arg0)) (m ((c.tc : Thread nD τ).loc main_arg1)) (m ((c.tc : Thread nD τ).loc main_arg2)))

/-- The reference's run, its four results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = qR (proj m c)
      ∧ r.2.mem ((c.tc : Thread nD τ).loc main_v44) = kR (proj m c)
      ∧ r.2.mem ((c.tc : Thread nD τ).loc main_v46) = vR (proj m c)
      ∧ r.2.mem ((c.tc : Thread nD τ).loc main_v47) = oR (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (by sl_kernel_rfl), (h c).2.1.trans (by sl_kernel_rfl), (h c).2.2.1.trans (by sl_kernel_rfl),
    (h c).2.2.2.1.trans (by sl_kernel_rfl), (h c).2.2.2.2⟩) (Value.run m ρ)

end Cert.MlstmInCtxRefIdeal.Closed
-- ==== Proof.MinCtxValue.lean ====
module
public import proofs.«01_k».proof.Proof.MinCtxUnit
public import proofs.«01_k».proof.Proof.MinCtxRef
public import proofs.«01_k».proof.Proof.Gen.MlstmInCtxIdeal.Value
@[expose] public section

/-!
# The prompt's recurrence inputs: the kernel's results

After all grid points each of the four result arrays is the reference's.
-/

set_option maxRecDepth 16384

noncomputable section

open Idealize.ShloMosaic Idealize.ShloMosaic.TcCoe Idealize.SL.Sem
open Idealize.ShloMosaic.Pipeline (Dat)

namespace Cert.MlstmInCtxIdeal.Unit

open Cert.MlstmInCtxIdeal Cert.MlstmInCtxIdeal.Gen Attention
open Cert.MlstmInCtxRefIdeal.Closed (hR pR qR kR vR oR)

variable (m : (ℓ : Loc nD τ sig) → Buf (Elt Ideal) ℓ)

/-- The projection of the kernel's arguments on a device, as the reference computes it. -/
def proj (c : Dev nD) : FVec Ideal Cert.MlstmInCtxRefIdeal.S16x256x5152 .f32 :=
  pR (m ((c.tc : Thread nD τ).loc main_arg3))
    (hR (m ((c.tc : Thread nD τ).loc main_arg0)) (m ((c.tc : Thread nD τ).loc main_arg1)) (m ((c.tc : Thread nD τ).loc main_arg2)))

theorem idx : ∀ t : Fin cfg0.N, win0_0.index t = ![t.val, 0, 0] ∧ win0_1.index t = ![0, 0, 0] ∧ win0_2.index t = ![0, 0]
    ∧ win0_3.index t = ![0, 0] ∧ win0_4.index t = ![0, 0] ∧ win0_5.index t = ![t.val, 0, 0] ∧ win0_6.index t = ![t.val, 0, 0]
    ∧ win0_7.index t = ![t.val, 0, 0, 0] ∧ win0_8.index t = ![t.val, 0, 0] :=
  (by decide +kernel : ∀ t : Fin grid0.N, _)

/-- A block of transposed values' index: its request, coordinate and row. -/
theorem split4 (y : S4x1x1024x256.Idx) : ∃ (b : Fin 4) (d : Fin 1024) (s : Fin 256), y = ix4 b 0 d s := ⟨y 0, y 2, y 3, by
  refine (eq_ix4 y).trans ?_
  congr 1
  exact Subsingleton.elim (α := Fin 1) _ _⟩

/-- The queries. -/
theorem final5 (c : Dev nD) : (dats m 0 c).arrAt 5 (cfgs 0).N = qR (proj m c) := by
  refine (dats m 0 c).arrAt_eq_of_covers 5 _ (by decide +kernel) fun t _ y => ?_
  blk_simp
  rw [after0_5]
  obtain ⟨b, r, l, rfl⟩ : ∃ (b : Fin 4) (r : Fin 256) (l : Fin 1024), y = ix3 b r l := ⟨y 0, y 1, y 2, eq_ix3 y⟩
  have ht : t.val < 4 := t.isLt
  have hb : b.val < 4 := b.isLt
  have e : ((cfg0.win 5).blk t).view.emb (ix3 b r l) = ix3 (⟨4 * t.val + b.val, by omega⟩ : Fin 16) r l := by blk_ext [idx t]
  refine (out5_apply _ _ _ _ _ b r l).trans ?_
  rw [e]
  refine Eq.trans ?_ (Cert.MlstmInCtxRefIdeal.Closed.q_apply _ _ _ _ ⟨4 * t.val + b.val, by omega⟩ r l).symm
  unfold hrow Cert.MlstmInCtxRefIdeal.Closed.row
  blk_point [iblk, V, idx t]

/-- The scaled keys. -/
theorem final6 (c : Dev nD) : (dats m 0 c).arrAt 6 (cfgs 0).N = kR (proj m c) := by
  refine (dats m 0 c).arrAt_eq_of_covers 6 _ (by decide +kernel) fun t _ y => ?_
  blk_simp
  rw [after0_6]
  obtain ⟨b, r, l, rfl⟩ : ∃ (b : Fin 4) (r : Fin 256) (l : Fin 1024), y = ix3 b r l := ⟨y 0, y 1, y 2, eq_ix3 y⟩
  have ht : t.val < 4 := t.isLt
  have hb : b.val < 4 := b.isLt
  have e : ((cfg0.win 6).blk t).view.emb (ix3 b r l) = ix3 (⟨4 * t.val + b.val, by omega⟩ : Fin 16) r l := by blk_ext [idx t]
  refine (out6_apply _ _ _ _ _ b r l).trans ?_
  rw [e]
  refine Eq.trans ?_ (Cert.MlstmInCtxRefIdeal.Closed.k_apply _ _ _ _ ⟨4 * t.val + b.val, by omega⟩ r l).symm
  unfold hrow Cert.MlstmInCtxRefIdeal.Closed.row
  blk_point [iblk, V, idx t]

/-- The output gate. -/
theorem final8 (c : Dev nD) : (dats m 0 c).arrAt 8 (cfgs 0).N = oR (proj m c) := by
  refine (dats m 0 c).arrAt_eq_of_covers 8 _ (by decide +kernel) fun t _ y => ?_
  blk_simp
  rw [after0_8]
  obtain ⟨b, r, l, rfl⟩ : ∃ (b : Fin 4) (r : Fin 256) (l : Fin 1024), y = ix3 b r l := ⟨y 0, y 1, y 2, eq_ix3 y⟩
  have ht : t.val < 4 := t.isLt
  have hb : b.val < 4 := b.isLt
  have e : ((cfg0.win 8).blk t).view.emb (ix3 b r l) = ix3 (⟨4 * t.val + b.val, by omega⟩ : Fin 16) r l := by blk_ext [idx t]
  refine (out8_apply _ _ _ _ _ b r l).trans ?_
  rw [e]
  refine Eq.trans ?_ (Cert.MlstmInCtxRefIdeal.Closed.o_apply _ _ _ _ ⟨4 * t.val + b.val, by omega⟩ r l).symm
  unfold hrow Cert.MlstmInCtxRefIdeal.Closed.row
  blk_point [iblk, V, idx t]

/-- The transposed values. -/
theorem final7 (c : Dev nD) : (dats m 0 c).arrAt 7 (cfgs 0).N = vR (proj m c) := by
  refine (dats m 0 c).arrAt_eq_of_covers 7 _ (by decide +kernel) fun t _ y => ?_
  blk_simp
  rw [after0_7]
  obtain ⟨b, d, s, rfl⟩ := split4 y
  have ht : t.val < 4 := t.isLt
  have hb : b.val < 4 := b.isLt
  have e : ((cfg0.win 7).blk t).view.emb (ix4 b 0 d s) = ix4 (⟨4 * t.val + b.val, by omega⟩ : Fin 16) (0 : Fin 1) d s := by blk_ext [idx t]
  refine (out7_apply _ _ _ _ _ _).trans ?_
  rw [e]
  refine Eq.trans ?_ (Cert.MlstmInCtxRefIdeal.Closed.v_apply _ _ _ _ ⟨4 * t.val + b.val, by omega⟩ 0 d s).symm
  rw [vt_apply]
  refine Finset.sum_congr rfl fun k _ => (mul_comm _ _).trans ?_
  unfold hrow Cert.MlstmInCtxRefIdeal.Closed.row
  blk_point [iblk, V, idx t]

/-- The kernel's run, its four results named. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = qR (proj m c)
      ∧ r.2.mem ((c.tc : Thread nD τ).loc main_v3_1) = kR (proj m c)
      ∧ r.2.mem ((c.tc : Thread nD τ).loc main_v3_2) = vR (proj m c)
      ∧ r.2.mem ((c.tc : Thread nD τ).loc main_v3_3) = oR (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2.2.2⟩) (Value.run_blocks m ρ)

end Cert.MlstmInCtxIdeal.Unit
-- ==== Proof.MinCtxClaim.lean ====
module
public import proofs.«01_k».proof.Proof.MinCtxValue
public import proofs.«01_k».proof.Defs
@[expose] public section

/-!
# The prompt's recurrence inputs: its claim

The kernel's four results equal the reference's over the extended reals, whatever the arguments.
-/

set_option maxRecDepth 16384

noncomputable section

open Idealize.ShloMosaic Idealize.ShloMosaic.TcCoe Idealize.SL.Sem

namespace Cert.Proof

theorem min_ctx_algebraic : algebraic_MlstmInCtxIdeal_MlstmInCtxRefIdeal := by
  intro m ρ m' ρ' _ hag
  have e : ∀ c, Cert.MlstmInCtxRefIdeal.Closed.proj m' c = Cert.MlstmInCtxIdeal.Unit.proj m c := fun c => by
    obtain ⟨h0, h1, h2, h3, h4⟩ := hag c
    unfold Cert.MlstmInCtxRefIdeal.Closed.proj Cert.MlstmInCtxIdeal.Unit.proj
    rw [h0, h1, h2, h3]
  refine ⟨_, _, _, _, Cert.MlstmInCtxIdeal.Unit.run m ρ, ?_⟩
  have h := Cert.MlstmInCtxRefIdeal.Closed.run m' ρ'
  simp only [e] at h
  exact h

end Cert.Proof

end
-- ==== Proof.AdaValue.lean ====
module
public import proofs.«01_k».proof.Proof.Gen.AdaRefIdeal.Run
public import proofs.«01_k».proof.Proof.Gen.AdaIdeal.Value
public import Idealize.ShloMosaic.Lib.Pipeline.ValueKit
@[expose] public section

/-!
# The modulation

The kernel's and the reference's result at an index, and that the kernel's result array is the reference's.
-/

set_option maxRecDepth 16384

noncomputable section

open Idealize.ShloMosaic Idealize.ShloMosaic.TcCoe Idealize.SL.Sem
open Idealize.ShloMosaic.Pipeline (Dat)

namespace Cert.AdaRefIdeal.Closed

open Cert.AdaRefIdeal Cert.AdaRefIdeal.Gen

variable (C : FVec Ideal S4x1024 .f32) (CC : FVec Ideal S1024 .f32) (W : FVec Ideal S1024x3072 .f32) (B : FVec Ideal S3072 .f32)

/-- The conditioning vectors: the context's, the four samples', and three rows of zeros. -/
def vecs : FVec Ideal S8x1024 .f32 :=
  (concatenate S8x1024 0 [⟨S1x1024, ((broadcastInDim S1x1024 ![1] bcast_S1024_S1x1024_1 CC) : FVec Ideal S1x1024 .f32)⟩, ⟨S4x1024, (C : FVec Ideal S4x1024 .f32)⟩, ⟨S3x1024, ((broadcastInDim S3x1024 ![] bcast_S_S3x1024 (constant S_ .f32 0x00000000#32 : FVec Ideal S_ .f32)) : FVec Ideal S3x1024 .f32)⟩] concatenates_S1x1024_S4x1024_S3x1024_S8x1024_d0 : FVec Ideal S8x1024 .f32)

/-- The modulation of the conditioning vectors `x`. -/
def modR (x : FVec Ideal S8x1024 .f32) : FVec Ideal S8x3072 .f32 :=
  addf (Host.dotGeneral dot_S8x1024_S1024x3072_S8x3072_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) W) (broadcastInDim S8x3072 ![0, 1] bcast_S1x3072_S8x3072_0_1 (broadcastInDim S1x3072 ![1] bcast_S3072_S1x3072_1 B))

theorem mod_apply (x : FVec Ideal S8x1024 .f32) (r : Fin 8) (l : Fin 3072) : modR W B x (ix2 r l)
    = (∑ k : Fin 1024, x (ix2 r k) * Ideal.logistic (x (ix2 r k)) * W (ix2 k l)) + B (ix1 l) := by
  unfold Ideal.logistic
  pointwise [modR]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = modR (m ((c.tc : Thread nD τ).loc main_arg2)) (m ((c.tc : Thread nD τ).loc main_arg3))
          (vecs (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (by sl_kernel_rfl), (h c).2⟩) (Value.run m ρ)

end Cert.AdaRefIdeal.Closed

namespace Cert.AdaIdeal.Unit

open Cert.AdaIdeal Cert.AdaIdeal.Gen
open Cert.AdaRefIdeal.Closed (vecs modR)

theorem zero2 : (![0, 0] : Fin 2 → ℕ) = fun _ => 0 := by funext a; fin_cases a <;> rfl

/-- What a grid point stores. -/
theorem out_apply (x0 : Vec Ideal S8x1024 .f32) (x1 : Vec Ideal S1024x1024 .f32) (x2 : Vec Ideal S1x1024 .f32) (r : Fin 8) (l : Fin 1024) :
    out0_3 x0 x1 x2 (ix2 r l) = (∑ k : Fin 1024, x0 (ix2 r k) * Ideal.logistic (x0 (ix2 r k)) * x1 (ix2 k l)) + x2 (ix2 0 l) := by
  unfold out0_3
  rw [View.canon_unit_zero (h := zero2), show View.ld x0 r0_0 = x0 from View.ld_unit_zero zero2 _ x0,
    show View.ld x1 r0_1 = x1 from View.ld_unit_zero zero2 _ x1, show View.ld x2 r0_2 = x2 from View.ld_unit_zero zero2 _ x2]
  pointwise [k0_pay1]

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The kernel's conditioning vectors are the reference's. -/
theorem vecs_eq (c : Dev nD) : V m c main_v2 = vecs (m ((c.tc : Thread nD τ).loc main_arg0)) (m ((c.tc : Thread nD τ).loc main_arg1)) := by
  sl_kernel_rfl

/-- The kernel's result array is the reference's. -/
theorem final (c : Dev nD) : (dats m 0 c).arrAt 3 (cfgs 0).N = modR (m ((c.tc : Thread nD τ).loc main_arg2)) (m ((c.tc : Thread nD τ).loc main_arg3))
    (vecs (m ((c.tc : Thread nD τ).loc main_arg0)) (m ((c.tc : Thread nD τ).loc main_arg1))) := by
  rw [← vecs_eq]
  refine (dats m 0 c).arrAt_eq_of_covers 3 _ (by decide +kernel) fun t _ y => ?_
  blk_simp
  rw [after0_3]
  obtain ⟨r, l, rfl⟩ : ∃ (r : Fin 8) (l : Fin 1024), y = ix2 r l := ⟨y 0, y 1, eq_ix2 y⟩
  have ht : t.val < 3 := t.isLt
  have e : ((cfg0.win 3).blk t).view.emb (ix2 r l) = ix2 r (⟨t.val * 1024 + l.val, by omega⟩ : Fin 3072) := by blk_ext [idx t]
  refine (out_apply _ _ _ r l).trans ?_
  rw [e]
  refine Eq.trans ?_ (Cert.AdaRefIdeal.Closed.mod_apply _ _ _ r ⟨t.val * 1024 + l.val, by omega⟩).symm
  generalize hx : V m c main_v2 = x
  blk_point [iblk, idx t, hx]

end Cert.AdaIdeal.Unit
-- ==== Proof.AdaClaim.lean ====
module
public import proofs.«01_k».proof.Proof.AdaValue
public import proofs.«01_k».proof.Defs
@[expose] public section

/-!
# The modulation's claim

The kernel's result equals the reference's over the extended reals, whatever the arguments.
-/

noncomputable section

open Idealize.ShloMosaic Idealize.SL.Sem

namespace Cert.Proof

theorem ada_algebraic : algebraic_AdaIdeal_AdaRefIdeal := by
  intro m ρ m' ρ' _ hag
  refine ⟨_, (θ_run _ _ _).mono (fun _ h c => ⟨(h c).1.trans (Cert.AdaIdeal.Unit.final m c), (h c).2⟩) (Cert.AdaIdeal.Value.run_blocks m ρ),
    (θ_run _ _ _).mono (fun _ h c => ⟨(h c).1.trans ?_, (h c).2⟩) (Cert.AdaRefIdeal.Closed.run m' ρ')⟩
  obtain ⟨h0, h1, h2, h3⟩ := hag c
  rw [h0, h1, h2, h3]

end Cert.Proof

end
-- ==== Proof.CacheUnit.lean ====
module
public import proofs.«01_k».proof.Proof.Gen.CacheIdeal.Frame
public import proofs.«01_k».proof.Proof.Norm
public import Idealize.ShloMosaic.Lib.Pipeline.ReadBack
public import Idealize.ShloMosaic.Lib.Pipeline.ValueKit
@[expose] public section

/-!
# The new cache: what a grid point of each call stores

The modulation's block in closed form, and the keys and values of four requests over the projection's input blocks.
-/

set_option maxRecDepth 16384

noncomputable section

open Idealize.ShloMosaic Idealize.ShloMosaic.TcCoe Idealize.SL.Sem

namespace Cert.CacheIdeal.Unit

open Cert.CacheIdeal Cert.CacheIdeal.Gen Attention

theorem zero2 : (![0, 0] : Fin 2 → ℕ) = fun _ => 0 := by funext a; fin_cases a <;> rfl

theorem zero3 : (![0, 0, 0] : Fin 3 → ℕ) = fun _ => 0 := by funext a; fin_cases a <;> rfl

/-- What a grid point of the modulation's call stores. -/
theorem mod_apply (x0 : Vec Ideal S8x1024 .f32) (x1 : Vec Ideal S1024x1024 .f32) (x2 : Vec Ideal S1x1024 .f32) (r : Fin 8) (l : Fin 1024) :
    out0_3 x0 x1 x2 (ix2 r l) = (∑ k : Fin 1024, x0 (ix2 r k) * Ideal.logistic (x0 (ix2 r k)) * x1 (ix2 k l)) + x2 (ix2 0 l) := by
  unfold out0_3
  rw [View.canon_unit_zero (h := zero2), show View.ld x0 r0_0 = x0 from View.ld_unit_zero zero2 _ x0,
    show View.ld x1 r0_1 = x1 from View.ld_unit_zero zero2 _ x1, show View.ld x2 r0_2 = x2 from View.ld_unit_zero zero2 _ x2]
  pointwise [k0_pay1]

/-- The normalised row `r` of request `b` of a grid point's four requests. -/
def hrow (x0 : Vec Ideal S4x256x1024 .f32) (x1 : Vec Ideal S1x3x1024 .f32) (x2 : Vec Ideal S1x1024 .f32) (b : Fin 4) (r : Fin 256) : Fin 1024 → EReal :=
  normed (fun j => x0 (ix3 b r j)) (fun j => x2 (ix2 0 j)) (fun j => x1 (ix3 0 1 j)) (fun j => x1 (ix3 0 0 j))

/-- The normalised rows. -/
theorem h_apply (v0 : Vec Ideal S4x256x1024 .f32) (v2 : Vec Ideal S1x1024 .f32) (v4 : Vec Ideal S1x3x1024 .f32) (i l : Fin 1024) :
    k1_pay3 v0 v2 v4 (ix2 i l) = hrow v0 v4 v2 ⟨i / 256, by omega⟩ ⟨i % 256, by omega⟩ l := by
  unfold hrow normed
  pointwise [k1_pay3]

section Out
variable (x0 : Vec Ideal S4x256x1024 .f32) (x1 : Vec Ideal S1x3x1024 .f32) (x2 : Vec Ideal S1x1024 .f32) (x3 : Vec Ideal S1024x2560 .f32)
  (x4 : Vec Ideal S256x1024 .f32)

theorem ld0 : View.ld x0 r1_0 = x0 := View.ld_unit_zero zero3 _ x0

theorem ld1 : View.ld x1 r1_2 = x1 := View.ld_unit_zero zero3 _ x1

theorem ld2 : View.ld x2 r1_1 = x2 := View.ld_unit_zero zero2 _ x2

/-- The row at flat position `256 b + r` is row `r` of request `b`. -/
theorem row_eq (b : Fin 4) (r : Fin 256) (l : Fin 1024) (h1 : (b.val * 256 + r.val) / 256 < 4) (h2 : (b.val * 256 + r.val) % 256 < 256) :
    hrow x0 x1 x2 ⟨(b.val * 256 + r.val) / 256, h1⟩ ⟨(b.val * 256 + r.val) % 256, h2⟩ l = hrow x0 x1 x2 b r l := by
  congr 1
  · exact Fin.ext (by simp only; omega)
  · exact Fin.ext (by simp only; omega)

/-- The keys a grid point stores. -/
theorem out7_apply (b : Fin 4) (r : Fin 256) (l : Fin 256) : out1_7 x0 x1 x2 x3 x4 (ix3 b r l)
    = ∑ k : Fin 1024, hrow x0 x1 x2 b r k * x3 (ix2 k ⟨2048 + l, by omega⟩) := by
  unfold out1_7
  rw [View.canon_unit_zero (h := zero3), ld0, ld1, ld2]
  pointwise [k1_pay10, k1_pay6, h_apply]
  simp only [row_eq]

/-- The values a grid point stores. -/
theorem out9_apply (b : Fin 4) (r : Fin 256) (l : Fin 256) : out1_9 x0 x1 x2 x3 x4 (ix3 b r l)
    = ∑ k : Fin 1024, hrow x0 x1 x2 b r k * x3 (ix2 k ⟨2304 + l, by omega⟩) := by
  unfold out1_9
  rw [View.canon_unit_zero (h := zero3)]
  unfold k1_pay16
  rw [ld0, ld1, ld2]
  pointwise [k1_pay2, h_apply]
  simp only [row_eq]

end Out

end Cert.CacheIdeal.Unit
-- ==== Proof.CacheRef.lean ====
module
public import proofs.«01_k».proof.Proof.Gen.CacheRefIdeal.Run
public import Idealize.ShloMosaic.Lib.Pipeline.ValueKit
public import proofs.«01_k».proof.Proof.Norm
@[expose] public section

/-!
# The new cache: what the reference computes

The context's modulation, and the reference's keys and values at an index over the layer's own arguments.
-/

set_option maxRecDepth 16384

noncomputable section

open Idealize.ShloMosaic Idealize.ShloMosaic.TcCoe Idealize.SL.Sem

namespace Cert.CacheRefIdeal.Closed

open Cert.CacheRefIdeal Cert.CacheRefIdeal.Gen Attention

variable (X : FVec Ideal S16x256x1024 .f32) (CC : FVec Ideal S1024 .f32) (NW : FVec Ideal S1x1024 .f32)
  (AW : FVec Ideal S1x1024x3072 .f32) (AB : FVec Ideal S1x3072 .f32) (W : FVec Ideal S1x1024x2560 .f32)

/-- The context's modulation: shift, scale and gate side by side. -/
def modR : FVec Ideal S1x3072 .f32 :=
  (addf (Host.dotGeneral dot_S1x1024_S1024x3072_S1x3072_1_0_0_1_n_n none (mulf (broadcastInDim S1x1024 ![1] bcast_S1024_S1x1024_1 CC) (Host.divf (broadcastInDim S1x1024 ![] bcast_S_S1x1024 (constant S_ .f32 0x3F800000#32)) (addf (broadcastInDim S1x1024 ![] bcast_S_S1x1024 (constant S_ .f32 0x3F800000#32)) (Host.exp (Host.negf (broadcastInDim S1x1024 ![1] bcast_S1024_S1x1024_1 CC)))))) (shapeCast _ AW shapeCasts_S1x1024x3072_S1024x3072)) (broadcastInDim S1x3072 ![1] bcast_S3072_S1x3072_1 (shapeCast _ AB shapeCasts_S1x3072_S3072)))

/-- The normalised rows, modulated by `M`. -/
def hR (M : FVec Ideal S1x3072 .f32) : FVec Ideal S16x256x1024 .f32 :=
  (addf (mulf (mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ NW shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (broadcastInDim S1x1x1024 ![0, 2] bcast_S1x1024_S1x1x1024_0_2 (extractStridedSlice S1x1024 ![0, 1024] M slices_S1x3072_S1x1024_0_1024))))) (broadcastInDim S16x256x1024 ![0, 1, 2] bcast_S1x1x1024_S16x256x1024_0_1_2 (broadcastInDim S1x1x1024 ![0, 2] bcast_S1x1024_S1x1x1024_0_2 (extractStridedSlice S1x1024 ![0, 0] M slices_S1x3072_S1x1024_0_0))))

/-- The projection. -/
def pR (h : FVec Ideal S16x256x1024 .f32) : FVec Ideal S16x256x2560 .f32 :=
  (Host.dotGeneral dot_S16x256x1024_S1024x2560_S16x256x2560_2_0_01_1_n_n none h (shapeCast _ W shapeCasts_S1x1024x2560_S1024x2560))

/-- The keys. -/
def kR (p : FVec Ideal S16x256x2560 .f32) : FVec Ideal S16x256x256 .f32 :=
  extractStridedSlice S16x256x256 ![0, 0, 2048] p slices_S16x256x2560_S16x256x256_0_0_2048

/-- The values. -/
def vR (p : FVec Ideal S16x256x2560 .f32) : FVec Ideal S16x256x256 .f32 :=
  extractStridedSlice S16x256x256 ![0, 0, 2304] p slices_S16x256x2560_S16x256x256_0_0_2304

/-- Rows split into heads, the layer's axis put in front. -/
def heads (x : FVec Ideal S16x256x256 .f32) : FVec Ideal S16x1x256x4x64 .f32 :=
  broadcastInDim S16x1x256x4x64 ![0, 2, 3, 4] bcast_S16x256x4x64_S16x1x256x4x64_0_2_3_4 (shapeCast _ x shapeCasts_S16x256x256_S16x256x4x64)

theorem mod_apply (l : Fin 3072) : modR CC AW AB (ix2 0 l)
    = (∑ k : Fin 1024, CC (ix1 k) * Ideal.logistic (CC (ix1 k)) * AW (ix3 0 k l)) + AB (ix2 0 l) := by
  unfold Ideal.logistic
  pointwise [modR]

/-- The normalised row `r` of request `b`. -/
def row (M : FVec Ideal S1x3072 .f32) (b : Fin 16) (r : Fin 256) : Fin 1024 → EReal :=
  normed (fun j => X (ix3 b r j)) (fun j => NW (ix2 0 j)) (fun j => M (ix2 0 ⟨1024 + j.val, by omega⟩)) (fun j => M (ix2 0 ⟨j.val, by omega⟩))

theorem hR_apply (M : FVec Ideal S1x3072 .f32) (b : Fin 16) (r : Fin 256) (l : Fin 1024) : hR X NW M (ix3 b r l) = row X NW M b r l := by
  unfold row normed
  pointwise [hR]

theorem pR_apply (M : FVec Ideal S1x3072 .f32) (b : Fin 16) (r : Fin 256) (l : Fin 2560) :
    pR W (hR X NW M) (ix3 b r l) = ∑ k : Fin 1024, row X NW M b r k * W (ix3 0 k l) := by
  pointwise [pR, hR_apply]

theorem k_apply (M : FVec Ideal S1x3072 .f32) (b : Fin 16) (r : Fin 256) (l : Fin 256) : kR (pR W (hR X NW M)) (ix3 b r l)
    = ∑ k : Fin 1024, row X NW M b r k * W (ix3 0 k ⟨2048 + l, by omega⟩) := by
  pointwise [kR, pR_apply]

theorem v_apply (M : FVec Ideal S1x3072 .f32) (b : Fin 16) (r : Fin 256) (l : Fin 256) : vR (pR W (hR X NW M)) (ix3 b r l)
    = ∑ k : Fin 1024, row X NW M b r k * W (ix3 0 k ⟨2304 + l, by omega⟩) := by
  pointwise [vR, pR_apply]

/-- The projection of the reference's arguments on a device. -/
def proj (m : (ℓ : Loc nD τ sig) → Buf (Elt Ideal) ℓ) (c : Dev nD) : FVec Ideal S16x256x2560 .f32 :=
  pR (m ((c.tc : Thread nD τ).loc main_arg6))
    (hR (m ((c.tc : Thread nD τ).loc main_arg0)) (m ((c.tc : Thread nD τ).loc main_arg3))
      (modR (m ((c.tc : Thread nD τ).loc main_arg2)) (m ((c.tc : Thread nD τ).loc main_arg4)) (m ((c.tc : Thread nD τ).loc main_arg5))))

/-- The reference's run, its two results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = heads (kR (proj m c))
      ∧ r.2.mem ((c.tc : Thread nD τ).loc main_v39) = heads (vR (proj m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (by sl_kernel_rfl), (h c).2.1.trans (by sl_kernel_rfl), (h c).2.2⟩) (Value.run m ρ)

end Cert.CacheRefIdeal.Closed
-- ==== Proof.CacheHost.lean ====
module
public import proofs.«01_k».proof.Proof.CacheUnit
public import proofs.«01_k».proof.Proof.CacheRef
public import Idealize.ShloMosaic.Lib.StableHlo.ReadAt
public import Idealize.ShloMosaic.Lib.Pipeline.Value
@[expose] public section

/-!
# The new cache: the arrays each call is given

The first call's conditioning vectors, weights and bias, and the second call's modulation, norm weights and projection weights, each read
at an index.
-/

set_option maxRecDepth 16384

noncomputable section

open Idealize.ShloMosaic Idealize.ShloMosaic.TcCoe Idealize.SL.Sem
open Idealize.ShloMosaic.Pipeline (Dat)

namespace Cert.CacheIdeal.Unit

open Cert.CacheIdeal Cert.CacheIdeal.Gen Attention

variable (m : (ℓ : Loc nD τ sig) → Buf (Elt Ideal) ℓ) (ρ : Dev nD → PrngReg)

/-- The first conditioning vector is the context's. -/
theorem cond_apply (c : Dev nD) (k : Fin 1024) : W1 m ρ c (Proc.devRef .tc main_v2) (ix2 (0 : Fin 8) k) = m ((c.tc : Thread nD τ).loc main_arg2) (ix1 k) := by
  unfold W1
  after_reads_at
  after_reads_at

theorem adaw_apply (c : Dev nD) (k : Fin 1024) (l : Fin 3072) : W1 m ρ c (Proc.devRef .tc main_v3) (ix2 k l) = m ((c.tc : Thread nD τ).loc main_arg4) (ix3 0 k l) := by
  unfold W1
  after_reads_at

theorem adab_apply (c : Dev nD) (l : Fin 3072) : W1 m ρ c (Proc.devRef .tc main_v5) (ix2 0 l) = m ((c.tc : Thread nD τ).loc main_arg5) (ix2 0 l) := by
  unfold W1
  after_reads_at

theorem reshaped_apply (V : Valuation τ sig (Elt Ideal)) (s : Fin 3) (j : Fin 1024) :
    StableHlo.after hostOps1 V (Proc.devRef .tc main_v7) (ix3 (0 : Fin 8) s j) = V (Proc.devRef .tc main_v6) (ix2 (0 : Fin 8) ⟨s.val * 1024 + j.val, by omega⟩) := by
  after_reads_at

theorem norm_apply (c : Dev nD) (j : Fin 1024) : W3 m ρ c (Proc.devRef .tc main_v13) (ix2 0 j) = m ((c.tc : Thread nD τ).loc main_arg3) (ix2 0 j) := by
  refine Eq.trans ?_ (congrFun (W2_args m ρ c main_arg3 (by decide)) _)
  unfold W3
  after_reads_at

theorem win_apply (c : Dev nD) (k : Fin 1024) (n : Fin 2560) : W3 m ρ c (Proc.devRef .tc main_v9) (ix2 k n) = m ((c.tc : Thread nD τ).loc main_arg6) (ix3 0 k n) := by
  refine Eq.trans ?_ (congrFun (W2_args m ρ c main_arg6 (by decide)) _)
  unfold W3
  after_reads_at

end Cert.CacheIdeal.Unit
-- ==== Proof.CacheRun.lean ====
module
public import proofs.«01_k».proof.Proof.Gen.CacheIdeal.Frame
@[expose] public section

/-!
# The new cache: the run of both calls

Every buffer that outlives the two calls ends with the contents of the last segment boundary.
-/

set_option maxRecDepth 16384

noncomputable section

namespace Cert.CacheIdeal.Unit

open Cert.CacheIdeal Cert.CacheIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The whole run: each buffer ends at the contents of the last boundary. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c b hb => h c b hb)

/-- A result's buffer ends at the last boundary's contents. -/
theorem run_results : θ_run defs (onTc (τ := τ) (main (F := Ideal))) ⟨m, fun _ => 0, ρ⟩ fun r => ∀ c : Dev nD,
      r.2.mem ((c.tc : Thread nD τ).loc main_v15) = W5 m ρ c (Proc.devRef .tc main_v15)
      ∧ r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨h c _ (mem_uc main_v15 (by decide)), h c _ (mem_uc main_v16 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.CacheIdeal.Unit
-- ==== Proof.CacheValue.lean ====
module
public import proofs.«01_k».proof.Proof.CacheHost
public import proofs.«01_k».proof.Proof.CacheRun
@[expose] public section

/-!
# The new cache: the results

The first call leaves the context's modulation in row 0 of its array, the second call leaves the reference's keys and values, and the host
splits them into heads as the reference does.
-/

set_option maxRecDepth 16384

noncomputable section

open Idealize.ShloMosaic Idealize.ShloMosaic.TcCoe Idealize.SL.Sem
open Idealize.ShloMosaic.Pipeline (Dat)

namespace Cert.CacheIdeal.Unit

open Cert.CacheIdeal Cert.CacheIdeal.Gen Attention
open Cert.CacheRefIdeal.Closed (modR hR pR kR vR heads)

variable (m : (ℓ : Loc nD τ sig) → Buf (Elt Ideal) ℓ) (ρ : Dev nD → PrngReg)

theorem idx0 : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem idx1 : ∀ t : Fin cfg1.N, win1_0.index t = ![t.val, 0, 0] ∧ win1_1.index t = ![0, 0, 0] ∧ win1_2.index t = ![0, 0]
    ∧ win1_3.index t = ![0, 0] ∧ win1_4.index t = ![0, 0] ∧ win1_5.index t = ![t.val, 0, 0] ∧ win1_6.index t = ![t.val, 0, 0]
    ∧ win1_7.index t = ![t.val, 0, 0] ∧ win1_8.index t = ![t.val, 0, 0] ∧ win1_9.index t = ![t.val, 0, 0] :=
  (by decide +kernel : ∀ t : Fin grid1.N, _)

/-- The modulation of the vectors `x`, at every index. -/
def modAll (x : Vec Ideal S8x1024 .f32) (w : Vec Ideal S1024x3072 .f32) (b : Vec Ideal S1x3072 .f32) : Vec Ideal S8x3072 .f32 := fun y =>
  (∑ k : Fin 1024, x (ix2 (y 0) k) * Ideal.logistic (x (ix2 (y 0) k)) * w (ix2 k (y 1))) + b (ix2 0 (y 1))

theorem modAll_apply (x : Vec Ideal S8x1024 .f32) (w : Vec Ideal S1024x3072 .f32) (b : Vec Ideal S1x3072 .f32) (r : Fin 8) (l : Fin 3072) :
    modAll x w b (ix2 r l) = (∑ k : Fin 1024, x (ix2 r k) * Ideal.logistic (x (ix2 r k)) * w (ix2 k l)) + b (ix2 0 l) := rfl

/-- The first call's result array. -/
theorem final0 (V : (c : Dev nD) → (b : Ref sig .tc) → Buf (Elt Ideal) ((c : Thread nD τ).loc b)) (c : Dev nD) :
    (dat0 V c).arrAt 3 cfg0.N = modAll (V c main_v2) (V c main_v3) (V c main_v5) := by
  refine (dat0 V c).arrAt_eq_of_covers 3 _ (by decide +kernel) fun t _ y => ?_
  blk_simp
  rw [after0_3]
  obtain ⟨r, l, rfl⟩ : ∃ (r : Fin 8) (l : Fin 1024), y = ix2 r l := ⟨y 0, y 1, eq_ix2 y⟩
  have ht : t.val < 3 := t.isLt
  have e : ((cfg0.win 3).blk t).view.emb (ix2 r l) = ix2 r (⟨t.val * 1024 + l.val, by omega⟩ : Fin 3072) := by blk_ext [idx0 t]
  refine (mod_apply _ _ _ r l).trans ?_
  rw [e, modAll_apply]
  blk_point [iblk0, idx0 t]

/-- Row 0 of the first call's array is the context's modulation. -/
theorem mod_row (c : Dev nD) (l : Fin 3072) : W2 m ρ c (Proc.devRef .tc main_v6) (ix2 (0 : Fin 8) l)
    = modR (m ((c.tc : Thread nD τ).loc main_arg2)) (m ((c.tc : Thread nD τ).loc main_arg4)) (m ((c.tc : Thread nD τ).loc main_arg5)) (ix2 0 l) := by
  refine (congrFun ((W2_arr m ρ c 3).trans (final0 (V1 m ρ) c)) (ix2 (0 : Fin 8) l)).trans ?_
  refine Eq.trans ?_ (Cert.CacheRefIdeal.Closed.mod_apply _ _ _ l).symm
  refine (modAll_apply _ _ _ 0 l).trans ?_
  refine congrArg₂ (fun a b : EReal => a + b) (Finset.sum_congr rfl fun k _ => ?_) (adab_apply m ρ c l)
  exact congrArg₂ (fun a b : EReal => a * Ideal.logistic a * b) (cond_apply m ρ c k) (adaw_apply m ρ c k l)

/-- The second call's modulation. -/
theorem mod3_apply (c : Dev nD) (s : Fin 3) (j : Fin 1024) : W3 m ρ c (Proc.devRef .tc main_v7) (ix3 (0 : Fin 8) s j)
    = modR (m ((c.tc : Thread nD τ).loc main_arg2)) (m ((c.tc : Thread nD τ).loc main_arg4)) (m ((c.tc : Thread nD τ).loc main_arg5))
      (ix2 0 ⟨s.val * 1024 + j.val, by omega⟩) :=
  (reshaped_apply (W2 m ρ c) s j).trans (mod_row m ρ c _)

/-- The modulation of the kernel's arguments on a device, as the reference computes it. -/
def modulation (c : Dev nD) : FVec Ideal Cert.CacheRefIdeal.S1x3072 .f32 :=
  modR (m ((c.tc : Thread nD τ).loc main_arg2)) (m ((c.tc : Thread nD τ).loc main_arg4)) (m ((c.tc : Thread nD τ).loc main_arg5))

/-- The projection of the kernel's arguments on a device, as the reference computes it. -/
def proj (c : Dev nD) : FVec Ideal Cert.CacheRefIdeal.S16x256x2560 .f32 :=
  pR (m ((c.tc : Thread nD τ).loc main_arg6)) (hR (m ((c.tc : Thread nD τ).loc main_arg0)) (m ((c.tc : Thread nD τ).loc main_arg3)) (modulation m c))

/-- The request a grid point's row belongs to. -/
def req (t : Fin cfg1.N) (b : Fin 4) : Fin 16 := ⟨4 * t.val + b.val, by have : t.val < 4 := t.isLt; omega⟩

theorem blk0 (c : Dev nD) (t : Fin cfg1.N) (b : Fin 4) (r : Fin 256) (k : Fin 1024) :
    iblk1 (V3 m ρ) c 0 t (ix3 b r k) = m ((c.tc : Thread nD τ).loc main_arg0) (ix3 (req t b) r k) := by
  have e : ((cfg1.win 0).blk t).view.emb (ix3 b r k) = ix3 (req t b) r k := by blk_ext [idx1 t, req]
  blk_simp [iblk1]
  rw [e]
  exact congrFun (W3_args m ρ c main_arg0 (by decide)) _

theorem blk1 (c : Dev nD) (t : Fin cfg1.N) (s : Fin 3) (k : Fin 1024) :
    iblk1 (V3 m ρ) c 1 t (ix3 0 s k) = modulation m c (ix2 0 ⟨s.val * 1024 + k.val, by omega⟩) := by
  have e : ((cfg1.win 1).blk t).view.emb (ix3 0 s k) = ix3 (0 : Fin 8) s k := by blk_ext [idx1 t]
  blk_simp [iblk1]
  rw [e]
  exact mod3_apply m ρ c s k

theorem blk2 (c : Dev nD) (t : Fin cfg1.N) (k : Fin 1024) : iblk1 (V3 m ρ) c 2 t (ix2 0 k) = m ((c.tc : Thread nD τ).loc main_arg3) (ix2 0 k) := by
  have e : ((cfg1.win 2).blk t).view.emb (ix2 0 k) = ix2 0 k := by blk_ext [idx1 t]
  blk_simp [iblk1]
  rw [e]
  exact norm_apply m ρ c k

theorem blk3 (c : Dev nD) (t : Fin cfg1.N) (k : Fin 1024) (n : Fin 2560) :
    iblk1 (V3 m ρ) c 3 t (ix2 k n) = m ((c.tc : Thread nD τ).loc main_arg6) (ix3 0 k n) := by
  have e : ((cfg1.win 3).blk t).view.emb (ix2 k n) = ix2 k n := by blk_ext [idx1 t]
  blk_simp [iblk1]
  rw [e]
  exact win_apply m ρ c k n

/-- The normalised row of a grid point is the reference's. -/
theorem hrow_eq (c : Dev nD) (t : Fin cfg1.N) (b : Fin 4) (r : Fin 256) :
    hrow (iblk1 (V3 m ρ) c 0 t) (iblk1 (V3 m ρ) c 1 t) (iblk1 (V3 m ρ) c 2 t) b r
    = Cert.CacheRefIdeal.Closed.row (m ((c.tc : Thread nD τ).loc main_arg0)) (m ((c.tc : Thread nD τ).loc main_arg3)) (modulation m c) (req t b) r := by
  unfold hrow Cert.CacheRefIdeal.Closed.row
  simp only [blk0, blk1, blk2]
  simp

/-- The keys. -/
theorem final7 (c : Dev nD) : (dat1 (V3 m ρ) c).arrAt 7 cfg1.N = kR (proj m c) := by
  refine (dat1 (V3 m ρ) c).arrAt_eq_of_covers 7 _ (by decide +kernel) fun t _ y => ?_
  blk_simp
  rw [after1_7]
  obtain ⟨b, r, l, rfl⟩ : ∃ (b : Fin 4) (r : Fin 256) (l : Fin 256), y = ix3 b r l := ⟨y 0, y 1, y 2, eq_ix3 y⟩
  have e : ((cfg1.win 7).blk t).view.emb (ix3 b r l) = ix3 (req t b) r l := by blk_ext [idx1 t, req]
  refine (out7_apply _ _ _ _ _ b r l).trans ?_
  rw [e]
  refine Eq.trans ?_ (Cert.CacheRefIdeal.Closed.k_apply _ _ _ _ (req t b) r l).symm
  rw [hrow_eq]
  exact Finset.sum_congr rfl fun k _ => congrArg _ (blk3 m ρ c t k _)

/-- The values. -/
theorem final9 (c : Dev nD) : (dat1 (V3 m ρ) c).arrAt 9 cfg1.N = vR (proj m c) := by
  refine (dat1 (V3 m ρ) c).arrAt_eq_of_covers 9 _ (by decide +kernel) fun t _ y => ?_
  blk_simp
  rw [after1_9]
  obtain ⟨b, r, l, rfl⟩ : ∃ (b : Fin 4) (r : Fin 256) (l : Fin 256), y = ix3 b r l := ⟨y 0, y 1, y 2, eq_ix3 y⟩
  have e : ((cfg1.win 9).blk t).view.emb (ix3 b r l) = ix3 (req t b) r l := by blk_ext [idx1 t, req]
  refine (out9_apply _ _ _ _ _ b r l).trans ?_
  rw [e]
  refine Eq.trans ?_ (Cert.CacheRefIdeal.Closed.v_apply _ _ _ _ (req t b) r l).symm
  rw [hrow_eq]
  exact Finset.sum_congr rfl fun k _ => congrArg _ (blk3 m ρ c t k _)

/-- The host's reshape into heads is the reference's. -/
theorem heads_eq (x : FVec Ideal S16x256x256 .f32) : (shapeCast _ x shapeCasts_S16x256x256_S16x1x256x4x64 : FVec Ideal S16x1x256x4x64 .f32) = heads x := by
  funext y
  pointwise [heads]

theorem keys_eq (c : Dev nD) : W5 m ρ c (Proc.devRef .tc main_v15) = heads (kR (proj m c)) := by
  rw [← heads_eq, ← final7 m ρ c, ← W4_arr m ρ c 7]
  rfl

theorem vals_eq (c : Dev nD) : W5 m ρ c (Proc.devRef .tc main_v16) = heads (vR (proj m c)) := by
  rw [← heads_eq, ← final9 m ρ c, ← W4_arr m ρ c 9]
  rfl

/-- The kernel's run, its two results named. -/
theorem run : θ_run defs (onTc (τ := τ) (main (F := Ideal))) ⟨m, fun _ => 0, ρ⟩ fun r => ∀ c : Dev nD,
      r.2.mem ((c.tc : Thread nD τ).loc main_v15) = heads (kR (proj m c))
      ∧ r.2.mem ((c.tc : Thread nD τ).loc main_v16) = heads (vR (proj m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (keys_eq m ρ c), (h c).2.1.trans (vals_eq m ρ c), (h c).2.2⟩) (run_results m ρ)

end Cert.CacheIdeal.Unit
-- ==== Proof.CacheClaim.lean ====
module
public import proofs.«01_k».proof.Proof.CacheValue
public import proofs.«01_k».proof.Defs
@[expose] public section

/-!
# The new cache: its claim

The kernel's key and value cache equal the reference's over the extended reals, whatever the arguments.
-/

noncomputable section

open Idealize.ShloMosaic Idealize.SL.Sem

namespace Cert.Proof

theorem cache_algebraic : algebraic_CacheIdeal_CacheRefIdeal := by
  intro m ρ m' ρ' _ hag
  have e : ∀ c, Cert.CacheRefIdeal.Closed.proj m' c = Cert.CacheIdeal.Unit.proj m c := fun c => by
    obtain ⟨h0, h1, h2, h3, h4, h5, h6⟩ := hag c
    unfold Cert.CacheRefIdeal.Closed.proj Cert.CacheIdeal.Unit.proj Cert.CacheIdeal.Unit.modulation
    rw [h0, h2, h3, h4, h5, h6]
  refine ⟨_, _, Cert.CacheIdeal.Unit.run m ρ, ?_⟩
  have h := Cert.CacheRefIdeal.Closed.run m' ρ'
  simp only [e] at h
  exact h

end Cert.Proof

end
-- ==== Proof.lean ====
/- All claims, put together: the frames of the kernels and of their references, the named constants, and the value claims. -/
module

public import proofs.«01_k».proof.Proof.Gen.AttnWinIdeal.Value
public import proofs.«01_k».proof.Proof.Gen.AttnWinRefIdeal.Run
public import proofs.«01_k».proof.Proof.Gen.AttnCtxIdeal.Value
public import proofs.«01_k».proof.Proof.Gen.AttnCtxRefIdeal.Run
public import proofs.«01_k».proof.Proof.Gen.AttnWinRef.Run
public import proofs.«01_k».proof.Proof.Gen.AttnCtxRef.Run
public import proofs.«01_k».proof.Proof.WinClaim
public import proofs.«01_k».proof.Proof.CtxClaim
public import proofs.«01_k».proof.Defs
public import proofs.«01_k».proof.Proof.Gen.AttnWin
public import proofs.«01_k».proof.Proof.Gen.AttnWin.Skeleton
public import proofs.«01_k».proof.Proof.Gen.AttnWin.Launch
public import proofs.«01_k».proof.Proof.Gen.AttnWin.Points
public import proofs.«01_k».proof.Proof.Gen.AttnWin.Frame
public import proofs.«01_k».proof.Proof.Gen.AttnWinIdeal
public import proofs.«01_k».proof.Proof.Gen.AttnWinIdeal.Skeleton
public import proofs.«01_k».proof.Proof.Gen.AttnWinIdeal.Launch
public import proofs.«01_k».proof.Proof.Gen.AttnWinIdeal.Points
public import proofs.«01_k».proof.Proof.Gen.AttnWinIdeal.Frame
public import proofs.«01_k».proof.Proof.Gen.AttnWinRefIdeal
public import proofs.«01_k».proof.Proof.Gen.AttnWinRef
public import proofs.«01_k».proof.Proof.Gen.AttnCtx
public import proofs.«01_k».proof.Proof.Gen.AttnCtx.Skeleton
public import proofs.«01_k».proof.Proof.Gen.AttnCtx.Launch
public import proofs.«01_k».proof.Proof.Gen.AttnCtx.Points
public import proofs.«01_k».proof.Proof.Gen.AttnCtx.Frame
public import proofs.«01_k».proof.Proof.Gen.AttnCtxIdeal
public import proofs.«01_k».proof.Proof.Gen.AttnCtxIdeal.Skeleton
public import proofs.«01_k».proof.Proof.Gen.AttnCtxIdeal.Launch
public import proofs.«01_k».proof.Proof.Gen.AttnCtxIdeal.Points
public import proofs.«01_k».proof.Proof.Gen.AttnCtxIdeal.Frame
public import proofs.«01_k».proof.Proof.Gen.AttnCtxRefIdeal
public import proofs.«01_k».proof.Proof.Gen.AttnCtxRef
public import proofs.«01_k».proof.Proof.Gen.AttnInRefIdeal.Run
public import proofs.«01_k».proof.Proof.Gen.AttnInRef.Run
public import proofs.«01_k».proof.Proof.Gen.AttnIn
public import proofs.«01_k».proof.Proof.Gen.AttnIn.Skeleton
public import proofs.«01_k».proof.Proof.Gen.AttnIn.Launch
public import proofs.«01_k».proof.Proof.Gen.AttnIn.Points
public import proofs.«01_k».proof.Proof.Gen.AttnIn.Frame
public import proofs.«01_k».proof.Proof.Gen.AttnInIdeal
public import proofs.«01_k».proof.Proof.Gen.AttnInIdeal.Skeleton
public import proofs.«01_k».proof.Proof.Gen.AttnInIdeal.Launch
public import proofs.«01_k».proof.Proof.Gen.AttnInIdeal.Points
public import proofs.«01_k».proof.Proof.Gen.AttnInIdeal.Frame
public import proofs.«01_k».proof.Proof.Gen.AttnInRefIdeal
public import proofs.«01_k».proof.Proof.Gen.AttnInRef
public import proofs.«01_k».proof.Proof.Gen.AttnInRopeRefIdeal.Run
public import proofs.«01_k».proof.Proof.Gen.AttnInRopeRef.Run
public import proofs.«01_k».proof.Proof.Gen.AttnInRope
public import proofs.«01_k».proof.Proof.Gen.AttnInRope.Skeleton
public import proofs.«01_k».proof.Proof.Gen.AttnInRope.Launch
public import proofs.«01_k».proof.Proof.Gen.AttnInRope.Points
public import proofs.«01_k».proof.Proof.Gen.AttnInRope.Frame
public import proofs.«01_k».proof.Proof.Gen.AttnInRopeIdeal
public import proofs.«01_k».proof.Proof.Gen.AttnInRopeIdeal.Skeleton
public import proofs.«01_k».proof.Proof.Gen.AttnInRopeIdeal.Launch
public import proofs.«01_k».proof.Proof.Gen.AttnInRopeIdeal.Points
public import proofs.«01_k».proof.Proof.Gen.AttnInRopeIdeal.Frame
public import proofs.«01_k».proof.Proof.Gen.AttnInRopeRefIdeal
public import proofs.«01_k».proof.Proof.Gen.AttnInRopeRef
public import proofs.«01_k».proof.Proof.Gen.MlstmInIdeal.Value
public import proofs.«01_k».proof.Proof.Gen.MlstmInRefIdeal.Run
public import proofs.«01_k».proof.Proof.Gen.MlstmInRef.Run
public import proofs.«01_k».proof.Proof.Gen.MlstmIn
public import proofs.«01_k».proof.Proof.Gen.MlstmIn.Skeleton
public import proofs.«01_k».proof.Proof.Gen.MlstmIn.Launch
public import proofs.«01_k».proof.Proof.Gen.MlstmIn.Points
public import proofs.«01_k».proof.Proof.Gen.MlstmIn.Frame
public import proofs.«01_k».proof.Proof.Gen.MlstmInIdeal
public import proofs.«01_k».proof.Proof.Gen.MlstmInIdeal.Skeleton
public import proofs.«01_k».proof.Proof.Gen.MlstmInIdeal.Launch
public import proofs.«01_k».proof.Proof.Gen.MlstmInIdeal.Points
public import proofs.«01_k».proof.Proof.Gen.MlstmInIdeal.Frame
public import proofs.«01_k».proof.Proof.Gen.MlstmInRefIdeal
public import proofs.«01_k».proof.Proof.Gen.MlstmInRef
public import proofs.«01_k».proof.Proof.Gen.MlstmInCtxIdeal.Value
public import proofs.«01_k».proof.Proof.Gen.MlstmInCtxRefIdeal.Run
public import proofs.«01_k».proof.Proof.Gen.MlstmInCtxRef.Run
public import proofs.«01_k».proof.Proof.Gen.MlstmInCtx
public import proofs.«01_k».proof.Proof.Gen.MlstmInCtx.Skeleton
public import proofs.«01_k».proof.Proof.Gen.MlstmInCtx.Launch
public import proofs.«01_k».proof.Proof.Gen.MlstmInCtx.Points
public import proofs.«01_k».proof.Proof.Gen.MlstmInCtx.Frame
public import proofs.«01_k».proof.Proof.Gen.MlstmInCtxIdeal
public import proofs.«01_k».proof.Proof.Gen.MlstmInCtxIdeal.Skeleton
public import proofs.«01_k».proof.Proof.Gen.MlstmInCtxIdeal.Launch
public import proofs.«01_k».proof.Proof.Gen.MlstmInCtxIdeal.Points
public import proofs.«01_k».proof.Proof.Gen.MlstmInCtxIdeal.Frame
public import proofs.«01_k».proof.Proof.Gen.MlstmInCtxRefIdeal
public import proofs.«01_k».proof.Proof.Gen.MlstmInCtxRef
public import proofs.«01_k».proof.Proof.Gen.AdaIdeal.Value
public import proofs.«01_k».proof.Proof.Gen.AdaRefIdeal.Run
public import proofs.«01_k».proof.Proof.Gen.AdaRef.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRef
public import proofs.«01_k».proof.Proof.Gen.CacheRefIdeal.Run
public import proofs.«01_k».proof.Proof.Gen.CacheRef.Run
public import proofs.«01_k».proof.Proof.Gen.Cache
public import proofs.«01_k».proof.Proof.Gen.Cache.Skeleton
public import proofs.«01_k».proof.Proof.Gen.Cache.Launch
public import proofs.«01_k».proof.Proof.Gen.Cache.Points
public import proofs.«01_k».proof.Proof.Gen.Cache.Frame
public import proofs.«01_k».proof.Proof.Gen.CacheIdeal
public import proofs.«01_k».proof.Proof.Gen.CacheIdeal.Skeleton
public import proofs.«01_k».proof.Proof.Gen.CacheIdeal.Launch
public import proofs.«01_k».proof.Proof.Gen.CacheIdeal.Points
public import proofs.«01_k».proof.Proof.Gen.CacheIdeal.Frame
public import proofs.«01_k».proof.Proof.Gen.CacheRefIdeal
public import proofs.«01_k».proof.Proof.Gen.CacheRef
public import proofs.«01_k».proof.Proof.InClaim
public import proofs.«01_k».proof.Proof.RopeClaim
public import proofs.«01_k».proof.Proof.MinClaim
public import proofs.«01_k».proof.Proof.MinCtxClaim
public import proofs.«01_k».proof.Proof.AdaClaim
public import proofs.«01_k».proof.Proof.CacheClaim
public import Idealize.ShloMosaic.Lib.Quiescent
public import Idealize.ShloMosaic.Adequacy
public import Idealize.ShloMosaic.Init

@[expose] public section

noncomputable section

-- Every frame also says that each semaphore counter ends at zero.

namespace Cert.Proof

open Idealize.ShloMosaic Idealize.SL.Sem Cert.AttnWin

/-- The reference `AttnWinRefIdeal` always terminates, its arguments unchanged. -/
theorem frame_winRefIdeal : quiescent_AttnWinRefIdeal := fun m ρ _ =>
  (θ_run Cert.AttnWinRefIdeal.defs _ _).mono (fun r h => ⟨fun c => (h c).2, sem_eq_zero_of_no_sems (by decide) r.2⟩) (Cert.AttnWinRefIdeal.Value.run m ρ)

/-- The reference `AttnWinRef` always terminates, its arguments unchanged. -/
theorem frame_winRef : quiescent_AttnWinRef := fun m ρ _ =>
  (θ_run Cert.AttnWinRef.defs _ _).mono (fun r h => ⟨fun c => (h c).2, sem_eq_zero_of_no_sems (by decide) r.2⟩) (Cert.AttnWinRef.Value.run m ρ)

/-- The reference `AttnCtxRefIdeal` always terminates, its arguments unchanged. -/
theorem frame_ctxRefIdeal : quiescent_AttnCtxRefIdeal := fun m ρ _ =>
  (θ_run Cert.AttnCtxRefIdeal.defs _ _).mono (fun r h => ⟨fun c => (h c).2, sem_eq_zero_of_no_sems (by decide) r.2⟩) (Cert.AttnCtxRefIdeal.Value.run m ρ)

/-- The reference `AttnCtxRef` always terminates, its arguments unchanged. -/
theorem frame_ctxRef : quiescent_AttnCtxRef := fun m ρ _ =>
  (θ_run Cert.AttnCtxRef.defs _ _).mono (fun r h => ⟨fun c => (h c).2, sem_eq_zero_of_no_sems (by decide) r.2⟩) (Cert.AttnCtxRef.Value.run m ρ)

/-- The window attention's named constant is the base-2 logarithm of e. -/
theorem win_preserves : preserves_AttnWin_AttnWinIdeal := IdealRules.named_const.statement Cert.AttnWinIdeal.κ "log2e" .f32 0x3FB8AA3B#32 _ rfl

/-- The context attention's named constant is the base-2 logarithm of e. -/
theorem ctx_preserves : preserves_AttnCtx_AttnCtxIdeal := IdealRules.named_const.statement Cert.AttnCtxIdeal.κ "log2e" .f32 0x3FB8AA3B#32 _ rfl

/-- The reference `AttnInRefIdeal` always terminates, its arguments unchanged. -/
theorem frame_inRefIdeal : quiescent_AttnInRefIdeal := fun m ρ _ =>
  (θ_run Cert.AttnInRefIdeal.defs _ _).mono (fun r h => ⟨fun c => (h c).2.2.2.2.2, sem_eq_zero_of_no_sems (by decide) r.2⟩) (Cert.AttnInRefIdeal.Value.run m ρ)

/-- The reference `AttnInRef` always terminates, its arguments unchanged. -/
theorem frame_inRef : quiescent_AttnInRef := fun m ρ _ =>
  (θ_run Cert.AttnInRef.defs _ _).mono (fun r h => ⟨fun c => (h c).2.2.2.2.2, sem_eq_zero_of_no_sems (by decide) r.2⟩) (Cert.AttnInRef.Value.run m ρ)

/-- The named constant of the attention input projection of the prompt is head_dim^-1/2 / ln 2. -/
theorem in_preserves : preserves_AttnIn_AttnInIdeal := IdealRules.named_const.statement Cert.AttnInIdeal.κ "qscale" .f32 0x3E38AA3B#32 _ rfl

/-- The reference `AttnInRopeRefIdeal` always terminates, its arguments unchanged. -/
theorem frame_ropeRefIdeal : quiescent_AttnInRopeRefIdeal := fun m ρ _ =>
  (θ_run Cert.AttnInRopeRefIdeal.defs _ _).mono (fun r h => ⟨fun c => (h c).2.2.2.2, sem_eq_zero_of_no_sems (by decide) r.2⟩) (Cert.AttnInRopeRefIdeal.Value.run m ρ)

/-- The reference `AttnInRopeRef` always terminates, its arguments unchanged. -/
theorem frame_ropeRef : quiescent_AttnInRopeRef := fun m ρ _ =>
  (θ_run Cert.AttnInRopeRef.defs _ _).mono (fun r h => ⟨fun c => (h c).2.2.2.2, sem_eq_zero_of_no_sems (by decide) r.2⟩) (Cert.AttnInRopeRef.Value.run m ρ)

/-- The named constant of the attention input projection of the sample is head_dim^-1/2 / ln 2. -/
theorem rope_preserves : preserves_AttnInRope_AttnInRopeIdeal := IdealRules.named_const.statement Cert.AttnInRopeIdeal.κ "qscale" .f32 0x3E38AA3B#32 _ rfl

/-- The reference `MlstmInRefIdeal` always terminates, its arguments unchanged. -/
theorem frame_minRefIdeal : quiescent_MlstmInRefIdeal := fun m ρ _ =>
  (θ_run Cert.MlstmInRefIdeal.defs _ _).mono (fun r h => ⟨fun c => (h c).2.2.2.2, sem_eq_zero_of_no_sems (by decide) r.2⟩) (Cert.MlstmInRefIdeal.Value.run m ρ)

/-- The reference `MlstmInRef` always terminates, its arguments unchanged. -/
theorem frame_minRef : quiescent_MlstmInRef := fun m ρ _ =>
  (θ_run Cert.MlstmInRef.defs _ _).mono (fun r h => ⟨fun c => (h c).2.2.2.2, sem_eq_zero_of_no_sems (by decide) r.2⟩) (Cert.MlstmInRef.Value.run m ρ)

/-- The reference `MlstmInCtxRefIdeal` always terminates, its arguments unchanged. -/
theorem frame_minCtxRefIdeal : quiescent_MlstmInCtxRefIdeal := fun m ρ _ =>
  (θ_run Cert.MlstmInCtxRefIdeal.defs _ _).mono (fun r h => ⟨fun c => (h c).2.2.2.2, sem_eq_zero_of_no_sems (by decide) r.2⟩) (Cert.MlstmInCtxRefIdeal.Value.run m ρ)

/-- The reference `MlstmInCtxRef` always terminates, its arguments unchanged. -/
theorem frame_minCtxRef : quiescent_MlstmInCtxRef := fun m ρ _ =>
  (θ_run Cert.MlstmInCtxRef.defs _ _).mono (fun r h => ⟨fun c => (h c).2.2.2.2, sem_eq_zero_of_no_sems (by decide) r.2⟩) (Cert.MlstmInCtxRef.Value.run m ρ)

/-- The reference `AdaRefIdeal` always terminates, its arguments unchanged. -/
theorem frame_adaRefIdeal : quiescent_AdaRefIdeal := fun m ρ _ =>
  (θ_run Cert.AdaRefIdeal.defs _ _).mono (fun r h => ⟨fun c => (h c).2, sem_eq_zero_of_no_sems (by decide) r.2⟩) (Cert.AdaRefIdeal.Value.run m ρ)

/-- The reference `AdaRef` always terminates, its arguments unchanged. -/
theorem frame_adaRef : quiescent_AdaRef := fun m ρ _ =>
  (θ_run Cert.AdaRef.defs _ _).mono (fun r h => ⟨fun c => (h c).2, sem_eq_zero_of_no_sems (by decide) r.2⟩) (Cert.AdaRef.Value.run m ρ)

/-- The reference `CacheRefIdeal` always terminates, its arguments unchanged. -/
theorem frame_cacheRefIdeal : quiescent_CacheRefIdeal := fun m ρ _ =>
  (θ_run Cert.CacheRefIdeal.defs _ _).mono (fun r h => ⟨fun c => (h c).2.2, sem_eq_zero_of_no_sems (by decide) r.2⟩) (Cert.CacheRefIdeal.Value.run m ρ)

/-- The reference `CacheRef` always terminates, its arguments unchanged. -/
theorem frame_cacheRef : quiescent_CacheRef := fun m ρ _ =>
  (θ_run Cert.CacheRef.defs _ _).mono (fun r h => ⟨fun c => (h c).2.2, sem_eq_zero_of_no_sems (by decide) r.2⟩) (Cert.CacheRef.Value.run m ρ)

/-- The named constant of the new cache's projection is head_dim^-1/2 / ln 2. -/
theorem cache_preserves : preserves_Cache_CacheIdeal := IdealRules.named_const.statement Cert.CacheIdeal.κ "qscale" .f32 0x3E38AA3B#32 _ rfl

/-- All claims. -/
theorem claim : Cert.Claim := ⟨Cert.AttnWin.Gen.facts, Cert.AttnWinIdeal.Gen.facts, Cert.AttnWinRefIdeal.Gen.facts, Cert.AttnWinRef.Gen.facts,
  Cert.AttnCtx.Gen.facts, Cert.AttnCtxIdeal.Gen.facts, Cert.AttnCtxRefIdeal.Gen.facts, Cert.AttnCtxRef.Gen.facts,
  Cert.AttnIn.Gen.facts, Cert.AttnInIdeal.Gen.facts, Cert.AttnInRefIdeal.Gen.facts, Cert.AttnInRef.Gen.facts,
  Cert.AttnInRope.Gen.facts, Cert.AttnInRopeIdeal.Gen.facts, Cert.AttnInRopeRefIdeal.Gen.facts, Cert.AttnInRopeRef.Gen.facts,
  Cert.MlstmIn.Gen.facts, Cert.MlstmInIdeal.Gen.facts, Cert.MlstmInRefIdeal.Gen.facts, Cert.MlstmInRef.Gen.facts,
  Cert.MlstmInCtx.Gen.facts, Cert.MlstmInCtxIdeal.Gen.facts, Cert.MlstmInCtxRefIdeal.Gen.facts, Cert.MlstmInCtxRef.Gen.facts,
  Cert.Ada.Gen.facts, Cert.AdaIdeal.Gen.facts, Cert.AdaRefIdeal.Gen.facts, Cert.AdaRef.Gen.facts,
  Cert.Cache.Gen.facts, Cert.CacheIdeal.Gen.facts, Cert.CacheRefIdeal.Gen.facts, Cert.CacheRef.Gen.facts,
  fun m ρ _ => Cert.AttnWin.Gen.frame m ρ, fun m ρ _ => Cert.AttnWinIdeal.Gen.frame m ρ, frame_winRefIdeal, frame_winRef,
  fun m ρ _ => Cert.AttnCtx.Gen.frame m ρ, fun m ρ _ => Cert.AttnCtxIdeal.Gen.frame m ρ, frame_ctxRefIdeal, frame_ctxRef,
  fun m ρ _ => Cert.AttnIn.Gen.frame m ρ, fun m ρ _ => Cert.AttnInIdeal.Gen.frame m ρ, frame_inRefIdeal, frame_inRef,
  fun m ρ _ => Cert.AttnInRope.Gen.frame m ρ, fun m ρ _ => Cert.AttnInRopeIdeal.Gen.frame m ρ, frame_ropeRefIdeal, frame_ropeRef,
  fun m ρ _ => Cert.MlstmIn.Gen.frame m ρ, fun m ρ _ => Cert.MlstmInIdeal.Gen.frame m ρ, frame_minRefIdeal, frame_minRef,
  fun m ρ _ => Cert.MlstmInCtx.Gen.frame m ρ, fun m ρ _ => Cert.MlstmInCtxIdeal.Gen.frame m ρ, frame_minCtxRefIdeal, frame_minCtxRef,
  fun m ρ _ => Cert.Ada.Gen.frame m ρ, fun m ρ _ => Cert.AdaIdeal.Gen.frame m ρ, frame_adaRefIdeal, frame_adaRef,
  fun m ρ _ => Cert.Cache.Gen.frame m ρ, fun m ρ _ => Cert.CacheIdeal.Gen.frame m ρ, frame_cacheRefIdeal, frame_cacheRef,
  win_preserves, trivial, win_algebraic, ctx_preserves, trivial, ctx_algebraic,
  in_preserves, trivial, in_algebraic,
  rope_preserves, trivial, rope_algebraic,
  trivial, trivial, min_algebraic,
  trivial, trivial, min_ctx_algebraic,
  trivial, trivial, ada_algebraic,
  cache_preserves, trivial, cache_algebraic⟩

end Cert.Proof

end
